-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_dact16 [hPre_finite_dact16 : Cert.Pre_finite_dact16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_dact16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_dact16 [hPre_finite_dact16 : Cert.Pre_finite_dact16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_dact16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_dact17 [hPre_finite_dact17 : Cert.Pre_finite_dact17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_dact17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_dact17 [hPre_finite_dact17 : Cert.Pre_finite_dact17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_dact17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_attn22 [hPre_finite_attn22 : Cert.Pre_finite_attn22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_attn22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))).1 = (fun _ => 1#1)
    ∧ (Cert.Pre_finite_attn22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_attn22 [hPre_finite_attn22 : Cert.Pre_finite_attn22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_attn22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))).1 = (fun _ => 1#1)
    ∧ (Cert.Pre_finite_attn22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))).2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite_dact16 [hKernel16Ideal : Cert.Kernel16Ideal.Facts] [hPre_finite_dact16 : Cert.Pre_finite_dact16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_dact16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite_dact16 [hReference16Ideal : Cert.Reference16Ideal.Facts] [hPre_finite_dact16 : Cert.Pre_finite_dact16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_dact16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_dact17 [hKernel17Ideal : Cert.Kernel17Ideal.Facts] [hPre_finite_dact17 : Cert.Pre_finite_dact17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_dact17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_dact17 [hReference17Ideal : Cert.Reference17Ideal.Facts] [hPre_finite_dact17 : Cert.Pre_finite_dact17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_dact17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Kernel22Ideal_pre_finite_attn22 [hKernel22Ideal : Cert.Kernel22Ideal.Facts] [hPre_finite_attn22 : Cert.Pre_finite_attn22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_attn22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Reference22Ideal_pre_finite_attn22 [hReference22Ideal : Cert.Reference22Ideal.Facts] [hPre_finite_attn22 : Cert.Pre_finite_attn22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_attn22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v75) = v1 c
          ∧ r.2.mem ((c.tc : Thread Cert.Reference15Ideal.nD Cert.Reference15Ideal.τ).loc Cert.Reference15Ideal.main_v76) = v2 c
          ∧ r.2.mem ((c.tc : Thread Cert.Reference15Ideal.nD Cert.Reference15Ideal.τ).loc Cert.Reference15Ideal.main_v77) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal_pre_finite_dact16 [hKernel16Ideal : Cert.Kernel16Ideal.Facts] [hReference16Ideal : Cert.Reference16Ideal.Facts] [hPre_finite_dact16 : Cert.Pre_finite_dact16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_dact16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v84) = v0 c
          ∧ r.2.mem ((c.tc : Thread Cert.Reference16Ideal.nD Cert.Reference16Ideal.τ).loc Cert.Reference16Ideal.main_v79) = v1 c
          ∧ r.2.mem ((c.tc : Thread Cert.Reference16Ideal.nD Cert.Reference16Ideal.τ).loc Cert.Reference16Ideal.main_v85) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite_dact17 [hKernel17Ideal : Cert.Kernel17Ideal.Facts] [hReference17Ideal : Cert.Reference17Ideal.Facts] [hPre_finite_dact17 : Cert.Pre_finite_dact17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_dact17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v77) = v0 c
          ∧ r.2.mem ((c.tc : Thread Cert.Reference17Ideal.nD Cert.Reference17Ideal.τ).loc Cert.Reference17Ideal.main_v72) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v30) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  IdealRules.named_const.Statement Cert.Kernel22Ideal.κ "mask" .f32 0xF149F2CA#32 ⊥

def algebraic_Kernel22Ideal_Reference22Ideal_pre_finite_attn22 [hKernel22Ideal : Cert.Kernel22Ideal.Facts] [hReference22Ideal : Cert.Reference22Ideal.Facts] [hPre_finite_attn22 : Cert.Pre_finite_attn22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_attn22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v88) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite_inputs : Cert.Pre_finite_inputs.Facts) (hPre_finite_dact16 : Cert.Pre_finite_dact16.Facts) (hPre_finite_dact17 : Cert.Pre_finite_dact17.Facts) (hPre_finite_attn22 : Cert.Pre_finite_attn22.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_dact16 (hKernel16Ideal := hKernel16Ideal) (hPre_finite_dact16 := hPre_finite_dact16)
    ∧ quiescent_Reference16Ideal (hReference16Ideal := hReference16Ideal)
    ∧ quiescent_Reference16Ideal_pre_finite_dact16 (hReference16Ideal := hReference16Ideal) (hPre_finite_dact16 := hPre_finite_dact16)
    ∧ quiescent_Kernel17 (hKernel17 := hKernel17)
    ∧ quiescent_Kernel17Ideal (hKernel17Ideal := hKernel17Ideal)
    ∧ quiescent_Kernel17Ideal_pre_finite_dact17 (hKernel17Ideal := hKernel17Ideal) (hPre_finite_dact17 := hPre_finite_dact17)
    ∧ quiescent_Reference17Ideal (hReference17Ideal := hReference17Ideal)
    ∧ quiescent_Reference17Ideal_pre_finite_dact17 (hReference17Ideal := hReference17Ideal) (hPre_finite_dact17 := hPre_finite_dact17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_attn22 (hKernel22Ideal := hKernel22Ideal) (hPre_finite_attn22 := hPre_finite_attn22)
    ∧ quiescent_Reference22Ideal (hReference22Ideal := hReference22Ideal)
    ∧ quiescent_Reference22Ideal_pre_finite_attn22 (hReference22Ideal := hReference22Ideal) (hPre_finite_attn22 := hPre_finite_attn22)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_dact16 (hKernel16Ideal := hKernel16Ideal) (hReference16Ideal := hReference16Ideal) (hPre_finite_dact16 := hPre_finite_dact16)
    ∧ preserves_Kernel17_Kernel17Ideal
    ∧ algebraic_Kernel17Ideal_Reference17Ideal_pre_finite_dact17 (hKernel17Ideal := hKernel17Ideal) (hReference17Ideal := hReference17Ideal) (hPre_finite_dact17 := hPre_finite_dact17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_attn22 (hKernel22Ideal := hKernel22Ideal) (hReference22Ideal := hReference22Ideal) (hPre_finite_attn22 := hPre_finite_attn22)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite_attn22.lean ====
abbrev S4096x3328 : Shape := ⟨2, ![4096, 3328]⟩
abbrev S1x128 : Shape := ⟨2, ![1, 128]⟩
abbrev S4096x384 : Shape := ⟨2, ![4096, 384]⟩
abbrev S_ : Shape := ⟨0, ![]⟩
abbrev S1x4 : Shape := ⟨2, ![1, 4]⟩

class Facts : Prop where
  slices_S4096x3328_S4096x384_0_2048 : S4096x3328.Slices ![0, 2048] S4096x384
  bcast_S_S4096x384 : S_.BroadcastsInDim S4096x384 (![] : Fin 0 → Fin S4096x384.rank)
  slices_S1x128_S1x4_0_0 : S1x128.Slices ![0, 0] S1x4
  bcast_S_S1x4 : S_.BroadcastsInDim S1x4 (![] : Fin 0 → Fin S1x4.rank)

variable [Facts]

def fn {F : FTy → Type} [FloatOps F] (main_arg0 : FVec F S4096x3328 .f32) (main_arg1 : FVec F S1x128 .f32) : IVec S4096x384 1 × IVec S1x4 1 :=
  let main_v0 : FVec F S4096x384 .f32 := (extractStridedSlice S4096x384 ![0, 2048] · slices_S4096x3328_S4096x384_0_2048) main_arg0
  let main_v1 : FVec F S4096x384 .f32 := Host.absf main_v0
  let main_cst : FVec F S_ .f32 := constant S_ .f32 0x7F800000#32
  let main_v2 : FVec F S4096x384 .f32 := broadcastInDim S4096x384 ![] bcast_S_S4096x384 main_cst
  let main_v3 : IVec S4096x384 1 := cmpf .olt main_v1 main_v2
  let main_v4 : FVec F S1x4 .f32 := (extractStridedSlice S1x4 ![0, 0] · slices_S1x128_S1x4_0_0) main_arg1
  let main_v5 : FVec F S1x4 .f32 := Host.absf main_v4
  let main_cst_0 : FVec F S_ .f32 := constant S_ .f32 0x7F800000#32
  let main_v6 : FVec F S1x4 .f32 := broadcastInDim S1x4 ![] bcast_S_S1x4 main_cst_0
  let main_v7 : IVec S1x4 1 := cmpf .olt main_v5 main_v6
  (main_v3, main_v7)
-- ==== Pre_finite_dact16.lean ====
abbrev S4096x3328 : Shape := ⟨2, ![4096, 3328]⟩
abbrev S4x1024 : Shape := ⟨2, ![4, 1024]⟩
abbrev S1x1024 : Shape := ⟨2, ![1, 1024]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x3328 .f32) (main_arg1 : FVec F S4x1024 .f32) (main_arg2 : FVec F S1x1024 .f32) (main_arg3 : FVec F S4096x1024 .f32) : IVec S4096x1024 1 :=
  let main_v0 : FVec F S4096x1024 .f32 := Host.absf main_arg3
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_finite_dact17.lean ====
abbrev S4096x3328 : Shape := ⟨2, ![4096, 3328]⟩
abbrev S4x768 : Shape := ⟨2, ![4, 768]⟩
abbrev S4096x768 : Shape := ⟨2, ![4096, 768]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x3328 .f32) (main_arg1 : FVec F S4x768 .f32) (main_arg2 : FVec F S4096x768 .f32) : IVec S4096x768 1 :=
  let main_v0 : FVec F S4096x768 .f32 := Host.absf main_arg2
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  main_v2
-- ==== Pre_finite_inputs.lean ====
abbrev S4096x3328 : Shape := ⟨2, ![4096, 3328]⟩
abbrev S1x128 : Shape := ⟨2, ![1, 128]⟩
abbrev S4096x1024 : Shape := ⟨2, ![4096, 1024]⟩
abbrev S4096x512 : Shape := ⟨2, ![4096, 512]⟩
abbrev S_ : Shape := ⟨0, ![]⟩
abbrev S1x4 : Shape := ⟨2, ![1, 4]⟩
abbrev S4096x256 : Shape := ⟨2, ![4096, 256]⟩

class Facts : Prop where
  slices_S4096x3328_S4096x512_0_2048 : S4096x3328.Slices ![0, 2048] S4096x512
  bcast_S_S4096x512 : S_.BroadcastsInDim S4096x512 (![] : Fin 0 → Fin S4096x512.rank)
  slices_S1x128_S1x4_0_0 : S1x128.Slices ![0, 0] S1x4
  bcast_S_S1x4 : S_.BroadcastsInDim S1x4 (![] : Fin 0 → Fin S1x4.rank)
  slices_S4096x1024_S4096x256_0_512 : S4096x1024.Slices ![0, 512] S4096x256
  bcast_S_S4096x256 : S_.BroadcastsInDim S4096x256 (![] : Fin 0 → Fin S4096x256.rank)

variable [Facts]

def fn {F : FTy → Type} [FloatOps F] (main_arg0 : FVec F S4096x3328 .f32) (main_arg1 : FVec F S1x128 .f32) (main_arg2 : FVec F S4096x1024 .f32) : IVec S4096x512 1 × IVec S1x4 1 × IVec S4096x256 1 :=
  let main_v0 : FVec F S4096x512 .f32 := (extractStridedSlice S4096x512 ![0, 2048] · slices_S4096x3328_S4096x512_0_2048) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S1x4 .f32 := (extractStridedSlice S1x4 ![0, 0] · slices_S1x128_S1x4_0_0) main_arg1
  let main_v5 : FVec F S1x4 .f32 := Host.absf main_v4
  let main_cst_0 : FVec F S_ .f32 := constant S_ .f32 0x7F800000#32
  let main_v6 : FVec F S1x4 .f32 := broadcastInDim S1x4 ![] bcast_S_S1x4 main_cst_0
  let main_v7 : IVec S1x4 1 := cmpf .olt main_v5 main_v6
  let main_v8 : FVec F S4096x256 .f32 := (extractStridedSlice S4096x256 ![0, 512] · slices_S4096x1024_S4096x256_0_512) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  (main_v3, main_v7, main_v11)
-- ==== Kernel.lean ====
abbrev S4096x3328 : Shape := ⟨2, ![4096, 3328]⟩
abbrev S1x128 : Shape := ⟨2, ![1, 128]⟩
abbrev S4096x1024 : Shape := ⟨2, ![4096, 1024]⟩
abbrev S4096x256 : Shape := ⟨2, ![4096, 256]⟩
abbrev S4096x128 : Shape := ⟨2, ![4096, 128]⟩
abbrev S256x256 : Shape := ⟨2, ![256, 256]⟩
abbrev S4224x128 : Shape := ⟨2, ![4224, 128]⟩
abbrev S128x128 : Shape := ⟨2, ![128, 128]⟩
abbrev S384x128 : Shape := ⟨2, ![384, 128]⟩
abbrev S256x384 : Shape := ⟨2, ![256, 384]⟩
abbrev S256x64 : Shape := ⟨2, ![256, 64]⟩
abbrev S384x64 : Shape := ⟨2, ![384, 64]⟩
abbrev S1 : Shape := ⟨1, ![1]⟩
abbrev S1x1 : Shape := ⟨2, ![1, 1]⟩
abbrev S256 : Shape := ⟨1, ![256]⟩
abbrev S256x1 : Shape := ⟨2, ![256, 1]⟩
abbrev S64x384 : Shape := ⟨2, ![64, 384]⟩
abbrev S1x1x1 : Shape := ⟨3, ![1, 1, 1]⟩
abbrev S256x192 : Shape := ⟨2, ![256, 192]⟩
abbrev S256x128 : Shape := ⟨2, ![256, 128]⟩

abbrev nBuf : Space → Nat
  | .hbm => 7
  | .vmem => 16
  | .smem => 0
  | _ => 0

abbrev bufTy : (tb : Table) → Fin (tcTables nBuf tb) → BufTy
  | .hbm, ⟨0, _⟩ => ⟨S4096x3328, .f32⟩
  | .hbm, ⟨1, _⟩ => ⟨S1x128, .f32⟩
  | .hbm, ⟨2, _⟩ => ⟨S4096x1024, .f32⟩
  | .hbm, ⟨3, _⟩ => ⟨S4096x256, .bf16⟩
  | .hbm, ⟨4, _⟩ => ⟨S4096x128, .bf16⟩
  | .hbm, ⟨5, _⟩ => ⟨S4096x128, .bf16⟩
  | .hbm, ⟨6, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S4096x128, .bf16⟩
  | .local _ .vmem, ⟨10, _⟩ => ⟨S4096x128, .bf16⟩
  | .local _ .vmem, ⟨11, _⟩ => ⟨S1x128, .f32⟩
  | .local _ .vmem, ⟨12, _⟩ => ⟨S4224x128, .f32⟩
  | .local _ .vmem, ⟨13, _⟩ => ⟨S4224x128, .f32⟩
  | .local _ .vmem, ⟨14, _⟩ => ⟨S4224x128, .f32⟩
  | .local _ .vmem, ⟨15, _⟩ => ⟨S4224x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v6 : Index := Scalar.indexCast v4
  let c0_2 : Index := 0#32
  ![v6.toNat, 0]
def k0_cond2 (i : grid0.Coords) : BitVec 1 :=
  let arg0 : BitVec 32 := BitVec.ofNat 32 (i 0).val
  let c15_i32 : BitVec 32 := 15#32
  let v671 : BitVec 1 := Scalar.cmpi .eq arg0 c15_i32
  let v672 : BitVec 32 := Scalar.extui v671
  let c0_i32_187 : BitVec 32 := 0#32
  let v673 : BitVec 1 := Scalar.cmpi .ne v672 c0_i32_187
  v673

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_2 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x3328 : Shape := ⟨2, ![4096, 3328]⟩
abbrev S1x128 : Shape := ⟨2, ![1, 128]⟩
abbrev S4096x1024 : Shape := ⟨2, ![4096, 1024]⟩
abbrev S4096x256 : Shape := ⟨2, ![4096, 256]⟩
abbrev S4096x128 : Shape := ⟨2, ![4096, 128]⟩
abbrev S1x4096x256 : Shape := ⟨3, ![1, 4096, 256]⟩
abbrev S1x4096x128 : Shape := ⟨3, ![1, 4096, 128]⟩
abbrev S1x4 : Shape := ⟨2, ![1, 4]⟩
abbrev S4 : Shape := ⟨1, ![4]⟩
abbrev S1x64x64x2x2x64 : Shape := ⟨6, ![1, 64, 64, 2, 2, 64]⟩
abbrev S_ : Shape := ⟨0, ![]⟩
abbrev S1x128x128 : Shape := ⟨3, ![1, 128, 128]⟩
abbrev S1x4224x128 : Shape := ⟨3, ![1, 4224, 128]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S1x64x2x192x64x2 : Shape := ⟨6, ![1, 64, 2, 192, 64, 2]⟩
abbrev S1x64x2x2x64x192 : Shape := ⟨6, ![1, 64, 2, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x2 : Shape := ⟨2, ![2, 2]⟩
abbrev S2x2x1x1 : Shape := ⟨4, ![2, 2, 1, 1]⟩
abbrev S1x1x64x192 : Shape := ⟨4, ![1, 1, 64, 192]⟩
abbrev S2x2x64x192 : Shape := ⟨4, ![2, 2, 64, 192]⟩
abbrev S1x1x2x2x64x192 : Shape := ⟨6, ![1, 1, 2, 2, 64, 192]⟩
abbrev S1x64x1x1x1x192 : Shape := ⟨6, ![1, 64, 1, 1, 1, 192]⟩
abbrev S1x1x2x2x1x1 : Shape := ⟨6, ![1, 1, 2, 2, 1, 1]⟩
abbrev S1x64x2x2x64x1 : Shape := ⟨6, ![1, 64, 2, 2, 64, 1]⟩
abbrev S1x64x2x2x64x193 : Shape := ⟨6, ![1, 64, 2, 2, 64, 193]⟩
abbrev S1x64x2x2x64 : Shape := ⟨5, ![1, 64, 2, 2, 64]⟩
abbrev S1x64x2x64x2x64 : Shape := ⟨6, ![1, 64, 2, 64, 2, 64]⟩
abbrev S1x64x2x64x192 : Shape := ⟨5, ![1, 64, 2, 64, 192]⟩
abbrev S64x2x2x64 : Shape := ⟨4, ![64, 2, 2, 64]⟩
abbrev S1x64x2x192x64 : Shape := ⟨5, ![1, 64, 2, 192, 64]⟩
abbrev S1x124 : Shape := ⟨2, ![1, 124]⟩

abbrev nBuf : Space → Nat
  | .hbm => 233
  | .vmem => 0
  | .smem => 0
  | _ => 0

abbrev hbmTy0_0 (i : Nat) : BufTy := match i % 128 with
  | 0 => ⟨S4096x3328, .f32⟩
  | 1 => ⟨S1x128, .f32⟩
  | 2 => ⟨S4096x1024, .f32⟩
  | 3 => ⟨S4096x256, .f32⟩
  | 4 => ⟨S4096x128, .f32⟩
  | 5 => ⟨S4096x128, .f32⟩
  | 6 => ⟨S1x4096x256, .f32⟩
  | 7 => ⟨S1x4096x128, .f32⟩
  | 8 => ⟨S1x4096x128, .f32⟩
  | 9 => ⟨S1x4, .f32⟩
  | 10 => ⟨S4, .f32⟩
  | 11 => ⟨S1x64x64x2x2x64, .f32⟩
  | 12 => ⟨S_, .f32⟩
  | 13 => ⟨S1x128x128, .f32⟩
  | 14 => ⟨S1x4224x128, .f32⟩
  | 15 => ⟨S_, .f32⟩
  | 16 => ⟨S1x128x128, .f32⟩
  | 17 => ⟨S1x66x64x2x64, .f32⟩
  | 18 => ⟨S1x4224x128, .f32⟩
  | 19 => ⟨S_, .f32⟩
  | 20 => ⟨S1x128x128, .f32⟩
  | 21 => ⟨S1x66x64x2x64, .f32⟩
  | 22 => ⟨S1x64x64x2x64, .f32⟩
  | 23 => ⟨S1x64x64x2x64, .f32⟩
  | 24 => ⟨S1x64x64x2x64, .f32⟩
  | 25 => ⟨S1x64x192x2x64, .f32⟩
  | 26 => ⟨S1x64x64x2x64, .f32⟩
  | 27 => ⟨S1x64x64x2x64, .f32⟩
  | 28 => ⟨S1x64x64x2x64, .f32⟩
  | 29 => ⟨S1x64x192x2x64, .f32⟩
  | 30 => ⟨S1x64x2x192x64x2, .f32⟩
  | 31 => ⟨S1x64x2x2x64x192, .f32⟩
  | 32 => ⟨S_, .f32⟩
  | 33 => ⟨S1x64x2x2x64x192, .f32⟩
  | 34 => ⟨S1x64x2x2x64x192, .f32⟩
  | 35 => ⟨S64, .i32⟩
  | 36 => ⟨S64x1, .i32⟩
  | 37 => ⟨S192, .i32⟩
  | 38 => ⟨S1x192, .i32⟩
  | 39 => ⟨S_, .i32⟩
  | 40 => ⟨S64x1, .i32⟩
  | 41 => ⟨S64x1, .i32⟩
  | 42 => ⟨S64x192, .i32⟩
  | 43 => ⟨S64x192, .i32⟩
  | 44 => ⟨S64x192, .i32⟩
  | 45 => ⟨S64x192, .i32⟩
  | 46 => ⟨S64x192, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S2x2, .f32⟩
  | 61 => ⟨S2x2x1x1, .f32⟩
  | 62 => ⟨S1x1x64x192, .f32⟩
  | 63 => ⟨S2x2x64x192, .f32⟩
  | 64 => ⟨S2x2x64x192, .f32⟩
  | 65 => ⟨S2x2x64x192, .f32⟩
  | 66 => ⟨S1x1x2x2x64x192, .f32⟩
  | 67 => ⟨S1x64x2x2x64x192, .f32⟩
  | 68 => ⟨S1x64x2x2x64x192, .f32⟩
  | 69 => ⟨S64, .i32⟩
  | 70 => ⟨S64x1, .i32⟩
  | 71 => ⟨S_, .i32⟩
  | 72 => ⟨S64x1, .i32⟩
  | 73 => ⟨S64x1, .i32⟩
  | 74 => ⟨S192, .i32⟩
  | 75 => ⟨S_, .i32⟩
  | 76 => ⟨S_, .i32⟩
  | 77 => ⟨S192, .i32⟩
  | 78 => ⟨S192, .i32⟩
  | 79 => ⟨S192, .i32⟩
  | 80 => ⟨S_, .i32⟩
  | 81 => ⟨S192, .i32⟩
  | 82 => ⟨S192, .i1⟩
  | 83 => ⟨S192, .i32⟩
  | 84 => ⟨S192, .i32⟩
  | 85 => ⟨S_, .i32⟩
  | 86 => ⟨S192, .i32⟩
  | 87 => ⟨S192, .i1⟩
  | 88 => ⟨S192, .i1⟩
  | 89 => ⟨S_, .i32⟩
  | 90 => ⟨S192, .i32⟩
  | 91 => ⟨S192, .i32⟩
  | 92 => ⟨S192, .i32⟩
  | 93 => ⟨S1x192, .i32⟩
  | 94 => ⟨S64x192, .i32⟩
  | 95 => ⟨S64x192, .i32⟩
  | 96 => ⟨S64x192, .i32⟩
  | 97 => ⟨S_, .i32⟩
  | 98 => ⟨S64x192, .i32⟩
  | 99 => ⟨S64x192, .i1⟩
  | 100 => ⟨S1x64x1x1x1x192, .i1⟩
  | 101 => ⟨S_, .f32⟩
  | 102 => ⟨S_, .f32⟩
  | 103 => ⟨S1x64x2x2x64x192, .i1⟩
  | 104 => ⟨S1x64x2x2x64x192, .f32⟩
  | 105 => ⟨S1x64x2x2x64x192, .f32⟩
  | 106 => ⟨S_, .f32⟩
  | 107 => ⟨S1x64x2x2x64x192, .f32⟩
  | 108 => ⟨S1x1x2x2x1x1, .f32⟩
  | 109 => ⟨S1x64x2x2x64x1, .f32⟩
  | 110 => ⟨S1x64x2x2x64x193, .f32⟩
  | 111 => ⟨S_, .f32⟩
  | 112 => ⟨S1x64x2x2x64, .f32⟩
  | 113 => ⟨S1x64x2x2x64x1, .f32⟩
  | 114 => ⟨S1x64x2x2x64x193, .f32⟩
  | 115 => ⟨S1x64x2x2x64x193, .i1⟩
  | 116 => ⟨S1x64x2x2x64x193, .f32⟩
  | 117 => ⟨S_, .f32⟩
  | 118 => ⟨S1x64x2x2x64, .f32⟩
  | 119 => ⟨S_, .f32⟩
  | 120 => ⟨S1x64x2x2x64, .f32⟩
  | 121 => ⟨S1x64x2x2x64, .f32⟩
  | 122 => ⟨S_, .f32⟩
  | 123 => ⟨S1x64x2x2x64, .f32⟩
  | 124 => ⟨S1x64x2x2x64, .i1⟩
  | 125 => ⟨S_, .f32⟩
  | 126 => ⟨S1x64x2x2x64, .f32⟩
  | 127 => ⟨S1x64x2x2x64, .i1⟩
  | _ => ⟨S4096x3328, .f32⟩

abbrev hbmTy0_1 (i : Nat) : BufTy := match i % 128 with
  | 0 => ⟨S_, .f32⟩
  | 1 => ⟨S1x64x2x2x64, .f32⟩
  | 2 => ⟨S_, .f32⟩
  | 3 => ⟨S1x64x2x2x64, .f32⟩
  | 4 => ⟨S_, .f32⟩
  | 5 => ⟨S1x64x2x2x64, .f32⟩
  | 6 => ⟨S1x64x2x2x64, .f32⟩
  | 7 => ⟨S1x64x2x2x64, .f32⟩
  | 8 => ⟨S1x64x2x2x64x1, .f32⟩
  | 9 => ⟨S1x64x2x2x64x193, .f32⟩
  | 10 => ⟨S1x64x2x2x64x193, .f32⟩
  | 11 => ⟨S1x64x2x2x64x193, .f32⟩
  | 12 => ⟨S_, .f32⟩
  | 13 => ⟨S1x64x2x2x64, .f32⟩
  | 14 => ⟨S1x64x2x2x64x1, .f32⟩
  | 15 => ⟨S1x64x2x2x64x193, .f32⟩
  | 16 => ⟨S1x64x2x2x64x193, .f32⟩
  | 17 => ⟨S1x64x2x2x64x1, .f32⟩
  | 18 => ⟨S_, .f32⟩
  | 19 => ⟨S1x64x2x2x64x1, .f32⟩
  | 20 => ⟨S1x64x2x2x64x1, .f32⟩
  | 21 => ⟨S1x64x2x2x64x192, .f32⟩
  | 22 => ⟨S1x64x2x64x2x64, .f32⟩
  | 23 => ⟨S1x64x64x2x2x64, .f32⟩
  | 24 => ⟨S1x4096x256, .f32⟩
  | 25 => ⟨S4096x256, .f32⟩
  | 26 => ⟨S1x4096x256, .f32⟩
  | 27 => ⟨S1x64x64x2x2x64, .f32⟩
  | 28 => ⟨S1x64x2x64x2x64, .f32⟩
  | 29 => ⟨S1x64x2x2x64x192, .f32⟩
  | 30 => ⟨S1x64x2x64x192, .f32⟩
  | 31 => ⟨S1x64x192x2x64, .f32⟩
  | 32 => ⟨S_, .f32⟩
  | 33 => ⟨S1x64x2x2x64x193, .f32⟩
  | 34 => ⟨S1x64x2x2x64x193, .f32⟩
  | 35 => ⟨S1x64x2x2x64x193, .f32⟩
  | 36 => ⟨S1x64x2x2x64x193, .f32⟩
  | 37 => ⟨S_, .f32⟩
  | 38 => ⟨S1x64x2x2x64, .f32⟩
  | 39 => ⟨S1x64x2x2x64x1, .f32⟩
  | 40 => ⟨S1x64x2x2x64x1, .f32⟩
  | 41 => ⟨S1x64x2x2x64x193, .f32⟩
  | 42 => ⟨S1x64x2x2x64x193, .f32⟩
  | 43 => ⟨S_, .f32⟩
  | 44 => ⟨S64x2x2x64, .f32⟩
  | 45 => ⟨S1x64x2x2x64, .f32⟩
  | 46 => ⟨S1x64x2x2x64x193, .f32⟩
  | 47 => ⟨S1x64x2x2x64x193, .f32⟩
  | 48 => ⟨S1x64x2x2x64x193, .f32⟩
  | 49 => ⟨S1x64x2x2x64x192, .f32⟩
  | 50 => ⟨S1x64x2x2x64x1, .f32⟩
  | 51 => ⟨S_, .f32⟩
  | 52 => ⟨S2x2, .f32⟩
  | 53 => ⟨S1x1x2x2x1x1, .f32⟩
  | 54 => ⟨S4, .f32⟩
  | 55 => ⟨S_, .f32⟩
  | 56 => ⟨S1x64x2x2x64x192, .f32⟩
  | 57 => ⟨S1x64x2x2x64x192, .f32⟩
  | 58 => ⟨S_, .f32⟩
  | 59 => ⟨S1x64x2x2x64x192, .f32⟩
  | 60 => ⟨S1x64x2x2x64x192, .f32⟩
  | 61 => ⟨S1x64x2x192x64x2, .f32⟩
  | 62 => ⟨S1x64x2x64x2x64, .f32⟩
  | 63 => ⟨S1x64x64x2x2x64, .f32⟩
  | 64 => ⟨S1x64x2x192x64, .f32⟩
  | 65 => ⟨S1x64x192x2x64, .f32⟩
  | 66 => ⟨S1x64x64x2x64, .f32⟩
  | 67 => ⟨S1x64x64x2x64, .f32⟩
  | 68 => ⟨S1x64x64x2x64, .f32⟩
  | 69 => ⟨S_, .f32⟩
  | 70 => ⟨S1x66x64x2x64, .f32⟩
  | 71 => ⟨S_, .f32⟩
  | 72 => ⟨S1x66x64x2x64, .f32⟩
  | 73 => ⟨S1x66x64x2x64, .f32⟩
  | 74 => ⟨S_, .f32⟩
  | 75 => ⟨S1x66x64x2x64, .f32⟩
  | 76 => ⟨S1x66x64x2x64, .f32⟩
  | 77 => ⟨S1x64x64x2x64, .f32⟩
  | 78 => ⟨S1x64x64x2x64, .f32⟩
  | 79 => ⟨S1x64x64x2x64, .f32⟩
  | 80 => ⟨S_, .f32⟩
  | 81 => ⟨S1x66x64x2x64, .f32⟩
  | 82 => ⟨S_, .f32⟩
  | 83 => ⟨S1x66x64x2x64, .f32⟩
  | 84 => ⟨S1x66x64x2x64, .f32⟩
  | 85 => ⟨S_, .f32⟩
  | 86 => ⟨S1x66x64x2x64, .f32⟩
  | 87 => ⟨S1x66x64x2x64, .f32⟩
  | 88 => ⟨S1x4224x128, .f32⟩
  | 89 => ⟨S1x128x128, .f32⟩
  | 90 => ⟨S1x4096x128, .f32⟩
  | 91 => ⟨S1x4224x128, .f32⟩
  | 92 => ⟨S1x128x128, .f32⟩
  | 93 => ⟨S1x4096x128, .f32⟩
  | 94 => ⟨S1x4096x256, .f32⟩
  | 95 => ⟨S4096x256, .f32⟩
  | 96 => ⟨S4096x256, .bf16⟩
  | 97 => ⟨S4096x128, .f32⟩
  | 98 => ⟨S4096x128, .bf16⟩
  | 99 => ⟨S4096x128, .f32⟩
  | 100 => ⟨S4096x128, .bf16⟩
  | 101 => ⟨S1x4, .f32⟩
  | 102 => ⟨S_, .f32⟩
  | 103 => ⟨S1x124, .f32⟩
  | 104 => ⟨S1x128, .f32⟩
  | _ => ⟨S4096x3328, .f32⟩

abbrev hbmTy (i : Nat) : BufTy := match i / 128 with
  | 0 => hbmTy0_0 i
  | 1 => hbmTy0_1 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_8 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_call1_v0 : Ref sig .tc := ⟨.hbm, 102, rfl⟩
abbrev main_v70_1 : Ref sig .tc := ⟨.hbm, 103, rfl⟩
abbrev main_call1_v2 : Ref sig .tc := ⟨.hbm, 104, rfl⟩
abbrev main_v70_0 : Ref sig .tc := ⟨.hbm, 105, rfl⟩
abbrev main_call1_cst : Ref sig .tc := ⟨.hbm, 106, rfl⟩
abbrev main_v70_2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_cst_14 : Ref sig .tc := ⟨.hbm, 122, rfl⟩
abbrev main_v82 : Ref sig .tc := ⟨.hbm, 123, rfl⟩
abbrev main_v83 : Ref sig .tc := ⟨.hbm, 124, rfl⟩
abbrev main_cst_15 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_cst_18 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_19 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_21 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_22 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_23 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_24 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call2_cst : Ref sig .tc := ⟨.hbm, 183, rfl⟩
abbrev main_call2_v0 : Ref sig .tc := ⟨.hbm, 184, rfl⟩
abbrev main_v132 : Ref sig .tc := ⟨.hbm, 185, rfl⟩
abbrev main_cst_25 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_26 : Ref sig .tc := ⟨.hbm, 197, rfl⟩
abbrev main_v143 : Ref sig .tc := ⟨.hbm, 198, rfl⟩
abbrev main_cst_27 : Ref sig .tc := ⟨.hbm, 199, rfl⟩
abbrev main_v144 : Ref sig .tc := ⟨.hbm, 200, rfl⟩
abbrev main_v145 : Ref sig .tc := ⟨.hbm, 201, rfl⟩
abbrev main_cst_28 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_29 : Ref sig .tc := ⟨.hbm, 208, rfl⟩
abbrev main_v151 : Ref sig .tc := ⟨.hbm, 209, rfl⟩
abbrev main_cst_30 : Ref sig .tc := ⟨.hbm, 210, rfl⟩
abbrev main_v152 : Ref sig .tc := ⟨.hbm, 211, rfl⟩
abbrev main_v153 : Ref sig .tc := ⟨.hbm, 212, rfl⟩
abbrev main_cst_31 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_32 : Ref sig .tc := ⟨.hbm, 230, rfl⟩
abbrev main_v170 : Ref sig .tc := ⟨.hbm, 231, rfl⟩
abbrev main_v171 : Ref sig .tc := ⟨.hbm, 232, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x5632 : Shape := ⟨2, ![4096, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S2816x1024 : Shape := ⟨2, ![2816, 1024]⟩
abbrev S4096x5632 : Shape := ⟨2, ![4096, 5632]⟩
abbrev S4096x1408 : Shape := ⟨2, ![4096, 1408]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x1408, .f32⟩
  | .hbm, ⟨5, _⟩ => ⟨S4096x1408, .f32⟩
  | .hbm, ⟨6, _⟩ => ⟨S4096x2816, .f32⟩
  | .hbm, ⟨7, _⟩ => ⟨S4096x1408, .f32⟩
  | .hbm, ⟨8, _⟩ => ⟨S4096x1408, .f32⟩
  | .hbm, ⟨9, _⟩ => ⟨S4096x2816, .f32⟩
  | .hbm, ⟨10, _⟩ => ⟨S2816x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1408, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S4096x5632, .f32⟩
  | .hbm, ⟨39, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel3.lean ====
abbrev S4096x5632 : Shape := ⟨2, ![4096, 5632]⟩
abbrev S2816x1024 : Shape := ⟨2, ![2816, 1024]⟩
abbrev S1408x1024 : Shape := ⟨2, ![1408, 1024]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S2816x1024, .bf16⟩
  | .hbm, ⟨3, _⟩ => ⟨S1408x1024, .bf16⟩
  | .hbm, ⟨4, _⟩ => ⟨S1408x1024, .bf16⟩
  | .hbm, ⟨5, _⟩ => ⟨S1408x1024, .bf16⟩
  | .hbm, ⟨6, _⟩ => ⟨S1408x1024, .bf16⟩
  | .hbm, ⟨7, _⟩ => ⟨S5632x1024, .bf16⟩
  | .hbm, ⟨8, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S2816x1024 : Shape := ⟨2, ![2816, 1024]⟩
abbrev S4096x1408 : Shape := ⟨2, ![4096, 1408]⟩
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S2816x1024, .bf16⟩
  | .hbm, ⟨3, _⟩ => ⟨S4096x5632, .f32⟩
  | .hbm, ⟨4, _⟩ => ⟨S4096x1408, .f32⟩
  | .hbm, ⟨5, _⟩ => ⟨S4096x1408, .f32⟩
  | .hbm, ⟨6, _⟩ => ⟨S4096x2816, .f32⟩
  | .hbm, ⟨7, _⟩ => ⟨S4096x1408, .f32⟩
  | .hbm, ⟨8, _⟩ => ⟨S4096x1408, .f32⟩
  | .hbm, ⟨9, _⟩ => ⟨S4096x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S_, .f32⟩
  | .hbm, ⟨15, _⟩ => ⟨S4096x1024, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x1024 : Shape := ⟨2, ![4096, 1024]⟩
abbrev S4096x1408 : Shape := ⟨2, ![4096, 1408]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1408x1024 : Shape := ⟨2, ![1408, 1024]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S4096x1408, .f32⟩
  | .hbm, ⟨4, _⟩ => ⟨S4096x1408, .f32⟩
  | .hbm, ⟨5, _⟩ => ⟨S4096x2816, .f32⟩
  | .hbm, ⟨6, _⟩ => ⟨S4096x1408, .f32⟩
  | .hbm, ⟨7, _⟩ => ⟨S4096x1408, .f32⟩
  | .hbm, ⟨8, _⟩ => ⟨S4096x2816, .f32⟩
  | .hbm, ⟨9, _⟩ => ⟨S4096x1024, .f32⟩
  | .hbm, ⟨10, _⟩ => ⟨S_, .f32⟩
  | .hbm, ⟨11, _⟩ => ⟨S1024x2816, .f32⟩
  | .hbm, ⟨12, _⟩ => ⟨S4096x2816, .f32⟩
  | .hbm, ⟨13, _⟩ => ⟨S4096x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S2816x1024, .f32⟩
  | .hbm, ⟨20, _⟩ => ⟨S1408x1024, .f32⟩
  | .hbm, ⟨21, _⟩ => ⟨S1408x1024, .f32⟩
  | .hbm, ⟨22, _⟩ => ⟨S1408x1024, .f32⟩
  | .hbm, ⟨23, _⟩ => ⟨S1408x1024, .f32⟩
  | .hbm, ⟨24, _⟩ => ⟨S5632x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x3328 : Shape := ⟨2, ![4096, 3328]⟩
abbrev S1024x3088 : Shape := ⟨2, ![1024, 3088]⟩
abbrev S_ : Shape := ⟨0, ![]⟩
abbrev S1024x120 : Shape := ⟨2, ![1024, 120]⟩
abbrev S1024x768 : Shape := ⟨2, ![1024, 768]⟩
abbrev S1024x256 : Shape := ⟨2, ![1024, 256]⟩
abbrev S1024x1024 : Shape := ⟨2, ![1024, 1024]⟩
abbrev S1024x512 : Shape := ⟨2, ![1024, 512]⟩
abbrev S1024x8 : Shape := ⟨2, ![1024, 8]⟩
abbrev S1024x3328 : Shape := ⟨2, ![1024, 3328]⟩
abbrev S4096x1024 : Shape := ⟨2, ![4096, 1024]⟩

abbrev nBuf : Space → Nat
  | .hbm => 13
  | .vmem => 5
  | .smem => 0
  | _ => 0

abbrev bufTy : (tb : Table) → Fin (tcTables nBuf tb) → BufTy
  | .hbm, ⟨0, _⟩ => ⟨S4096x3328, .bf16⟩
  | .hbm, ⟨1, _⟩ => ⟨S1024x3088, .bf16⟩
  | .hbm, ⟨2, _⟩ => ⟨S_, .bf16⟩
  | .hbm, ⟨3, _⟩ => ⟨S1024x120, .bf16⟩
  | .hbm, ⟨4, _⟩ => ⟨S1024x768, .bf16⟩
  | .hbm, ⟨5, _⟩ => ⟨S1024x256, .bf16⟩
  | .hbm, ⟨6, _⟩ => ⟨S1024x1024, .bf16⟩
  | .hbm, ⟨7, _⟩ => ⟨S1024x512, .bf16⟩
  | .hbm, ⟨8, _⟩ => ⟨S1024x512, .bf16⟩
  | .hbm, ⟨9, _⟩ => ⟨S1024x8, .bf16⟩
  | .hbm, ⟨10, _⟩ => ⟨S1024x8, .bf16⟩
  | .hbm, ⟨11, _⟩ => ⟨S1024x3328, .bf16⟩
  | .hbm, ⟨12, _⟩ => ⟨S4096x1024, .f32⟩
  | .local _ .vmem, ⟨0, _⟩ => ⟨S1024x3328, .bf16⟩
  | .local _ .vmem, ⟨1, _⟩ => ⟨S1024x3328, .bf16⟩
  | .local _ .vmem, ⟨2, _⟩ => ⟨S1024x3328, .bf16⟩
  | .local _ .vmem, ⟨3, _⟩ => ⟨S1024x1024, .f32⟩
  | .local _ .vmem, ⟨4, _⟩ => ⟨S1024x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x3328 : Shape := ⟨2, ![4096, 3328]⟩
abbrev S1024x3088 : Shape := ⟨2, ![1024, 3088]⟩
abbrev S_ : Shape := ⟨0, ![]⟩
abbrev S4096x1024 : Shape := ⟨2, ![4096, 1024]⟩
abbrev S4096x3088 : Shape := ⟨2, ![4096, 3088]⟩
abbrev S4096x768 : Shape := ⟨2, ![4096, 768]⟩
abbrev S4096x256 : Shape := ⟨2, ![4096, 256]⟩
abbrev S4096x512 : Shape := ⟨2, ![4096, 512]⟩
abbrev S4096x8 : Shape := ⟨2, ![4096, 8]⟩
abbrev S4096x120 : Shape := ⟨2, ![4096, 120]⟩

abbrev nBuf : Space → Nat
  | .hbm => 18
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S1024x3088, .bf16⟩
  | .hbm, ⟨2, _⟩ => ⟨S1024x3088, .f32⟩
  | .hbm, ⟨3, _⟩ => ⟨S_, .f32⟩
  | .hbm, ⟨4, _⟩ => ⟨S4096x1024, .f32⟩
  | .hbm, ⟨5, _⟩ => ⟨S4096x3088, .f32⟩
  | .hbm, ⟨6, _⟩ => ⟨S4096x3328, .f32⟩
  | .hbm, ⟨7, _⟩ => ⟨S4096x768, .f32⟩
  | .hbm, ⟨8, _⟩ => ⟨S4096x256, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x8, .f32⟩
  | .hbm, ⟨13, _⟩ => ⟨S4096x120, .f32⟩
  | .hbm, ⟨14, _⟩ => ⟨S4096x8, .f32⟩
  | .hbm, ⟨15, _⟩ => ⟨S4096x120, .f32⟩
  | .hbm, ⟨16, _⟩ => ⟨S4096x3088, .f32⟩
  | .hbm, ⟨17, _⟩ => ⟨S4096x1024, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel7.lean ====
abbrev S4096x1024 : Shape := ⟨2, ![4096, 1024]⟩
abbrev S4096x3328 : Shape := ⟨2, ![4096, 3328]⟩
abbrev S1024x3328 : Shape := ⟨2, ![1024, 3328]⟩
abbrev S4096x512 : Shape := ⟨2, ![4096, 512]⟩
abbrev S4096x1664 : Shape := ⟨2, ![4096, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3328, .bf16⟩
  | .hbm, ⟨2, _⟩ => ⟨S1024x3328, .f32⟩
  | .local _ .vmem, ⟨0, _⟩ => ⟨S4096x512, .bf16⟩
  | .local _ .vmem, ⟨1, _⟩ => ⟨S4096x512, .bf16⟩
  | .local _ .vmem, ⟨2, _⟩ => ⟨S4096x1664, .bf16⟩
  | .local _ .vmem, ⟨3, _⟩ => ⟨S4096x1664, .bf16⟩
  | .local _ .vmem, ⟨4, _⟩ => ⟨S512x1664, .f32⟩
  | .local _ .vmem, ⟨5, _⟩ => ⟨S512x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x3328 : Shape := ⟨2, ![4096, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3328, .bf16⟩
  | .hbm, ⟨2, _⟩ => ⟨S4096x1024, .f32⟩
  | .hbm, ⟨3, _⟩ => ⟨S_, .f32⟩
  | .hbm, ⟨4, _⟩ => ⟨S1024x3328, .f32⟩
  | .hbm, ⟨5, _⟩ => ⟨S4096x3328, .f32⟩
  | .hbm, ⟨6, _⟩ => ⟨S4096x3328, .f32⟩
  | .hbm, ⟨7, _⟩ => ⟨S3328x1024, .f32⟩
  | .hbm, ⟨8, _⟩ => ⟨S1024x3328, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S256x1024, .bf16⟩
  | .hbm, ⟨4, _⟩ => ⟨S256x1024, .bf16⟩
  | .hbm, ⟨5, _⟩ => ⟨S1024x1024, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩
abbrev S4096x256 : Shape := ⟨2, ![4096, 256]⟩
abbrev S4096x512 : Shape := ⟨2, ![4096, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x256, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x256, .f32⟩
  | .hbm, ⟨14, _⟩ => ⟨S4096x512, .f32⟩
  | .hbm, ⟨15, _⟩ => ⟨S4096x256, .f32⟩
  | .hbm, ⟨16, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S4096x512 : Shape := ⟨2, ![4096, 512]⟩
abbrev S4096x256 : Shape := ⟨2, ![4096, 256]⟩
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x512 : Shape := ⟨2, ![4096, 512]⟩
abbrev S4096x256 : Shape := ⟨2, ![4096, 256]⟩
abbrev S4096x1024 : Shape := ⟨2, ![4096, 1024]⟩
abbrev S_ : Shape := ⟨0, ![]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S256x1024, .f32⟩
  | .hbm, ⟨13, _⟩ => ⟨S512x1024, .f32⟩
  | .hbm, ⟨14, _⟩ => ⟨S256x1024, .f32⟩
  | .hbm, ⟨15, _⟩ => ⟨S1024x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel10.lean ====
abbrev S4096x1024 : Shape := ⟨2, ![4096, 1024]⟩
abbrev S1024x3088 : Shape := ⟨2, ![1024, 3088]⟩
abbrev S_ : Shape := ⟨0, ![]⟩
abbrev S1024x120 : Shape := ⟨2, ![1024, 120]⟩
abbrev S1024x768 : Shape := ⟨2, ![1024, 768]⟩
abbrev S1024x256 : Shape := ⟨2, ![1024, 256]⟩
abbrev S1024x1024 : Shape := ⟨2, ![1024, 1024]⟩
abbrev S1024x512 : Shape := ⟨2, ![1024, 512]⟩
abbrev S1024x8 : Shape := ⟨2, ![1024, 8]⟩
abbrev S1024x3328 : Shape := ⟨2, ![1024, 3328]⟩
abbrev S4096x3328 : Shape := ⟨2, ![4096, 3328]⟩
abbrev S512x1024 : Shape := ⟨2, ![512, 1024]⟩
abbrev S512x3328 : Shape := ⟨2, ![512, 3328]⟩

abbrev nBuf : Space → Nat
  | .hbm => 13
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3088, .bf16⟩
  | .hbm, ⟨2, _⟩ => ⟨S_, .bf16⟩
  | .hbm, ⟨3, _⟩ => ⟨S1024x120, .bf16⟩
  | .hbm, ⟨4, _⟩ => ⟨S1024x768, .bf16⟩
  | .hbm, ⟨5, _⟩ => ⟨S1024x256, .bf16⟩
  | .hbm, ⟨6, _⟩ => ⟨S1024x1024, .bf16⟩
  | .hbm, ⟨7, _⟩ => ⟨S1024x512, .bf16⟩
  | .hbm, ⟨8, _⟩ => ⟨S1024x512, .bf16⟩
  | .hbm, ⟨9, _⟩ => ⟨S1024x8, .bf16⟩
  | .hbm, ⟨10, _⟩ => ⟨S1024x8, .bf16⟩
  | .hbm, ⟨11, _⟩ => ⟨S1024x3328, .bf16⟩
  | .hbm, ⟨12, _⟩ => ⟨S4096x3328, .f32⟩
  | .local _ .vmem, ⟨0, _⟩ => ⟨S512x1024, .bf16⟩
  | .local _ .vmem, ⟨1, _⟩ => ⟨S512x1024, .bf16⟩
  | .local _ .vmem, ⟨2, _⟩ => ⟨S1024x3328, .bf16⟩
  | .local _ .vmem, ⟨3, _⟩ => ⟨S512x3328, .f32⟩
  | .local _ .vmem, ⟨4, _⟩ => ⟨S512x3328, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x3088 : Shape := ⟨2, ![1024, 3088]⟩
abbrev S4096x3088 : Shape := ⟨2, ![4096, 3088]⟩
abbrev S4096x512 : Shape := ⟨2, ![4096, 512]⟩
abbrev S4096x8 : Shape := ⟨2, ![4096, 8]⟩
abbrev S4096x768 : Shape := ⟨2, ![4096, 768]⟩
abbrev S4096x256 : Shape := ⟨2, ![4096, 256]⟩
abbrev S_ : Shape := ⟨0, ![]⟩
abbrev S4096x120 : Shape := ⟨2, ![4096, 120]⟩
abbrev S4096x3328 : Shape := ⟨2, ![4096, 3328]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3088, .bf16⟩
  | .hbm, ⟨2, _⟩ => ⟨S4096x1024, .f32⟩
  | .hbm, ⟨3, _⟩ => ⟨S1024x3088, .f32⟩
  | .hbm, ⟨4, _⟩ => ⟨S4096x3088, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x8, .f32⟩
  | .hbm, ⟨9, _⟩ => ⟨S4096x768, .f32⟩
  | .hbm, ⟨10, _⟩ => ⟨S4096x256, .f32⟩
  | .hbm, ⟨11, _⟩ => ⟨S4096x8, .f32⟩
  | .hbm, ⟨12, _⟩ => ⟨S_, .f32⟩
  | .hbm, ⟨13, _⟩ => ⟨S4096x120, .f32⟩
  | .hbm, ⟨14, _⟩ => ⟨S4096x3328, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel11.lean ====
abbrev S4096x512 : Shape := ⟨2, ![4096, 512]⟩
abbrev S4096x256 : Shape := ⟨2, ![4096, 256]⟩
abbrev S1024x1024 : Shape := ⟨2, ![1024, 1024]⟩
abbrev S512x1024 : Shape := ⟨2, ![512, 1024]⟩
abbrev S256x1024 : Shape := ⟨2, ![256, 1024]⟩
abbrev S4096x1024 : Shape := ⟨2, ![4096, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x256, .bf16⟩
  | .hbm, ⟨3, _⟩ => ⟨S1024x1024, .bf16⟩
  | .hbm, ⟨4, _⟩ => ⟨S512x1024, .bf16⟩
  | .hbm, ⟨5, _⟩ => ⟨S256x1024, .bf16⟩
  | .hbm, ⟨6, _⟩ => ⟨S256x1024, .bf16⟩
  | .hbm, ⟨7, _⟩ => ⟨S1024x1024, .bf16⟩
  | .hbm, ⟨8, _⟩ => ⟨S4096x1024, .bf16⟩
  | .hbm, ⟨9, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x512 : Shape := ⟨2, ![4096, 512]⟩
abbrev S4096x256 : Shape := ⟨2, ![4096, 256]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x256, .bf16⟩
  | .hbm, ⟨3, _⟩ => ⟨S1024x1024, .bf16⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S2816x1024 : Shape := ⟨2, ![2816, 1024]⟩
abbrev S1408x1024 : Shape := ⟨2, ![1408, 1024]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S512x2816 : Shape := ⟨2, ![512, 2816]⟩
abbrev S512x1408 : Shape := ⟨2, ![512, 1408]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S1408x1024, .bf16⟩
  | .hbm, ⟨4, _⟩ => ⟨S1408x1024, .bf16⟩
  | .hbm, ⟨5, _⟩ => ⟨S1408x1024, .bf16⟩
  | .hbm, ⟨6, _⟩ => ⟨S1408x1024, .bf16⟩
  | .hbm, ⟨7, _⟩ => ⟨S5632x1024, .bf16⟩
  | .hbm, ⟨8, _⟩ => ⟨S4096x5632, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x1408 : Shape := ⟨2, ![4096, 1408]⟩
abbrev S4096x5632 : Shape := ⟨2, ![4096, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S4096x1408, .f32⟩
  | .hbm, ⟨14, _⟩ => ⟨S4096x5632, .f32⟩
  | .hbm, ⟨15, _⟩ => ⟨S4096x5632, .bf16⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel13.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_30 : BitVec 32 := 0#32
  let v78 : BitVec 1 := Scalar.cmpi .ne v77 c0_i32_30
  v78

def k0_cond2 (i : grid0.Coords) : BitVec 1 :=
  let arg0 : BitVec 32 := BitVec.ofNat 32 (i 0).val
  let c0_i32_31 : BitVec 32 := 0#32
  let v79 : BitVec 1 := Scalar.cmpi .sgt arg0 c0_i32_31
  let v80 : BitVec 32 := Scalar.extui v79
  let c0_i32_32 : BitVec 32 := 0#32
  let v81 : BitVec 1 := Scalar.cmpi .ne v80 c0_i32_32
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference15Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1024, .f32⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel16.lean ====
abbrev S4096x3328 : Shape := ⟨2, ![4096, 3328]⟩
abbrev S4x1024 : Shape := ⟨2, ![4, 1024]⟩
abbrev S1x1024 : Shape := ⟨2, ![1, 1024]⟩
abbrev S4096x1024 : Shape := ⟨2, ![4096, 1024]⟩
abbrev S512x1024 : Shape := ⟨2, ![512, 1024]⟩
abbrev S8x1024 : Shape := ⟨2, ![8, 1024]⟩
abbrev S520x1024 : Shape := ⟨2, ![520, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x3328, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S4x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S4x1024, .f32⟩
  | .local _ .vmem, ⟨11, _⟩ => ⟨S1x1024, .f32⟩
  | .local _ .vmem, ⟨12, _⟩ => ⟨S520x1024, .f32⟩
  | .local _ .vmem, ⟨13, _⟩ => ⟨S520x1024, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S4096x3328 : Shape := ⟨2, ![4096, 3328]⟩
abbrev S4x1024 : Shape := ⟨2, ![4, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S3x1024 : Shape := ⟨2, ![3, 1024]⟩
abbrev S4099x1024 : Shape := ⟨2, ![4099, 1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S_, .f32⟩
  | .hbm, ⟨7, _⟩ => ⟨S3x1024, .f32⟩
  | .hbm, ⟨8, _⟩ => ⟨S4099x1024, .f32⟩
  | .hbm, ⟨9, _⟩ => ⟨S_, .f32⟩
  | .hbm, ⟨10, _⟩ => ⟨S3x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S4x1024, .f32⟩
  | .hbm, ⟨74, _⟩ => ⟨S_, .f32⟩
  | .hbm, ⟨75, _⟩ => ⟨S4099x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S4099x1024, .f32⟩
  | .hbm, ⟨90, _⟩ => ⟨S4099x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S4x1024, .f32⟩
  | .hbm, ⟨102, _⟩ => ⟨S4x1024, .f32⟩
  | .hbm, ⟨103, _⟩ => ⟨S_, .f32⟩
  | .hbm, ⟨104, _⟩ => ⟨S4099x1024, .f32⟩
  | .hbm, ⟨105, _⟩ => ⟨S4099x1024, .f32⟩
  | .hbm, ⟨106, _⟩ => ⟨S4096x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S4096x1024, .f32⟩
  | .hbm, ⟨111, _⟩ => ⟨S4096x1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S_, .f32⟩
  | .hbm, ⟨116, _⟩ => ⟨S4x1024, .f32⟩
  | .hbm, ⟨117, _⟩ => ⟨S4x1024, .f32⟩
  | .hbm, ⟨118, _⟩ => ⟨S_, .f32⟩
  | .hbm, ⟨119, _⟩ => ⟨S4099x1024, .f32⟩
  | .hbm, ⟨120, _⟩ => ⟨S4099x1024, .f32⟩
  | .hbm, ⟨121, _⟩ => ⟨S3x1024, .f32⟩
  | .hbm, ⟨122, _⟩ => ⟨S4096x1024, .f32⟩
  | .hbm, ⟨123, _⟩ => ⟨S4096x1024, .bf16⟩
  | .hbm, ⟨124, _⟩ => ⟨S1x1024, .f32⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Kernel17.lean ====
abbrev S4096x3328 : Shape := ⟨2, ![4096, 3328]⟩
abbrev S4x768 : Shape := ⟨2, ![4, 768]⟩
abbrev S4096x768 : Shape := ⟨2, ![4096, 768]⟩
abbrev S_ : Shape := ⟨0, ![]⟩
abbrev S1x768 : Shape := ⟨2, ![1, 768]⟩
abbrev S512x768 : Shape := ⟨2, ![512, 768]⟩
abbrev S8x768 : Shape := ⟨2, ![8, 768]⟩
abbrev S520x768 : Shape := ⟨2, ![520, 768]⟩
abbrev S768 : Shape := ⟨1, ![768]⟩

abbrev nBuf : Space → Nat
  | .hbm => 8
  | .vmem => 14
  | .smem => 0
  | _ => 0

abbrev bufTy : (tb : Table) → Fin (tcTables nBuf tb) → BufTy
  | .hbm, ⟨0, _⟩ => ⟨S4096x3328, .f32⟩
  | .hbm, ⟨1, _⟩ => ⟨S4x768, .f32⟩
  | .hbm, ⟨2, _⟩ => ⟨S4096x768, .f32⟩
  | .hbm, ⟨3, _⟩ => ⟨S_, .f32⟩
  | .hbm, ⟨4, _⟩ => ⟨S1x768, .f32⟩
  | .hbm, ⟨5, _⟩ => ⟨S4096x768, .bf16⟩
  | .hbm, ⟨6, _⟩ => ⟨S4x768, .f32⟩
  | .hbm, ⟨7, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x768, .f32⟩
  | .local _ .vmem, ⟨5, _⟩ => ⟨S512x768, .f32⟩
  | .local _ .vmem, ⟨6, _⟩ => ⟨S4x768, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S4x768, .f32⟩
  | .local _ .vmem, ⟨11, _⟩ => ⟨S1x768, .f32⟩
  | .local _ .vmem, ⟨12, _⟩ => ⟨S520x768, .f32⟩
  | .local _ .vmem, ⟨13, _⟩ => ⟨S520x768, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S4096x3328 : Shape := ⟨2, ![4096, 3328]⟩
abbrev S4x768 : Shape := ⟨2, ![4, 768]⟩
abbrev S4096x768 : Shape := ⟨2, ![4096, 768]⟩
abbrev S_ : Shape := ⟨0, ![]⟩
abbrev S3x768 : Shape := ⟨2, ![3, 768]⟩
abbrev S4099x768 : Shape := ⟨2, ![4099, 768]⟩
abbrev S1x768 : Shape := ⟨2, ![1, 768]⟩
abbrev S768 : Shape := ⟨1, ![768]⟩

abbrev nBuf : Space → Nat
  | .hbm => 114
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S4x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S3x768, .f32⟩
  | .hbm, ⟨6, _⟩ => ⟨S4099x768, .f32⟩
  | .hbm, ⟨7, _⟩ => ⟨S_, .f32⟩
  | .hbm, ⟨8, _⟩ => ⟨S3x768, .f32⟩
  | .hbm, ⟨9, _⟩ => ⟨S4096x768, .f32⟩
  | .hbm, ⟨10, _⟩ => ⟨S1x768, .f32⟩
  | .hbm, ⟨11, _⟩ => ⟨S768, .f32⟩
  | .hbm, ⟨12, _⟩ => ⟨S1x768, .f32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S4096x768, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S1x768, .f32⟩
  | .hbm, ⟨31, _⟩ => ⟨S768, .f32⟩
  | .hbm, ⟨32, _⟩ => ⟨S1x768, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S4096x768, .f32⟩
  | .hbm, ⟨40, _⟩ => ⟨S4096x768, .f32⟩
  | .hbm, ⟨41, _⟩ => ⟨S_, .f32⟩
  | .hbm, ⟨42, _⟩ => ⟨S4096x768, .f32⟩
  | .hbm, ⟨43, _⟩ => ⟨S4096x768, .f32⟩
  | .hbm, ⟨44, _⟩ => ⟨S_, .f32⟩
  | .hbm, ⟨45, _⟩ => ⟨S4096x768, .f32⟩
  | .hbm, ⟨46, _⟩ => ⟨S4096x768, .f32⟩
  | .hbm, ⟨47, _⟩ => ⟨S4096x768, .f32⟩
  | .hbm, ⟨48, _⟩ => ⟨S4096x768, .f32⟩
  | .hbm, ⟨49, _⟩ => ⟨S4096x768, .f32⟩
  | .hbm, ⟨50, _⟩ => ⟨S4096x768, .f32⟩
  | .hbm, ⟨51, _⟩ => ⟨S4096x768, .f32⟩
  | .hbm, ⟨52, _⟩ => ⟨S4096x768, .f32⟩
  | .hbm, ⟨53, _⟩ => ⟨S4096x768, .f32⟩
  | .hbm, ⟨54, _⟩ => ⟨S_, .f32⟩
  | .hbm, ⟨55, _⟩ => ⟨S768, .f32⟩
  | .hbm, ⟨56, _⟩ => ⟨S1x768, .f32⟩
  | .hbm, ⟨57, _⟩ => ⟨S4096x768, .f32⟩
  | .hbm, ⟨58, _⟩ => ⟨S4096x768, .f32⟩
  | .hbm, ⟨59, _⟩ => ⟨S_, .f32⟩
  | .hbm, ⟨60, _⟩ => ⟨S768, .f32⟩
  | .hbm, ⟨61, _⟩ => ⟨S1x768, .f32⟩
  | .hbm, ⟨62, _⟩ => ⟨S_, .f32⟩
  | .hbm, ⟨63, _⟩ => ⟨S4x768, .f32⟩
  | .hbm, ⟨64, _⟩ => ⟨S_, .f32⟩
  | .hbm, ⟨65, _⟩ => ⟨S4099x768, .f32⟩
  | .hbm, ⟨66, _⟩ => ⟨S4096x768, .f32⟩
  | .hbm, ⟨67, _⟩ => ⟨S_, .f32⟩
  | .hbm, ⟨68, _⟩ => ⟨S768, .f32⟩
  | .hbm, ⟨69, _⟩ => ⟨S1x768, .f32⟩
  | .hbm, ⟨70, _⟩ => ⟨S4096x768, .f32⟩
  | .hbm, ⟨71, _⟩ => ⟨S4096x768, .f32⟩
  | .hbm, ⟨72, _⟩ => ⟨S_, .f32⟩
  | .hbm, ⟨73, _⟩ => ⟨S768, .f32⟩
  | .hbm, ⟨74, _⟩ => ⟨S1x768, .f32⟩
  | .hbm, ⟨75, _⟩ => ⟨S_, .f32⟩
  | .hbm, ⟨76, _⟩ => ⟨S4x768, .f32⟩
  | .hbm, ⟨77, _⟩ => ⟨S4x768, .f32⟩
  | .hbm, ⟨78, _⟩ => ⟨S_, .f32⟩
  | .hbm, ⟨79, _⟩ => ⟨S4099x768, .f32⟩
  | .hbm, ⟨80, _⟩ => ⟨S4099x768, .f32⟩
  | .hbm, ⟨81, _⟩ => ⟨S4096x768, .f32⟩
  | .hbm, ⟨82, _⟩ => ⟨S_, .f32⟩
  | .hbm, ⟨83, _⟩ => ⟨S768, .f32⟩
  | .hbm, ⟨84, _⟩ => ⟨S1x768, .f32⟩
  | .hbm, ⟨85, _⟩ => ⟨S4096x768, .f32⟩
  | .hbm, ⟨86, _⟩ => ⟨S4096x768, .f32⟩
  | .hbm, ⟨87, _⟩ => ⟨S_, .f32⟩
  | .hbm, ⟨88, _⟩ => ⟨S768, .f32⟩
  | .hbm, ⟨89, _⟩ => ⟨S1x768, .f32⟩
  | .hbm, ⟨90, _⟩ => ⟨S_, .f32⟩
  | .hbm, ⟨91, _⟩ => ⟨S4x768, .f32⟩
  | .hbm, ⟨92, _⟩ => ⟨S4x768, .f32⟩
  | .hbm, ⟨93, _⟩ => ⟨S_, .f32⟩
  | .hbm, ⟨94, _⟩ => ⟨S4099x768, .f32⟩
  | .hbm, ⟨95, _⟩ => ⟨S4099x768, .f32⟩
  | .hbm, ⟨96, _⟩ => ⟨S4096x768, .f32⟩
  | .hbm, ⟨97, _⟩ => ⟨S_, .f32⟩
  | .hbm, ⟨98, _⟩ => ⟨S768, .f32⟩
  | .hbm, ⟨99, _⟩ => ⟨S1x768, .f32⟩
  | .hbm, ⟨100, _⟩ => ⟨S4096x768, .f32⟩
  | .hbm, ⟨101, _⟩ => ⟨S4096x768, .f32⟩
  | .hbm, ⟨102, _⟩ => ⟨S_, .f32⟩
  | .hbm, ⟨103, _⟩ => ⟨S768, .f32⟩
  | .hbm, ⟨104, _⟩ => ⟨S1x768, .f32⟩
  | .hbm, ⟨105, _⟩ => ⟨S_, .f32⟩
  | .hbm, ⟨106, _⟩ => ⟨S4x768, .f32⟩
  | .hbm, ⟨107, _⟩ => ⟨S4x768, .f32⟩
  | .hbm, ⟨108, _⟩ => ⟨S_, .f32⟩
  | .hbm, ⟨109, _⟩ => ⟨S4099x768, .f32⟩
  | .hbm, ⟨110, _⟩ => ⟨S4099x768, .f32⟩
  | .hbm, ⟨111, _⟩ => ⟨S3x768, .f32⟩
  | .hbm, ⟨112, _⟩ => ⟨S4096x768, .f32⟩
  | .hbm, ⟨113, _⟩ => ⟨S4096x768, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel20.lean ====
abbrev S4096x3328 : Shape := ⟨2, ![4096, 3328]⟩
abbrev S4x1024 : Shape := ⟨2, ![4, 1024]⟩
abbrev S1x1024 : Shape := ⟨2, ![1, 1024]⟩
abbrev S4096x1024 : Shape := ⟨2, ![4096, 1024]⟩
abbrev S512x1024 : Shape := ⟨2, ![512, 1024]⟩
abbrev S520x1024 : Shape := ⟨2, ![520, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3328, .f32⟩
  | .hbm, ⟨1, _⟩ => ⟨S4x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S520x1024, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S4096x3328 : Shape := ⟨2, ![4096, 3328]⟩
abbrev S4x1024 : Shape := ⟨2, ![4, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S3x1024 : Shape := ⟨2, ![3, 1024]⟩
abbrev S4099x1024 : Shape := ⟨2, ![4099, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel21.lean ====
abbrev S4096x3328 : Shape := ⟨2, ![4096, 3328]⟩
abbrev S4x768 : Shape := ⟨2, ![4, 768]⟩
abbrev S_ : Shape := ⟨0, ![]⟩
abbrev S1x768 : Shape := ⟨2, ![1, 768]⟩
abbrev S4096x768 : Shape := ⟨2, ![4096, 768]⟩
abbrev S512x768 : Shape := ⟨2, ![512, 768]⟩
abbrev S520x768 : Shape := ⟨2, ![520, 768]⟩
abbrev S8x768 : Shape := ⟨2, ![8, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x3328, .f32⟩
  | .hbm, ⟨1, _⟩ => ⟨S4x768, .f32⟩
  | .hbm, ⟨2, _⟩ => ⟨S_, .f32⟩
  | .hbm, ⟨3, _⟩ => ⟨S1x768, .f32⟩
  | .hbm, ⟨4, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S4x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | .local _ .vmem, ⟨6, _⟩ => ⟨S520x768, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S4096x3328 : Shape := ⟨2, ![4096, 3328]⟩
abbrev S4x768 : Shape := ⟨2, ![4, 768]⟩
abbrev S4096x768 : Shape := ⟨2, ![4096, 768]⟩
abbrev S_ : Shape := ⟨0, ![]⟩
abbrev S3x768 : Shape := ⟨2, ![3, 768]⟩
abbrev S4099x768 : Shape := ⟨2, ![4099, 768]⟩
abbrev S1x768 : Shape := ⟨2, ![1, 768]⟩
abbrev S768 : Shape := ⟨1, ![768]⟩

abbrev nBuf : Space → Nat
  | .hbm => 42
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S4x768, .f32⟩
  | .hbm, ⟨2, _⟩ => ⟨S4096x768, .f32⟩
  | .hbm, ⟨3, _⟩ => ⟨S_, .f32⟩
  | .hbm, ⟨4, _⟩ => ⟨S3x768, .f32⟩
  | .hbm, ⟨5, _⟩ => ⟨S4099x768, .f32⟩
  | .hbm, ⟨6, _⟩ => ⟨S4096x768, .f32⟩
  | .hbm, ⟨7, _⟩ => ⟨S1x768, .f32⟩
  | .hbm, ⟨8, _⟩ => ⟨S768, .f32⟩
  | .hbm, ⟨9, _⟩ => ⟨S1x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S1x768, .f32⟩
  | .hbm, ⟨14, _⟩ => ⟨S768, .f32⟩
  | .hbm, ⟨15, _⟩ => ⟨S1x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S4096x768, .f32⟩
  | .hbm, ⟨20, _⟩ => ⟨S1x768, .f32⟩
  | .hbm, ⟨21, _⟩ => ⟨S768, .f32⟩
  | .hbm, ⟨22, _⟩ => ⟨S1x768, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S4096x768, .f32⟩
  | .hbm, ⟨27, _⟩ => ⟨S1x768, .f32⟩
  | .hbm, ⟨28, _⟩ => ⟨S768, .f32⟩
  | .hbm, ⟨29, _⟩ => ⟨S1x768, .f32⟩
  | .hbm, ⟨30, _⟩ => ⟨S4096x768, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S4096x768, .f32⟩
  | .hbm, ⟨35, _⟩ => ⟨S_, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S4096x768, .f32⟩
  | .hbm, ⟨40, _⟩ => ⟨S4096x768, .f32⟩
  | .hbm, ⟨41, _⟩ => ⟨S4096x768, .f32⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel22.lean ====
abbrev S4096x3328 : Shape := ⟨2, ![4096, 3328]⟩
abbrev S1x128 : Shape := ⟨2, ![1, 128]⟩
abbrev S4096x256 : Shape := ⟨2, ![4096, 256]⟩
abbrev S256x256 : Shape := ⟨2, ![256, 256]⟩
abbrev S4096x128 : Shape := ⟨2, ![4096, 128]⟩
abbrev S4224x128 : Shape := ⟨2, ![4224, 128]⟩
abbrev S128x128 : Shape := ⟨2, ![128, 128]⟩
abbrev S384x128 : Shape := ⟨2, ![384, 128]⟩
abbrev S256x384 : Shape := ⟨2, ![256, 384]⟩
abbrev S256x64 : Shape := ⟨2, ![256, 64]⟩
abbrev S384x64 : Shape := ⟨2, ![384, 64]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x3328, .f32⟩
  | .hbm, ⟨1, _⟩ => ⟨S1x128, .f32⟩
  | .hbm, ⟨2, _⟩ => ⟨S4096x256, .bf16⟩
  | .local _ .vmem, ⟨0, _⟩ => ⟨S256x256, .f32⟩
  | .local _ .vmem, ⟨1, _⟩ => ⟨S256x256, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S256x256, .bf16⟩
  | .local _ .vmem, ⟨6, _⟩ => ⟨S256x256, .bf16⟩
  | .local _ .vmem, ⟨7, _⟩ => ⟨S4224x128, .f32⟩
  | .local _ .vmem, ⟨8, _⟩ => ⟨S4224x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v6 : Index := Scalar.indexCast v4
  let c0_2 : Index := 0#32
  ![v6.toNat, 0]
def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_2 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel22Ideal.lean ====
variable {F : FTy → Type} [FloatOps F] [Named F]
def κ : String → Option EReal := fun
  | "mask" => some ⊥
  | _ => none
-- ==== Reference22Ideal.lean ====
abbrev S4096x3328 : Shape := ⟨2, ![4096, 3328]⟩
abbrev S1x128 : Shape := ⟨2, ![1, 128]⟩
abbrev S4096x256 : Shape := ⟨2, ![4096, 256]⟩
abbrev S4096x128 : Shape := ⟨2, ![4096, 128]⟩
abbrev S1x4096x256 : Shape := ⟨3, ![1, 4096, 256]⟩
abbrev S1x4096x128 : Shape := ⟨3, ![1, 4096, 128]⟩
abbrev S1x4 : Shape := ⟨2, ![1, 4]⟩
abbrev S4 : Shape := ⟨1, ![4]⟩
abbrev S1x64x64x2x2x64 : Shape := ⟨6, ![1, 64, 64, 2, 2, 64]⟩
abbrev S_ : Shape := ⟨0, ![]⟩
abbrev S1x128x128 : Shape := ⟨3, ![1, 128, 128]⟩
abbrev S1x4224x128 : Shape := ⟨3, ![1, 4224, 128]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S1x64x2x192x64x2 : Shape := ⟨6, ![1, 64, 2, 192, 64, 2]⟩
abbrev S1x64x2x2x64x192 : Shape := ⟨6, ![1, 64, 2, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x2 : Shape := ⟨2, ![2, 2]⟩
abbrev S2x2x1x1 : Shape := ⟨4, ![2, 2, 1, 1]⟩
abbrev S1x1x64x192 : Shape := ⟨4, ![1, 1, 64, 192]⟩
abbrev S2x2x64x192 : Shape := ⟨4, ![2, 2, 64, 192]⟩
abbrev S1x1x2x2x64x192 : Shape := ⟨6, ![1, 1, 2, 2, 64, 192]⟩
abbrev S1x64x1x1x1x192 : Shape := ⟨6, ![1, 64, 1, 1, 1, 192]⟩
abbrev S1x1x2x2x1x1 : Shape := ⟨6, ![1, 1, 2, 2, 1, 1]⟩
abbrev S1x64x2x2x64x1 : Shape := ⟨6, ![1, 64, 2, 2, 64, 1]⟩
abbrev S1x64x2x2x64x193 : Shape := ⟨6, ![1, 64, 2, 2, 64, 193]⟩
abbrev S1x64x2x2x64 : Shape := ⟨5, ![1, 64, 2, 2, 64]⟩
abbrev S1x64x2x64x2x64 : Shape := ⟨6, ![1, 64, 2, 64, 2, 64]⟩

abbrev nBuf : Space → Nat
  | .hbm => 124
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S1x128, .f32⟩
  | .hbm, ⟨2, _⟩ => ⟨S4096x256, .f32⟩
  | .hbm, ⟨3, _⟩ => ⟨S4096x128, .f32⟩
  | .hbm, ⟨4, _⟩ => ⟨S4096x128, .f32⟩
  | .hbm, ⟨5, _⟩ => ⟨S1x4096x256, .f32⟩
  | .hbm, ⟨6, _⟩ => ⟨S1x4096x128, .f32⟩
  | .hbm, ⟨7, _⟩ => ⟨S1x4096x128, .f32⟩
  | .hbm, ⟨8, _⟩ => ⟨S1x4, .f32⟩
  | .hbm, ⟨9, _⟩ => ⟨S4, .f32⟩
  | .hbm, ⟨10, _⟩ => ⟨S1x64x64x2x2x64, .f32⟩
  | .hbm, ⟨11, _⟩ => ⟨S_, .f32⟩
  | .hbm, ⟨12, _⟩ => ⟨S1x128x128, .f32⟩
  | .hbm, ⟨13, _⟩ => ⟨S1x4224x128, .f32⟩
  | .hbm, ⟨14, _⟩ => ⟨S1x66x64x2x64, .f32⟩
  | .hbm, ⟨15, _⟩ => ⟨S1x4224x128, .f32⟩
  | .hbm, ⟨16, _⟩ => ⟨S1x66x64x2x64, .f32⟩
  | .hbm, ⟨17, _⟩ => ⟨S1x64x64x2x64, .f32⟩
  | .hbm, ⟨18, _⟩ => ⟨S1x64x64x2x64, .f32⟩
  | .hbm, ⟨19, _⟩ => ⟨S1x64x64x2x64, .f32⟩
  | .hbm, ⟨20, _⟩ => ⟨S1x64x192x2x64, .f32⟩
  | .hbm, ⟨21, _⟩ => ⟨S1x64x64x2x64, .f32⟩
  | .hbm, ⟨22, _⟩ => ⟨S1x64x64x2x64, .f32⟩
  | .hbm, ⟨23, _⟩ => ⟨S1x64x64x2x64, .f32⟩
  | .hbm, ⟨24, _⟩ => ⟨S1x64x192x2x64, .f32⟩
  | .hbm, ⟨25, _⟩ => ⟨S1x64x2x192x64x2, .f32⟩
  | .hbm, ⟨26, _⟩ => ⟨S1x64x2x2x64x192, .f32⟩
  | .hbm, ⟨27, _⟩ => ⟨S_, .f32⟩
  | .hbm, ⟨28, _⟩ => ⟨S1x64x2x2x64x192, .f32⟩
  | .hbm, ⟨29, _⟩ => ⟨S1x64x2x2x64x192, .f32⟩
  | .hbm, ⟨30, _⟩ => ⟨S64, .i32⟩
  | .hbm, ⟨31, _⟩ => ⟨S64x1, .i32⟩
  | .hbm, ⟨32, _⟩ => ⟨S192, .i32⟩
  | .hbm, ⟨33, _⟩ => ⟨S1x192, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S64x192, .i32⟩
  | .hbm, ⟨38, _⟩ => ⟨S64x192, .i32⟩
  | .hbm, ⟨39, _⟩ => ⟨S64x192, .i32⟩
  | .hbm, ⟨40, _⟩ => ⟨S64x192, .i32⟩
  | .hbm, ⟨41, _⟩ => ⟨S64x192, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S2x2, .f32⟩
  | .hbm, ⟨56, _⟩ => ⟨S2x2x1x1, .f32⟩
  | .hbm, ⟨57, _⟩ => ⟨S1x1x64x192, .f32⟩
  | .hbm, ⟨58, _⟩ => ⟨S2x2x64x192, .f32⟩
  | .hbm, ⟨59, _⟩ => ⟨S2x2x64x192, .f32⟩
  | .hbm, ⟨60, _⟩ => ⟨S2x2x64x192, .f32⟩
  | .hbm, ⟨61, _⟩ => ⟨S1x1x2x2x64x192, .f32⟩
  | .hbm, ⟨62, _⟩ => ⟨S1x64x2x2x64x192, .f32⟩
  | .hbm, ⟨63, _⟩ => ⟨S1x64x2x2x64x192, .f32⟩
  | .hbm, ⟨64, _⟩ => ⟨S64, .i32⟩
  | .hbm, ⟨65, _⟩ => ⟨S64x1, .i32⟩
  | .hbm, ⟨66, _⟩ => ⟨S_, .i32⟩
  | .hbm, ⟨67, _⟩ => ⟨S64x1, .i32⟩
  | .hbm, ⟨68, _⟩ => ⟨S64x1, .i32⟩
  | .hbm, ⟨69, _⟩ => ⟨S192, .i32⟩
  | .hbm, ⟨70, _⟩ => ⟨S_, .i32⟩
  | .hbm, ⟨71, _⟩ => ⟨S_, .i32⟩
  | .hbm, ⟨72, _⟩ => ⟨S192, .i32⟩
  | .hbm, ⟨73, _⟩ => ⟨S192, .i32⟩
  | .hbm, ⟨74, _⟩ => ⟨S192, .i32⟩
  | .hbm, ⟨75, _⟩ => ⟨S_, .i32⟩
  | .hbm, ⟨76, _⟩ => ⟨S192, .i32⟩
  | .hbm, ⟨77, _⟩ => ⟨S192, .i1⟩
  | .hbm, ⟨78, _⟩ => ⟨S192, .i32⟩
  | .hbm, ⟨79, _⟩ => ⟨S192, .i32⟩
  | .hbm, ⟨80, _⟩ => ⟨S_, .i32⟩
  | .hbm, ⟨81, _⟩ => ⟨S192, .i32⟩
  | .hbm, ⟨82, _⟩ => ⟨S192, .i1⟩
  | .hbm, ⟨83, _⟩ => ⟨S192, .i1⟩
  | .hbm, ⟨84, _⟩ => ⟨S_, .i32⟩
  | .hbm, ⟨85, _⟩ => ⟨S192, .i32⟩
  | .hbm, ⟨86, _⟩ => ⟨S192, .i32⟩
  | .hbm, ⟨87, _⟩ => ⟨S192, .i32⟩
  | .hbm, ⟨88, _⟩ => ⟨S1x192, .i32⟩
  | .hbm, ⟨89, _⟩ => ⟨S64x192, .i32⟩
  | .hbm, ⟨90, _⟩ => ⟨S64x192, .i32⟩
  | .hbm, ⟨91, _⟩ => ⟨S64x192, .i32⟩
  | .hbm, ⟨92, _⟩ => ⟨S_, .i32⟩
  | .hbm, ⟨93, _⟩ => ⟨S64x192, .i32⟩
  | .hbm, ⟨94, _⟩ => ⟨S64x192, .i1⟩
  | .hbm, ⟨95, _⟩ => ⟨S1x64x1x1x1x192, .i1⟩
  | .hbm, ⟨96, _⟩ => ⟨S_, .f32⟩
  | .hbm, ⟨97, _⟩ => ⟨S_, .f32⟩
  | .hbm, ⟨98, _⟩ => ⟨S1x64x2x2x64x192, .i1⟩
  | .hbm, ⟨99, _⟩ => ⟨S1x64x2x2x64x192, .f32⟩
  | .hbm, ⟨100, _⟩ => ⟨S1x64x2x2x64x192, .f32⟩
  | .hbm, ⟨101, _⟩ => ⟨S1x1x2x2x1x1, .f32⟩
  | .hbm, ⟨102, _⟩ => ⟨S1x64x2x2x64x1, .f32⟩
  | .hbm, ⟨103, _⟩ => ⟨S1x64x2x2x64x193, .f32⟩
  | .hbm, ⟨104, _⟩ => ⟨S_, .f32⟩
  | .hbm, ⟨105, _⟩ => ⟨S1x64x2x2x64, .f32⟩
  | .hbm, ⟨106, _⟩ => ⟨S_, .f32⟩
  | .hbm, ⟨107, _⟩ => ⟨S1x64x2x2x64, .f32⟩
  | .hbm, ⟨108, _⟩ => ⟨S1x64x2x2x64, .f32⟩
  | .hbm, ⟨109, _⟩ => ⟨S1x64x2x2x64x1, .f32⟩
  | .hbm, ⟨110, _⟩ => ⟨S1x64x2x2x64x193, .f32⟩
  | .hbm, ⟨111, _⟩ => ⟨S1x64x2x2x64x193, .f32⟩
  | .hbm, ⟨112, _⟩ => ⟨S1x64x2x2x64x193, .f32⟩
  | .hbm, ⟨113, _⟩ => ⟨S_, .f32⟩
  | .hbm, ⟨114, _⟩ => ⟨S1x64x2x2x64, .f32⟩
  | .hbm, ⟨115, _⟩ => ⟨S1x64x2x2x64x1, .f32⟩
  | .hbm, ⟨116, _⟩ => ⟨S1x64x2x2x64x193, .f32⟩
  | .hbm, ⟨117, _⟩ => ⟨S1x64x2x2x64x193, .f32⟩
  | .hbm, ⟨118, _⟩ => ⟨S1x64x2x2x64x192, .f32⟩
  | .hbm, ⟨119, _⟩ => ⟨S1x64x2x64x2x64, .f32⟩
  | .hbm, ⟨120, _⟩ => ⟨S1x64x64x2x2x64, .f32⟩
  | .hbm, ⟨121, _⟩ => ⟨S1x4096x256, .f32⟩
  | .hbm, ⟨122, _⟩ => ⟨S4096x256, .f32⟩
  | .hbm, ⟨123, _⟩ => ⟨S4096x256, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_c_6 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_c : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_c_0 : Ref sig .tc := ⟨.hbm, 84, rfl⟩
abbrev main_call0_v12 : Ref sig .tc := ⟨.hbm, 85, rfl⟩
abbrev main_call0_v13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_7 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]
-- ==== Kernel23.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x772 : Shape := ⟨2, ![2048, 772]⟩
abbrev S512x772 : Shape := ⟨2, ![512, 772]⟩

abbrev nBuf : Space → Nat
  | .hbm => 7
  | .vmem => 14
  | .smem => 0
  | _ => 0

abbrev bufTy : (tb : Table) → Fin (tcTables nBuf tb) → BufTy
  | .hbm, ⟨0, _⟩ => ⟨S2048x772, .f32⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S2048x772, .f32⟩
  | .hbm, ⟨5, _⟩ => ⟨S2048x772, .f32⟩
  | .hbm, ⟨6, _⟩ => ⟨S2048x772, .f32⟩
  | .local _ .vmem, ⟨0, _⟩ => ⟨S512x772, .f32⟩
  | .local _ .vmem, ⟨1, _⟩ => ⟨S512x772, .f32⟩
  | .local _ .vmem, ⟨2, _⟩ => ⟨S512x772, .f32⟩
  | .local _ .vmem, ⟨3, _⟩ => ⟨S512x772, .f32⟩
  | .local _ .vmem, ⟨4, _⟩ => ⟨S512x772, .f32⟩
  | .local _ .vmem, ⟨5, _⟩ => ⟨S512x772, .f32⟩
  | .local _ .vmem, ⟨6, _⟩ => ⟨S512x772, .f32⟩
  | .local _ .vmem, ⟨7, _⟩ => ⟨S512x772, .f32⟩
  | .local _ .vmem, ⟨8, _⟩ => ⟨S512x772, .f32⟩
  | .local _ .vmem, ⟨9, _⟩ => ⟨S512x772, .f32⟩
  | .local _ .vmem, ⟨10, _⟩ => ⟨S512x772, .f32⟩
  | .local _ .vmem, ⟨11, _⟩ => ⟨S512x772, .f32⟩
  | .local _ .vmem, ⟨12, _⟩ => ⟨S512x772, .f32⟩
  | .local _ .vmem, ⟨13, _⟩ => ⟨S512x772, .f32⟩
  | _, _ => ⟨S2048x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2048x772 : Shape := ⟨2, ![2048, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x772, .f32⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S_, .f32⟩
  | .hbm, ⟨5, _⟩ => ⟨S2048x772, .f32⟩
  | .hbm, ⟨6, _⟩ => ⟨S2048x772, .f32⟩
  | .hbm, ⟨7, _⟩ => ⟨S_, .f32⟩
  | .hbm, ⟨8, _⟩ => ⟨S2048x772, .f32⟩
  | .hbm, ⟨9, _⟩ => ⟨S2048x772, .f32⟩
  | .hbm, ⟨10, _⟩ => ⟨S2048x772, .f32⟩
  | .hbm, ⟨11, _⟩ => ⟨S_, .f32⟩
  | .hbm, ⟨12, _⟩ => ⟨S2048x772, .f32⟩
  | .hbm, ⟨13, _⟩ => ⟨S2048x772, .f32⟩
  | .hbm, ⟨14, _⟩ => ⟨S2048x772, .f32⟩
  | .hbm, ⟨15, _⟩ => ⟨S_, .f32⟩
  | .hbm, ⟨16, _⟩ => ⟨S2048x772, .f32⟩
  | .hbm, ⟨17, _⟩ => ⟨S2048x772, .f32⟩
  | .hbm, ⟨18, _⟩ => ⟨S2048x772, .f32⟩
  | .hbm, ⟨19, _⟩ => ⟨S_, .f32⟩
  | .hbm, ⟨20, _⟩ => ⟨S2048x772, .f32⟩
  | .hbm, ⟨21, _⟩ => ⟨S2048x772, .f32⟩
  | .hbm, ⟨22, _⟩ => ⟨S_, .f32⟩
  | .hbm, ⟨23, _⟩ => ⟨S2048x772, .f32⟩
  | .hbm, ⟨24, _⟩ => ⟨S2048x772, .f32⟩
  | .hbm, ⟨25, _⟩ => ⟨S2048x772, .f32⟩
  | .hbm, ⟨26, _⟩ => ⟨S_, .f32⟩
  | .hbm, ⟨27, _⟩ => ⟨S2048x772, .f32⟩
  | .hbm, ⟨28, _⟩ => ⟨S2048x772, .f32⟩
  | .hbm, ⟨29, _⟩ => ⟨S2048x772, .f32⟩
  | .hbm, ⟨30, _⟩ => ⟨S_, .f32⟩
  | .hbm, ⟨31, _⟩ => ⟨S2048x772, .f32⟩
  | .hbm, ⟨32, _⟩ => ⟨S2048x772, .f32⟩
  | .hbm, ⟨33, _⟩ => ⟨S2048x772, .f32⟩
  | .hbm, ⟨34, _⟩ => ⟨S_, .f32⟩
  | .hbm, ⟨35, _⟩ => ⟨S2048x772, .f32⟩
  | .hbm, ⟨36, _⟩ => ⟨S2048x772, .f32⟩
  | _, _ => ⟨S2048x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S176x128 : Shape := ⟨2, ![176, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S176x128 : Shape := ⟨2, ![176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S176x128, .f32⟩
  | .hbm, ⟨7, _⟩ => ⟨S_, .f32⟩
  | .hbm, ⟨8, _⟩ => ⟨S176x128, .f32⟩
  | .hbm, ⟨9, _⟩ => ⟨S176x128, .f32⟩
  | .hbm, ⟨10, _⟩ => ⟨S176x128, .f32⟩
  | .hbm, ⟨11, _⟩ => ⟨S_, .f32⟩
  | .hbm, ⟨12, _⟩ => ⟨S176x128, .f32⟩
  | .hbm, ⟨13, _⟩ => ⟨S176x128, .f32⟩
  | .hbm, ⟨14, _⟩ => ⟨S176x128, .f32⟩
  | .hbm, ⟨15, _⟩ => ⟨S_, .f32⟩
  | .hbm, ⟨16, _⟩ => ⟨S176x128, .f32⟩
  | .hbm, ⟨17, _⟩ => ⟨S176x128, .f32⟩
  | .hbm, ⟨18, _⟩ => ⟨S176x128, .f32⟩
  | .hbm, ⟨19, _⟩ => ⟨S_, .f32⟩
  | .hbm, ⟨20, _⟩ => ⟨S176x128, .f32⟩
  | .hbm, ⟨21, _⟩ => ⟨S176x128, .f32⟩
  | .hbm, ⟨22, _⟩ => ⟨S_, .f32⟩
  | .hbm, ⟨23, _⟩ => ⟨S176x128, .f32⟩
  | .hbm, ⟨24, _⟩ => ⟨S176x128, .f32⟩
  | .hbm, ⟨25, _⟩ => ⟨S176x128, .f32⟩
  | .hbm, ⟨26, _⟩ => ⟨S_, .f32⟩
  | .hbm, ⟨27, _⟩ => ⟨S176x128, .f32⟩
  | .hbm, ⟨28, _⟩ => ⟨S176x128, .f32⟩
  | .hbm, ⟨29, _⟩ => ⟨S176x128, .f32⟩
  | .hbm, ⟨30, _⟩ => ⟨S_, .f32⟩
  | .hbm, ⟨31, _⟩ => ⟨S176x128, .f32⟩
  | .hbm, ⟨32, _⟩ => ⟨S176x128, .f32⟩
  | .hbm, ⟨33, _⟩ => ⟨S176x128, .f32⟩
  | .hbm, ⟨34, _⟩ => ⟨S_, .f32⟩
  | .hbm, ⟨35, _⟩ => ⟨S176x128, .f32⟩
  | .hbm, ⟨36, _⟩ => ⟨S176x128, .f32⟩
  | _, _ => ⟨S176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8x264x128 : Shape := ⟨3, ![8, 264, 128]⟩
abbrev S264x128 : Shape := ⟨2, ![264, 128]⟩
abbrev S1x264x128 : Shape := ⟨3, ![1, 264, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x264x128, .f32⟩
  | .hbm, ⟨1, _⟩ => ⟨S264x128, .f32⟩
  | .local _ .vmem, ⟨0, _⟩ => ⟨S8x264x128, .f32⟩
  | .local _ .vmem, ⟨1, _⟩ => ⟨S264x128, .f32⟩
  | _, _ => ⟨S8x264x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x264x128 : Shape := ⟨3, ![8, 264, 128]⟩
abbrev S_ : Shape := ⟨0, ![]⟩
abbrev S264x128 : Shape := ⟨2, ![264, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x264x128, .f32⟩
  | .hbm, ⟨1, _⟩ => ⟨S_, .f32⟩
  | .hbm, ⟨2, _⟩ => ⟨S264x128, .f32⟩
  | _, _ => ⟨S8x264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Swa.Body.lean ====
module

public import proofs.«01_k».proof.Proof.Gen.KernelIdeal.Value

/-! # The attention's gradient on one block of 256 queries, operation by operation

The kernel handles four query heads; each is the same chain of operations on its own columns. This module names the
chain once, for one head, and composes the four heads into what a block contributes: `bodyDq` to the gradient of the
queries, `bodyDk` and `bodyDv` to the gradients of the 384 keys and values the block sees, `bodyDs` to the gradient of
the sinks. Everything here holds over any number system. -/

@[expose] public section

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- The zero that sums and paddings start from. -/
abbrev z0 : F .f32 := Scalar.ofBits .f32 0x00000000#32

/-- Which of the 384 keys of block `i` each of its 256 queries attends to. -/
def msk (i : grid0.Coords) : IVec S256x384 1 :=
  k0_pay19 (iota .tc S256x384 32 [1] iota_S256x384_d1_w32)
    (k0_pay16 (iota .tc S256x384 32 [1] iota_S256x384_d1_w32) k0_pay14 64#32 k0_pay15)
    (Scalar.muli (BitVec.ofNat 32 (i 0).val) 4#32) 64#32
    (k0_pay17 (iota .tc S256x384 32 [1] iota_S256x384_d1_w32)) (k0_pay18 (iota .tc S256x384 32 [1] iota_S256x384_d1_w32))

/-- How far apart a query and a key are. -/
def dist : FVec F S256x384 .f32 :=
  k0_pay20 (iota .tc S256x384 32 [0] iota_S256x384_d0_w32) (iota .tc S256x384 32 [1] iota_S256x384_d1_w32)

/-- The lane of the sinks' row that belongs to head `w`. -/
def lane (w : BitVec 32) : IVec S1x128 1 :=
  cmpi .eq (iota .tc S1x128 32 [1] iota_S1x128_d1_w32) (broadcast S1x128 w)

/-- The sink of head `w`. -/
def snk (w : BitVec 32) (x : FVec F S1x128 .f32) : FVec F S1x1 .f32 :=
  shapeCast S1x1 (multiReduction .add [1] S1 (select (lane w) x (broadcast S1x128 z0)) 0x00000000#32 reduces_S1x128_S1 (.inl rfl) rfl)
    shapeCasts_S1_S1x1

/-- A column from a vector of row values. -/
abbrev col (x : FVec F S256 .f32) : FVec F S256x1 .f32 := shapeCast S256x1 x shapeCasts_S256_S256x1
/-- A column repeated along the keys. -/
abbrev wide (x : FVec F S256x1 .f32) : FVec F S256x384 .f32 := broadcastTo S256x384 x broadcasts_S256x1_S256x384
/-- One number repeated along the rows. -/
abbrev tall (x : FVec F S1x1 .f32) : FVec F S256x1 .f32 := broadcastTo S256x1 x broadcasts_S1x1_S256x1
/-- The sum of each row over the keys. -/
abbrev rowSum (x : FVec F S256x384 .f32) : FVec F S256 .f32 :=
  multiReduction .add [1] S256 x 0x00000000#32 reduces_S256x384_S256 (.inl rfl) rfl
/-- The sum of each row of a column. -/
abbrev rowSum1 (x : FVec F S256x1 .f32) : FVec F S256 .f32 :=
  multiReduction .add [1] S256 x 0x00000000#32 reduces_S256x1_S256 (.inl rfl) rfl

/-- The scores of one head: scaled products less the slope times the distance, masked. -/
def sc (slope : BitVec 32) (mk : IVec S256x384 1) (ds : FVec F S256x384 .f32) (q : FVec F S256x64 .f32) (k : FVec F S384x64 .f32) :
    FVec F S256x384 .f32 :=
  select mk
    (subf (mulf (matmul dot_S256x64_S384x64_S256x384_1_1_0_0_n_n none (truncf .bf16 q bitsLt_bf16_f32) (truncf .bf16 k bitsLt_bf16_f32)
        (constant S256x384 .f32 0x00000000#32)) (broadcast S256x384 (Scalar.ofBits .f32 0x3E000000#32)))
      (mulf (broadcast S256x384 (Scalar.ofBits .f32 slope)) ds))
    (broadcast S256x384 (Named.named κ "mask" 0xF149F2CA#32))

/-- The largest score of each row. -/
def rmx (s : FVec F S256x384 .f32) : FVec F S256 .f32 :=
  multiReduction .maximumf [1] S256 s 0xFF800000#32 reduces_S256x384_S256 (.inl rfl) rfl
/-- Where the largest score of a row is attained, as ones and zeros. -/
def eqm (s : FVec F S256x384 .f32) : FVec F S256x384 .f32 :=
  sitofp .f32 (extui 32 (cmpf .oeq s (wide (col (rmx s)))) natLt_1_32)
/-- The larger of the largest score and the sink. -/
def mx (s : FVec F S256x384 .f32) (u : FVec F S1x1 .f32) : FVec F S256x1 .f32 := maximumf (col (rmx s)) (tall u)
/-- The share of the maximum's gradient that goes to the first of two operands: one, a half or nothing. -/
def share (x y : FVec F S256x1 .f32) : FVec F S256x1 .f32 :=
  select (cmpf .ogt x y) (broadcast S256x1 (Scalar.ofBits .f32 0x3F800000#32))
    (select (cmpf .oeq x y) (broadcast S256x1 (Scalar.ofBits .f32 0x3F000000#32)) (broadcast S256x1 z0))
/-- The exponentials of the scores, less the maximum. -/
def ee (s : FVec F S256x384 .f32) (u : FVec F S1x1 .f32) : FVec F S256x384 .f32 := exp (subf s (wide (mx s u)))
/-- The exponential of the sink, less the maximum. -/
def es (s : FVec F S256x384 .f32) (u : FVec F S1x1 .f32) : FVec F S256x1 .f32 := exp (subf (tall u) (mx s u))
/-- The normaliser. -/
def zz (s : FVec F S256x384 .f32) (u : FVec F S1x1 .f32) : FVec F S256x1 .f32 := addf (col (rowSum (ee s u))) (es s u)
/-- The weights. -/
def pp (s : FVec F S256x384 .f32) (u : FVec F S1x1 .f32) : FVec F S256x384 .bf16 :=
  truncf .bf16 (divf (ee s u) (wide (zz s u))) bitsLt_bf16_f32
/-- One over the normaliser's square. -/
def iz (s : FVec F S256x384 .f32) (u : FVec F S1x1 .f32) : FVec F S256x1 .f32 :=
  divf (broadcast S256x1 (Scalar.ofBits .f32 0x3F800000#32)) (mulf (zz s u) (zz s u))
/-- The gradient of the values. -/
def dvh (s : FVec F S256x384 .f32) (u : FVec F S1x1 .f32) (g : FVec F S256x64 .f32) : FVec F S384x64 .f32 :=
  extf .f32 (truncf .bf16 (transpose S384x64 [1, 0]
    (matmul dot_S256x64_S256x384_S64x384_0_0_1_1_n_n none g (pp s u) (constant S64x384 .f32 0x00000000#32))
    transposes_S64x384_p1_0_S384x64) bitsLt_bf16_f32) bitsLt_bf16_f32
/-- The gradient of the weights. -/
def dpp (v : FVec F S384x64 .f32) (g : FVec F S256x64 .f32) : FVec F S256x384 .f32 :=
  extf .f32 (truncf .bf16 (matmul dot_S256x64_S384x64_S256x384_1_1_0_0_n_n none g (truncf .bf16 v bitsLt_bf16_f32)
    (constant S256x384 .f32 0x00000000#32)) bitsLt_bf16_f32) bitsLt_bf16_f32
/-- The gradient of the normaliser. -/
def cc (s : FVec F S256x384 .f32) (u : FVec F S1x1 .f32) (dp : FVec F S256x384 .f32) : FVec F S256x1 .f32 :=
  subf (broadcast S256x1 z0) (col (rowSum (mulf (mulf dp (wide (iz s u))) (ee s u))))
/-- The gradient of the sink's exponent. -/
def ces (s : FVec F S256x384 .f32) (u : FVec F S1x1 .f32) (dp : FVec F S256x384 .f32) : FVec F S256x1 .f32 := mulf (cc s u dp) (es s u)
/-- The gradient of the scores' exponents. -/
def tt (s : FVec F S256x384 .f32) (u : FVec F S1x1 .f32) (dp : FVec F S256x384 .f32) : FVec F S256x384 .f32 :=
  mulf (addf (divf dp (wide (zz s u))) (wide (col (rowSum1 (cc s u dp))))) (ee s u)
/-- The gradient of the maximum. -/
def dmm (s : FVec F S256x384 .f32) (u : FVec F S1x1 .f32) (dp : FVec F S256x384 .f32) : FVec F S256x1 .f32 :=
  addf (subf (broadcast S256x1 z0) (ces s u dp)) (col (rowSum (subf (broadcast S256x384 z0) (tt s u dp))))
/-- The gradient of the masked scores. -/
def dtot (s : FVec F S256x384 .f32) (u : FVec F S1x1 .f32) (dp : FVec F S256x384 .f32) : FVec F S256x384 .f32 :=
  addf (tt s u dp)
    (mulf (wide (col (divf (rowSum1 (mulf (dmm s u dp) (share (col (rmx s)) (tall u)))) (rowSum (eqm s))))) (eqm s))
/-- The gradient of the scaled products. -/
def dsc (mk : IVec S256x384 1) (s : FVec F S256x384 .f32) (u : FVec F S1x1 .f32) (dp : FVec F S256x384 .f32) : FVec F S256x384 .f32 :=
  mulf (select mk (dtot s u dp) (broadcast S256x384 z0)) (broadcast S256x384 (Scalar.ofBits .f32 0x3E000000#32))
/-- The gradient of the keys. -/
def dkh (d : FVec F S256x384 .f32) (q : FVec F S256x64 .f32) : FVec F S384x64 .f32 :=
  extf .f32 (truncf .bf16 (matmul dot_S256x384_S256x64_S384x64_0_0_1_1_n_n none d (truncf .bf16 q bitsLt_bf16_f32)
    (constant S384x64 .f32 0x00000000#32)) bitsLt_bf16_f32) bitsLt_bf16_f32
/-- The gradient of the queries. -/
def dqh (d : FVec F S256x384 .f32) (k : FVec F S384x64 .f32) : FVec F S256x64 .f32 :=
  extf .f32 (truncf .bf16 (matmul dot_S256x384_S384x64_S256x64_1_0_0_1_n_n none d (truncf .bf16 k bitsLt_bf16_f32)
    (constant S256x64 .f32 0x00000000#32)) bitsLt_bf16_f32) bitsLt_bf16_f32
/-- A column's sum. -/
abbrev colSum (x : FVec F S256x1 .f32) : FVec F S1x1 .f32 :=
  shapeCast S1x1 (multiReduction .add [0] S1 x 0x00000000#32 reduces_S256x1_S1 (.inl rfl) rfl) shapeCasts_S1_S1x1
/-- The gradient of the sink, in its lane. -/
def dsh (w : BitVec 32) (s : FVec F S256x384 .f32) (u : FVec F S1x1 .f32) (dp : FVec F S256x384 .f32) : FVec F S1x128 .f32 :=
  select (lane w) (broadcastTo S1x128 (shapeCast S1x1 (broadcast S1 (extractAt ![0, 0, 0] (shapeCast S1x1x1
      (multiReduction .add [1, 2] S1 (shapeCast S1x1x1
        (addf (colSum (ces s u dp)) (colSum (mulf (dmm s u dp) (share (tall u) (col (rmx s)))))) shapeCasts_S1x1_S1x1x1)
        0x00000000#32 reduces_S1x1x1_S1 (.inl rfl) rfl) shapeCasts_S1_S1x1x1) inpos_S1x1x1_p0_0_0)) shapeCasts_S1_S1x1)
      broadcasts_S1x1_S1x128)
    (broadcast S1x128 z0)

section
variable (x : FVec F S256x256 .f32)
abbrev q0 : FVec F S256x64 .f32 := extractStridedSlice S256x64 ![0, 0] x slices_S256x256_o0_0_S256x64
abbrev q1 : FVec F S256x64 .f32 := extractStridedSlice S256x64 ![0, 64] x slices_S256x256_o0_64_S256x64
abbrev q2 : FVec F S256x64 .f32 := extractStridedSlice S256x64 ![0, 128] x slices_S256x256_o0_128_S256x64
abbrev q3 : FVec F S256x64 .f32 := extractStridedSlice S256x64 ![0, 192] x slices_S256x256_o0_192_S256x64
end
section
variable (x : FVec F S384x128 .f32)
abbrev k0 : FVec F S384x64 .f32 := extractStridedSlice S384x64 ![0, 0] x slices_S384x128_o0_0_S384x64
abbrev k1 : FVec F S384x64 .f32 := extractStridedSlice S384x64 ![0, 64] x slices_S384x128_o0_64_S384x64
end

section
variable (i : grid0.Coords) (q : FVec F S256x256 .f32) (kw vw : FVec F S384x128 .f32) (u : FVec F S1x128 .f32) (g : FVec F S256x256 .f32)

abbrev s0 : FVec F S256x384 .f32 := sc 0x3E800000#32 (msk i) dist (q0 q) (k0 kw)
abbrev s1 : FVec F S256x384 .f32 := sc 0x3D800000#32 (msk i) dist (q1 q) (k0 kw)
abbrev s2 : FVec F S256x384 .f32 := sc 0x3C800000#32 (msk i) dist (q2 q) (k1 kw)
abbrev s3 : FVec F S256x384 .f32 := sc 0x3B800000#32 (msk i) dist (q3 q) (k1 kw)
abbrev d0 : FVec F S256x384 .f32 := dsc (msk i) (s0 i q kw) (snk 0#32 u) (dpp (k0 vw) (q0 g))
abbrev d1 : FVec F S256x384 .f32 := dsc (msk i) (s1 i q kw) (snk 1#32 u) (dpp (k0 vw) (q1 g))
abbrev d2 : FVec F S256x384 .f32 := dsc (msk i) (s2 i q kw) (snk 2#32 u) (dpp (k1 vw) (q2 g))
abbrev d3 : FVec F S256x384 .f32 := dsc (msk i) (s3 i q kw) (snk 3#32 u) (dpp (k1 vw) (q3 g))

/-- What the block gives for the queries: each head's gradient in its own columns. -/
def bodyDq : FVec F S256x256 .f32 :=
  addf (addf (addf
    (concatenate S256x256 1 [⟨S256x192, broadcast S256x192 z0⟩, ⟨S256x64, dqh (d3 i q kw vw u g) (k1 kw)⟩]
      concatenates_S256x192_S256x64_S256x256_d1)
    (concatenate S256x256 1 [⟨S256x192, concatenate S256x192 1 [⟨S256x128, broadcast S256x128 z0⟩, ⟨S256x64, dqh (d2 i q kw vw u g) (k1 kw)⟩]
      concatenates_S256x128_S256x64_S256x192_d1⟩, ⟨S256x64, broadcast S256x64 z0⟩] concatenates_S256x192_S256x64_S256x256_d1))
    (concatenate S256x256 1 [⟨S256x128, concatenate S256x128 1 [⟨S256x64, broadcast S256x64 z0⟩, ⟨S256x64, dqh (d1 i q kw vw u g) (k0 kw)⟩]
      concatenates_S256x64_S256x64_S256x128_d1⟩, ⟨S256x128, broadcast S256x128 z0⟩] concatenates_S256x128_S256x128_S256x256_d1))
    (concatenate S256x256 1 [⟨S256x64, dqh (d0 i q kw vw u g) (k0 kw)⟩, ⟨S256x192, broadcast S256x192 z0⟩]
      concatenates_S256x64_S256x192_S256x256_d1)

/-- Two key heads side by side. -/
abbrev pairR (x : FVec F S384x64 .f32) : FVec F S384x128 .f32 :=
  concatenate S384x128 1 [⟨S384x64, broadcast S384x64 z0⟩, ⟨S384x64, x⟩] concatenates_S384x64_S384x64_S384x128_d1
/-- Two key heads side by side. -/
abbrev pairL (x : FVec F S384x64 .f32) : FVec F S384x128 .f32 :=
  concatenate S384x128 1 [⟨S384x64, x⟩, ⟨S384x64, broadcast S384x64 z0⟩] concatenates_S384x64_S384x64_S384x128_d1

/-- What the block gives for the keys it sees: two query heads share a key head. -/
def bodyDk : FVec F S384x128 .f32 :=
  addf (addf (addf (pairR (dkh (d3 i q kw vw u g) (q3 q))) (pairR (dkh (d2 i q kw vw u g) (q2 q))))
    (pairL (dkh (d1 i q kw vw u g) (q1 q)))) (pairL (dkh (d0 i q kw vw u g) (q0 q)))

/-- What the block gives for the values it sees. -/
def bodyDv : FVec F S384x128 .f32 :=
  addf (addf (addf (pairR (dvh (s3 i q kw) (snk 3#32 u) (q3 g))) (pairR (dvh (s2 i q kw) (snk 2#32 u) (q2 g))))
    (pairL (dvh (s1 i q kw) (snk 1#32 u) (q1 g)))) (pairL (dvh (s0 i q kw) (snk 0#32 u) (q0 g)))

/-- What the block gives for the sinks. -/
def bodyDs : FVec F S1x128 .f32 :=
  addf (addf (addf (dsh 3#32 (s3 i q kw) (snk 3#32 u) (dpp (k1 vw) (q3 g))) (dsh 2#32 (s2 i q kw) (snk 2#32 u) (dpp (k1 vw) (q2 g))))
    (dsh 1#32 (s1 i q kw) (snk 1#32 u) (dpp (k0 vw) (q1 g)))) (dsh 0#32 (s0 i q kw) (snk 0#32 u) (dpp (k0 vw) (q0 g)))
end

end Cert.KernelIdeal.Swa
-- ==== Proof.Swa.Spec.lean ====
module

public import Idealize.ShloMosaic.PureOps.Ideal

/-! # The gradient of sliding-window attention with a sink, over the reals

One row of scores gives weights `p = e / z`, where `e` are the exponentials of the scores (nothing outside the window)
and `z` is their sum plus the exponential of the sink. `Row` has the row's gradient and the cancellations that make it
independent of the number subtracted before exponentiating. After it come the gradients of the whole layer, for queries
`Q`, keys `K` and values `V` (with 128 rows of padding in front), sinks `u` and the result's gradient `G`, all indexed
by plain numbers. -/

@[expose] public section

noncomputable section

open Idealize.ShloMosaic Finset

namespace Cert.Swa

/-- A finite sum of reals is the same sum among the extended reals. -/
theorem coe_sum {ι : Type} (A : Finset ι) (f : ι → ℝ) : ∑ i ∈ A, ((f i : ℝ) : EReal) = ((∑ i ∈ A, f i : ℝ) : EReal) := by
  classical
  induction A using Finset.induction_on with
  | empty => simp
  | insert a A h ih => rw [Finset.sum_insert h, Finset.sum_insert h, ih, EReal.coe_add]

/-- A quotient of reals is the same quotient among the extended reals. -/
theorem div_real (x : ℝ) {y : ℝ} (h : y ≠ 0) : Ideal.div (x : EReal) (y : EReal) = ((x / y : ℝ) : EReal) := by
  rw [Ideal.div_coe h, ← EReal.coe_mul, mul_one_div]

/-- A sum over `n` consecutive numbers is the sum over a longer range, when nothing is added outside. -/
theorem sum_window {M : Type} [AddCommMonoid M] (n N a : ℕ) (f : ℕ → M) (h : a + n ≤ N) (h0 : ∀ s, s < N → ¬ (a ≤ s ∧ s < a + n) → f s = 0) :
    ∑ u : Fin n, f (a + u.val) = ∑ s ∈ range N, f s := by
  rw [Fin.sum_univ_eq_sum_range (fun u => f (a + u)) n]
  have e := (Finset.sum_Ico_eq_sum_range f a (a + n)).symm
  rw [Nat.add_sub_cancel_left] at e
  rw [e]
  refine Finset.sum_subset (fun s hs => ?_) (fun s hs hn => ?_)
  · rw [Finset.mem_Ico] at hs; rw [Finset.mem_range]; omega
  · rw [Finset.mem_range] at hs; rw [Finset.mem_Ico] at hn; exact h0 s hs hn

/-! ### One row -/

namespace Row

variable {ι : Type} (A : Finset ι) (e : ι → ℝ) (k : ℝ) (y : ι → ℝ)

/-- The normaliser. -/
def z : ℝ := ∑ s ∈ A, e s + k
/-- The weight of one score. -/
def p (s : ι) : ℝ := e s / z A e k
/-- The weight of the sink. -/
def ps : ℝ := k / z A e k
/-- The weighted mean of the weights' gradient. -/
def m : ℝ := ∑ s ∈ A, p A e k s * y s
/-- The gradient of one score. -/
def d (s : ι) : ℝ := p A e k s * (y s - m A e k y)

variable {A e k}

theorem z_pos (he : ∀ s, 0 ≤ e s) (hk : 0 < k) : 0 < z A e k :=
  add_pos_of_nonneg_of_pos (Finset.sum_nonneg fun s _ => he s) hk

theorem z_scaled (a : ℝ) : ∑ s ∈ A, a * e s + a * k = a * z A e k := by
  rw [z, mul_add, Finset.mul_sum]

theorem p_scaled {a : ℝ} (ha : a ≠ 0) (s : ι) : a * e s / (a * z A e k) = p A e k s := by
  rw [p, mul_div_mul_left _ _ ha]

/-- The weights' and the sink's share add up to one. -/
theorem sum_p (hz : z A e k ≠ 0) : ∑ s ∈ A, p A e k s + ps A e k = 1 := by
  simp only [p, ps]
  rw [← Finset.sum_div, ← add_div, ← z, div_self hz]

/-- The scores' gradients and the sink's add up to nothing. -/
theorem sum_d (hz : z A e k ≠ 0) : ∑ s ∈ A, d A e k y s = ps A e k * m A e k y := by
  have h := sum_p hz
  simp only [d, mul_sub]
  rw [Finset.sum_sub_distrib, ← Finset.sum_mul, ← m]
  linear_combination (-m A e k y) * h

/-- The gradient of the normaliser, with every exponential scaled by `a`. -/
theorem c_scaled {a : ℝ} (ha : a ≠ 0) (hz : z A e k ≠ 0) :
    ∑ s ∈ A, y s * (1 / (a * z A e k * (a * z A e k))) * (a * e s) = m A e k y / (a * z A e k) := by
  rw [m, Finset.sum_div]
  refine Finset.sum_congr rfl fun s _ => ?_
  rw [p]; field_simp

theorem ces_scaled {a : ℝ} (ha : a ≠ 0) (hz : z A e k ≠ 0) :
    -(m A e k y / (a * z A e k)) * (a * k) = -(ps A e k * m A e k y) := by
  rw [ps]; field_simp

theorem t_scaled {a : ℝ} (ha : a ≠ 0) (hz : z A e k ≠ 0) (s : ι) :
    (y s / (a * z A e k) + -(m A e k y / (a * z A e k))) * (a * e s) = d A e k y s := by
  rw [d, p]; field_simp; ring

theorem d_zero {s : ι} (h : e s = 0) : d A e k y s = 0 := by simp [d, p, h]
theorem p_zero {s : ι} (h : e s = 0) : p A e k s = 0 := by simp [p, h]

section
variable (A e k)
/-- A row over `n` consecutive numbers is the row over the longer range, when the exponentials outside are nothing. -/
theorem z_window {n N a : ℕ} {e : ℕ → ℝ} (h : a + n ≤ N) (h0 : ∀ s, s < N → ¬ (a ≤ s ∧ s < a + n) → e s = 0) :
    z (univ : Finset (Fin n)) (fun s => e (a + s.val)) k = z (range N) e k := by
  rw [z, z, sum_window n N a e h h0]

theorem p_window {n N a : ℕ} {e : ℕ → ℝ} (h : a + n ≤ N) (h0 : ∀ s, s < N → ¬ (a ≤ s ∧ s < a + n) → e s = 0) (s : Fin n) :
    p (univ : Finset (Fin n)) (fun s => e (a + s.val)) k s = p (range N) e k (a + s.val) := by
  rw [p, p, z_window k h h0]

theorem ps_window {n N a : ℕ} {e : ℕ → ℝ} (h : a + n ≤ N) (h0 : ∀ s, s < N → ¬ (a ≤ s ∧ s < a + n) → e s = 0) :
    ps (univ : Finset (Fin n)) (fun s => e (a + s.val)) k = ps (range N) e k := by
  rw [ps, ps, z_window k h h0]

theorem m_window {n N a : ℕ} {e y : ℕ → ℝ} (h : a + n ≤ N) (h0 : ∀ s, s < N → ¬ (a ≤ s ∧ s < a + n) → e s = 0) :
    m (univ : Finset (Fin n)) (fun s => e (a + s.val)) k (fun s => y (a + s.val)) = m (range N) e k y := by
  rw [m, m, ← sum_window n N a (fun s => p (range N) e k s * y s) h (fun s hs hn => by rw [p_zero (h0 s hs hn), zero_mul])]
  exact Finset.sum_congr rfl fun s _ => by rw [p_window k h h0]

theorem d_window {n N a : ℕ} {e y : ℕ → ℝ} (h : a + n ≤ N) (h0 : ∀ s, s < N → ¬ (a ≤ s ∧ s < a + n) → e s = 0) (s : Fin n) :
    d (univ : Finset (Fin n)) (fun s => e (a + s.val)) k (fun s => y (a + s.val)) s = d (range N) e k y (a + s.val) := by
  rw [d, d, p_window k h h0, m_window k h h0]
end

end Row

/-! ### The layer -/

/-- Query `t` attends to padded key `s`: the key lies in the query's chunk of 64 or the two before it, past the padding. -/
def Val (t s : ℕ) : Prop := 64 * (t / 64) ≤ s ∧ s < 64 * (t / 64) + 192 ∧ 128 ≤ s

instance (t s : ℕ) : Decidable (Val t s) := by unfold Val; infer_instance

/-- The slope of head `h`. -/
def slope (h : ℕ) : ℝ := (1 / 4) ^ (h + 1)

section
variable (Q K V G : ℕ → ℕ → ℝ) (u : ℕ → ℝ)

/-- The score of query `t` and padded key `s` in head `h`. -/
def score (h t s : ℕ) : ℝ :=
  (∑ d : Fin 64, Q t (64 * h + d.val) * K s (64 * (h / 2) + d.val)) / 8 - slope h * |(t : ℝ) + 128 - s|
/-- The score's exponential, nothing outside the window. -/
def wt (h t s : ℕ) : ℝ := if Val t s then Real.exp (score Q K h t s) else 0
/-- The gradient of a weight. -/
def dP (h t s : ℕ) : ℝ := ∑ d : Fin 64, G t (64 * h + d.val) * V s (64 * (h / 2) + d.val)
/-- The weight. -/
def P (h t s : ℕ) : ℝ := Row.p (range 4224) (wt Q K h t) (Real.exp (u h)) s
/-- The gradient of a product of a query and a key. -/
def D (h t s : ℕ) : ℝ := Row.d (range 4224) (wt Q K h t) (Real.exp (u h)) (dP V G h t) s / 8
/-- What query `t` gives for the sink of head `h`. -/
def dsT (h t : ℕ) : ℝ := -(Row.ps (range 4224) (wt Q K h t) (Real.exp (u h)) * Row.m (range 4224) (wt Q K h t) (Real.exp (u h)) (dP V G h t))

/-- The gradient of the queries. -/
def dq (t c : ℕ) : ℝ := ∑ s ∈ range 4224, D Q K V G u (c / 64) t s * K s (64 * (c / 64 / 2) + c % 64)
/-- What query `t` gives for the keys, through the two heads that share a key head. -/
def dkT (t s c : ℕ) : ℝ :=
  D Q K V G u (2 * (c / 64)) t s * Q t (64 * (2 * (c / 64)) + c % 64) +
    D Q K V G u (2 * (c / 64) + 1) t s * Q t (64 * (2 * (c / 64) + 1) + c % 64)
/-- The gradient of the padded keys. -/
def dk (s c : ℕ) : ℝ := ∑ t ∈ range 4096, dkT Q K V G u t s c
/-- What query `t` gives for the values. -/
def dvT (t s c : ℕ) : ℝ :=
  P Q K u (2 * (c / 64)) t s * G t (64 * (2 * (c / 64)) + c % 64) +
    P Q K u (2 * (c / 64) + 1) t s * G t (64 * (2 * (c / 64) + 1) + c % 64)
/-- The gradient of the padded values. -/
def dv (s c : ℕ) : ℝ := ∑ t ∈ range 4096, dvT Q K G u t s c
/-- The gradient of the sinks. -/
def ds (h : ℕ) : ℝ := ∑ t ∈ range 4096, dsT Q K V G u h t
end

end Cert.Swa
-- ==== Proof.Swa.Exps.lean ====
module

public import proofs.«01_k».proof.Proof.Swa.Spec

/-! # Exponentials and maxima of extended reals -/

@[expose] public section

noncomputable section

open Idealize.ShloMosaic Finset

namespace Cert.Swa

/-- `S` is below `⊤` and its exponential is the real number `e`. -/
def IsExp (S : EReal) (e : ℝ) : Prop := S ≠ ⊤ ∧ Ideal.exp S = (e : EReal)

theorem isExp_coe (x : ℝ) : IsExp (x : EReal) (Real.exp x) := ⟨EReal.coe_ne_top x, rfl⟩

theorem isExp_bot : IsExp ⊥ 0 := ⟨bot_ne_top, rfl⟩

theorem IsExp.nonneg {S : EReal} {e : ℝ} (h : IsExp S e) : 0 ≤ e := by
  obtain ⟨h1, h2⟩ := h
  induction S using EReal.rec with
  | bot => exact le_of_eq (EReal.coe_eq_coe_iff.1 (h2.symm.trans (rfl : Ideal.exp ⊥ = ((0 : ℝ) : EReal)))).symm
  | coe x => rw [EReal.coe_eq_coe_iff.1 (h2.symm.trans (rfl : Ideal.exp (x : EReal) = ((Real.exp x : ℝ) : EReal)))]; positivity
  | top => exact absurd rfl h1

/-- Subtracting a real number before exponentiating scales the exponential. -/
theorem IsExp.sub {S : EReal} {e : ℝ} (h : IsExp S e) (M : ℝ) : Ideal.exp (S - (M : EReal)) = ((Real.exp (-M) * e : ℝ) : EReal) := by
  obtain ⟨h1, h2⟩ := h
  induction S using EReal.rec with
  | bot =>
    rw [← EReal.coe_eq_coe_iff.1 ((rfl : Ideal.exp ⊥ = ((0 : ℝ) : EReal)).symm.trans h2), mul_zero]
    rw [EReal.bot_sub]; rfl
  | coe x =>
    rw [← EReal.coe_eq_coe_iff.1 ((rfl : Ideal.exp (x : EReal) = ((Real.exp x : ℝ) : EReal)).symm.trans h2), ← EReal.coe_sub]
    rw [Ideal.exp_coe, ← Real.exp_add, neg_add_eq_sub]
  | top => exact absurd rfl h1

variable {ι : Type} [Fintype ι] (S : ι → EReal)

/-- The largest of finitely many numbers below `⊤` is below `⊤`. -/
theorem fold_ne_top (h : ∀ s, S s ≠ ⊤) : Finset.fold max ⊥ S univ ≠ ⊤ := by
  refine ne_of_lt ((Finset.fold_max_lt (s := univ) (b := ⊥) (f := S) ⊤).2 ⟨bot_lt_top, fun s _ => lt_top_iff_ne_top.2 (h s)⟩)

/-- The largest of finitely many numbers is one of them. -/
theorem fold_attained [Nonempty ι] : ∃ s, S s = Finset.fold max ⊥ S univ := by
  by_contra hn
  push Not at hn
  have le : ∀ s, S s ≤ Finset.fold max ⊥ S univ := fun s => (Finset.le_fold_max (s := univ) (b := ⊥) (f := S) (S s)).2 (.inr ⟨s, mem_univ s, le_rfl⟩)
  obtain ⟨s0⟩ := ‹Nonempty ι›
  have h0 : ⊥ < Finset.fold max ⊥ S univ := lt_of_le_of_lt bot_le (lt_of_le_of_ne (le s0) (hn s0))
  exact lt_irrefl _ ((Finset.fold_max_lt (s := univ) (b := ⊥) (f := S) _).2 ⟨h0, fun s _ => lt_of_le_of_ne (le s) (hn s)⟩)

/-- Counting where the largest number is attained gives something other than nothing. -/
theorem count_ne_zero [Nonempty ι] : ∑ s, (if S s = Finset.fold max ⊥ S univ then (1 : EReal) else 0) ≠ 0 := by
  obtain ⟨s, hs⟩ := fold_attained S
  have h := Finset.single_le_sum (f := fun s => if S s = Finset.fold max ⊥ S univ then (1 : EReal) else 0)
    (fun i _ => by split <;> simp) (mem_univ s)
  rw [if_pos hs] at h
  exact fun h0 => absurd (h0 ▸ h) (not_le.2 zero_lt_one)

theorem zero_div_ne {y : EReal} (h : y ≠ 0) : Ideal.div 0 y = 0 := by
  rw [Ideal.div, if_neg h, zero_mul]

end Cert.Swa
-- ==== Proof.Swa.Head.lean ====
module

public import proofs.«01_k».proof.Proof.Swa.Body
public import proofs.«01_k».proof.Proof.Swa.Exps
public import Idealize.ShloMosaic.Lib.Pointwise

/-! # One head of one block over the reals

From the scores of a block (each below `⊤`, its exponential the real number `e`), the sink `w` and the weights' gradient
`y`, the kernel's chain of operations gives the row's weights, the scores' gradient and the sink's gradient of
`Cert.Swa.Row`. -/

@[expose] public section

noncomputable section

namespace Cert.KernelIdeal.Swa

open Cert.KernelIdeal Cert.KernelIdeal.Gen Idealize.ShloMosaic Idealize.ShloMosaic.TcCoe Idealize.SL.Sem Cert.Swa

set_option maxRecDepth 16384

theorem bits_ninf : Ideal.ofBits .f32 0xFF800000#32 = ⊥ := by simp [Ideal.ofBits, Ideal.ieee]

theorem sitofp_one : FloatOps.sitofp (F := Ideal) .f32 (BitVec.setWidth 32 (BitVec.ofBool true)) = (1 : EReal) := by
  show ((((BitVec.setWidth 32 (BitVec.ofBool true)).toInt : ℤ) : ℝ) : EReal) = 1
  simp

theorem sitofp_zero : FloatOps.sitofp (F := Ideal) .f32 (BitVec.setWidth 32 (BitVec.ofBool false)) = (0 : EReal) := by
  show ((((BitVec.setWidth 32 (BitVec.ofBool false)).toInt : ℤ) : ℝ) : EReal) = 0
  simp

/-- Some score is the largest one. -/
theorem eqm_count (S : FVec Ideal S256x384 .f32) (r : Fin 256) : ∑ s : Fin 384, eqm S (ix2 r s) ≠ 0 := by
  have h : ∀ s, eqm S (ix2 r s) = if S (ix2 r s) = Finset.fold max ⊥ (fun x => S (ix2 r x)) Finset.univ then (1 : EReal) else 0 := by
    intro s
    pointwise [eqm, rmx]
    rw [bits_ninf]
    by_cases h : S (ix2 r s) = Finset.fold max ⊥ (fun x => S (ix2 r x)) Finset.univ
    · rw [if_pos h]; simp only [h, decide_true]; exact sitofp_one
    · rw [if_neg h]; simp only [h, decide_false]; exact sitofp_zero
  simp only [h]
  exact count_ne_zero (fun x => S (ix2 r x))

variable {S : FVec Ideal S256x384 .f32} {U : FVec Ideal S1x1 .f32} {dp : FVec Ideal S256x384 .f32}
variable {e y : Fin 256 → Fin 384 → ℝ} {w : ℝ}

theorem mx_real (hS : ∀ r s, IsExp (S (ix2 r s)) (e r s)) (hU : U (ix2 0 0) = (w : EReal)) (r : Fin 256) :
    ∃ M : ℝ, mx S U (ix2 r 0) = (M : EReal) := by
  pointwise [mx, rmx]
  rw [bits_ninf, hU]
  have h1 := fold_ne_top (fun x => S (ix2 r x)) (fun s => (hS r s).1)
  refine ⟨(max (Finset.fold max ⊥ (fun x => S (ix2 r x)) Finset.univ) (w : EReal)).toReal, (EReal.coe_toReal ?_ ?_).symm⟩
  · rcases max_choice (Finset.fold max ⊥ (fun x => S (ix2 r x)) Finset.univ) (w : EReal) with h | h <;> rw [h]
    · exact h1
    · exact EReal.coe_ne_top w
  · exact ne_of_gt (lt_of_lt_of_le (EReal.bot_lt_coe w) (le_max_right _ _))

variable {M : ℝ} {r : Fin 256}

section
variable (hS : ∀ r s, IsExp (S (ix2 r s)) (e r s)) (hU : U (ix2 0 0) = (w : EReal)) (hM : mx S U (ix2 r 0) = (M : EReal))
include hS hM

theorem ee_eq (s : Fin 384) : ee S U (ix2 r s) = ((Real.exp (-M) * e r s : ℝ) : EReal) := by
  pointwise [ee]
  rw [hM, (hS r s).sub]

include hU

omit hS in
theorem es_eq : es S U (ix2 r 0) = ((Real.exp (-M) * Real.exp w : ℝ) : EReal) := by
  pointwise [es]
  rw [hM, hU, (isExp_coe w).sub]

theorem zz_eq : zz S U (ix2 r 0) = ((Real.exp (-M) * Row.z Finset.univ (e r) (Real.exp w) : ℝ) : EReal) := by
  pointwise [zz]
  simp only [ee_eq hS hM]
  rw [es_eq hU hM, coe_sum, ← EReal.coe_add, Row.z_scaled]

end

section
variable (hS : ∀ r s, IsExp (S (ix2 r s)) (e r s)) (hU : U (ix2 0 0) = (w : EReal))
include hS hU

theorem zpos (r : Fin 256) : 0 < Row.z Finset.univ (e r) (Real.exp w) := Row.z_pos (fun s => (hS r s).nonneg) (Real.exp_pos w)

/-- The weights. -/
theorem pp_eq (r : Fin 256) (s : Fin 384) : pp S U (ix2 r s) = ((Row.p Finset.univ (e r) (Real.exp w) s : ℝ) : EReal) := by
  obtain ⟨M, hM⟩ := mx_real hS hU r
  pointwise [pp]
  have h := zpos hS hU r
  rw [ee_eq hS hM, zz_eq hS hU hM, div_real _ (by positivity), Row.p_scaled (Real.exp_ne_zero _)]

variable (hy : ∀ r s, dp (ix2 r s) = (y r s : EReal))
include hy

theorem cc_eq {r : Fin 256} {M : ℝ} (hM : mx S U (ix2 r 0) = (M : EReal)) : cc S U dp (ix2 r 0) =
    ((-(Row.m Finset.univ (e r) (Real.exp w) (y r) / (Real.exp (-M) * Row.z Finset.univ (e r) (Real.exp w))) : ℝ) : EReal) := by
  have h := zpos hS hU r
  pointwise [cc, iz]
  simp only [ee_eq hS hM, zz_eq hS hU hM, hy, ← EReal.coe_one, ← EReal.coe_zero, ← EReal.coe_mul]
  simp only [div_real 1 (y := Real.exp (-M) * Row.z Finset.univ (e r) (Real.exp w) * (Real.exp (-M) * Row.z Finset.univ (e r) (Real.exp w))) (by positivity), ← EReal.coe_mul]
  rw [coe_sum, ← EReal.coe_sub, Row.c_scaled _ (Real.exp_ne_zero _) h.ne', zero_sub]

/-- The sink's gradient from one row. -/
theorem ces_eq (r : Fin 256) : ces S U dp (ix2 r 0) =
    ((-(Row.ps Finset.univ (e r) (Real.exp w) * Row.m Finset.univ (e r) (Real.exp w) (y r)) : ℝ) : EReal) := by
  obtain ⟨M, hM⟩ := mx_real hS hU r
  pointwise [ces]
  rw [cc_eq hS hU hy hM, es_eq hU hM, ← EReal.coe_mul, Row.ces_scaled _ (Real.exp_ne_zero _) (zpos hS hU r).ne']

/-- The scores' gradient, before the maximum's part. -/
theorem tt_eq (r : Fin 256) (s : Fin 384) : tt S U dp (ix2 r s) = ((Row.d Finset.univ (e r) (Real.exp w) (y r) s : ℝ) : EReal) := by
  obtain ⟨M, hM⟩ := mx_real hS hU r
  have h := zpos hS hU r
  pointwise [tt]
  simp only [Finset.univ_unique, Finset.sum_singleton, Fin.default_eq_zero, Fin.isValue]
  rw [cc_eq hS hU hy hM, hy, ee_eq hS hM, zz_eq hS hU hM, div_real _ (by positivity), ← EReal.coe_add, ← EReal.coe_mul,
    Row.t_scaled _ (Real.exp_ne_zero _) h.ne']

/-- Nothing flows through the maximum. -/
theorem dmm_eq (r : Fin 256) : dmm S U dp (ix2 r 0) = 0 := by
  pointwise [dmm]
  simp only [tt_eq hS hU hy, ces_eq hS hU hy, ← EReal.coe_zero, ← EReal.coe_sub]
  rw [coe_sum, ← EReal.coe_add, Finset.sum_sub_distrib, Row.sum_d _ (zpos hS hU r).ne']
  congr 1
  simp

/-- The scores' gradient. -/
theorem dtot_eq (r : Fin 256) (s : Fin 384) : dtot S U dp (ix2 r s) = ((Row.d Finset.univ (e r) (Real.exp w) (y r) s : ℝ) : EReal) := by
  pointwise [dtot]
  simp only [Finset.univ_unique, Finset.sum_singleton, Fin.default_eq_zero, Fin.isValue]
  rw [dmm_eq hS hU hy, tt_eq hS hU hy, zero_mul, zero_div_ne (eqm_count S r), zero_mul, add_zero]

end

end Cert.KernelIdeal.Swa
-- ==== Proof.Swa.Mask.lean ====
module

public import proofs.«01_k».proof.Proof.Swa.Head

/-! # The kernel's mask and distances as statements about numbers -/

@[expose] public section

noncomputable section

namespace Cert.KernelIdeal.Swa

open Cert.KernelIdeal Cert.KernelIdeal.Gen Idealize.ShloMosaic Idealize.ShloMosaic.TcCoe Idealize.SL.Sem Cert.Swa

set_option maxRecDepth 16384

/-- The kernel's quotient by 64 that rounds down. -/
def fdiv (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem fdiv_eq : ∀ n : Fin 384, fdiv (BitVec.ofNat 32 n.val) = BitVec.ofNat 32 (n.val / 64) := by decide

/-- The mask of chunk numbers. -/
def mskOf (i a b : BitVec 32) : BitVec 1 :=
  IntOp.andi
    (IntOp.andi (IntOp.cmpi CmpIPredicate.sge (IntOp.subi (IntOp.addi a 2#32) b) 0#32)
      (IntOp.cmpi CmpIPredicate.sle (IntOp.subi (IntOp.addi a 2#32) b) 2#32))
    (IntOp.cmpi CmpIPredicate.sge (IntOp.subi (IntOp.addi i b) 2#32) 0#32)

theorem mskOf_eq : ∀ (i : Fin 16) (a : Fin 4) (b : Fin 6), mskOf (Scalar.muli (BitVec.ofNat 32 i.val) 4#32) (BitVec.ofNat 32 a.val) (BitVec.ofNat 32 b.val)
    = BitVec.ofBool (decide (a.val ≤ b.val ∧ b.val ≤ a.val + 2 ∧ 2 ≤ 4 * i.val + b.val)) := by decide

/-- A query of the block attends to a key of its window where `Val` says so. -/
theorem msk_eq (i : grid0.Coords) (r : Fin 256) (s : Fin 384) :
    msk i (ix2 r s) = BitVec.ofBool (decide (Val (256 * (i 0).val + r.val) (256 * (i 0).val + s.val))) := by
  have hi : (i 0).val < 16 := (i 0).isLt
  have h : msk i (ix2 r s) = mskOf (Scalar.muli (BitVec.ofNat 32 (i 0).val) 4#32) (fdiv (BitVec.ofNat 32 r.val)) (fdiv (BitVec.ofNat 32 s.val)) := by
    pointwise [msk, k0_pay19, k0_pay16, k0_pay14, k0_pay15, k0_pay17, k0_pay18]
    rfl
  rw [h, fdiv_eq s, fdiv_eq ⟨r.val, by omega⟩]
  refine (mskOf_eq ⟨(i 0).val, hi⟩ ⟨r.val / 64, by omega⟩ ⟨s.val / 64, by omega⟩).trans ?_
  congr 1
  rw [decide_eq_decide]
  unfold Val
  dsimp only
  omega

theorem absi_small : ∀ n : Fin 512, (IntOp.absi (BitVec.ofNat 32 n.val)).toInt = n.val ∧ (IntOp.absi (-BitVec.ofNat 32 n.val)).toInt = n.val := by decide

theorem dist_word (r : Fin 256) (s : Fin 384) :
    (IntOp.absi (IntOp.subi (IntOp.addi (BitVec.ofNat 32 r.val) 128#32) (BitVec.ofNat 32 s.val))).toInt = |(r.val : ℤ) + 128 - s.val| := by
  have hr := r.isLt
  have hs := s.isLt
  show (IntOp.absi (BitVec.ofNat 32 r.val + 128#32 - BitVec.ofNat 32 s.val)).toInt = _
  rcases le_total s.val (r.val + 128) with h | h
  · rw [show BitVec.ofNat 32 r.val + 128#32 - BitVec.ofNat 32 s.val = BitVec.ofNat 32 (r.val + 128 - s.val) by
      apply BitVec.eq_of_toNat_eq; simp; omega]
    rw [(absi_small ⟨r.val + 128 - s.val, by omega⟩).1, abs_of_nonneg (by omega)]
    dsimp only; omega
  · rw [show BitVec.ofNat 32 r.val + 128#32 - BitVec.ofNat 32 s.val = -BitVec.ofNat 32 (s.val - (r.val + 128)) by
      apply BitVec.eq_of_toNat_eq; simp; omega]
    rw [(absi_small ⟨s.val - (r.val + 128), by omega⟩).2, abs_of_nonpos (by omega)]
    dsimp only; omega

/-- The distance of a query and a key. -/
theorem dist_eq (i : ℕ) (r : Fin 256) (s : Fin 384) :
    dist (F := Ideal) (ix2 r s) = ((|((256 * i + r.val : ℕ) : ℝ) + 128 - ((256 * i + s.val : ℕ) : ℝ)| : ℝ) : EReal) := by
  pointwise [dist, k0_pay20]
  show ((((IntOp.absi (IntOp.subi (IntOp.addi (BitVec.ofNat 32 r.val) 128#32) (BitVec.ofNat 32 s.val))).toInt : ℤ) : ℝ) : EReal) = _
  rw [dist_word]
  congr 1
  push_cast
  congr 1
  ring

end Cert.KernelIdeal.Swa
-- ==== Proof.Swa.Block.lean ====
module

public import proofs.«01_k».proof.Proof.Swa.Mask

/-! # One head of one block in the layer's own numbers

Block `b` has queries `256 b + r` and sees padded keys `256 b + s`. From the columns of its head the kernel's chain gives
the weights `P`, the gradients `D` of the products and the sums over them that the block contributes. -/

@[expose] public section

noncomputable section

namespace Cert.KernelIdeal.Swa

open Cert.KernelIdeal Cert.KernelIdeal.Gen Idealize.ShloMosaic Idealize.ShloMosaic.TcCoe Idealize.SL.Sem Cert.Swa

set_option maxRecDepth 16384

theorem bits_eighth : Ideal.ofBits .f32 0x3E000000#32 = (((1 : ℝ) / 8 : ℝ) : EReal) := by
  simp [Ideal.ofBits, Ideal.ieee, -EReal.coe_mul]; norm_num
theorem bits_slope0 : Ideal.ofBits .f32 0x3E800000#32 = ((Cert.Swa.slope 0 : ℝ) : EReal) := by
  simp [Ideal.ofBits, Ideal.ieee, Cert.Swa.slope, -EReal.coe_mul]; norm_num
theorem bits_slope1 : Ideal.ofBits .f32 0x3D800000#32 = ((Cert.Swa.slope 1 : ℝ) : EReal) := by
  simp [Ideal.ofBits, Ideal.ieee, Cert.Swa.slope, -EReal.coe_mul]; norm_num
theorem bits_slope2 : Ideal.ofBits .f32 0x3C800000#32 = ((Cert.Swa.slope 2 : ℝ) : EReal) := by
  simp [Ideal.ofBits, Ideal.ieee, Cert.Swa.slope, -EReal.coe_mul]; norm_num
theorem bits_slope3 : Ideal.ofBits .f32 0x3B800000#32 = ((Cert.Swa.slope 3 : ℝ) : EReal) := by
  simp [Ideal.ofBits, Ideal.ieee, Cert.Swa.slope, -EReal.coe_mul]; norm_num

theorem mask_bot : (Named.named (F := Ideal) κ "mask" (φ := .f32) 0xF149F2CA#32 : EReal) = ⊥ := rfl

variable {Q K V G : ℕ → ℕ → ℝ} {u : ℕ → ℝ} {i : grid0.Coords} {h : ℕ} {sl : BitVec 32}
variable {q g : FVec Ideal S256x64 .f32} {k v : FVec Ideal S384x64 .f32} {U : FVec Ideal S1x1 .f32}

/-- Outside the block's window nothing is weighted. -/
theorem wt_outside {b : ℕ} (r : Fin 256) (s : ℕ) (_ : s < 4224) (hn : ¬ (256 * b ≤ s ∧ s < 256 * b + 384)) :
    wt Q K h (256 * b + r.val) s = 0 := by
  have hr := r.isLt
  rw [wt, if_neg]
  unfold Val
  omega

section
variable (hsl : Ideal.ofBits .f32 sl = ((Cert.Swa.slope h : ℝ) : EReal))
variable (hq : ∀ (r : Fin 256) (d : Fin 64), q (ix2 r d) = (Q (256 * (i 0).val + r.val) (64 * h + d.val) : EReal))
variable (hk : ∀ (s : Fin 384) (d : Fin 64), k (ix2 s d) = (K (256 * (i 0).val + s.val) (64 * (h / 2) + d.val) : EReal))
include hsl hq hk

/-- The masked scores. -/
theorem sc_isExp (r : Fin 256) (s : Fin 384) :
    IsExp (sc sl (msk i) (dist (F := Ideal)) q k (ix2 r s)) (wt Q K h (256 * (i 0).val + r.val) (256 * (i 0).val + s.val)) := by
  have e : sc sl (msk i) (dist (F := Ideal)) q k (ix2 r s) =
      if Val (256 * (i 0).val + r.val) (256 * (i 0).val + s.val)
        then ((score Q K h (256 * (i 0).val + r.val) (256 * (i 0).val + s.val) : ℝ) : EReal) else ⊥ := by
    pointwise [sc]
    rw [msk_eq, mask_bot, bits_eighth, hsl, dist_eq (i 0).val]
    simp only [hq, hk, ← EReal.coe_mul]
    rw [coe_sum, ← EReal.coe_mul, ← EReal.coe_sub, mul_one_div]
    by_cases hv : Val (256 * (i 0).val + r.val) (256 * (i 0).val + s.val)
    · rw [if_pos hv, decide_eq_true hv]; rfl
    · rw [if_neg hv, decide_eq_false hv]; rfl
  rw [e, wt]
  split
  · exact isExp_coe _
  · exact isExp_bot

variable (hU : U (ix2 0 0) = (u h : EReal))
include hU

/-- The weights. -/
theorem pp_block (r : Fin 256) (s : Fin 384) : pp (sc sl (msk i) (dist (F := Ideal)) q k) U (ix2 r s) =
    ((P Q K u h (256 * (i 0).val + r.val) (256 * (i 0).val + s.val) : ℝ) : EReal) := by
  have hi : (i 0).val < 16 := (i 0).isLt
  rw [pp_eq (e := fun r s => wt Q K h (256 * (i 0).val + r.val) (256 * (i 0).val + s.val)) (sc_isExp hsl hq hk) hU r s,
    Row.p_window (N := 4224) _ (by omega) (wt_outside r), P]

variable (hg : ∀ (r : Fin 256) (d : Fin 64), g (ix2 r d) = (G (256 * (i 0).val + r.val) (64 * h + d.val) : EReal))
include hg

/-- The block's part of the values' gradient. -/
theorem dvh_block (s : Fin 384) (d : Fin 64) : dvh (sc sl (msk i) (dist (F := Ideal)) q k) U g (ix2 s d) =
    ((∑ r : Fin 256, P Q K u h (256 * (i 0).val + r.val) (256 * (i 0).val + s.val) * G (256 * (i 0).val + r.val) (64 * h + d.val) : ℝ) : EReal) := by
  pointwise [dvh]
  simp only [hg, pp_block hsl hq hk hU, ← EReal.coe_mul]
  rw [coe_sum]
  simp only [mul_comm]

variable (hv : ∀ (s : Fin 384) (d : Fin 64), v (ix2 s d) = (V (256 * (i 0).val + s.val) (64 * (h / 2) + d.val) : EReal))
include hv

omit hsl hq hk hU in
theorem dpp_block (r : Fin 256) (s : Fin 384) : dpp v g (ix2 r s) =
    ((dP V G h (256 * (i 0).val + r.val) (256 * (i 0).val + s.val) : ℝ) : EReal) := by
  pointwise [dpp]
  simp only [hg, hv, ← EReal.coe_mul]
  rw [coe_sum, dP]

/-- The gradient of the products. -/
theorem dsc_block (r : Fin 256) (s : Fin 384) : dsc (msk i) (sc sl (msk i) (dist (F := Ideal)) q k) U (dpp v g) (ix2 r s) =
    ((D Q K V G u h (256 * (i 0).val + r.val) (256 * (i 0).val + s.val) : ℝ) : EReal) := by
  have hi : (i 0).val < 16 := (i 0).isLt
  pointwise [dsc]
  rw [dtot_eq (e := fun r s => wt Q K h (256 * (i 0).val + r.val) (256 * (i 0).val + s.val))
      (y := fun r s => dP V G h (256 * (i 0).val + r.val) (256 * (i 0).val + s.val)) (sc_isExp hsl hq hk) hU (dpp_block hg hv) r s,
    Row.d_window (N := 4224) (y := dP V G h (256 * (i 0).val + r.val)) _ (by omega) (wt_outside r), msk_eq, bits_eighth, D]
  by_cases hv : Val (256 * (i 0).val + r.val) (256 * (i 0).val + s.val)
  · rw [decide_eq_true hv]
    refine (EReal.coe_mul _ _).symm.trans ?_
    rw [mul_one_div]
  · rw [decide_eq_false hv, Row.d_zero _ (by rw [wt, if_neg hv]), zero_div]
    exact EReal.coe_zero.symm

/-- The block's part of the keys' gradient. -/
theorem dkh_block (s : Fin 384) (d : Fin 64) : dkh (dsc (msk i) (sc sl (msk i) (dist (F := Ideal)) q k) U (dpp v g)) q (ix2 s d) =
    ((∑ r : Fin 256, D Q K V G u h (256 * (i 0).val + r.val) (256 * (i 0).val + s.val) * Q (256 * (i 0).val + r.val) (64 * h + d.val) : ℝ) : EReal) := by
  pointwise [dkh]
  simp only [hq, dsc_block hsl hq hk hU hg hv, ← EReal.coe_mul]
  rw [coe_sum]

/-- The queries' gradient in this head. -/
theorem dqh_block (r : Fin 256) (d : Fin 64) : dqh (dsc (msk i) (sc sl (msk i) (dist (F := Ideal)) q k) U (dpp v g)) k (ix2 r d) =
    ((∑ s ∈ Finset.range 4224, D Q K V G u h (256 * (i 0).val + r.val) s * K s (64 * (h / 2) + d.val) : ℝ) : EReal) := by
  have hi : (i 0).val < 16 := (i 0).isLt
  pointwise [dqh]
  simp only [hk, dsc_block hsl hq hk hU hg hv, ← EReal.coe_mul]
  rw [coe_sum, sum_window 384 4224 (256 * (i 0).val) (fun s => D Q K V G u h (256 * (i 0).val + r.val) s * K s (64 * (h / 2) + d.val)) (by omega)]
  intro s hs hn
  dsimp only
  rw [D, Row.d_zero _ (wt_outside r s hs hn), zero_div, zero_mul]

/-- The block's part of the sink's gradient, in its lane. -/
theorem dsh_block (w : BitVec 32) (l : Fin 128) : dsh w (sc sl (msk i) (dist (F := Ideal)) q k) U (dpp v g) (ix2 0 l) =
    if BitVec.ofNat 32 l.val = w then ((∑ r : Fin 256, dsT Q K V G u h (256 * (i 0).val + r.val) : ℝ) : EReal) else 0 := by
  have hi : (i 0).val < 16 := (i 0).isLt
  have hc := ces_eq (e := fun r s => wt Q K h (256 * (i 0).val + r.val) (256 * (i 0).val + s.val))
      (y := fun r s => dP V G h (256 * (i 0).val + r.val) (256 * (i 0).val + s.val)) (sc_isExp hsl hq hk) hU (dpp_block hg hv)
  have hm := dmm_eq (e := fun r s => wt Q K h (256 * (i 0).val + r.val) (256 * (i 0).val + s.val))
      (y := fun r s => dP V G h (256 * (i 0).val + r.val) (256 * (i 0).val + s.val)) (sc_isExp hsl hq hk) hU (dpp_block hg hv)
  have hw : ∀ r : Fin 256, ces (sc sl (msk i) (dist (F := Ideal)) q k) U (dpp v g) (ix2 r 0) = ((dsT Q K V G u h (256 * (i 0).val + r.val) : ℝ) : EReal) := by
    intro r
    rw [hc, Row.ps_window (N := 4224) _ (by omega) (wt_outside r), Row.m_window (N := 4224) (y := dP V G h (256 * (i 0).val + r.val)) _ (by omega) (wt_outside r), dsT]
  pointwise [dsh, lane]
  simp only [Finset.univ_unique, Finset.sum_singleton, Fin.default_eq_zero, Fin.isValue, hm, hw, zero_mul, Finset.sum_const_zero, add_zero]
  rw [coe_sum]
  by_cases hv : BitVec.ofNat 32 l.val = w
  · rw [if_pos hv, show IntOp.cmpi CmpIPredicate.eq (BitVec.ofNat 32 l.val) w = 1#1 by rw [hv]; simp [IntOp.cmpi]]; rfl
  · rw [if_neg hv, show IntOp.cmpi CmpIPredicate.eq (BitVec.ofNat 32 l.val) w = 0#1 by simp only [IntOp.cmpi, beq_eq_false_iff_ne.2 hv]; rfl]; rfl

end

end Cert.KernelIdeal.Swa
-- ==== Proof.Swa.Bodies.lean ====
module

public import proofs.«01_k».proof.Proof.Swa.Block

/-! # The four heads together: what one block contributes -/

@[expose] public section

noncomputable section

namespace Cert.KernelIdeal.Swa

open Cert.KernelIdeal Cert.KernelIdeal.Gen Idealize.ShloMosaic Idealize.ShloMosaic.TcCoe Idealize.SL.Sem Cert.Swa

set_option maxRecDepth 16384

variable {Q K V G : ℕ → ℕ → ℝ} {w : ℕ → ℝ} {i : grid0.Coords}
variable {q g : FVec Ideal S256x256 .f32} {kw vw : FVec Ideal S384x128 .f32} {u : FVec Ideal S1x128 .f32}

/-- The lanes' sum is the one lane that is kept. -/
theorem snk_eq {x : FVec Ideal S1x128 .f32} (n : Fin 128) : snk (BitVec.ofNat 32 n.val) x (ix2 0 0) = x (ix2 0 n) := by
  pointwise [snk, lane]
  rw [Finset.sum_eq_single n]
  · rw [show IntOp.cmpi CmpIPredicate.eq (BitVec.ofNat 32 n.val) (BitVec.ofNat 32 n.val) = 1#1 by simp [IntOp.cmpi]]; rfl
  · intro m _ hm
    have : BitVec.ofNat 32 m.val ≠ BitVec.ofNat 32 n.val := by
      intro h
      have h2 := congrArg BitVec.toNat h
      simp only [BitVec.toNat_ofNat] at h2
      exact hm (Fin.ext (by omega))
    simp only [IntOp.cmpi, beq_eq_false_iff_ne.2 this]; rfl
  · exact fun h => absurd (Finset.mem_univ n) h

section
variable (hq : ∀ (r : Fin 256) (c : Fin 256), q (ix2 r c) = (Q (256 * (i 0).val + r.val) c.val : EReal))
include hq
theorem q0_eq (r : Fin 256) (d : Fin 64) : q0 q (ix2 r d) = (Q (256 * (i 0).val + r.val) (64 * 0 + d.val) : EReal) := by
  pointwise; rw [hq]
theorem q1_eq (r : Fin 256) (d : Fin 64) : q1 q (ix2 r d) = (Q (256 * (i 0).val + r.val) (64 * 1 + d.val) : EReal) := by
  pointwise; rw [hq]
theorem q2_eq (r : Fin 256) (d : Fin 64) : q2 q (ix2 r d) = (Q (256 * (i 0).val + r.val) (64 * 2 + d.val) : EReal) := by
  pointwise; rw [hq]
theorem q3_eq (r : Fin 256) (d : Fin 64) : q3 q (ix2 r d) = (Q (256 * (i 0).val + r.val) (64 * 3 + d.val) : EReal) := by
  pointwise; rw [hq]
end
section
variable (hk : ∀ (s : Fin 384) (c : Fin 128), kw (ix2 s c) = (K (256 * (i 0).val + s.val) c.val : EReal))
include hk
theorem k0_eq (s : Fin 384) (d : Fin 64) : k0 kw (ix2 s d) = (K (256 * (i 0).val + s.val) (64 * 0 + d.val) : EReal) := by
  pointwise; rw [hk]
theorem k1_eq (s : Fin 384) (d : Fin 64) : k1 kw (ix2 s d) = (K (256 * (i 0).val + s.val) (64 * 1 + d.val) : EReal) := by
  pointwise; rw [hk]
end

section
variable (hq : ∀ (r : Fin 256) (c : Fin 256), q (ix2 r c) = (Q (256 * (i 0).val + r.val) c.val : EReal))
variable (hk : ∀ (s : Fin 384) (c : Fin 128), kw (ix2 s c) = (K (256 * (i 0).val + s.val) c.val : EReal))
variable (hu : ∀ l : Fin 128, l.val < 4 → u (ix2 0 l) = (w l.val : EReal))
variable (hg : ∀ (r : Fin 256) (c : Fin 256), g (ix2 r c) = (G (256 * (i 0).val + r.val) c.val : EReal))
variable (hv : ∀ (s : Fin 384) (c : Fin 128), vw (ix2 s c) = (V (256 * (i 0).val + s.val) c.val : EReal))

include hu
theorem u0_eq : snk 0#32 u (ix2 0 0) = (w 0 : EReal) := (snk_eq (0 : Fin 128)).trans (hu 0 (by decide))
theorem u1_eq : snk 1#32 u (ix2 0 0) = (w 1 : EReal) := (snk_eq (1 : Fin 128)).trans (hu 1 (by decide))
theorem u2_eq : snk 2#32 u (ix2 0 0) = (w 2 : EReal) := (snk_eq (2 : Fin 128)).trans (hu 2 (by decide))
theorem u3_eq : snk 3#32 u (ix2 0 0) = (w 3 : EReal) := (snk_eq (3 : Fin 128)).trans (hu 3 (by decide))

include hq hk hg

/-- The block's part of the values' gradient. -/
theorem bodyDv_eq (s : Fin 384) (c : Fin 128) : bodyDv i q kw u g (ix2 s c) =
    ((∑ r : Fin 256, dvT Q K G w (256 * (i 0).val + r.val) (256 * (i 0).val + s.val) c.val : ℝ) : EReal) := by
  have hc := c.isLt
  pointwise [bodyDv]
  simp only [dvT, Finset.sum_add_distrib]
  by_cases h : c.val < 64
  · simp only [dif_pos h, show c.val / 64 = 0 by omega, show c.val % 64 = c.val by omega]
    rw [dvh_block (h := 0) bits_slope0 (q0_eq hq) (k0_eq hk) (u0_eq hu) (q0_eq hg),
      dvh_block (h := 1) bits_slope1 (q1_eq hq) (k0_eq hk) (u1_eq hu) (q1_eq hg)]
    rw [zero_add, zero_add, ← EReal.coe_add, add_comm]
  · simp only [dif_neg h, show c.val / 64 = 1 by omega, show c.val % 64 = c.val - 64 by omega]
    rw [dvh_block (h := 2) bits_slope2 (q2_eq hq) (k1_eq hk) (u2_eq hu) (q2_eq hg),
      dvh_block (h := 3) bits_slope3 (q3_eq hq) (k1_eq hk) (u3_eq hu) (q3_eq hg)]
    rw [add_zero, add_zero, ← EReal.coe_add, add_comm]

include hv

/-- The queries' gradient on the block. -/
theorem bodyDq_eq (r : Fin 256) (c : Fin 256) : bodyDq i q kw vw u g (ix2 r c) =
    ((dq Q K V G w (256 * (i 0).val + r.val) c.val : ℝ) : EReal) := by
  have hc := c.isLt
  pointwise [bodyDq]
  unfold dq
  by_cases h0 : c.val < 64
  · simp only [dif_pos h0, dif_pos (show c.val < 128 by omega), dif_pos (show c.val < 192 by omega), show c.val / 64 = 0 by omega, show c.val % 64 = c.val by omega]
    rw [dqh_block (h := 0) bits_slope0 (q0_eq hq) (k0_eq hk) (u0_eq hu) (q0_eq hg) (k0_eq hv)]
    simp only [zero_add]
  by_cases h1 : c.val < 128
  · simp only [dif_neg h0, dif_pos h1, dif_pos (show c.val < 192 by omega), show c.val / 64 = 1 by omega, show c.val % 64 = c.val - 64 by omega]
    rw [dqh_block (h := 1) bits_slope1 (q1_eq hq) (k0_eq hk) (u1_eq hu) (q1_eq hg) (k0_eq hv)]
    simp only [zero_add, add_zero]
  by_cases h2 : c.val < 192
  · simp only [dif_neg h0, dif_neg h1, dif_pos h2, show c.val / 64 = 2 by omega, show c.val % 64 = c.val - 128 by omega]
    rw [dqh_block (h := 2) bits_slope2 (q2_eq hq) (k1_eq hk) (u2_eq hu) (q2_eq hg) (k1_eq hv)]
    simp only [zero_add, add_zero]
  · simp only [dif_neg h0, dif_neg h1, dif_neg h2, show c.val / 64 = 3 by omega, show c.val % 64 = c.val - 192 by omega]
    rw [dqh_block (h := 3) bits_slope3 (q3_eq hq) (k1_eq hk) (u3_eq hu) (q3_eq hg) (k1_eq hv)]
    simp only [add_zero]

/-- The block's part of the keys' gradient. -/
theorem bodyDk_eq (s : Fin 384) (c : Fin 128) : bodyDk i q kw vw u g (ix2 s c) =
    ((∑ r : Fin 256, dkT Q K V G w (256 * (i 0).val + r.val) (256 * (i 0).val + s.val) c.val : ℝ) : EReal) := by
  have hc := c.isLt
  pointwise [bodyDk]
  simp only [dkT, Finset.sum_add_distrib]
  by_cases h : c.val < 64
  · simp only [dif_pos h, show c.val / 64 = 0 by omega, show c.val % 64 = c.val by omega]
    rw [dkh_block (h := 0) bits_slope0 (q0_eq hq) (k0_eq hk) (u0_eq hu) (q0_eq hg) (k0_eq hv),
      dkh_block (h := 1) bits_slope1 (q1_eq hq) (k0_eq hk) (u1_eq hu) (q1_eq hg) (k0_eq hv)]
    rw [zero_add, zero_add, ← EReal.coe_add, add_comm]
  · simp only [dif_neg h, show c.val / 64 = 1 by omega, show c.val % 64 = c.val - 64 by omega]
    rw [dkh_block (h := 2) bits_slope2 (q2_eq hq) (k1_eq hk) (u2_eq hu) (q2_eq hg) (k1_eq hv),
      dkh_block (h := 3) bits_slope3 (q3_eq hq) (k1_eq hk) (u3_eq hu) (q3_eq hg) (k1_eq hv)]
    rw [add_zero, add_zero, ← EReal.coe_add, add_comm]

/-- The block's part of the sinks' gradient: four lanes, nothing in the others. -/
theorem bodyDs_eq (l : Fin 128) : bodyDs i q kw vw u g (ix2 0 l) =
    if l.val < 4 then ((∑ r : Fin 256, dsT Q K V G w l.val (256 * (i 0).val + r.val) : ℝ) : EReal) else 0 := by
  have hl := l.isLt
  have hw : ∀ n : ℕ, n < 4 → (BitVec.ofNat 32 l.val = BitVec.ofNat 32 n ↔ l.val = n) := by
    intro n hn
    constructor
    · intro h
      have h2 := congrArg BitVec.toNat h
      simp only [BitVec.toNat_ofNat] at h2
      omega
    · intro h; rw [h]
  pointwise [bodyDs]
  rw [dsh_block (h := 0) bits_slope0 (q0_eq hq) (k0_eq hk) (u0_eq hu) (q0_eq hg) (k0_eq hv),
    dsh_block (h := 1) bits_slope1 (q1_eq hq) (k0_eq hk) (u1_eq hu) (q1_eq hg) (k0_eq hv),
    dsh_block (h := 2) bits_slope2 (q2_eq hq) (k1_eq hk) (u2_eq hu) (q2_eq hg) (k1_eq hv),
    dsh_block (h := 3) bits_slope3 (q3_eq hq) (k1_eq hk) (u3_eq hu) (q3_eq hg) (k1_eq hv)]
  simp only [hw 0 (by omega), hw 1 (by omega), hw 2 (by omega), hw 3 (by omega)]
  by_cases h : l.val < 4
  · rw [if_pos h]
    rcases (show l.val = 0 ∨ l.val = 1 ∨ l.val = 2 ∨ l.val = 3 by omega) with e | e | e | e <;> simp [e]
  · rw [if_neg h, if_neg (by omega), if_neg (by omega), if_neg (by omega), if_neg (by omega)]
    simp
end

end Cert.KernelIdeal.Swa
-- ==== Proof.Swa.Step.lean ====
module

public import proofs.«01_k».proof.Proof.Swa.Body
public import Idealize.ShloMosaic.Lib.Pipeline.ValueKit
public import Idealize.ShloMosaic.Lib.WritesUnit

/-! # What one grid point leaves in the output blocks and in the scratch buffers

The kernel keeps four scratch buffers across its sixteen grid points: the keys and the values with 128 zero rows in
front, and the running gradients of both. The first point fills the former and clears the latter; every point adds its
block's contribution to the 384 rows it sees; the last one writes the running gradients out. -/

@[expose] public section

set_option maxRecDepth 16384

noncomputable section

namespace Cert.KernelIdeal.Swa

open Cert.KernelIdeal Cert.KernelIdeal.Gen Cert.KernelIdeal.Value Idealize.ShloMosaic Idealize.ShloMosaic.TcCoe Idealize.SL.Sem

variable {F : FTy → Type} [FloatOps F] [Named F]
variable (m : (ℓ : Loc nD τ sig) → Buf (Elt F) ℓ)

/-- The 384 rows of a padded buffer that block `i` reads. -/
def win (i : grid0.Coords) (x : Vec F S4224x128 .f32) : Vec F S384x128 .f32 :=
  View.ld (Val := Elt F) x (Rect.unit (s := S4224x128) (k0_off1 i) S384x128.size (k0_off1_inb i))

/-- 128 zero rows in front of the 4096 given ones. -/
def padK (x : Vec F S4096x128 .f32) : Vec F S4224x128 .f32 :=
  View.canon (Val := Elt F) (s := S4224x128) (e := .f32)
    [⟨Rect.unit (s := S4224x128) ![128, 0] S4096x128.size inb_S4224x128_S4096x128_128_0, k0_pay9 x⟩,
      ⟨Rect.unit (s := S4224x128) ![0, 0] S128x128.size inb_S4224x128_S128x128_0_0, k0_pay7⟩]

theorem off_eq (i : grid0.Coords) : k0_off1 i = ![256 * (i 0).val, 0] := by
  have h : ∀ j : Fin 16, BitVec.toNat (Scalar.indexCast (Scalar.muli (BitVec.ofNat 32 j.val) 256#32)) = 256 * j.val := by decide
  have e : k0_off1 i = ![BitVec.toNat (Scalar.indexCast (Scalar.muli (BitVec.ofNat 32 (i 0).val) 256#32)), 0] := rfl
  rw [e, h (i 0)]

/-- A padded buffer whose 384 rows of block `i` are replaced. -/
def put (i : grid0.Coords) (X : Vec F S4224x128 .f32) (w : Vec F S384x128 .f32) : Vec F S4224x128 .f32 := fun y =>
  if h : ∀ a, (![256 * (i 0).val, 0] : Fin S4224x128.rank → ℕ) a ≤ (y a).val ∧
      (y a).val < (![256 * (i 0).val, 0] : Fin S4224x128.rank → ℕ) a + S384x128.size a then
    w (Rect.unitLocal (s := S4224x128) (off := ![256 * (i 0).val, 0]) (size := S384x128.size) y h)
  else X y

theorem readWhole {κ : Kind} {sp : Space} {S : Shape} {e : EltTy} (w : Memref sig κ sp S e) (h : w.IsWhole) (off : Fin S.rank → Nat)
    (inb : ∀ a, off a + S.size a ≤ S.size a) (ho : ∀ a, off a = 0) (X : Vec F S e) :
    View.readAt (Elt F) w.view (Rect.unit off S.size inb).toLoadRect (h.unread X) = X := by
  have e : off = fun _ => 0 := funext ho
  refine (View.readAt_eq_ld w.view (h.unread X) _).trans ?_
  rw [h.read_unread, View.ld_unit_zero e]

theorem readWin (i : grid0.Coords) (w : Memref sig .tc .vmem S4224x128 .f32) (h : w.IsWhole) (X : Vec F S4224x128 .f32) :
    View.readAt (Elt F) w.view (Rect.unit (s := S4224x128) (k0_off1 i) S384x128.size (k0_off1_inb i)).toLoadRect (h.unread X) = win i X := by
  refine (View.readAt_eq_ld w.view (h.unread X) _).trans ?_
  rw [h.read_unread]; rfl

theorem readWin' (i : grid0.Coords) (w : Memref sig .tc .vmem S4224x128 .f32) (L : List (View.Piece (Elt F) S4224x128 .f32)) :
    View.readAt (Elt F) w.view (Rect.unit (s := S4224x128) (k0_off1 i) S384x128.size (k0_off1_inb i)).toLoadRect
      (w.view.writes (Elt F) w.view.junk L) = win i (View.canon L) := by
  refine (View.readAt_eq_ld w.view _ _).trans ?_
  rw [View.read_writes_junk_eq_canon]; rfl

theorem readPut (i : grid0.Coords) (w : Memref sig .tc .vmem S4224x128 .f32) (h : w.IsWhole) (X : Vec F S4224x128 .f32)
    (v : Vec F S384x128 .f32) :
    w.view.read (Elt F) (w.view.writes (Elt F) (h.unread X)
      [⟨Rect.unit (s := S4224x128) (k0_off1 i) S384x128.size (k0_off1_inb i), v⟩]) = put i X v := by
  funext y
  rw [View.read_writes_cons_unit w.view _ (k0_off1_inb i) v [] y (off_eq i)]
  unfold put
  split
  · rfl
  · rw [View.writes_nil, h.read_unread]

theorem canonPut (i : grid0.Coords) (X : Vec F S4224x128 .f32) (L : List (View.Piece (Elt F) S4224x128 .f32)) (hL : View.canon L = X)
    (v : Vec F S384x128 .f32) :
    View.canon ((⟨Rect.unit (s := S4224x128) (k0_off1 i) S384x128.size (k0_off1_inb i), v⟩ : View.Piece (Elt F) S4224x128 .f32) :: L) = put i X v := by
  funext y
  rw [← View.read_writes_junk_apply_eq_canon scM0_2.view y, View.read_writes_cons_unit scM0_2.view _ (k0_off1_inb i) v L y (off_eq i)]
  unfold put
  split
  · rfl
  · rw [View.read_writes_junk_apply_eq_canon, hL]

theorem stepA_5 (c : Dev nD) (t : Fin cfg0.N) (acc) (h0 : t.val % 16 = 0) (h1 : ¬t.val % 16 = 15) :
    (stAt0 m c t.val t.isLt acc).1 =
      k0_pay1 (bodyDq (grid0.coords t) (iblk m c 0 t) (win (grid0.coords t) (padK (iblk m c 1 t))) (win (grid0.coords t) (padK (iblk m c 2 t))) (iblk m c 3 t) (iblk m c 4 t)) := by
  rw [stAt0_A m c t acc h0 h1]
  dsimp only
  unfold out0_A_5
  rw [View.read_writes_eq_canon _ _ _ (cover0_A_5 c _ _ _ _ _ _ _ _ _ _ _ _ _ _ _ _ _ _ _ _ _ _ _ _ _ _ _ _ _ _ _ _ _ _)]
  unfold kernelRun0_A
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_1 t) (hs0_1 t) ![0, 0] _ (by decide),
    readWhole (ms0_2 t) (hs0_2 t) ![0, 0] _ (by decide)]
  rw [show View.readAt (Elt F) scM0_0.view _ (scM0_0.view.writes (Elt F) scM0_0.view.junk _) = win (grid0.coords t) (padK (iblk m c 1 t)) from readWin' (grid0.coords t) scM0_0 _,
    show View.readAt (Elt F) scM0_1.view _ (scM0_1.view.writes (Elt F) scM0_1.view.junk _) = win (grid0.coords t) (padK (iblk m c 2 t)) from readWin' (grid0.coords t) scM0_1 _]
  rfl

theorem stepA_8 (c : Dev nD) (t : Fin cfg0.N) (acc) (h0 : t.val % 16 = 0) (h1 : ¬t.val % 16 = 15) :
    (stAt0 m c t.val t.isLt acc).2.2.2.1 =
      k0_pay4 (bodyDs (grid0.coords t) (iblk m c 0 t) (win (grid0.coords t) (padK (iblk m c 1 t))) (win (grid0.coords t) (padK (iblk m c 2 t))) (iblk m c 3 t) (iblk m c 4 t)) k0_pay13 := by
  rw [stAt0_A m c t acc h0 h1]
  dsimp only
  unfold out0_A_8
  rw [View.read_writes_eq_canon _ _ _ (cover0_A_8 c _ _ _ _ _ _ _ _ _ _ _ _ _ _ _ _ _ _ _ _ _ _ _ _ _ _ _ _ _ _ _ _ _ _)]
  unfold kernelRun0_A
  dsimp only
  rw [View.canon_cons_unit_zero (funext (by decide))]
  refine congrArg₂ k0_pay4 ?_ ?_
  rotate_left
  · sl_unfold_words
    refine (View.readCov_eq_canon' _ _ _).trans ?_
    rw [View.canon_unit_zero (funext (by decide))]
    rfl
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_1 t) (hs0_1 t) ![0, 0] _ (by decide),
    readWhole (ms0_2 t) (hs0_2 t) ![0, 0] _ (by decide)]
  rw [show View.readAt (Elt F) scM0_0.view _ (scM0_0.view.writes (Elt F) scM0_0.view.junk _) = win (grid0.coords t) (padK (iblk m c 1 t)) from readWin' (grid0.coords t) scM0_0 _,
    show View.readAt (Elt F) scM0_1.view _ (scM0_1.view.writes (Elt F) scM0_1.view.junk _) = win (grid0.coords t) (padK (iblk m c 2 t)) from readWin' (grid0.coords t) scM0_1 _]
  rfl

theorem stepA_S0 (c : Dev nD) (t : Fin cfg0.N) (acc) (h0 : t.val % 16 = 0) (h1 : ¬t.val % 16 = 15) :
    (stAt0 m c t.val t.isLt acc).2.2.2.2.1 =
      padK (iblk m c 1 t) := by
  rw [stAt0_A m c t acc h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _)]
  unfold kernelRun0_A
  dsimp only
  sl_unfold_words
  rw [readWhole (ms0_1 t) (hs0_1 t) ![0, 0] _ (by decide)]
  rfl

theorem stepA_S1 (c : Dev nD) (t : Fin cfg0.N) (acc) (h0 : t.val % 16 = 0) (h1 : ¬t.val % 16 = 15) :
    (stAt0 m c t.val t.isLt acc).2.2.2.2.2.1 =
      padK (iblk m c 2 t) := by
  rw [stAt0_A m c t acc h0 h1]
  dsimp only
  unfold sout0_A_1
  rw [View.read_writes_eq_canon _ _ _ (scover0_A_1 c _ _ _ _ _ _ _ _ _ _ _ _ _ _ _ _ _ _ _ _ _ _ _ _ _ _ _ _ _ _ _ _ _ _)]
  unfold kernelRun0_A
  dsimp only
  sl_unfold_words
  rw [readWhole (ms0_2 t) (hs0_2 t) ![0, 0] _ (by decide)]
  rfl

theorem stepA_S2 (c : Dev nD) (t : Fin cfg0.N) (acc) (h0 : t.val % 16 = 0) (h1 : ¬t.val % 16 = 15) :
    (stAt0 m c t.val t.isLt acc).2.2.2.2.2.2.1 =
      put (grid0.coords t) k0_pay11 (k0_pay2 (bodyDk (grid0.coords t) (iblk m c 0 t) (win (grid0.coords t) (padK (iblk m c 1 t))) (win (grid0.coords t) (padK (iblk m c 2 t))) (iblk m c 3 t) (iblk m c 4 t)) (win (grid0.coords t) k0_pay11)) := by
  rw [stAt0_A m c t acc h0 h1]
  dsimp only
  unfold sout0_A_2
  rw [View.read_writes_eq_canon _ _ _ (scover0_A_2 c _ _ _ _ _ _ _ _ _ _ _ _ _ _ _ _ _ _ _ _ _ _ _ _ _ _ _ _ _ _ _ _ _ _)]
  unfold kernelRun0_A
  dsimp only
  refine (canonPut (grid0.coords t) k0_pay11 _ (View.canon_unit_zero (funext (by decide)) _ _) _).trans (congrArg (put _ _) (congrArg₂ k0_pay2 ?_ ?_))
  rotate_left
  · unfold kernelRun0_A.sl.v654 kernelRun0_A.sl.HS2_1
    refine (View.readCov_eq_canon' _ _ _).trans ?_
    rw [View.canon_unit_zero (funext (by decide))]
    rfl
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_1 t) (hs0_1 t) ![0, 0] _ (by decide),
    readWhole (ms0_2 t) (hs0_2 t) ![0, 0] _ (by decide)]
  rw [show View.readAt (Elt F) scM0_0.view _ (scM0_0.view.writes (Elt F) scM0_0.view.junk _) = win (grid0.coords t) (padK (iblk m c 1 t)) from readWin' (grid0.coords t) scM0_0 _,
    show View.readAt (Elt F) scM0_1.view _ (scM0_1.view.writes (Elt F) scM0_1.view.junk _) = win (grid0.coords t) (padK (iblk m c 2 t)) from readWin' (grid0.coords t) scM0_1 _]
  rfl

theorem stepA_S3 (c : Dev nD) (t : Fin cfg0.N) (acc) (h0 : t.val % 16 = 0) (h1 : ¬t.val % 16 = 15) :
    (stAt0 m c t.val t.isLt acc).2.2.2.2.2.2.2 =
      put (grid0.coords t) k0_pay12 (k0_pay3 (bodyDv (grid0.coords t) (iblk m c 0 t) (win (grid0.coords t) (padK (iblk m c 1 t))) (iblk m c 3 t) (iblk m c 4 t)) (win (grid0.coords t) k0_pay12)) := by
  rw [stAt0_A m c t acc h0 h1]
  dsimp only
  unfold sout0_A_3
  rw [View.read_writes_eq_canon _ _ _ (scover0_A_3 c _ _ _ _ _ _ _ _ _ _ _ _ _ _ _ _ _ _ _ _ _ _ _ _ _ _ _ _ _ _ _ _ _ _)]
  unfold kernelRun0_A
  dsimp only
  refine (canonPut (grid0.coords t) k0_pay12 _ (View.canon_unit_zero (funext (by decide)) _ _) _).trans (congrArg (put _ _) (congrArg₂ k0_pay3 ?_ ?_))
  rotate_left
  · unfold kernelRun0_A.sl.v661 kernelRun0_A.sl.HS3_1
    refine (View.readCov_eq_canon' _ _ _).trans ?_
    rw [View.canon_unit_zero (funext (by decide))]
    rfl
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_1 t) (hs0_1 t) ![0, 0] _ (by decide)]
  rw [show View.readAt (Elt F) scM0_0.view _ (scM0_0.view.writes (Elt F) scM0_0.view.junk _) = win (grid0.coords t) (padK (iblk m c 1 t)) from readWin' (grid0.coords t) scM0_0 _]
  rfl

theorem stepB_5 (c : Dev nD) (t : Fin cfg0.N) (acc) (h0 : ¬t.val % 16 = 0) (h1 : ¬t.val % 16 = 15) :
    (stAt0 m c t.val t.isLt acc).1 =
      k0_pay1 (bodyDq (grid0.coords t) (iblk m c 0 t) (win (grid0.coords t) acc.2.2.2.2.1) (win (grid0.coords t) acc.2.2.2.2.2.1) (iblk m c 3 t) (iblk m c 4 t)) := by
  rw [stAt0_B m c t acc h0 h1]
  dsimp only
  unfold out0_B_5
  rw [View.read_writes_eq_canon _ _ _ (cover0_B_5 c _ _ _ _ _ _ _ _ _ _ _ _ _ _ _ _ _ _ _ _ _ _ _ _ _ _ _ _ _ _ _ _ _ _ _ _ _ _ _)]
  unfold kernelRun0_B
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _]
  rfl

theorem stepB_8 (c : Dev nD) (t : Fin cfg0.N) (acc) (h0 : ¬t.val % 16 = 0) (h1 : ¬t.val % 16 = 15) :
    (stAt0 m c t.val t.isLt acc).2.2.2.1 =
      k0_pay4 (bodyDs (grid0.coords t) (iblk m c 0 t) (win (grid0.coords t) acc.2.2.2.2.1) (win (grid0.coords t) acc.2.2.2.2.2.1) (iblk m c 3 t) (iblk m c 4 t)) acc.2.2.2.1 := by
  rw [stAt0_B m c t acc h0 h1]
  dsimp only
  unfold out0_B_8
  rw [View.read_writes_eq_canon _ _ _ (cover0_B_8 c _ _ _ _ _ _ _ _ _ _ _ _ _ _ _ _ _ _ _ _ _ _ _ _ _ _ _ _ _ _ _ _ _ _ _ _ _ _ _)]
  unfold kernelRun0_B
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_8 t) (hs0_8 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _]
  rfl

theorem stepB_S0 (c : Dev nD) (t : Fin cfg0.N) (acc) (h0 : ¬t.val % 16 = 0) (h1 : ¬t.val % 16 = 15) :
    (stAt0 m c t.val t.isLt acc).2.2.2.2.1 =
      acc.2.2.2.2.1 := by
  rw [stAt0_B m c t acc h0 h1]
  dsimp only
  unfold sout0_B_0
  (try rfl)

theorem stepB_S1 (c : Dev nD) (t : Fin cfg0.N) (acc) (h0 : ¬t.val % 16 = 0) (h1 : ¬t.val % 16 = 15) :
    (stAt0 m c t.val t.isLt acc).2.2.2.2.2.1 =
      acc.2.2.2.2.2.1 := by
  rw [stAt0_B m c t acc h0 h1]
  dsimp only
  unfold sout0_B_1
  (try rfl)

theorem stepB_S2 (c : Dev nD) (t : Fin cfg0.N) (acc) (h0 : ¬t.val % 16 = 0) (h1 : ¬t.val % 16 = 15) :
    (stAt0 m c t.val t.isLt acc).2.2.2.2.2.2.1 =
      put (grid0.coords t) acc.2.2.2.2.2.2.1 (k0_pay2 (bodyDk (grid0.coords t) (iblk m c 0 t) (win (grid0.coords t) acc.2.2.2.2.1) (win (grid0.coords t) acc.2.2.2.2.2.1) (iblk m c 3 t) (iblk m c 4 t)) (win (grid0.coords t) acc.2.2.2.2.2.2.1)) := by
  rw [stAt0_B m c t acc h0 h1]
  dsimp only
  unfold sout0_B_2
  unfold kernelRun0_B
  dsimp only
  sl_unfold_words
  refine (readPut (grid0.coords t) scM0_2 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _,
    show View.readAt (Elt F) scM0_2.view _ _ = win (grid0.coords t) acc.2.2.2.2.2.2.1 from readWin (grid0.coords t) scM0_2 (Memref.isWhole_whole _) _]
  rfl

theorem stepB_S3 (c : Dev nD) (t : Fin cfg0.N) (acc) (h0 : ¬t.val % 16 = 0) (h1 : ¬t.val % 16 = 15) :
    (stAt0 m c t.val t.isLt acc).2.2.2.2.2.2.2 =
      put (grid0.coords t) acc.2.2.2.2.2.2.2 (k0_pay3 (bodyDv (grid0.coords t) (iblk m c 0 t) (win (grid0.coords t) acc.2.2.2.2.1) (iblk m c 3 t) (iblk m c 4 t)) (win (grid0.coords t) acc.2.2.2.2.2.2.2)) := by
  rw [stAt0_B m c t acc h0 h1]
  dsimp only
  unfold sout0_B_3
  unfold kernelRun0_B
  dsimp only
  sl_unfold_words
  refine (readPut (grid0.coords t) scM0_3 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_3.view _ _ = win (grid0.coords t) acc.2.2.2.2.2.2.2 from readWin (grid0.coords t) scM0_3 (Memref.isWhole_whole _) _]
  rfl

theorem stepC_5 (c : Dev nD) (t : Fin cfg0.N) (acc) (h0 : ¬t.val % 16 = 0) (h1 : t.val % 16 = 15) :
    (stAt0 m c t.val t.isLt acc).1 =
      k0_pay1 (bodyDq (grid0.coords t) (iblk m c 0 t) (win (grid0.coords t) acc.2.2.2.2.1) (win (grid0.coords t) acc.2.2.2.2.2.1) (iblk m c 3 t) (iblk m c 4 t)) := by
  rw [stAt0_C m c t acc h0 h1]
  dsimp only
  unfold out0_C_5
  rw [View.read_writes_eq_canon _ _ _ (cover0_C_5 c _ _ _ _ _ _ _ _ _ _ _ _ _ _ _ _ _ _ _ _ _ _ _ _ _ _ _ _ _ _ _ _ _ _ _ _ _ _ _)]
  unfold kernelRun0_C
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _]
  rfl

theorem stepC_8 (c : Dev nD) (t : Fin cfg0.N) (acc) (h0 : ¬t.val % 16 = 0) (h1 : t.val % 16 = 15) :
    (stAt0 m c t.val t.isLt acc).2.2.2.1 =
      k0_pay4 (bodyDs (grid0.coords t) (iblk m c 0 t) (win (grid0.coords t) acc.2.2.2.2.1) (win (grid0.coords t) acc.2.2.2.2.2.1) (iblk m c 3 t) (iblk m c 4 t)) acc.2.2.2.1 := by
  rw [stAt0_C m c t acc h0 h1]
  dsimp only
  unfold out0_C_8
  rw [View.read_writes_eq_canon _ _ _ (cover0_C_8 c _ _ _ _ _ _ _ _ _ _ _ _ _ _ _ _ _ _ _ _ _ _ _ _ _ _ _ _ _ _ _ _ _ _ _ _ _ _ _)]
  unfold kernelRun0_C
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_4 t) (hs0_4 t) ![0, 0] _ (by decide),
    readWhole (ms0_8 t) (hs0_8 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _]
  rfl

theorem stepC_S0 (c : Dev nD) (t : Fin cfg0.N) (acc) (h0 : ¬t.val % 16 = 0) (h1 : t.val % 16 = 15) :
    (stAt0 m c t.val t.isLt acc).2.2.2.2.1 =
      acc.2.2.2.2.1 := by
  rw [stAt0_C m c t acc h0 h1]
  dsimp only
  unfold sout0_C_0
  (try rfl)

theorem stepC_S1 (c : Dev nD) (t : Fin cfg0.N) (acc) (h0 : ¬t.val % 16 = 0) (h1 : t.val % 16 = 15) :
    (stAt0 m c t.val t.isLt acc).2.2.2.2.2.1 =
      acc.2.2.2.2.2.1 := by
  rw [stAt0_C m c t acc h0 h1]
  dsimp only
  unfold sout0_C_1
  (try rfl)

theorem stepC_S2 (c : Dev nD) (t : Fin cfg0.N) (acc) (h0 : ¬t.val % 16 = 0) (h1 : t.val % 16 = 15) :
    (stAt0 m c t.val t.isLt acc).2.2.2.2.2.2.1 =
      put (grid0.coords t) acc.2.2.2.2.2.2.1 (k0_pay2 (bodyDk (grid0.coords t) (iblk m c 0 t) (win (grid0.coords t) acc.2.2.2.2.1) (win (grid0.coords t) acc.2.2.2.2.2.1) (iblk m c 3 t) (iblk m c 4 t)) (win (grid0.coords t) acc.2.2.2.2.2.2.1)) := by
  rw [stAt0_C m c t acc h0 h1]
  dsimp only
  unfold sout0_C_2
  unfold kernelRun0_C
  dsimp only
  sl_unfold_words
  refine (readPut (grid0.coords t) scM0_2 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _,
    show View.readAt (Elt F) scM0_2.view _ _ = win (grid0.coords t) acc.2.2.2.2.2.2.1 from readWin (grid0.coords t) scM0_2 (Memref.isWhole_whole _) _]
  rfl

theorem stepC_S3 (c : Dev nD) (t : Fin cfg0.N) (acc) (h0 : ¬t.val % 16 = 0) (h1 : t.val % 16 = 15) :
    (stAt0 m c t.val t.isLt acc).2.2.2.2.2.2.2 =
      put (grid0.coords t) acc.2.2.2.2.2.2.2 (k0_pay3 (bodyDv (grid0.coords t) (iblk m c 0 t) (win (grid0.coords t) acc.2.2.2.2.1) (iblk m c 3 t) (iblk m c 4 t)) (win (grid0.coords t) acc.2.2.2.2.2.2.2)) := by
  rw [stAt0_C m c t acc h0 h1]
  dsimp only
  unfold sout0_C_3
  unfold kernelRun0_C
  dsimp only
  sl_unfold_words
  refine (readPut (grid0.coords t) scM0_3 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_3.view _ _ = win (grid0.coords t) acc.2.2.2.2.2.2.2 from readWin (grid0.coords t) scM0_3 (Memref.isWhole_whole _) _]
  rfl

theorem stepC_6 (c : Dev nD) (t : Fin cfg0.N) (acc) (h0 : ¬t.val % 16 = 0) (h1 : t.val % 16 = 15) :
    (stAt0 m c t.val t.isLt acc).2.1 =
      k0_pay5 (View.ld (Val := Elt F) (put (grid0.coords t) acc.2.2.2.2.2.2.1 (k0_pay2 (bodyDk (grid0.coords t) (iblk m c 0 t) (win (grid0.coords t) acc.2.2.2.2.1) (win (grid0.coords t) acc.2.2.2.2.2.1) (iblk m c 3 t) (iblk m c 4 t)) (win (grid0.coords t) acc.2.2.2.2.2.2.1))) (Rect.unit (s := S4224x128) ![128, 0] S4096x128.size inb_S4224x128_S4096x128_128_0)) := by
  rw [stAt0_C m c t acc h0 h1]
  dsimp only
  unfold out0_C_6
  rw [View.read_writes_eq_canon _ _ _ (cover0_C_6 c _ _ _ _ _ _ _ _ _ _ _ _ _ _ _ _ _ _ _ _ _ _ _ _ _ _ _ _ _ _ _ _ _ _ _ _ _ _ _)]
  unfold kernelRun0_C
  dsimp only
  rw [View.canon_unit_zero (funext (by decide))]
  sl_unfold_words
  refine congrArg k0_pay5 ((View.readAt_eq_ld scM0_2.view _ _).trans (congrArg (fun X => View.ld (Val := Elt F) X (Rect.unit (s := S4224x128) ![128, 0] S4096x128.size inb_S4224x128_S4096x128_128_0)) ?_))
  refine (readPut (grid0.coords t) scM0_2 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_1.view _ _ = win (grid0.coords t) acc.2.2.2.2.2.1 from readWin (grid0.coords t) scM0_1 (Memref.isWhole_whole _) _,
    show View.readAt (Elt F) scM0_2.view _ _ = win (grid0.coords t) acc.2.2.2.2.2.2.1 from readWin (grid0.coords t) scM0_2 (Memref.isWhole_whole _) _]
  rfl

theorem stepC_7 (c : Dev nD) (t : Fin cfg0.N) (acc) (h0 : ¬t.val % 16 = 0) (h1 : t.val % 16 = 15) :
    (stAt0 m c t.val t.isLt acc).2.2.1 =
      k0_pay6 (View.ld (Val := Elt F) (put (grid0.coords t) acc.2.2.2.2.2.2.2 (k0_pay3 (bodyDv (grid0.coords t) (iblk m c 0 t) (win (grid0.coords t) acc.2.2.2.2.1) (iblk m c 3 t) (iblk m c 4 t)) (win (grid0.coords t) acc.2.2.2.2.2.2.2))) (Rect.unit (s := S4224x128) ![128, 0] S4096x128.size inb_S4224x128_S4096x128_128_0)) := by
  rw [stAt0_C m c t acc h0 h1]
  dsimp only
  unfold out0_C_7
  rw [View.read_writes_eq_canon _ _ _ (cover0_C_7 c _ _ _ _ _ _ _ _ _ _ _ _ _ _ _ _ _ _ _ _ _ _ _ _ _ _ _ _ _ _ _ _ _ _ _ _ _ _ _)]
  unfold kernelRun0_C
  dsimp only
  rw [View.canon_unit_zero (funext (by decide))]
  sl_unfold_words
  refine congrArg k0_pay6 ((View.readAt_eq_ld scM0_3.view _ _).trans (congrArg (fun X => View.ld (Val := Elt F) X (Rect.unit (s := S4224x128) ![128, 0] S4096x128.size inb_S4224x128_S4096x128_128_0)) ?_))
  refine (readPut (grid0.coords t) scM0_3 (Memref.isWhole_whole _) _ _).trans ?_
  congr 1
  rw [readWhole (ms0_0 t) (hs0_0 t) ![0, 0] _ (by decide),
    readWhole (ms0_3 t) (hs0_3 t) ![0, 0] _ (by decide),
    readWhole (ms0_4 t) (hs0_4 t) ![0, 0] _ (by decide)]
  rw [show View.readAt (Elt F) scM0_0.view _ _ = win (grid0.coords t) acc.2.2.2.2.1 from readWin (grid0.coords t) scM0_0 (Memref.isWhole_whole _) _,
    show View.readAt (Elt F) scM0_3.view _ _ = win (grid0.coords t) acc.2.2.2.2.2.2.2 from readWin (grid0.coords t) scM0_3 (Memref.isWhole_whole _) _]
  rfl

end Cert.KernelIdeal.Swa
-- ==== Proof.Swa.Reads.lean ====
module

public import proofs.«01_k».proof.Proof.Swa.Step
public import Idealize.ShloMosaic.Lib.Pointwise

/-! # Blocks and scratch buffers at an index -/

@[expose] public section

set_option maxRecDepth 16384

noncomputable section

namespace Cert.KernelIdeal.Swa

open Cert.KernelIdeal Cert.KernelIdeal.Gen Cert.KernelIdeal.Value Idealize.ShloMosaic Idealize.ShloMosaic.TcCoe Idealize.SL.Sem

variable {F : FTy → Type} [FloatOps F] [Named F]
variable (m : (ℓ : Loc nD τ sig) → Buf (Elt F) ℓ)

theorem coords_val : ∀ t : Fin cfg0.N, (grid0.coords t 0).val = t.val := by decide +kernel

theorem idx0 : ∀ t : Fin cfg0.N, win0_0.index t = ![t.val, 8] := by decide +kernel
theorem idx1 : ∀ t : Fin cfg0.N, win0_1.index t = ![0, 18] := by decide +kernel
theorem idx2 : ∀ t : Fin cfg0.N, win0_2.index t = ![0, 19] := by decide +kernel
theorem idx3 : ∀ t : Fin cfg0.N, win0_3.index t = ![0, 0] := by decide +kernel
theorem idx4 : ∀ t : Fin cfg0.N, win0_4.index t = ![t.val, 2] := by decide +kernel

theorem t_lt (t : Fin cfg0.N) : t.val < 16 := lt_of_lt_of_eq t.isLt (by decide +kernel)

theorem iblk0_apply (c : Dev nD) (t : Fin cfg0.N) (r : Fin 256) (d : Fin 256) :
    iblk m c 0 t (ix2 r d) = m ((c : Thread nD τ).loc main_arg0) (ix2 ⟨256 * t.val + r.val, by have := t_lt t; omega⟩ ⟨2048 + d.val, by omega⟩) := by
  blk_ext [iblk, V, idx0 t]

theorem iblk1_apply (c : Dev nD) (t : Fin cfg0.N) (r : Fin 4096) (d : Fin 128) :
    iblk m c 1 t (ix2 r d) = m ((c : Thread nD τ).loc main_arg0) (ix2 ⟨r.val, by omega⟩ ⟨2304 + d.val, by omega⟩) := by
  blk_ext [iblk, V, idx1 t]

theorem iblk2_apply (c : Dev nD) (t : Fin cfg0.N) (r : Fin 4096) (d : Fin 128) :
    iblk m c 2 t (ix2 r d) = m ((c : Thread nD τ).loc main_arg0) (ix2 ⟨r.val, by omega⟩ ⟨2432 + d.val, by omega⟩) := by
  blk_ext [iblk, V, idx2 t]

theorem iblk3_apply (c : Dev nD) (t : Fin cfg0.N) (d : Fin 128) :
    iblk m c 3 t (ix2 0 d) = m ((c : Thread nD τ).loc main_arg1) (ix2 0 d) := by
  blk_ext [iblk, V, idx3 t]

theorem iblk4_apply (c : Dev nD) (t : Fin cfg0.N) (r : Fin 256) (d : Fin 256) :
    iblk m c 4 t (ix2 r d) = m ((c : Thread nD τ).loc main_arg2) (ix2 ⟨256 * t.val + r.val, by have := t_lt t; omega⟩ ⟨512 + d.val, by omega⟩) := by
  blk_ext [iblk, V, idx4 t]

theorem win_apply (i : grid0.Coords) (X : Vec F S4224x128 .f32) (s : Fin 384) (d : Fin 128) :
    win i X (ix2 s d) = X (ix2 ⟨256 * (i 0).val + s.val, by have : (i 0).val < 16 := (i 0).isLt; omega⟩ d) := by
  unfold win
  refine View.ld_unit_apply_of X (k0_off1 i) _ _ (ix2 s d) _ ?_
  intro a
  have e := congrFun (off_eq i) a
  match a with
  | ⟨0, _⟩ => exact congrArg (· + s.val) e.symm
  | ⟨1, _⟩ => exact (Nat.zero_add d.val).symm.trans (congrArg (· + d.val) e.symm)

theorem put_apply (i : grid0.Coords) (X : Vec F S4224x128 .f32) (w : Vec F S384x128 .f32) (s : Fin 4224) (d : Fin 128) :
    put i X w (ix2 s d) = if h : 256 * (i 0).val ≤ s.val ∧ s.val < 256 * (i 0).val + 384 then w (ix2 ⟨s.val - 256 * (i 0).val, by omega⟩ d) else X (ix2 s d) := by
  unfold put
  by_cases h : 256 * (i 0).val ≤ s.val ∧ s.val < 256 * (i 0).val + 384
  · rw [dif_pos h, dif_pos (by
      intro a
      match a with
      | ⟨0, _⟩ => exact h
      | ⟨1, _⟩ => exact ⟨Nat.zero_le _, lt_of_lt_of_eq d.isLt (Nat.zero_add _).symm⟩)]
    congr 1
    funext a
    apply Fin.ext
    match a with
    | ⟨0, _⟩ => rfl
    | ⟨1, _⟩ => rfl
  · rw [dif_neg h, dif_neg (fun h' => h (h' 0))]

theorem padK_apply (X : Vec F S4096x128 .f32) (s : Fin 4224) (d : Fin 128) :
    padK X (ix2 s d) = if h : s.val < 128 then Scalar.ofBits .f32 0x00000000#32 else X (ix2 ⟨s.val - 128, by omega⟩ d) := by
  unfold padK
  rw [← View.read_writes_junk_apply_eq_canon scM0_2.view (ix2 s d)]
  refine (View.read_writes_cons_unit (Val := Elt F) scM0_2.view _ inb_S4224x128_S4096x128_128_0 (k0_pay9 X) _ (ix2 s d) rfl).trans ?_
  by_cases h : s.val < 128
  · rw [dif_neg (fun h' => absurd (h' 0).1 (not_le.2 h)), dif_pos h]
    refine (View.read_writes_cons_unit (Val := Elt F) scM0_2.view _ inb_S4224x128_S128x128_0_0 k0_pay7 _ (ix2 s d) rfl).trans ?_
    rw [dif_pos (by
      intro a
      match a with
      | ⟨0, _⟩ => exact ⟨Nat.zero_le _, h⟩
      | ⟨1, _⟩ => exact ⟨Nat.zero_le _, lt_of_lt_of_eq d.isLt (Nat.zero_add _).symm⟩)]
    rfl
  · have hs : s.val < 4224 := s.isLt
    rw [dif_neg h]
    rw [dif_pos (by
      intro a
      match a with
      | ⟨0, _⟩ => exact ⟨not_lt.1 h, hs⟩
      | ⟨1, _⟩ => exact ⟨Nat.zero_le _, lt_of_lt_of_eq d.isLt (Nat.zero_add _).symm⟩)]
    unfold k0_pay9
    rw [shapeCast_self]
    congr 1
    funext a
    apply Fin.ext
    match a with
    | ⟨0, _⟩ => rfl
    | ⟨1, _⟩ => rfl

end Cert.KernelIdeal.Swa
-- ==== Proof.Swa.Fold.lean ====
module

public import proofs.«01_k».proof.Proof.Swa.Bodies
public import proofs.«01_k».proof.Proof.Swa.Reads

/-! # The sixteen grid points together

After point `n` the scratch buffers hold the padded keys and values and the gradients that the first `256 (n + 1)`
queries give; the last point writes them out. -/

@[expose] public section

set_option maxRecDepth 16384

noncomputable section

namespace Cert.KernelIdeal.Swa

open Cert.KernelIdeal Cert.KernelIdeal.Gen Cert.KernelIdeal.Value Idealize.ShloMosaic Idealize.ShloMosaic.TcCoe Idealize.SL.Sem Cert.Swa

/-- The arguments of device `c` hold the real numbers `Q`, `K`, `V`, `G` and `w`. -/
structure Holds (m : (ℓ : Loc nD τ sig) → Buf (Elt Ideal) ℓ) (c : Dev nD) (Q K V G : ℕ → ℕ → ℝ) (w : ℕ → ℝ) : Prop where
  q : ∀ (t : Fin 4096) (d : Fin 256), m ((c : Thread nD τ).loc main_arg0) (ix2 t ⟨2048 + d.val, by omega⟩) = (Q t.val d.val : EReal)
  k : ∀ (t : Fin 4096) (d : Fin 128), m ((c : Thread nD τ).loc main_arg0) (ix2 t ⟨2304 + d.val, by omega⟩) = (K (t.val + 128) d.val : EReal)
  v : ∀ (t : Fin 4096) (d : Fin 128), m ((c : Thread nD τ).loc main_arg0) (ix2 t ⟨2432 + d.val, by omega⟩) = (V (t.val + 128) d.val : EReal)
  k0 : ∀ s d : ℕ, s < 128 → K s d = 0
  v0 : ∀ s d : ℕ, s < 128 → V s d = 0
  w : ∀ l : Fin 128, l.val < 4 → m ((c : Thread nD τ).loc main_arg1) (ix2 0 l) = (w l.val : EReal)
  g : ∀ (t : Fin 4096) (d : Fin 256), m ((c : Thread nD τ).loc main_arg2) (ix2 t ⟨512 + d.val, by omega⟩) = (G t.val d.val : EReal)

variable {m : (ℓ : Loc nD τ sig) → Buf (Elt Ideal) ℓ} {c : Dev nD} {Q K V G : ℕ → ℕ → ℝ} {w : ℕ → ℝ}

theorem pay2_eq (x y : FVec Ideal S384x128 .f32) : k0_pay2 x y = addf y x := by
  unfold k0_pay2; dsimp only; rw [shapeCast_self]
theorem pay3_eq (x y : FVec Ideal S384x128 .f32) : k0_pay3 x y = addf y x := by
  unfold k0_pay3; dsimp only; rw [shapeCast_self]
theorem pay4_eq (x y : FVec Ideal S1x128 .f32) : k0_pay4 x y = addf y x := by
  unfold k0_pay4; dsimp only; rw [shapeCast_self]

theorem pay5_apply (x : FVec Ideal S4096x128 .f32) (i : S4096x128.Idx) : k0_pay5 (F := Ideal) x i = (x i : EReal) := rfl
theorem pay6_apply (x : FVec Ideal S4096x128 .f32) (i : S4096x128.Idx) : k0_pay6 (F := Ideal) x i = (x i : EReal) := rfl

/-- The rows past the padding. -/
theorem tail_read (X : Vec Ideal S4224x128 .f32) (s : Fin 4096) (d : Fin 128) :
    View.ld (Val := Elt Ideal) X (Rect.unit (s := S4224x128) ![128, 0] S4096x128.size inb_S4224x128_S4096x128_128_0) (ix2 s d) =
      X (ix2 ⟨128 + s.val, by omega⟩ d) := by
  refine View.ld_unit_apply_of X ![128, 0] _ _ (ix2 s d) _ ?_
  intro a
  match a with
  | ⟨0, _⟩ => rfl
  | ⟨1, _⟩ => exact (Nat.zero_add d.val).symm

section
variable (H : Holds m c Q K V G w) (t : Fin cfg0.N)
include H

theorem padK1 (s : Fin 4224) (d : Fin 128) : padK (iblk m c 1 t) (ix2 s d) = (K s.val d.val : EReal) := by
  rw [padK_apply]
  by_cases h : s.val < 128
  · rw [dif_pos h, H.k0 _ _ h]; exact Ideal.ofBits_zero_f32.trans EReal.coe_zero.symm
  · rw [dif_neg h, iblk1_apply]
    refine (H.k ⟨s.val - 128, by omega⟩ d).trans ?_
    rw [show s.val - 128 + 128 = s.val by omega]

theorem padK2 (s : Fin 4224) (d : Fin 128) : padK (iblk m c 2 t) (ix2 s d) = (V s.val d.val : EReal) := by
  rw [padK_apply]
  by_cases h : s.val < 128
  · rw [dif_pos h, H.v0 _ _ h]; exact Ideal.ofBits_zero_f32.trans EReal.coe_zero.symm
  · rw [dif_neg h, iblk2_apply]
    refine (H.v ⟨s.val - 128, by omega⟩ d).trans ?_
    rw [show s.val - 128 + 128 = s.val by omega]

theorem q_read (r : Fin 256) (d : Fin 256) : iblk m c 0 t (ix2 r d) = (Q (256 * (grid0.coords t 0).val + r.val) d.val : EReal) := by
  rw [iblk0_apply, coords_val]; exact H.q ⟨256 * t.val + r.val, _⟩ d
theorem g_read (r : Fin 256) (d : Fin 256) : iblk m c 4 t (ix2 r d) = (G (256 * (grid0.coords t 0).val + r.val) d.val : EReal) := by
  rw [iblk4_apply, coords_val]; exact H.g ⟨256 * t.val + r.val, _⟩ d
theorem w_read (l : Fin 128) (h : l.val < 4) : iblk m c 3 t (ix2 0 l) = (w l.val : EReal) := by
  rw [iblk3_apply]; exact H.w l h

omit H in
theorem win_read {X : Vec Ideal S4224x128 .f32} {K : ℕ → ℕ → ℝ} (h : ∀ (s : Fin 4224) (d : Fin 128), X (ix2 s d) = (K s.val d.val : EReal)) (i : grid0.Coords)
    (s : Fin 384) (d : Fin 128) : win i X (ix2 s d) = (K (256 * (i 0).val + s.val) d.val : EReal) := by
  rw [win_apply]; exact h _ d

variable {X0 X1 X2 X3 : Vec Ideal S4224x128 .f32} {X8 : Vec Ideal S1x128 .f32}
variable (h0 : ∀ (s : Fin 4224) (d : Fin 128), X0 (ix2 s d) = (K s.val d.val : EReal))
variable (h1 : ∀ (s : Fin 4224) (d : Fin 128), X1 (ix2 s d) = (V s.val d.val : EReal))

/-- Accumulating a block into the rows that it sees: 256 more terms in each sum, where the terms are nothing outside the rows. -/
theorem acc_read (f : ℕ → ℕ → ℕ → ℝ) (Y : Vec Ideal S384x128 .f32)
    (hX : ∀ (s : Fin 4224) (d : Fin 128), X2 (ix2 s d) = ((∑ u ∈ Finset.range (256 * t.val), f u s.val d.val : ℝ) : EReal))
    (hY : ∀ (s : Fin 384) (d : Fin 128), Y (ix2 s d) = ((∑ r : Fin 256, f (256 * (grid0.coords t 0).val + r.val) (256 * (grid0.coords t 0).val + s.val) d.val : ℝ) : EReal))
    (hf : ∀ (r : Fin 256) (s d : ℕ), s < 4224 → ¬ (256 * t.val ≤ s ∧ s < 256 * t.val + 384) → f (256 * t.val + r.val) s d = 0)
    (s : Fin 4224) (d : Fin 128) : put (grid0.coords t) X2 (addf (win (grid0.coords t) X2) Y) (ix2 s d) =
      ((∑ u ∈ Finset.range (256 * (t.val + 1)), f u s.val d.val : ℝ) : EReal) := by
  rw [Nat.mul_succ, Finset.sum_range_add, ← Fin.sum_univ_eq_sum_range (fun r => f (256 * t.val + r) s.val d.val) 256, put_apply]
  simp only [coords_val] at hY ⊢
  by_cases h : 256 * t.val ≤ s.val ∧ s.val < 256 * t.val + 384
  · rw [dif_pos h]
    refine (congrArg₂ (fun a b : EReal => a + b) ((win_apply _ _ _ _).trans (hX _ d)) (hY _ d)).trans ?_
    simp only [coords_val, show 256 * t.val + (s.val - 256 * t.val) = s.val by omega]
    rw [← EReal.coe_add]
  · rw [dif_neg h, hX, Finset.sum_eq_zero (s := Finset.univ) (fun r _ => hf r s.val d.val s.isLt h), add_zero]

include h0

theorem core_dv (hX : ∀ (s : Fin 4224) (d : Fin 128), X3 (ix2 s d) = ((∑ u ∈ Finset.range (256 * t.val), dvT Q K G w u s.val d.val : ℝ) : EReal))
    (s : Fin 4224) (d : Fin 128) :
    put (grid0.coords t) X3 (k0_pay3 (bodyDv (grid0.coords t) (iblk m c 0 t) (win (grid0.coords t) X0) (iblk m c 3 t) (iblk m c 4 t)) (win (grid0.coords t) X3)) (ix2 s d) =
      ((∑ u ∈ Finset.range (256 * (t.val + 1)), dvT Q K G w u s.val d.val : ℝ) : EReal) := by
  rw [pay3_eq]
  refine acc_read H t (dvT Q K G w) _ hX (bodyDv_eq (q_read H t) (win_read h0 _) (w_read H t) (g_read H t)) ?_ s d
  intro r s d hs hn
  simp only [dvT, P, Row.p_zero (wt_outside r s hs hn), zero_mul, add_zero]

include h1

theorem core_dk (hX : ∀ (s : Fin 4224) (d : Fin 128), X2 (ix2 s d) = ((∑ u ∈ Finset.range (256 * t.val), dkT Q K V G w u s.val d.val : ℝ) : EReal))
    (s : Fin 4224) (d : Fin 128) :
    put (grid0.coords t) X2 (k0_pay2 (bodyDk (grid0.coords t) (iblk m c 0 t) (win (grid0.coords t) X0) (win (grid0.coords t) X1) (iblk m c 3 t) (iblk m c 4 t)) (win (grid0.coords t) X2)) (ix2 s d) =
      ((∑ u ∈ Finset.range (256 * (t.val + 1)), dkT Q K V G w u s.val d.val : ℝ) : EReal) := by
  rw [pay2_eq]
  refine acc_read H t (dkT Q K V G w) _ hX (bodyDk_eq (q_read H t) (win_read h0 _) (w_read H t) (g_read H t) (win_read h1 _)) ?_ s d
  intro r s d hs hn
  simp only [dkT, D, Row.d_zero _ (wt_outside r s hs hn), zero_mul, zero_div, add_zero]

theorem core_ds (hX : ∀ l : Fin 128, X8 (ix2 0 l) = if l.val < 4 then ((∑ u ∈ Finset.range (256 * t.val), dsT Q K V G w l.val u : ℝ) : EReal) else 0)
    (l : Fin 128) :
    k0_pay4 (bodyDs (grid0.coords t) (iblk m c 0 t) (win (grid0.coords t) X0) (win (grid0.coords t) X1) (iblk m c 3 t) (iblk m c 4 t)) X8 (ix2 0 l) =
      if l.val < 4 then ((∑ u ∈ Finset.range (256 * (t.val + 1)), dsT Q K V G w l.val u : ℝ) : EReal) else 0 := by
  rw [pay4_eq]
  refine (congrArg₂ (fun a b : EReal => a + b) (hX l) (bodyDs_eq (q_read H t) (win_read h0 _) (w_read H t) (g_read H t) (win_read h1 _) l)).trans ?_
  simp only [coords_val]
  split
  · rw [← EReal.coe_add, Nat.mul_succ, Finset.sum_range_add, ← Fin.sum_univ_eq_sum_range (fun r => dsT Q K V G w l.val (256 * t.val + r)) 256]
  · exact add_zero _

theorem core_dq (r : Fin 256) (d : Fin 256) :
    k0_pay1 (bodyDq (grid0.coords t) (iblk m c 0 t) (win (grid0.coords t) X0) (win (grid0.coords t) X1) (iblk m c 3 t) (iblk m c 4 t)) (ix2 r d) =
      ((dq Q K V G w (256 * t.val + r.val) d.val : ℝ) : EReal) := by
  have h := bodyDq_eq (q_read H t) (win_read h0 (grid0.coords t)) (w_read H t) (g_read H t) (win_read h1 _) r d
  rw [coords_val] at h
  exact h

end

/-- What the carried state holds after point `n`. -/
structure After (n : ℕ) (Q K V G : ℕ → ℕ → ℝ) (w : ℕ → ℝ)
    (x : Vec Ideal S256x256 .bf16 × Vec Ideal S4096x128 .bf16 × Vec Ideal S4096x128 .bf16 × Vec Ideal S1x128 .f32 × Vec Ideal S4224x128 .f32 ×
      Vec Ideal S4224x128 .f32 × Vec Ideal S4224x128 .f32 × Vec Ideal S4224x128 .f32) : Prop where
  dq : ∀ (r : Fin 256) (d : Fin 256), x.1 (ix2 r d) = ((dq Q K V G w (256 * n + r.val) d.val : ℝ) : EReal)
  ds : ∀ l : Fin 128, x.2.2.2.1 (ix2 0 l) = if l.val < 4 then ((∑ u ∈ Finset.range (256 * (n + 1)), dsT Q K V G w l.val u : ℝ) : EReal) else 0
  k : ∀ (s : Fin 4224) (d : Fin 128), x.2.2.2.2.1 (ix2 s d) = (K s.val d.val : EReal)
  v : ∀ (s : Fin 4224) (d : Fin 128), x.2.2.2.2.2.1 (ix2 s d) = (V s.val d.val : EReal)
  dk : ∀ (s : Fin 4224) (d : Fin 128), x.2.2.2.2.2.2.1 (ix2 s d) = ((∑ u ∈ Finset.range (256 * (n + 1)), dkT Q K V G w u s.val d.val : ℝ) : EReal)
  dv : ∀ (s : Fin 4224) (d : Fin 128), x.2.2.2.2.2.2.2 (ix2 s d) = ((∑ u ∈ Finset.range (256 * (n + 1)), dvT Q K G w u s.val d.val : ℝ) : EReal)
  out : n = 15 → (∀ (s : Fin 4096) (d : Fin 128), x.2.1 (ix2 s d) = ((Cert.Swa.dk Q K V G w (128 + s.val) d.val : ℝ) : EReal)) ∧
    ∀ (s : Fin 4096) (d : Fin 128), x.2.2.1 (ix2 s d) = ((Cert.Swa.dv Q K G w (128 + s.val) d.val : ℝ) : EReal)

theorem after_first (H : Holds m c Q K V G w) (t : Fin cfg0.N) (acc) (ht : t.val = 0) : After t.val Q K V G w (stAt0 m c t.val t.isLt acc) := by
  have h0 : t.val % 16 = 0 := by omega
  have h1 : ¬ t.val % 16 = 15 := by omega
  have hz : ∀ f : ℕ → ℝ, (((∑ u ∈ Finset.range (256 * t.val), f u : ℝ)) : EReal) = 0 := fun f => by rw [ht]; simp
  refine ⟨?_, ?_, ?_, ?_, ?_, ?_, fun h => absurd h (by omega)⟩
  · rw [stepA_5 m c t acc h0 h1]; exact core_dq H t (padK1 H t) (padK2 H t)
  · rw [stepA_8 m c t acc h0 h1]
    refine core_ds H t (padK1 H t) (padK2 H t) fun l => ?_
    rw [hz, ite_self]; exact Ideal.ofBits_zero_f32
  · rw [stepA_S0 m c t acc h0 h1]; exact padK1 H t
  · rw [stepA_S1 m c t acc h0 h1]; exact padK2 H t
  · rw [stepA_S2 m c t acc h0 h1]
    refine core_dk H t (padK1 H t) (padK2 H t) fun s d => ?_
    rw [hz]; exact Ideal.ofBits_zero_f32
  · rw [stepA_S3 m c t acc h0 h1]
    refine core_dv H t (padK1 H t) fun s d => ?_
    rw [hz]; exact Ideal.ofBits_zero_f32

theorem after_next (H : Holds m c Q K V G w) (t : Fin cfg0.N) (acc) (n : ℕ) (ht : t.val = n + 1) (hA : After n Q K V G w acc) :
    After t.val Q K V G w (stAt0 m c t.val t.isLt acc) := by
  have hlt := t_lt t
  have h0 : ¬ t.val % 16 = 0 := by omega
  have hk := hA.dk
  have hv := hA.dv
  have hs := hA.ds
  rw [← ht] at hk hv hs
  by_cases h1 : t.val % 16 = 15
  · have e2 := core_dk H t hA.k hA.v hk
    have e3 := core_dv H t hA.k hv
    refine ⟨?_, ?_, ?_, ?_, ?_, ?_, fun hn => ⟨?_, ?_⟩⟩
    · rw [stepC_5 m c t acc h0 h1]; exact core_dq H t hA.k hA.v
    · rw [stepC_8 m c t acc h0 h1]; exact core_ds H t hA.k hA.v hs
    · rw [stepC_S0 m c t acc h0 h1]; exact hA.k
    · rw [stepC_S1 m c t acc h0 h1]; exact hA.v
    · rw [stepC_S2 m c t acc h0 h1]; exact e2
    · rw [stepC_S3 m c t acc h0 h1]; exact e3
    · intro s d
      rw [stepC_6 m c t acc h0 h1]
      refine (pay5_apply _ _).trans ((tail_read _ s d).trans ?_)
      rw [e2, hn]; rfl
    · intro s d
      rw [stepC_7 m c t acc h0 h1]
      refine (pay6_apply _ _).trans ((tail_read _ s d).trans ?_)
      rw [e3, hn]; rfl
  · refine ⟨?_, ?_, ?_, ?_, ?_, ?_, fun h => absurd h (by omega)⟩
    · rw [stepB_5 m c t acc h0 h1]; exact core_dq H t hA.k hA.v
    · rw [stepB_8 m c t acc h0 h1]; exact core_ds H t hA.k hA.v hs
    · rw [stepB_S0 m c t acc h0 h1]; exact hA.k
    · rw [stepB_S1 m c t acc h0 h1]; exact hA.v
    · rw [stepB_S2 m c t acc h0 h1]; exact core_dk H t hA.k hA.v hk
    · rw [stepB_S3 m c t acc h0 h1]; exact core_dv H t hA.k hv

theorem after_all (H : Holds m c Q K V G w) : ∀ (n : ℕ) (h : 0 + n < cfg0.N),
    After (0 + n) Q K V G w (Pipeline.accAt (fun n h => stAt0 m c n h junk0) (stAt0 m c) 0 n h)
  | 0, h => after_first H ⟨0, h⟩ junk0 rfl
  | n + 1, h => after_next H ⟨0 + (n + 1), h⟩ _ (0 + n) rfl (after_all H n (Nat.lt_of_succ_lt h))

/-- The four results of the kernel, as real numbers. -/
theorem G5_eq (H : Holds m c Q K V G w) (t : Fin 4096) (d : Fin 256) : G5 m c (ix2 t d) = ((Cert.Swa.dq Q K V G w t.val d.val : ℝ) : EReal) := by
  have ht := t.isLt
  have hd := d.isLt
  have hp : pt5Of (ix2 t d) = t.val / 256 := by
    show 1 * (t.val / 256 - 0) + 1 * (d.val / 256 - 0) = _
    omega
  have hN : cfg0.N = 16 := by decide +kernel
  have hl : loc5Of (ix2 t d) = (ix2 ⟨t.val % 256, Nat.mod_lt _ (by decide)⟩ ⟨d.val % 256, Nat.mod_lt _ (by decide)⟩ : S256x256.Idx) := by
    funext a
    match a with
    | ⟨0, _⟩ => rfl
    | ⟨1, _⟩ => rfl
  unfold G5
  rw [dif_pos (by rw [hp, hN]; omega), hl]
  refine ((after_all H (pt5Of (ix2 t d)) (by rw [hp, hN]; omega)).dq ⟨t.val % 256, Nat.mod_lt _ (by decide)⟩ ⟨d.val % 256, Nat.mod_lt _ (by decide)⟩).trans ?_
  rw [hp]
  dsimp only
  rw [show 256 * (0 + t.val / 256) + t.val % 256 = t.val by omega, show d.val % 256 = d.val by omega]

theorem G6_eq (H : Holds m c Q K V G w) (s : Fin 4096) (d : Fin 128) : G6 m c (ix2 s d) = ((Cert.Swa.dk Q K V G w (128 + s.val) d.val : ℝ) : EReal) := by
  rw [G6_last]
  exact ((after_all H 15 (lt_of_lt_of_eq (by decide) N_0.symm)).out rfl).1 s d

theorem G7_eq (H : Holds m c Q K V G w) (s : Fin 4096) (d : Fin 128) : G7 m c (ix2 s d) = ((Cert.Swa.dv Q K G w (128 + s.val) d.val : ℝ) : EReal) := by
  rw [G7_last]
  exact ((after_all H 15 (lt_of_lt_of_eq (by decide) N_0.symm)).out rfl).2 s d

theorem G8_eq (H : Holds m c Q K V G w) (l : Fin 128) : G8 m c (ix2 0 l) = if l.val < 4 then ((Cert.Swa.ds Q K V G w l.val : ℝ) : EReal) else 0 := by
  rw [G8_last]
  exact (after_all H 15 (lt_of_lt_of_eq (by decide) N_0.symm)).ds l

end Cert.KernelIdeal.Swa
-- ==== Proof.Swa.RefRead.lean ====
/-
  The reference's arrays read at an index: the queries, the keys and values of a chunk's band of 192 key positions,
  the gradient of the attention's output, and the band's mask.
-/
module

public import proofs.«01_k».proof.Proof.Gen.ReferenceIdeal.Run
public import proofs.«01_k».proof.Proof.Swa.Spec
public import Idealize.ShloMosaic.Lib.Pointwise

@[expose] public section

open Idealize.ShloMosaic

namespace Cert.ReferenceIdeal.Swa

open Cert.ReferenceIdeal.Value

/-- What the reference's arguments hold: real queries `Q`, keys `K` and values `V` (128 zero rows first), output
    gradients `G` and sinks `w`. -/
structure Holds (V0 : Valuation τ sig (Elt Ideal)) (Q K V G : ℕ → ℕ → ℝ) (w : ℕ → ℝ) : Prop where
  q : ∀ (t : Fin 4096) (d : Fin 256), V0 (Proc.devRef .tc main_arg0) (ix2 t ⟨2048 + d, by omega⟩) = ((Q t d : ℝ) : EReal)
  k : ∀ (t : Fin 4096) (d : Fin 128), V0 (Proc.devRef .tc main_arg0) (ix2 t ⟨2304 + d, by omega⟩) = ((K (t + 128) d : ℝ) : EReal)
  v : ∀ (t : Fin 4096) (d : Fin 128), V0 (Proc.devRef .tc main_arg0) (ix2 t ⟨2432 + d, by omega⟩) = ((V (t + 128) d : ℝ) : EReal)
  k0 : ∀ s d, s < 128 → K s d = 0
  v0 : ∀ s d, s < 128 → V s d = 0
  w : ∀ l : Fin 4, V0 (Proc.devRef .tc main_arg1) (ix2 0 ⟨l, by omega⟩) = ((w l : ℝ) : EReal)
  g : ∀ (t : Fin 4096) (d : Fin 256), V0 (Proc.devRef .tc main_arg2) (ix2 t ⟨512 + d, by omega⟩) = ((G t d : ℝ) : EReal)

variable {V0 : Valuation τ sig (Elt Ideal)} {Q K V G : ℕ → ℕ → ℝ} {w : ℕ → ℝ}

set_option maxRecDepth 16384

/-- Joins the row and column of a read with a chunk's coordinates. -/
theorem cast_eq {A : ℕ → ℕ → ℝ} {a a' b b' : ℕ} (h : a = a') (h' : b = b') : ((A a b : ℝ) : EReal) = ((A a' b' : ℝ) : EReal) := by
  rw [h, h']

theorem v8_apply (H : Holds V0 Q K V G w) (n r : Fin 64) (g p : Fin 2) (d : Fin 64) :
    res_main_v8 V0 (ix6 0 n r g p d) = ((Q (64 * n + r) (64 * (2 * g + p) + d) : ℝ) : EReal) := by
  pointwise [res_main_v8]
  exact (H.q ⟨n * 64 + r, by omega⟩ ⟨g * 128 + p * 64 + d, by omega⟩).trans (cast_eq (by dsimp only; omega) (by dsimp only; omega))

theorem v109_apply (H : Holds V0 Q K V G w) (n r : Fin 64) (g p : Fin 2) (d : Fin 64) :
    res_main_v109 V0 (ix6 0 n g d p r) = ((G (64 * n + r) (64 * (2 * g + p) + d) : ℝ) : EReal) := by
  pointwise [res_main_v109]
  exact (H.g ⟨n * 64 + r, by omega⟩ ⟨g * 128 + p * 64 + d, by omega⟩).trans (cast_eq (by dsimp only; omega) (by dsimp only; omega))

theorem v12_apply (H : Holds V0 Q K V G w) (n : Fin 66) (r : Fin 64) (g : Fin 2) (d : Fin 64) :
    res_main_v12 V0 (ix5 0 n r g d) = ((K (64 * n + r) (64 * g + d) : ℝ) : EReal) := by
  pointwise [res_main_v12, res_main_v9]
  split
  · rw [H.k0 _ _ (by omega)]; rfl
  · exact (H.k ⟨n * 64 + r - 128, by omega⟩ ⟨g * 64 + d, by omega⟩).trans (cast_eq (by dsimp only; omega) (by dsimp only; omega))

section
variable {W : ℕ → ℕ → EReal}
variable (hv : ∀ (t : Fin 4096) (d : Fin 128), V0 (Proc.devRef .tc main_arg0) (ix2 t ⟨2432 + d, by omega⟩) = W (t + 128) d) (h0 : ∀ s d, s < 128 → W s d = 0)
include hv h0

/-- The padded values, whatever they are. -/
theorem v15_any (n : Fin 66) (r : Fin 64) (g : Fin 2) (d : Fin 64) : res_main_v15 V0 (ix5 0 n r g d) = W (64 * n + r) (64 * g + d) := by
  pointwise [res_main_v15, res_main_v9]
  split
  · rw [h0 _ _ (by omega)]
  · exact (hv ⟨n * 64 + r - 128, by omega⟩ ⟨g * 64 + d, by omega⟩).trans (congrArg₂ W (by dsimp only; omega) (by dsimp only; omega))

/-- The values of a chunk's band. -/
theorem v23_any (n : Fin 64) (b : Fin 192) (g : Fin 2) (d : Fin 64) : res_main_v23 V0 (ix5 0 n b g d) = W (64 * n + b) (64 * g + d) := by
  pointwise [res_main_v23]
  split
  · exact v15_any hv h0 ⟨n, by omega⟩ ⟨b, by omega⟩ g d
  split
  · exact (v15_any hv h0 ⟨1 + n, by omega⟩ ⟨b - 64, by omega⟩ g d).trans (congrArg₂ W (by dsimp only; omega) rfl)
  · exact (v15_any hv h0 ⟨2 + n, by omega⟩ ⟨b - 64 - 64, by omega⟩ g d).trans (congrArg₂ W (by dsimp only; omega) rfl)

end

theorem v19_apply (H : Holds V0 Q K V G w) (n : Fin 64) (b : Fin 192) (g : Fin 2) (d : Fin 64) :
    res_main_v19 V0 (ix5 0 n b g d) = ((K (64 * n + b) (64 * g + d) : ℝ) : EReal) := by
  pointwise [res_main_v19]
  split
  · exact v12_apply H ⟨n, by omega⟩ ⟨b, by omega⟩ g d
  split
  · exact (v12_apply H ⟨1 + n, by omega⟩ ⟨b - 64, by omega⟩ g d).trans (cast_eq (by dsimp only; omega) rfl)
  · exact (v12_apply H ⟨2 + n, by omega⟩ ⟨b - 64 - 64, by omega⟩ g d).trans (cast_eq (by dsimp only; omega) rfl)

theorem v23_apply (H : Holds V0 Q K V G w) (n : Fin 64) (b : Fin 192) (g : Fin 2) (d : Fin 64) :
    res_main_v23 V0 (ix5 0 n b g d) = ((V (64 * n + b) (64 * g + d) : ℝ) : EReal) :=
  v23_any (W := fun s d => ((V s d : ℝ) : EReal)) H.v (fun s d h => by rw [H.v0 s d h]; rfl) n b g d

/-- A band position's block, by the division the reference spells with signs and remainders. -/
theorem block_eq (b : Fin 192) : (Scalar.select
          (IntOp.andi
            (IntOp.cmpi CmpIPredicate.ne
              (if BitVec.ofNat 32 b.val = 0 then (0 : BitVec 32) else if (BitVec.ofNat 32 b.val).msb = true then -1 else 1)
              (if 64#32 = 0 then (0 : BitVec 32) else if BitVec.msb 64#32 = true then -1 else 1))
            (IntOp.cmpi CmpIPredicate.ne (IntOp.remsi ArithUnit.host (BitVec.ofNat 32 b.val) 64#32) 0#32))
          (IntOp.subi (IntOp.divsi ArithUnit.host (BitVec.ofNat 32 b.val) 64#32) 1#32)
          (IntOp.divsi ArithUnit.host (BitVec.ofNat 32 b.val) 64#32)) = BitVec.ofNat 32 (b.val / 64) := by
  revert b
  decide +kernel

theorem sge_eq (n : Fin 64) (k : Fin 3) : IntOp.cmpi CmpIPredicate.sge
      (IntOp.addi (IntOp.subi (BitVec.ofNat 32 n.val) 2#32) (BitVec.ofNat 32 k.val)) 0#32 = BitVec.ofBool (decide (2 ≤ n.val + k.val)) := by
  revert n k
  decide +kernel

theorem v70_apply (V0 : Valuation τ sig (Elt Ideal)) (n r : Fin 64) (g p : Fin 2) (b : Fin 192) :
    res_main_v70_1 V0 (ix6 0 n g p r b) = BitVec.ofBool (decide (128 ≤ 64 * n.val + b.val)) := by
  pointwise [res_main_v70_1, res_main_v61, res_main_call0_v0, res_main_call0_v2, id]
  refine (congrArg (fun x => IntOp.cmpi CmpIPredicate.sge (IntOp.addi (IntOp.subi (BitVec.ofNat 32 n.val) 2#32) x) 0#32) (block_eq b)).trans ?_
  refine (sge_eq n ⟨b / 64, by omega⟩).trans ?_
  congr 2
  apply propext
  dsimp only
  omega

theorem bits_eighth : Ideal.ofBits .f32 0x3E000000#32 = ((1 / 8 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul, -EReal.coe_neg]; norm_num
theorem bits_neg_eight : Ideal.ofBits .f32 0xC1000000#32 = ((-8 : ℝ) : EReal) := by
  simp [Ideal.ofBits, Ideal.ieee, -EReal.coe_mul, -EReal.coe_neg]; norm_num
theorem bits_four : Ideal.ofBits .f32 0x40800000#32 = ((4 : ℝ) : EReal) := by
  simp [Ideal.ofBits, Ideal.ieee, -EReal.coe_mul, -EReal.coe_neg]; norm_num

theorem bits_neg_inf : Ideal.ofBits .f32 0xFF800000#32 = ⊥ := by
  simp [Ideal.ofBits, Ideal.ieee]

theorem toInt_small (h : Fin 4) : (BitVec.ofNat 32 h.val).toInt = h.val := by
  revert h
  decide +kernel

/-- The slope of head `h`, which the reference computes as a power of two. -/
theorem slope_eq (h : ℕ) (hh : h < 4) : Ideal.pow (Ideal.ofBits .f32 0x40000000#32)
      (Ideal.div (Ideal.ofBits .f32 0xC1000000#32 * (1 + FloatOps.sitofp (F := Ideal) .f32 (BitVec.ofNat 32 h))) (Ideal.ofBits .f32 0x40800000#32))
    = ((Cert.Swa.slope h : ℝ) : EReal) := by
  rw [bits_two, bits_neg_eight, bits_four]
  have e : FloatOps.sitofp (F := Ideal) .f32 (BitVec.ofNat 32 h) = (((h : ℕ) : ℝ) : EReal) := by
    show ((((BitVec.ofNat 32 h).toInt : ℤ) : ℝ) : EReal) = _
    rw [toInt_small ⟨h, hh⟩]
    push_cast; rfl
  rw [e, ← EReal.coe_one, ← EReal.coe_add, ← EReal.coe_mul, Cert.Swa.div_real _ (by norm_num), Ideal.pow_coe_coe]
  congr 1
  show (2 : ℝ) ^ (-8 * (1 + (h : ℝ)) / 4) = _
  unfold Cert.Swa.slope
  rw [show -8 * (1 + (h : ℝ)) / 4 = (-2 : ℝ) * ((h + 1 : ℕ) : ℝ) by push_cast; ring, Real.rpow_mul_natCast (by norm_num)]
  congr 1
  rw [show (-2 : ℝ) = -((2 : ℕ) : ℝ) by norm_num, Real.rpow_neg (by norm_num), Real.rpow_natCast]
  norm_num

theorem absi_small : ∀ n : Fin 256, (IntOp.absi (BitVec.ofNat 32 n.val)).toInt = n.val ∧ (IntOp.absi (-BitVec.ofNat 32 n.val)).toInt = n.val := by
  decide +kernel

/-- The distance of row `r` of a chunk and position `b` of its band. -/
theorem dist_eq (r : Fin 64) (b : Fin 192) : FloatOps.sitofp (F := Ideal) .f32 (IntOp.absi (IntOp.subi (IntOp.addi (BitVec.ofNat 32 r.val) 128#32) (BitVec.ofNat 32 b.val)))
    = ((|(r.val : ℝ) + 128 - b.val| : ℝ) : EReal) := by
  have hr := r.isLt
  have hb := b.isLt
  have h : (IntOp.absi (IntOp.subi (IntOp.addi (BitVec.ofNat 32 r.val) 128#32) (BitVec.ofNat 32 b.val))).toInt = |(r.val : ℤ) + 128 - b.val| := by
    show (IntOp.absi (BitVec.ofNat 32 r.val + 128#32 - BitVec.ofNat 32 b.val)).toInt = _
    rcases le_total b.val (r.val + 128) with h | h
    · rw [show BitVec.ofNat 32 r.val + 128#32 - BitVec.ofNat 32 b.val = BitVec.ofNat 32 (r.val + 128 - b.val) by
        apply BitVec.eq_of_toNat_eq; simp; omega]
      rw [(absi_small ⟨r.val + 128 - b.val, by omega⟩).1, abs_of_nonneg (by omega)]
      dsimp only; omega
    · rw [show BitVec.ofNat 32 r.val + 128#32 - BitVec.ofNat 32 b.val = -BitVec.ofNat 32 (b.val - (r.val + 128)) by
        apply BitVec.eq_of_toNat_eq; simp; omega]
      rw [(absi_small ⟨b.val - (r.val + 128), by omega⟩).2, abs_of_nonpos (by omega)]
      dsimp only; omega
  show ((((IntOp.absi (IntOp.subi (IntOp.addi (BitVec.ofNat 32 r.val) 128#32) (BitVec.ofNat 32 b.val))).toInt : ℤ) : ℝ) : EReal) = _
  rw [h]
  push_cast
  rfl

/-- The row of scores of a query: a masked score is `-∞`, the last entry is the sink. -/
theorem v73_apply (H : Holds V0 Q K V G w) (n r : Fin 64) (g p : Fin 2) (b : Fin 193) :
    res_main_v73 V0 (ix6 0 n g p r b) = if b.val < 192 then
      (if Cert.Swa.Val (64 * n + r) (64 * n + b) then ((Cert.Swa.score Q K (2 * g + p) (64 * n + r) (64 * n + b) : ℝ) : EReal) else ⊥)
      else ((w (2 * g + p) : ℝ) : EReal) := by
  pointwise [res_main_v73, id]
  by_cases hb : b.val < 192
  · rw [dif_pos hb, if_pos hb, v70_apply]
    have hv : Cert.Swa.Val (64 * n.val + r.val) (64 * n.val + b.val) ↔ 128 ≤ 64 * n.val + b.val := by
      unfold Cert.Swa.Val; omega
    by_cases hm : 128 ≤ 64 * n.val + b.val
    · rw [if_pos (hv.2 hm)]
      rw [decide_eq_true hm]
      rw [show ∀ x y : EReal, Scalar.select (BitVec.ofBool true) x y = x from fun _ _ => rfl]
      rw [slope_eq (g * 2 + p) (by omega), bits_eighth]
      rw [dist_eq r ⟨b, hb⟩]
      simp only [v19_apply H n ⟨b, hb⟩, v8_apply H, ← EReal.coe_mul, Cert.Swa.coe_sum, ← EReal.coe_sub]
      congr 1
      unfold Cert.Swa.score
      have hg : (2 * g.val + p.val) / 2 = g.val := by omega
      rw [hg, mul_comm g.val 2, div_eq_mul_one_div (∑ d : Fin 64, _)]
      congr 1
      · congr 1
        exact Finset.sum_congr rfl fun (d : Fin 64) _ => mul_comm (K (64 * n.val + b.val) (64 * g.val + d.val)) _
      · congr 2
        push_cast
        ring
    · rw [if_neg (fun h => hm (hv.1 h)), decide_eq_false hm]
      exact bits_neg_inf
  · rw [dif_neg hb, if_neg hb]
    exact (H.w ⟨g * 2 + p, by omega⟩).trans (congrArg (fun x => ((w x : ℝ) : EReal)) (by dsimp only; omega))

end Cert.ReferenceIdeal.Swa
-- ==== Proof.Swa.RefSoft.lean ====
/-
  The reference's softmax and its gradient, row by row: each row has 192 scores and the sink.
-/
module

public import proofs.«01_k».proof.Proof.Swa.RefRead
public import proofs.«01_k».proof.Proof.Swa.Exps

@[expose] public section

set_option maxRecDepth 16384

open Idealize.ShloMosaic

/-! ### Reductions of an array of six axes -/

namespace Cert.Swa

variable {n0 n1 n2 n3 n4 n5 : ℕ}

/-- The positions that reduce to a result along the last axis. -/
theorem fiber_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hi
    refine ⟨i 5, ?_⟩
    funext x; apply Fin.ext
    match x with
    | ⟨0, _⟩ => exact (congrArg Fin.val (congrFun hi 0)).symm
    | ⟨1, _⟩ => exact (congrArg Fin.val (congrFun hi 1)).symm
    | ⟨2, _⟩ => exact (congrArg Fin.val (congrFun hi 2)).symm
    | ⟨3, _⟩ => exact (congrArg Fin.val (congrFun hi 3)).symm
    | ⟨4, _⟩ => exact (congrArg Fin.val (congrFun hi 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (x : EReal) (a : Fin n0) (b : Fin n1) (c : Fin n2) (d : Fin n3) (e : Fin n4) :
    Ideal.hostReduceAdd h v x (ix5 a b c d e) = x + ∑ k : Fin n5, v (ix6 a b c d e k) :=
  congrArg (x + ·) (Finset.sum_filter_eq_sum_of_fiber _ (fun k : Fin n5 => ix6 a b c d e k) (fun _ _ e => congrFun e 5) (fiber_last h a b c d e) v)

theorem fold_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (x : EReal) (a : Fin n0) (b : Fin n1) (c : Fin n2) (d : Fin n3) (e : Fin n4) :
    (Finset.univ.filter (fun i => h.drop i = ix5 a b c d e)).fold max x v = Finset.univ.fold max x (fun k : Fin n5 => v (ix6 a b c d e k)) :=
  Finset.fold_filter_eq_fold_of_fiber max _ (fun k : Fin n5 => ix6 a b c d e k) (fun _ _ e => congrFun e 5) (fiber_last h a b c d e) x v

/-- A sum over the first and the last axis. -/
theorem sum_ends (h : (⟨6, ![n0, n1, n2, n3, n4, n5]⟩ : Shape).ReducesTo [0, 5] ⟨4, ![n1, n2, n3, n4]⟩)
    (v : (⟨6, ![n0, n1, n2, n3, n4, n5]⟩ : Shape).Idx → EReal) (x : EReal) (b : Fin n1) (c : Fin n2) (d : Fin n3) (e : Fin n4) :
    Ideal.hostReduceAdd h v x (ix4 b c d e) = x + ∑ k : Fin n0 × Fin n5, v (ix6 k.1 b c d e k.2) := by
  refine congrArg (x + ·) (Finset.sum_filter_eq_sum_of_fiber _ (fun k : Fin n0 × Fin n5 => ix6 k.1 b c d e k.2)
    (fun _ _ e => Prod.ext (congrFun e 0) (congrFun e 5)) (fun i => ?_) v)
  constructor
  · intro hi
    refine ⟨(i 0, i 5), ?_⟩
    funext x; apply Fin.ext
    match x with
    | ⟨0, _⟩ => rfl
    | ⟨1, _⟩ => exact (congrArg Fin.val (congrFun hi 0)).symm
    | ⟨2, _⟩ => exact (congrArg Fin.val (congrFun hi 1)).symm
    | ⟨3, _⟩ => exact (congrArg Fin.val (congrFun hi 2)).symm
    | ⟨4, _⟩ => exact (congrArg Fin.val (congrFun hi 3)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl

/-- A sum over all axes but the third and the fourth. -/
theorem sum_outer (h : (⟨6, ![n0, n1, n2, n3, n4, n5]⟩ : Shape).ReducesTo [0, 1, 4, 5] ⟨2, ![n2, n3]⟩)
    (v : (⟨6, ![n0, n1, n2, n3, n4, n5]⟩ : Shape).Idx → EReal) (x : EReal) (c : Fin n2) (d : Fin n3) :
    Ideal.hostReduceAdd h v x (ix2 c d) = x + ∑ k : Fin n0 × Fin n1 × Fin n4 × Fin n5, v (ix6 k.1 k.2.1 c d k.2.2.1 k.2.2.2) := by
  refine congrArg (x + ·) (Finset.sum_filter_eq_sum_of_fiber _ (fun k : Fin n0 × Fin n1 × Fin n4 × Fin n5 => ix6 k.1 k.2.1 c d k.2.2.1 k.2.2.2)
    (fun _ _ e => Prod.ext (congrFun e 0) (Prod.ext (congrFun e 1) (Prod.ext (congrFun e 4) (congrFun e 5)))) (fun i => ?_) v)
  constructor
  · intro hi
    refine ⟨(i 0, i 1, i 4, i 5), ?_⟩
    funext x; apply Fin.ext
    match x with
    | ⟨0, _⟩ => rfl
    | ⟨1, _⟩ => rfl
    | ⟨2, _⟩ => exact (congrArg Fin.val (congrFun hi 0)).symm
    | ⟨3, _⟩ => exact (congrArg Fin.val (congrFun hi 1)).symm
    | ⟨4, _⟩ => rfl
    | ⟨5, _⟩ => rfl
  · rintro ⟨k, rfl⟩
    funext x
    apply Fin.ext
    match x with
    | ⟨0, _⟩ => rfl
    | ⟨1, _⟩ => rfl

end Cert.Swa

namespace Cert.ReferenceIdeal.Swa

open Cert.ReferenceIdeal.Value

variable {V0 : Valuation τ sig (Elt Ideal)} {Q K V G : ℕ → ℕ → ℝ} {w : ℕ → ℝ}

/-- The exponentials of a row: 192 of scores, then the sink's. -/
noncomputable def ex (Q K : ℕ → ℕ → ℝ) (w : ℕ → ℝ) (h n r : ℕ) (b : Fin 193) : ℝ :=
  if b.val < 192 then Cert.Swa.wt Q K h (64 * n + r) (64 * n + b) else Real.exp (w h)

theorem isExp_row (H : Holds V0 Q K V G w) (n r : Fin 64) (g p : Fin 2) (b : Fin 193) :
    Cert.Swa.IsExp (res_main_v73 V0 (ix6 0 n g p r b)) (ex Q K w (2 * g + p) n r b) := by
  rw [v73_apply H]
  unfold ex Cert.Swa.wt
  split
  · split
    · exact Cert.Swa.isExp_coe _
    · exact Cert.Swa.isExp_bot
  · exact Cert.Swa.isExp_coe _

/-- The largest entry of a row. -/
theorem max_read (X : FVec Ideal S1x64x2x2x64x193 .f32) (n r : Fin 64) (g p : Fin 2) :
    Host.reduce FloatOps.maximumf X (constant S_ .f32 0xFF800000#32) Gen.reducesTo_S1x64x2x2x64x193_S1x64x2x2x64_d5 Gen.h_S_ (ix5 0 n g p r)
      = Finset.univ.fold max ⊥ (fun b : Fin 193 => (X (ix6 0 n g p r b) : EReal)) := by
  pointwise []
  rw [bits_neg_inf]
  exact Cert.Swa.fold_last _ X ⊥ 0 n g p r

/-- The exponential of an entry after another array's row entry is subtracted. -/
theorem exp_read (X : FVec Ideal S1x64x2x2x64x193 .f32) (Y : FVec Ideal S1x64x2x2x64 .f32) (n r : Fin 64) (g p : Fin 2) (b : Fin 193) :
    Host.exp (subf X (broadcastInDim S1x64x2x2x64x193 ![0, 1, 2, 3, 4, 5] Gen.bcast_S1x64x2x2x64x1_S1x64x2x2x64x193_0_1_2_3_4_5 (broadcastInDim S1x64x2x2x64x1 ![0, 1, 2, 3, 4] Gen.bcast_S1x64x2x2x64_S1x64x2x2x64x1_0_1_2_3_4 (maximumf (broadcastInDim S1x64x2x2x64 ![] Gen.bcast_S_S1x64x2x2x64 (constant S_ .f32 0xFF800000#32)) Y)))) (ix6 0 n g p r b)
      = Ideal.exp (X (ix6 0 n g p r b) - Y (ix5 0 n g p r)) := by
  pointwise []
  rw [bits_neg_inf, max_eq_right bot_le]

/-- The sum of a row. -/
theorem sum_read (X : FVec Ideal S1x64x2x2x64x193 .f32) (n r : Fin 64) (g p : Fin 2) :
    Host.reduceAdd X (constant S_ .f32 0x00000000#32) Gen.reducesTo_S1x64x2x2x64x193_S1x64x2x2x64_d5 Gen.h_S_ (ix5 0 n g p r)
      = ∑ b : Fin 193, (X (ix6 0 n g p r b) : EReal) := by
  pointwise []
  rw [Cert.Swa.sum_last, zero_add]

theorem z_read (X : FVec Ideal S1x64x2x2x64x193 .f32) (n r : Fin 64) (g p : Fin 2) :
    broadcastInDim S1x64x2x2x64x1 ![0, 1, 2, 3, 4] Gen.bcast_S1x64x2x2x64_S1x64x2x2x64x1_0_1_2_3_4 (Host.reduceAdd X (constant S_ .f32 0x00000000#32) Gen.reducesTo_S1x64x2x2x64x193_S1x64x2x2x64_d5 Gen.h_S_) (ix6 0 n g p r 0)
      = ∑ b : Fin 193, (X (ix6 0 n g p r b) : EReal) := by
  pointwise []
  rw [Cert.Swa.sum_last, zero_add]

/-- A weight. -/
theorem p_read (X : FVec Ideal S1x64x2x2x64x193 .f32) (Z : FVec Ideal S1x64x2x2x64x1 .f32) (n r : Fin 64) (g p : Fin 2) (b : Fin 192) :
    extractStridedSlice S1x64x2x2x64x192 ![0, 0, 0, 0, 0, 0] (Host.divf X (broadcastInDim S1x64x2x2x64x193 ![0, 1, 2, 3, 4, 5] Gen.bcast_S1x64x2x2x64x1_S1x64x2x2x64x193_0_1_2_3_4_5 Z)) Gen.slices_S1x64x2x2x64x193_S1x64x2x2x64x192_0_0_0_0_0_0 (ix6 0 n g p r b)
      = Ideal.div (X (ix6 0 n g p r b.castSucc)) (Z (ix6 0 n g p r 0)) := by
  pointwise []
  rfl

/-- A row of the weights' gradients, nothing for the sink. -/
theorem dp_read (X : FVec Ideal S1x64x2x64x2x64 .f32) (Y : FVec Ideal S1x64x192x2x64 .f32) (n r : Fin 64) (g p : Fin 2) (b : Fin 193) :
    pad S1x64x2x2x64x193 ![0, 0, 0, 0, 0, 0] ![0, 0, 0, 0, 0, 1] ![0, 0, 0, 0, 0, 0] (Host.dotGeneral dot_S1x64x2x64x2x64_S1x64x192x2x64_S1x64x2x2x64x192_3_4_45_2_012_013 none X Y) (constant S_ .f32 0x00000000#32) Gen.pads_S1x64x2x2x64x192_S1x64x2x2x64x193_000_000_000_000_000_010 Gen.h_S_ (ix6 0 n g p r b)
      = if h : b.val < 192 then ∑ d : Fin 64, (X (ix6 0 n g d p r) : EReal) * Y (ix5 0 n ⟨b, h⟩ g d) else 0 := by
  pointwise []

/-- The part of the scores' gradients that all entries of a row share. -/
theorem c_read (X D : FVec Ideal S1x64x2x2x64x193 .f32) (Z : FVec Ideal S1x64x2x2x64x1 .f32) (n r : Fin 64) (g p : Fin 2) :
    Host.reduceAdd (Host.negf (shapeCast S1x64x2x2x64x1 (Host.reduceAdd (mulf (mulf D (broadcastInDim S1x64x2x2x64x193 ![0, 1, 2, 3, 4, 5] Gen.bcast_S1x64x2x2x64x1_S1x64x2x2x64x193_0_1_2_3_4_5 (Host.divf (broadcastInDim S1x64x2x2x64x1 ![] Gen.bcast_S_S1x64x2x2x64x1 (constant S_ .f32 0x3F800000#32)) (mulf Z Z)))) X) (constant S_ .f32 0x00000000#32) Gen.reducesTo_S1x64x2x2x64x193_S1x64x2x2x64_d5 Gen.h_S_) Gen.shapeCasts_S1x64x2x2x64_S1x64x2x2x64x1)) (constant S_ .f32 0x00000000#32) Gen.reducesTo_S1x64x2x2x64x1_S64x2x2x64_d0_5 Gen.h_S_ (ix4 n g p r)
      = -∑ b : Fin 193, (D (ix6 0 n g p r b) : EReal) * Ideal.div 1 ((Z (ix6 0 n g p r 0) : EReal) * Z (ix6 0 n g p r 0)) * X (ix6 0 n g p r b) := by
  pointwise []
  rw [Cert.Swa.sum_ends, zero_add, Fintype.sum_prod_type]
  simp only [Finset.univ_unique, Finset.sum_singleton, Fin.default_eq_zero, Fin.isValue]
  pointwise []
  rw [Cert.Swa.sum_last, zero_add]
  refine congrArg Neg.neg (Finset.sum_congr rfl fun b _ => ?_)
  pointwise []

theorem ds_read (X D : FVec Ideal S1x64x2x2x64x193 .f32) (Z : FVec Ideal S1x64x2x2x64x1 .f32) (C : FVec Ideal S64x2x2x64 .f32) (n r : Fin 64) (g p : Fin 2) (b : Fin 193) :
    mulf (addf (Host.divf D (broadcastInDim S1x64x2x2x64x193 ![0, 1, 2, 3, 4, 5] Gen.bcast_S1x64x2x2x64x1_S1x64x2x2x64x193_0_1_2_3_4_5 Z)) (broadcastInDim S1x64x2x2x64x193 ![0, 1, 2, 3, 4] Gen.bcast_S1x64x2x2x64_S1x64x2x2x64x193_0_1_2_3_4 (broadcastInDim S1x64x2x2x64 ![1, 2, 3, 4] Gen.bcast_S64x2x2x64_S1x64x2x2x64_1_2_3_4 C))) X (ix6 0 n g p r b)
      = ((Ideal.div (D (ix6 0 n g p r b)) (Z (ix6 0 n g p r 0)) + C (ix4 n g p r)) * X (ix6 0 n g p r b) : EReal) := by
  pointwise []

end Cert.ReferenceIdeal.Swa
-- ==== Proof.Swa.RefGrad.lean ====
/-
  The reference's weights and the gradients of its scores, as real numbers.
-/
module

public import proofs.«01_k».proof.Proof.Swa.RefSoft

@[expose] public section

set_option maxRecDepth 16384

noncomputable section

open Idealize.ShloMosaic Cert.Swa

namespace Cert.ReferenceIdeal.Swa

open Cert.ReferenceIdeal.Value

variable {V0 : Valuation τ sig (Elt Ideal)} {Q K V G : ℕ → ℕ → ℝ} {w : ℕ → ℝ}

/-- The row of weights' gradients. -/
def dy (V G : ℕ → ℕ → ℝ) (h n r : ℕ) (b : Fin 193) : ℝ :=
  if b.val < 192 then dP V G h (64 * n + r) (64 * n + b) else 0

/-! The arrays of the reference that are read below. -/
abbrev r73 (V0 : Valuation τ sig (Elt Ideal)) : FVec Ideal S1x64x2x2x64x193 .f32 := res_main_v73 V0
abbrev r74 (V0 : Valuation τ sig (Elt Ideal)) : FVec Ideal S1x64x2x2x64 .f32 := res_main_v74 V0
abbrev r94 (V0 : Valuation τ sig (Elt Ideal)) : FVec Ideal S1x64x2x2x64x193 .f32 := res_main_v94 V0
abbrev r96 (V0 : Valuation τ sig (Elt Ideal)) : FVec Ideal S1x64x2x2x64x1 .f32 := res_main_v96 V0
abbrev r102 (V0 : Valuation τ sig (Elt Ideal)) : FVec Ideal S1x64x2x2x64x192 .f32 := res_main_v102 V0
abbrev r113 (V0 : Valuation τ sig (Elt Ideal)) : FVec Ideal S1x64x2x2x64x193 .f32 := res_main_v113 V0
abbrev r126 (V0 : Valuation τ sig (Elt Ideal)) : FVec Ideal S1x64x2x2x64x193 .f32 := res_main_v126 V0

theorem v74_apply (V0 : Valuation τ sig (Elt Ideal)) (n r : Fin 64) (g p : Fin 2) :
    (r74 V0 (ix5 0 n g p r) : EReal) = Finset.univ.fold max ⊥ (fun b : Fin 193 => (r73 V0 (ix6 0 n g p r b) : EReal)) :=
  max_read (r73 V0) n r g p

/-- The largest entry of a row is a real number: the sink is one. -/
theorem v74_real (H : Holds V0 Q K V G w) (n r : Fin 64) (g p : Fin 2) :
    ∃ M : ℝ, (r74 V0 (ix5 0 n g p r) : EReal) = (M : EReal) := by
  have h1 : (r74 V0 (ix5 0 n g p r) : EReal) ≠ ⊤ := by
    rw [v74_apply]
    exact fold_ne_top _ fun b => (isExp_row H n r g p b).1
  have h2 : (r74 V0 (ix5 0 n g p r) : EReal) ≠ ⊥ := by
    rw [v74_apply]
    have h : ((w (2 * g + p) : ℝ) : EReal) ≤ Finset.univ.fold max ⊥ (fun b : Fin 193 => (r73 V0 (ix6 0 n g p r b) : EReal)) :=
      (Finset.le_fold_max _).2 (.inr ⟨(192 : Fin 193), Finset.mem_univ _, le_of_eq (v73_apply H n r g p 192).symm⟩)
    exact fun h0 => absurd (le_bot_iff.1 (h0 ▸ h)) (EReal.coe_ne_bot _)
  exact ⟨_, (EReal.coe_toReal h1 h2).symm⟩

/-- A row's exponentials after its largest entry is subtracted: all scaled by one number. -/
theorem v94_apply (H : Holds V0 Q K V G w) (n r : Fin 64) (g p : Fin 2) :
    ∃ a : ℝ, a ≠ 0 ∧ ∀ b : Fin 193, (r94 V0 (ix6 0 n g p r b) : EReal) = ((a * ex Q K w (2 * g + p) n r b : ℝ) : EReal) := by
  obtain ⟨M, hM⟩ := v74_real H n r g p
  refine ⟨Real.exp (-M), (Real.exp_pos _).ne', fun b => ?_⟩
  refine (exp_read (r73 V0) (r74 V0) n r g p b).trans ?_
  rw [hM]
  exact (isExp_row H n r g p b).sub M

theorem v96_apply (V0 : Valuation τ sig (Elt Ideal)) (n r : Fin 64) (g p : Fin 2) :
    (r96 V0 (ix6 0 n g p r 0) : EReal) = ∑ b : Fin 193, (r94 V0 (ix6 0 n g p r b) : EReal) :=
  z_read (r94 V0) n r g p

/-- The row's window holds all scores that count. -/
theorem wt_out (h : ℕ) (n r : Fin 64) : ∀ s, s < 4224 → ¬ (64 * n.val ≤ s ∧ s < 64 * n.val + 192) → wt Q K h (64 * n + r) s = 0 := by
  intro s _ hs
  unfold wt
  rw [if_neg]
  unfold Val
  omega

theorem sum_ex (h : ℕ) (n r : Fin 64) (a : ℝ) :
    ∑ b : Fin 193, a * ex Q K w h n r b = a * Row.z (Finset.range 4224) (wt Q K h (64 * n + r)) (Real.exp (w h)) := by
  rw [← Row.z_window (Real.exp (w h)) (n := 192) (N := 4224) (a := 64 * n.val) (by omega) (wt_out h n r), ← Row.z_scaled, Fin.sum_univ_castSucc]
  congr 1

theorem z_ne (h t : ℕ) : Row.z (Finset.range 4224) (wt Q K h t) (Real.exp (w h)) ≠ 0 :=
  (Row.z_pos (fun s => by unfold wt; split <;> positivity) (Real.exp_pos _)).ne'

theorem v96_real (H : Holds V0 Q K V G w) (n r : Fin 64) (g p : Fin 2) {a : ℝ}
    (ha : ∀ b : Fin 193, (r94 V0 (ix6 0 n g p r b) : EReal) = ((a * ex Q K w (2 * g + p) n r b : ℝ) : EReal)) :
    (r96 V0 (ix6 0 n g p r 0) : EReal) = ((a * Row.z (Finset.range 4224) (wt Q K (2 * g + p) (64 * n + r)) (Real.exp (w (2 * g + p))) : ℝ) : EReal) := by
  rw [v96_apply]
  simp only [ha]
  rw [coe_sum, sum_ex]

/-- The weights. -/
theorem v102_apply (H : Holds V0 Q K V G w) (n r : Fin 64) (g p : Fin 2) (b : Fin 192) :
    (r102 V0 (ix6 0 n g p r b) : EReal) = ((P Q K w (2 * g + p) (64 * n + r) (64 * n + b) : ℝ) : EReal) := by
  obtain ⟨a, ha0, ha⟩ := v94_apply H n r g p
  refine (p_read (r94 V0) (r96 V0) n r g p b).trans ?_
  rw [ha, v96_real H n r g p ha, div_real _ (mul_ne_zero ha0 (z_ne _ _)), ex, if_pos (by exact b.isLt)]
  exact congrArg Real.toEReal (Row.p_scaled ha0 _)

theorem v113_apply (H : Holds V0 Q K V G w) (n r : Fin 64) (g p : Fin 2) (b : Fin 193) :
    (r113 V0 (ix6 0 n g p r b) : EReal) = ((dy V G (2 * g + p) n r b : ℝ) : EReal) := by
  refine (dp_read (res_main_v109 V0) (res_main_v23 V0) n r g p b).trans ?_
  unfold dy
  split
  · next h =>
    unfold dP
    rw [show (2 * g.val + p.val) / 2 = g.val by omega, ← coe_sum]
    exact Finset.sum_congr rfl fun d _ => by rw [v109_apply H, v23_apply H, EReal.coe_mul]
  · exact EReal.coe_zero.symm

/-- The scores' gradients, and the sink's. -/
theorem v126_apply (H : Holds V0 Q K V G w) (n r : Fin 64) (g p : Fin 2) (b : Fin 193) :
    (r126 V0 (ix6 0 n g p r b) : EReal) = ((if b.val < 192 then 8 * D Q K V G w (2 * g + p) (64 * n + r) (64 * n + b) else dsT Q K V G w (2 * g + p) (64 * n + r) : ℝ) : EReal) := by
  obtain ⟨a, ha0, ha⟩ := v94_apply H n r g p
  have hz := z_ne (Q := Q) (K := K) (w := w) (2 * g + p) (64 * n + r)
  refine (ds_read (r94 V0) (r113 V0) (r96 V0) _ n r g p b).trans ?_
  rw [c_read (r94 V0) (r113 V0) (r96 V0) n r g p]
  simp only [ha, v113_apply H, v96_real H n r g p ha]
  rw [← EReal.coe_mul, ← EReal.coe_one, div_real _ (mul_ne_zero ha0 hz), div_real _ (mul_ne_zero (mul_ne_zero ha0 hz) (mul_ne_zero ha0 hz))]
  simp only [← EReal.coe_mul, coe_sum, ← EReal.coe_neg, ← EReal.coe_add]
  refine congrArg Real.toEReal ?_
  have hc : ∑ c : Fin 193, dy V G (2 * g + p) n r c * (1 / (a * Row.z (Finset.range 4224) (wt Q K (2 * g + p) (64 * n + r)) (Real.exp (w (2 * g + p))) * (a * Row.z (Finset.range 4224) (wt Q K (2 * g + p) (64 * n + r)) (Real.exp (w (2 * g + p)))))) * (a * ex Q K w (2 * g + p) n r c)
      = Row.m (Finset.range 4224) (wt Q K (2 * g + p) (64 * n + r)) (Real.exp (w (2 * g + p))) (dP V G (2 * g + p) (64 * n + r)) / (a * Row.z (Finset.range 4224) (wt Q K (2 * g + p) (64 * n + r)) (Real.exp (w (2 * g + p)))) := by
    rw [← Row.c_scaled _ ha0 hz, ← sum_window 192 4224 (64 * n.val) _ (by omega) (fun s hs hn => by rw [wt_out _ n r s hs hn]; ring), Fin.sum_univ_castSucc]
    rw [show dy V G (2 * g + p) n r (Fin.last 192) = 0 from if_neg (lt_irrefl _), zero_mul, zero_mul, add_zero]
    exact Finset.sum_congr rfl fun c _ => by rw [dy, ex, if_pos (by exact c.isLt), if_pos (by exact c.isLt)]; rfl
  rw [hc]
  split
  · next h =>
    rw [dy, ex, if_pos h, if_pos h, D, Row.t_scaled _ ha0 hz]
    ring
  · next h =>
    rw [dy, ex, if_neg h, if_neg h, zero_div, zero_add, Row.ces_scaled _ ha0 hz]
    rfl

end Cert.ReferenceIdeal.Swa
-- ==== Proof.Swa.RefOut.lean ====
/-
  The reference's results: the bands' gradients added up over the chunks.
-/
module

public import proofs.«01_k».proof.Proof.Swa.RefGrad

@[expose] public section

set_option maxRecDepth 16384

noncomputable section

open Idealize.ShloMosaic Cert.Swa

namespace Cert.ReferenceIdeal.Swa

open Cert.ReferenceIdeal.Value

variable {V0 : Valuation τ sig (Elt Ideal)} {Q K V G : ℕ → ℕ → ℝ} {w : ℕ → ℝ}

theorem masked_read (M : IVec S1x64x2x2x64x192 1) (X : FVec Ideal S1x64x2x2x64x193 .f32) (n r : Fin 64) (g p : Fin 2) (b : Fin 192) :
    transpose S1x64x2x192x64x2 [0, 1, 2, 5, 4, 3] (mulf (select M (extractStridedSlice S1x64x2x2x64x192 ![0, 0, 0, 0, 0, 0] X Gen.slices_S1x64x2x2x64x193_S1x64x2x2x64x192_0_0_0_0_0_0) (broadcastInDim S1x64x2x2x64x192 ![] Gen.bcast_S_S1x64x2x2x64x192 (constant S_ .f32 0x00000000#32))) (broadcastInDim S1x64x2x2x64x192 ![] Gen.bcast_S_S1x64x2x2x64x192 (constant S_ .f32 0x3E000000#32))) Gen.transposes_S1x64x2x2x64x192_S1x64x2x192x64x2_0_1_2_5_4_3 (ix6 0 n g b r p)
      = (Scalar.select (M (ix6 0 n g p r b)) (X (ix6 0 n g p r b.castSucc)) (0 : EReal) * ((1 / 8 : ℝ) : EReal) : EReal) := by
  pointwise []
  rw [bits_eighth]
  rfl

theorem dk_read (D : FVec Ideal S1x64x2x192x64x2 .f32) (X : FVec Ideal S1x64x64x2x2x64 .f32) (n : Fin 64) (b : Fin 192) (g : Fin 2) (d : Fin 64) :
    transpose S1x64x192x2x64 [0, 1, 3, 2, 4] (Host.dotGeneral dot_S1x64x2x192x64x2_S1x64x64x2x2x64_S1x64x2x192x64_45_24_3_5_012_013 none D X) Gen.transposes_S1x64x2x192x64_S1x64x192x2x64_0_1_3_2_4 (ix5 0 n b g d)
      = ∑ r : Fin 64, ∑ p : Fin 2, (D (ix6 0 n g b r p) : EReal) * X (ix6 0 n r g p d) := by
  pointwise []

theorem dv_read (X : FVec Ideal S1x64x2x64x2x64 .f32) (Y : FVec Ideal S1x64x2x2x64x192 .f32) (n : Fin 64) (b : Fin 192) (g : Fin 2) (d : Fin 64) :
    transpose S1x64x192x2x64 [0, 1, 4, 2, 3] (Host.dotGeneral dot_S1x64x2x64x2x64_S1x64x2x2x64x192_S1x64x2x64x192_45_34_3_5_012_012 none X Y) Gen.transposes_S1x64x2x64x192_S1x64x192x2x64_0_1_4_2_3 (ix5 0 n b g d)
      = ∑ p : Fin 2, ∑ r : Fin 64, (X (ix6 0 n g d p r) : EReal) * Y (ix6 0 n g p r b) := by
  pointwise []

theorem dq_read (D : FVec Ideal S1x64x2x192x64x2 .f32) (X : FVec Ideal S1x64x192x2x64 .f32) (t : Fin 4096) (c : Fin 256) :
    truncf .bf16 (shapeCast S4096x256 (shapeCast S1x4096x256 (transpose S1x64x64x2x2x64 [0, 1, 3, 2, 4, 5] (Host.dotGeneral dot_S1x64x2x192x64x2_S1x64x192x2x64_S1x64x2x64x2x64_3_2_45_4_012_013 none D X) Gen.transposes_S1x64x2x64x2x64_S1x64x64x2x2x64_0_1_3_2_4_5) Gen.shapeCasts_S1x64x64x2x2x64_S1x4096x256) Gen.shapeCasts_S1x4096x256_S4096x256) Gen.bitsLt_bf16_f32 (ix2 t c)
      = ∑ b : Fin 192, (D (ix6 0 ⟨t / 64, by omega⟩ ⟨c / 128, by omega⟩ b ⟨t % 64, by omega⟩ ⟨c / 64 % 2, by omega⟩) : EReal) *
        X (ix5 0 ⟨t / 64, by omega⟩ b ⟨c / 128, by omega⟩ ⟨c % 64, by omega⟩) := by
  pointwise []

/-- A sum over the first numbers, in chunks of `m`. -/
theorem sum_chunks (m k : ℕ) (f : ℕ → ℝ) : ∑ t ∈ Finset.range (m * k), f t = ∑ n ∈ Finset.range k, ∑ r : Fin m, f (m * n + r) := by
  induction k with
  | zero => simp
  | succ k ih => rw [Nat.mul_succ, Finset.sum_range_add, ih, Finset.sum_range_succ, Fin.sum_univ_eq_sum_range (fun r => f (m * k + r))]

/-- Three neighbouring chunks hold all queries that attend to a key. -/
theorem three_chunks (f : ℕ → ℕ → ℕ → ℝ) (hf : ∀ t s c, ¬ Val t s → f t s c = 0) (S c : ℕ) (h2 : 128 ≤ S) (hS : S < 4224) :
    ∑ t ∈ Finset.range 4096, f t S c = ∑ r : Fin 64, f (64 * (S / 64 - 2) + r) S c +
      (if S / 64 - 1 < 64 then ∑ r : Fin 64, f (64 * (S / 64 - 1) + r) S c else 0) +
      (if S / 64 < 64 then ∑ r : Fin 64, f (64 * (S / 64) + r) S c else 0) := by
  have h := sum_window 3 66 (S / 64 - 2) (fun n => if n < 64 then ∑ r : Fin 64, f (64 * n + r) S c else 0) (by omega) (fun n _ hn => by
    split
    · refine Finset.sum_eq_zero fun r _ => hf _ _ _ ?_
      have := r.isLt
      unfold Val
      omega
    · rfl)
  rw [show 4096 = 64 * 64 from rfl, sum_chunks]
  rw [Finset.sum_range_succ, Finset.sum_range_succ, if_neg (by omega), if_neg (by omega), add_zero, add_zero] at h
  rw [← Finset.sum_congr rfl (fun n hn => if_pos (Finset.mem_range.1 hn)), ← h, Fin.sum_univ_three]
  have h0 : S / 64 - 2 < 64 := by omega
  simp only [Fin.val_zero, Fin.val_one, Fin.val_two, Nat.add_zero, show S / 64 - 2 + 1 = S / 64 - 1 by omega, show S / 64 - 2 + 2 = S / 64 by omega, if_pos h0]

theorem band_read (X : FVec Ideal S1x64x192x2x64 .f32) (f : ℕ → ℕ → ℕ → ℝ) (hf : ∀ t s c, ¬ Val t s → f t s c = 0)
    (hX : ∀ (n : Fin 64) (b : Fin 192) (g : Fin 2) (d : Fin 64), (X (ix5 0 n b g d) : EReal) = ((∑ r : Fin 64, f (64 * n + r) (64 * n + b) (64 * g + d) : ℝ) : EReal))
    (s : Fin 4096) (c : Fin 128) :
    truncf .bf16 (shapeCast S4096x128 (extractStridedSlice S1x4096x128 ![0, 128, 0] (shapeCast S1x4224x128 (addf (addf (pad S1x66x64x2x64 ![0, 2, 0, 0, 0] ![0, 0, 0, 0, 0] ![0, 0, 0, 0, 0] (extractStridedSlice S1x64x64x2x64 ![0, 0, 128, 0, 0] X Gen.slices_S1x64x192x2x64_S1x64x64x2x64_0_0_128_0_0) (constant S_ .f32 0x00000000#32) Gen.pads_S1x64x64x2x64_S1x66x64x2x64_000_200_000_000_000 Gen.h_S_) (pad S1x66x64x2x64 ![0, 1, 0, 0, 0] ![0, 1, 0, 0, 0] ![0, 0, 0, 0, 0] (extractStridedSlice S1x64x64x2x64 ![0, 0, 64, 0, 0] X Gen.slices_S1x64x192x2x64_S1x64x64x2x64_0_0_64_0_0) (constant S_ .f32 0x00000000#32) Gen.pads_S1x64x64x2x64_S1x66x64x2x64_000_110_000_000_000 Gen.h_S_)) (pad S1x66x64x2x64 ![0, 0, 0, 0, 0] ![0, 2, 0, 0, 0] ![0, 0, 0, 0, 0] (extractStridedSlice S1x64x64x2x64 ![0, 0, 0, 0, 0] X Gen.slices_S1x64x192x2x64_S1x64x64x2x64_0_0_0_0_0) (constant S_ .f32 0x00000000#32) Gen.pads_S1x64x64x2x64_S1x66x64x2x64_000_020_000_000_000 Gen.h_S_)) Gen.shapeCasts_S1x66x64x2x64_S1x4224x128) Gen.slices_S1x4224x128_S1x4096x128_0_128_0) Gen.shapeCasts_S1x4096x128_S4096x128) Gen.bitsLt_bf16_f32 (ix2 s c)
      = ((∑ t ∈ Finset.range 4096, f t (128 + s) c : ℝ) : EReal) := by
  pointwise []
  simp only [hX]
  have e : ∀ n k : ℕ, 64 * n + k = 128 + s.val → ∑ r : Fin 64, f (64 * n + r.val) (64 * n + k) (64 * (c.val / 64) + c.val % 64) = ∑ r : Fin 64, f (64 * n + r.val) (128 + s.val) c.val :=
    fun n k h => by rw [h, Nat.div_add_mod]
  rw [dif_pos (by omega), e ((128 + s.val) / 64 - 2) (128 + (128 + s.val) % 64) (by omega), e ((128 + s.val) / 64 - 1) (64 + (128 + s.val) % 64) (by omega),
    e ((128 + s.val) / 64) ((128 + s.val) % 64) (by omega), three_chunks f hf (128 + s) c (by omega) (by omega), EReal.coe_add, EReal.coe_add]
  congr 1
  · congr 1
    by_cases h : (128 + s.val) / 64 - 1 < 64
    · rw [dif_pos (by omega), if_pos h]
    · rw [dif_neg (by omega), if_neg h]; exact EReal.coe_zero.symm
  · by_cases h : (128 + s.val) / 64 < 64
    · rw [dif_pos (by omega), if_pos h]
    · rw [dif_neg (by omega), if_neg h]; exact EReal.coe_zero.symm

theorem ds_last_read (X : FVec Ideal S1x64x2x2x64x193 .f32) (l : Fin 128) :
    concatenate S1x128 1 [⟨S1x4, (broadcastInDim S1x4 ![1] Gen.bcast_S4_S1x4_1 (shapeCast S4 (broadcastInDim S1x1x2x2x1x1 ![2, 3] Gen.bcast_S2x2_S1x1x2x2x1x1_2_3 (Host.reduceAdd (extractStridedSlice S1x64x2x2x64x1 ![0, 0, 0, 0, 0, 192] X Gen.slices_S1x64x2x2x64x193_S1x64x2x2x64x1_0_0_0_0_0_192) (constant S_ .f32 0x00000000#32) Gen.reducesTo_S1x64x2x2x64x1_S2x2_d0_1_4_5 Gen.h_S_)) Gen.shapeCasts_S1x1x2x2x1x1_S4))⟩, ⟨S1x124, (broadcastInDim S1x124 ![] Gen.bcast_S_S1x124 (constant S_ .f32 0x00000000#32))⟩] Gen.concatenates_S1x4_S1x124_S1x128_d1 (ix2 0 l)
      = if h : l.val < 4 then ∑ n : Fin 64, ∑ r : Fin 64, (X (ix6 0 n ⟨l / 2, by omega⟩ ⟨l % 2, by omega⟩ r 192) : EReal) else 0 := by
  pointwise []
  split
  · rw [sum_outer, zero_add]
    simp only [Fintype.sum_prod_type, Finset.univ_unique, Finset.sum_singleton, Fin.default_eq_zero, Fin.isValue]
    refine Finset.sum_congr rfl fun n _ => Finset.sum_congr rfl fun r _ => ?_
    pointwise []
  · rfl

/-! ### The arrays -/

abbrev r135 (V0 : Valuation τ sig (Elt Ideal)) : FVec Ideal S1x64x2x192x64x2 .f32 := res_main_v135 V0
abbrev r139 (V0 : Valuation τ sig (Elt Ideal)) : FVec Ideal S1x64x192x2x64 .f32 := res_main_v139 V0
abbrev r112 (V0 : Valuation τ sig (Elt Ideal)) : FVec Ideal S1x64x192x2x64 .f32 := res_main_v112 V0

theorem wt_zero (h t s : ℕ) (hv : ¬ Val t s) : wt Q K h t s = 0 := if_neg hv

theorem D_zero (h t s : ℕ) (hv : ¬ Val t s) : D Q K V G w h t s = 0 := by
  rw [D, Row.d_zero _ (wt_zero h t s hv), zero_div]

theorem P_zero (h t s : ℕ) (hv : ¬ Val t s) : P Q K w h t s = 0 := Row.p_zero (wt_zero h t s hv)

theorem v135_apply (H : Holds V0 Q K V G w) (n r : Fin 64) (g p : Fin 2) (b : Fin 192) :
    (r135 V0 (ix6 0 n g b r p) : EReal) = ((D Q K V G w (2 * g + p) (64 * n + r) (64 * n + b) : ℝ) : EReal) := by
  refine (masked_read (res_main_v70_1 V0) (res_main_v126 V0) n r g p b).trans ?_
  rw [v70_apply]
  by_cases hm : 128 ≤ 64 * n.val + b.val
  · rw [decide_eq_true hm]
    rw [show ∀ x y : EReal, Scalar.select (BitVec.ofBool true) x y = x from fun _ _ => rfl]
    refine (congrArg (· * ((1 / 8 : ℝ) : EReal)) (v126_apply H n r g p b.castSucc)).trans ?_
    rw [if_pos (by exact b.isLt), ← EReal.coe_mul]
    refine congrArg Real.toEReal ?_
    rw [Fin.val_castSucc]
    ring
  · rw [decide_eq_false hm]
    rw [show ∀ x y : EReal, Scalar.select (BitVec.ofBool false) x y = y from fun _ _ => rfl]
    rw [zero_mul, D_zero _ _ _ (by unfold Val; omega), EReal.coe_zero]

theorem v139_apply (H : Holds V0 Q K V G w) (n : Fin 64) (b : Fin 192) (g : Fin 2) (d : Fin 64) :
    (r139 V0 (ix5 0 n b g d) : EReal) = ((∑ r : Fin 64, dkT Q K V G w (64 * n + r) (64 * n + b) (64 * g + d) : ℝ) : EReal) := by
  refine (dk_read (r135 V0) (res_main_v8 V0) n b g d).trans ?_
  rw [← coe_sum]
  refine Finset.sum_congr rfl fun r _ => ?_
  rw [Fin.sum_univ_two, v135_apply H, v135_apply H, v8_apply H, v8_apply H, ← EReal.coe_mul, ← EReal.coe_mul, ← EReal.coe_add, dkT,
    show (64 * g.val + d.val) / 64 = g.val by omega, show (64 * g.val + d.val) % 64 = d.val by omega]
  rfl

theorem v112_apply (H : Holds V0 Q K V G w) (n : Fin 64) (b : Fin 192) (g : Fin 2) (d : Fin 64) :
    (r112 V0 (ix5 0 n b g d) : EReal) = ((∑ r : Fin 64, dvT Q K G w (64 * n + r) (64 * n + b) (64 * g + d) : ℝ) : EReal) := by
  refine (dv_read (res_main_v109 V0) (res_main_v102 V0) n b g d).trans ?_
  rw [← coe_sum, Finset.sum_comm]
  refine Finset.sum_congr rfl fun r _ => ?_
  rw [Fin.sum_univ_two, v109_apply H, v109_apply H]
  refine (congrArg₂ (fun x y : EReal => _ * x + _ * y) (v102_apply H n r g 0 b) (v102_apply H n r g 1 b)).trans ?_
  rw [← EReal.coe_mul, ← EReal.coe_mul, ← EReal.coe_add, dvT,
    show (64 * g.val + d.val) / 64 = g.val by omega, show (64 * g.val + d.val) % 64 = d.val by omega]
  refine congrArg Real.toEReal ?_
  rw [mul_comm (P _ _ _ _ _ _), mul_comm (P _ _ _ _ _ _)]
  rfl

/-! ### The results -/

theorem dq_eq (H : Holds V0 Q K V G w) (t : Fin 4096) (c : Fin 256) :
    truncf .bf16 (shapeCast S4096x256 (shapeCast S1x4096x256 (transpose S1x64x64x2x2x64 [0, 1, 3, 2, 4, 5] (Host.dotGeneral dot_S1x64x2x192x64x2_S1x64x192x2x64_S1x64x2x64x2x64_3_2_45_4_012_013 (φ₁ := .f32) (φ₂ := .f32) none (r135 V0) (res_main_v19 V0)) Gen.transposes_S1x64x2x64x2x64_S1x64x64x2x2x64_0_1_3_2_4_5) Gen.shapeCasts_S1x64x64x2x2x64_S1x4096x256) Gen.shapeCasts_S1x4096x256_S4096x256) Gen.bitsLt_bf16_f32 (ix2 t c)
      = ((dq Q K V G w t c : ℝ) : EReal) := by
  refine (dq_read (r135 V0) (res_main_v19 V0) t c).trans ?_
  have ht := Nat.div_add_mod t.val 64
  unfold dq
  rw [← sum_window 192 4224 (64 * (t / 64)) _ (by omega) (fun s hs hn => by rw [D_zero _ _ _ (by unfold Val; omega), zero_mul]), ← coe_sum]
  refine Finset.sum_congr rfl fun b _ => ?_
  rw [v135_apply H, v19_apply H, ← EReal.coe_mul]
  dsimp only
  rw [ht, show 2 * (c.val / 128) + c.val / 64 % 2 = c.val / 64 by omega, show c.val / 64 / 2 = c.val / 128 by omega]

theorem dk_eq (H : Holds V0 Q K V G w) (s : Fin 4096) (c : Fin 128) :
    truncf .bf16 (shapeCast S4096x128 (extractStridedSlice S1x4096x128 ![0, 128, 0] (res_main_v159 V0) Gen.slices_S1x4224x128_S1x4096x128_0_128_0) Gen.shapeCasts_S1x4096x128_S4096x128) Gen.bitsLt_bf16_f32 (ix2 s c)
      = ((dk Q K V G w (128 + s) c : ℝ) : EReal) :=
  band_read (res_main_v139 V0) (dkT Q K V G w) (fun t s c h => by rw [dkT, D_zero _ _ _ h, D_zero _ _ _ h, zero_mul, zero_mul, add_zero]) (v139_apply H) s c

theorem dv_eq (H : Holds V0 Q K V G w) (s : Fin 4096) (c : Fin 128) :
    truncf .bf16 (shapeCast S4096x128 (extractStridedSlice S1x4096x128 ![0, 128, 0] (res_main_v156 V0) Gen.slices_S1x4224x128_S1x4096x128_0_128_0) Gen.shapeCasts_S1x4096x128_S4096x128) Gen.bitsLt_bf16_f32 (ix2 s c)
      = ((dv Q K G w (128 + s) c : ℝ) : EReal) :=
  band_read (res_main_v112 V0) (dvT Q K G w) (fun t s c h => by rw [dvT, P_zero _ _ _ h, P_zero _ _ _ h, zero_mul, zero_mul, add_zero]) (v112_apply H) s c

theorem ds_eq (H : Holds V0 Q K V G w) (l : Fin 128) :
    concatenate S1x128 1 [⟨S1x4, (broadcastInDim S1x4 ![1] Gen.bcast_S4_S1x4_1 (shapeCast S4 (broadcastInDim S1x1x2x2x1x1 ![2, 3] Gen.bcast_S2x2_S1x1x2x2x1x1_2_3 (Host.reduceAdd (extractStridedSlice S1x64x2x2x64x1 ![0, 0, 0, 0, 0, 192] (res_main_v126 V0) Gen.slices_S1x64x2x2x64x193_S1x64x2x2x64x1_0_0_0_0_0_192) (constant S_ .f32 0x00000000#32) Gen.reducesTo_S1x64x2x2x64x1_S2x2_d0_1_4_5 Gen.h_S_)) Gen.shapeCasts_S1x1x2x2x1x1_S4))⟩, ⟨S1x124, (broadcastInDim S1x124 ![] Gen.bcast_S_S1x124 (constant S_ .f32 0x00000000#32))⟩] Gen.concatenates_S1x4_S1x124_S1x128_d1 (ix2 0 l)
      = if l.val < 4 then ((ds Q K V G w l : ℝ) : EReal) else 0 := by
  refine (ds_last_read (res_main_v126 V0) l).trans ?_
  split
  · next h =>
    rw [ds, show 4096 = 64 * 64 from rfl, sum_chunks, ← Fin.sum_univ_eq_sum_range (fun n => ∑ r : Fin 64, dsT Q K V G w l (64 * n + r)), ← coe_sum]
    refine Finset.sum_congr rfl fun n _ => ?_
    rw [← coe_sum]
    refine Finset.sum_congr rfl fun r _ => ?_
    refine (v126_apply H n r ⟨l / 2, by omega⟩ ⟨l % 2, by omega⟩ 192).trans ?_
    rw [if_neg (by decide)]
    dsimp only
    rw [Nat.div_add_mod]
  · rfl

end Cert.ReferenceIdeal.Swa
-- ==== Proof.Swa.Claim.lean ====
/-
  The attention's backward: with finite inputs the kernel and the reference give the same four arrays.
-/
module

public import proofs.«01_k».proof.Defs
public import proofs.«01_k».proof.Proof.Gen.Pre_finite_inputs
public import proofs.«01_k».proof.Proof.Swa.Fold
public import proofs.«01_k».proof.Proof.Swa.RefOut
public import Idealize.ShloMosaic.Lib.Claim

@[expose] public section

set_option maxRecDepth 16384

noncomputable section

open Idealize.ShloMosaic Cert.Swa

namespace Cert.Swa

/-- The real number in row `t` and column `c`. -/
def entry {a b : ℕ} (A : (⟨2, ![a, b]⟩ : Shape).Idx → EReal) (t c : ℕ) : ℝ :=
  if h : t < a ∧ c < b then (A (ix2 ⟨t, h.1⟩ ⟨c, h.2⟩)).toReal else 0

theorem entry_eq {a b : ℕ} (A : (⟨2, ![a, b]⟩ : Shape).Idx → EReal) (t : Fin a) (c : Fin b) (h : ∃ x : ℝ, A (ix2 t c) = x) :
    A (ix2 t c) = ((entry A t c : ℝ) : EReal) := by
  obtain ⟨x, hx⟩ := h
  rw [entry, dif_pos ⟨t.isLt, c.isLt⟩, hx, EReal.toReal_coe]

theorem bits_inf : Ideal.ofBits .f32 0x7F800000#32 = ⊤ := by
  simp [Ideal.ofBits, Ideal.ieee]

/-- A number whose absolute value is below the largest is a real one. -/
theorem real_of_lt (x : EReal) (h : BitVec.ofBool (decide (max x (-x) < Ideal.ofBits .f32 0x7F800000#32)) = 1#1) : ∃ y : ℝ, x = y := by
  rw [bits_inf] at h
  have h' : max x (-x) < ⊤ := by
    by_contra hn
    rw [decide_eq_false hn] at h
    exact absurd h (by decide)
  induction x using EReal.rec with
  | bot => simp at h'
  | coe y => exact ⟨y, rfl⟩
  | top => simp at h'

section Pre

open Cert.Pre_finite_inputs Cert.Pre_finite_inputs.Gen

variable {x0 : FVec Ideal S4096x3328 .f32} {x1 : FVec Ideal S1x128 .f32} {x2 : FVec Ideal S4096x1024 .f32}

/-- The precondition on the projections' columns. -/
theorem pre_proj (h : (fn (F := Ideal) x0 x1 x2).1 = fun _ => 1#1) (t : Fin 4096) (d : Fin 512) :
    ∃ y : ℝ, x0 (ix2 t ⟨2048 + d.val, by omega⟩) = (y : EReal) := by
  have e := congrFun h (ix2 t d)
  pointwise [fn] at e
  exact real_of_lt _ e

/-- The precondition on the sinks. -/
theorem pre_sink (h : (fn (F := Ideal) x0 x1 x2).2.1 = fun _ => 1#1) (l : Fin 4) :
    ∃ y : ℝ, x1 (ix2 0 ⟨l.val, by omega⟩) = (y : EReal) := by
  have e := congrFun h (ix2 0 l)
  pointwise [fn] at e
  exact real_of_lt _ e

/-- The precondition on the incoming gradient's columns. -/
theorem pre_grad (h : (fn (F := Ideal) x0 x1 x2).2.2 = fun _ => 1#1) (t : Fin 4096) (d : Fin 256) :
    ∃ y : ℝ, x2 (ix2 t ⟨512 + d.val, by omega⟩) = (y : EReal) := by
  have e := congrFun h (ix2 t d)
  pointwise [fn] at e
  exact real_of_lt _ e

end Pre

/-- Column `c` on of an array, below 128 rows of zeros. -/
def below {a b : ℕ} (A : (⟨2, ![a, b]⟩ : Shape).Idx → EReal) (c s d : ℕ) : ℝ := if s < 128 then 0 else entry A (s - 128) (c + d)

theorem below_zero {a b : ℕ} (A : (⟨2, ![a, b]⟩ : Shape).Idx → EReal) (c s d : ℕ) (h : s < 128) : below A c s d = 0 := if_pos h

theorem below_add {a b : ℕ} (A : (⟨2, ![a, b]⟩ : Shape).Idx → EReal) (c s d : ℕ) : below A c (s + 128) d = entry A s (c + d) := by
  rw [below, if_neg (by omega), Nat.add_sub_cancel]

section Both

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The kernel's first argument. -/
abbrev proj (m : (ℓ : Loc Cert.KernelIdeal.nD Cert.KernelIdeal.τ Cert.KernelIdeal.sig) → Buf (Elt Ideal) ℓ) (c : Dev Cert.KernelIdeal.nD) :
    (⟨2, ![4096, 3328]⟩ : Shape).Idx → EReal := m ((c.tc : Thread Cert.KernelIdeal.nD Cert.KernelIdeal.τ).loc Cert.KernelIdeal.main_arg0)

/-- The kernel's second argument. -/
abbrev sinks (m : (ℓ : Loc Cert.KernelIdeal.nD Cert.KernelIdeal.τ Cert.KernelIdeal.sig) → Buf (Elt Ideal) ℓ) (c : Dev Cert.KernelIdeal.nD) :
    (⟨2, ![1, 128]⟩ : Shape).Idx → EReal := m ((c.tc : Thread Cert.KernelIdeal.nD Cert.KernelIdeal.τ).loc Cert.KernelIdeal.main_arg1)

/-- The kernel's third argument. -/
abbrev grad (m : (ℓ : Loc Cert.KernelIdeal.nD Cert.KernelIdeal.τ Cert.KernelIdeal.sig) → Buf (Elt Ideal) ℓ) (c : Dev Cert.KernelIdeal.nD) :
    (⟨2, ![4096, 1024]⟩ : Shape).Idx → EReal := m ((c.tc : Thread Cert.KernelIdeal.nD Cert.KernelIdeal.τ).loc Cert.KernelIdeal.main_arg2)

/-- The real inputs the kernel's memory holds. -/
theorem kernel_holds (h : Cert.Pre_KernelIdeal_finite_inputs m) (c : Dev Cert.KernelIdeal.nD) :
    Cert.KernelIdeal.Swa.Holds m c (fun t d => entry (proj m c) t (2048 + d)) (below (proj m c) 2304) (below (proj m c) 2432)
      (fun t d => entry (grad m c) t (512 + d)) (entry (sinks m c) 0) where
  q t d := entry_eq (proj m c) t ⟨2048 + d.val, by omega⟩ (pre_proj (h c).1 t ⟨d.val, by omega⟩)
  k t d := by
    rw [below_add]
    obtain ⟨y, hy⟩ := pre_proj (h c).1 t ⟨256 + d.val, by omega⟩
    exact entry_eq (proj m c) t ⟨2304 + d.val, by omega⟩ ⟨y, by rw [← hy]; congr 3; simp; omega⟩
  v t d := by
    rw [below_add]
    obtain ⟨y, hy⟩ := pre_proj (h c).1 t ⟨384 + d.val, by omega⟩
    exact entry_eq (proj m c) t ⟨2432 + d.val, by omega⟩ ⟨y, by rw [← hy]; congr 3; simp; omega⟩
  k0 := below_zero _ _
  v0 := below_zero _ _
  w l hl := entry_eq (sinks m c) 0 l (pre_sink (h c).2.1 ⟨l.val, hl⟩)
  g t d := entry_eq (grad m c) t ⟨512 + d.val, by omega⟩ (pre_grad (h c).2.2 t d)

/-- The reference's memory holds the same inputs. -/
theorem reference_holds (h : Cert.Pre_KernelIdeal_finite_inputs m) (c : Dev Cert.KernelIdeal.nD)
    (e0 : m' ((c.tc : Thread Cert.ReferenceIdeal.nD Cert.ReferenceIdeal.τ).loc Cert.ReferenceIdeal.main_arg0) = proj m c)
    (e1 : m' ((c.tc : Thread Cert.ReferenceIdeal.nD Cert.ReferenceIdeal.τ).loc Cert.ReferenceIdeal.main_arg1) = sinks m c)
    (e2 : m' ((c.tc : Thread Cert.ReferenceIdeal.nD Cert.ReferenceIdeal.τ).loc Cert.ReferenceIdeal.main_arg2) = grad m c) :
    Cert.ReferenceIdeal.Swa.Holds (StableHlo.launchContents m' c) (fun t d => entry (proj m c) t (2048 + d)) (below (proj m c) 2304) (below (proj m c) 2432)
      (fun t d => entry (grad m c) t (512 + d)) (entry (sinks m c) 0) where
  q t d := (congrFun e0 _).trans ((kernel_holds h c).q t d)
  k t d := (congrFun e0 _).trans ((kernel_holds h c).k t d)
  v t d := (congrFun e0 _).trans ((kernel_holds h c).v t d)
  k0 := below_zero _ _
  v0 := below_zero _ _
  w l := (congrFun e1 _).trans ((kernel_holds h c).w ⟨l.val, by omega⟩ l.isLt)
  g t d := (congrFun e2 _).trans ((kernel_holds h c).g t d)

/-- Two arrays of two dimensions that agree in every row and column. -/
theorem ext2 {a b : ℕ} {A B : (⟨2, ![a, b]⟩ : Shape).Idx → EReal} (h : ∀ i j, A (ix2 i j) = B (ix2 i j)) : A = B :=
  funext fun x => by rw [eq_ix2 x]; exact h _ _

/-- The same, of arrays of one row. -/
theorem ext1 {b : ℕ} {A B : (⟨2, ![1, b]⟩ : Shape).Idx → EReal} (h : ∀ j, A (ix2 0 j) = B (ix2 0 j)) : A = B :=
  ext2 fun i j => by rw [Subsingleton.elim i 0]; exact h j

/-- With finite inputs the kernel and the reference leave the same four gradients. -/
theorem algebraic : Cert.algebraic_KernelIdeal_ReferenceIdeal_pre_finite_inputs := by
  intro m g m' g' h e
  refine ⟨Cert.KernelIdeal.Value.G5 m, Cert.KernelIdeal.Value.G6 m, Cert.KernelIdeal.Value.G7 m, Cert.KernelIdeal.Value.G8 m, Cert.KernelIdeal.Value.run m g, ?_⟩
  refine (θ_run (Cert.ReferenceIdeal.defs (F := Ideal)) _ _).mono (fun r H c => ?_) (Cert.ReferenceIdeal.Value.run (F := Ideal) m' g')
  have hk := kernel_holds h c
  have hr := reference_holds h c (e c).1 (e c).2.1 (e c).2.2
  exact ⟨(H c).1.trans (ext2 fun t d => (Cert.ReferenceIdeal.Swa.dq_eq hr t d).trans (Cert.KernelIdeal.Swa.G5_eq hk t d).symm),
    (H c).2.1.trans (ext2 fun t d => (Cert.ReferenceIdeal.Swa.dk_eq hr t d).trans (Cert.KernelIdeal.Swa.G6_eq hk t d).symm),
    (H c).2.2.1.trans (ext2 fun t d => (Cert.ReferenceIdeal.Swa.dv_eq hr t d).trans (Cert.KernelIdeal.Swa.G7_eq hk t d).symm),
    (H c).2.2.2.1.trans (ext1 fun l => (Cert.ReferenceIdeal.Swa.ds_eq hr l).trans (Cert.KernelIdeal.Swa.G8_eq hk l).symm),
    (H c).2.2.2.2⟩

end Both

end Cert.Swa
-- ==== Proof.Ffn.Basic.lean ====
/-
  What the products of the feed-forward share: arrays compared by row and column, and a sum over the hidden layer's columns taken
  in the order in which the version keeps them: the gate's first half, the up's first half, the gate's second, the up's second.
-/
module

public import Idealize.ShloMosaic.Lib.Pointwise

@[expose] public section

noncomputable section

open Idealize.ShloMosaic

namespace Cert.Ffn

/-- Two arrays of two dimensions that agree in every row and column. -/
theorem ext2 {a b : ℕ} {A B : (⟨2, ![a, b]⟩ : Shape).Idx → EReal} (h : ∀ i j, A (ix2 i j) = B (ix2 i j)) : A = B :=
  funext fun x => by rw [eq_ix2 x]; exact h _ _

/-- The entry in row `i` and column `n`, zero outside the array. -/
def at2 {a b : ℕ} (A : (⟨2, ![a, b]⟩ : Shape).Idx → EReal) (i n : ℕ) : EReal :=
  if h : i < a ∧ n < b then A (ix2 ⟨i, h.1⟩ ⟨n, h.2⟩) else 0

/-- An entry, by the numbers of its row and column. -/
theorem at2_ix2 {a b : ℕ} (A : (⟨2, ![a, b]⟩ : Shape).Idx → EReal) (i : Fin a) (n : Fin b) : A (ix2 i n) = at2 A i.val n.val := by
  rw [at2, dif_pos ⟨i.isLt, n.isLt⟩]

/-- A sum over `5632` columns, by its four quarters. -/
theorem quarters (f : Fin 5632 → EReal) :
    ∑ k, f k = (∑ x : Fin 1408, f ⟨x.val, by omega⟩) + (∑ x : Fin 1408, f ⟨1408 + x.val, by omega⟩)
      + ((∑ x : Fin 1408, f ⟨2816 + x.val, by omega⟩) + ∑ x : Fin 1408, f ⟨4224 + x.val, by omega⟩) := by
  rw [Fin.sum_univ_add (a := 2816) (b := 2816) f, Fin.sum_univ_add (a := 1408) (b := 1408) fun x => f (Fin.castAdd 2816 x),
    Fin.sum_univ_add (a := 1408) (b := 1408) fun x => f (Fin.natAdd 2816 x)]
  congr 2

/-- A sum over `n + m`, by its first `n` and its last `m` terms. -/
theorem split {N : ℕ} (n m : ℕ) (h : N = n + m) (f : Fin N → EReal) :
    ∑ k, f k = (∑ x : Fin n, f ⟨x.val, by omega⟩) + ∑ x : Fin m, f ⟨n + x.val, by omega⟩ := by
  subst h
  exact Fin.sum_univ_add f

/-- Concatenations of equal lists of arrays. -/
theorem cat_congr {α : Type} {t : Shape} {a : Fin t.rank} {L L' : List ((s : Shape) × (s.Idx → α))}
    {h : Shape.Concatenates (L.map (·.1)) t a} {h' : Shape.Concatenates (L'.map (·.1)) t a} (e : L = L') :
    concatenate t a L h = concatenate t a L' h' := by
  subst e
  rfl

/-- Lists of arrays that agree in their first array and in the rest. -/
theorem piece {α : Type} {s : Shape} {A B : s.Idx → α} {L L' : List ((s : Shape) × (s.Idx → α))} (h : A = B) (e : L = L') :
    (⟨s, A⟩ :: L : List ((s : Shape) × (s.Idx → α))) = ⟨s, B⟩ :: L' := by
  rw [h, e]

/-- Products of two entries whose rows and columns have equal numbers. -/
theorem term {a b a' b' : ℕ} {A : (⟨2, ![a, b]⟩ : Shape).Idx → EReal} {B : (⟨2, ![a', b']⟩ : Shape).Idx → EReal} {i j k l i' j' k' l' : ℕ}
    {hi hj hk hl hi' hj' hk' hl'} (e0 : i = i') (e1 : j = j') (e2 : k = k') (e3 : l = l') :
    A (ix2 ⟨i, hi⟩ ⟨j, hj⟩) * B (ix2 ⟨k, hk⟩ ⟨l, hl⟩) = A (ix2 ⟨i', hi'⟩ ⟨j', hj'⟩) * B (ix2 ⟨k', hk'⟩ ⟨l', hl'⟩) := by
  subst e0 e1 e2 e3
  rfl

end Cert.Ffn
-- ==== Proof.Ffn.DAct.lean ====
/-
  The gradient of the hidden layer's gate and up columns.
-/
module

public import proofs.«01_k».proof.Proof.Gen.Kernel2Ideal.Value
public import proofs.«01_k».proof.Proof.Gen.Reference2Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe Idealize.SL.Sem

open Cert.Ffn

variable (m : (ℓ : Loc nD τ sig) → Buf (Elt Ideal) ℓ)

/-- The blocks that point `t` reads and writes. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] := by
  decide +kernel

/-- The gate's gradient, from the hidden layer's, the gate and the up column. -/
def gate (d g u : EReal) : EReal := d * u * Ideal.logistic g + g * (d * u) * (Ideal.logistic g * (1 - Ideal.logistic g))

/-- The up column's gradient. -/
def up (d g : EReal) : EReal := g * Ideal.logistic g * d

section Arrays

variable (D : FVec Ideal S4096x1024 .bf16) (W : FVec Ideal S2816x1024 .bf16) (U : FVec Ideal S4096x5632 .bf16)

/-- The hidden layer's gradient at token `i` and column `k`. -/
def dact (i k : ℕ) : EReal := ∑ x : Fin 1024, at2 D i x.val * at2 W k x.val

/-- The gradient of column `n` of the layout: the gate's first half, the up's, the gate's second half, the up's. -/
def grad (i n : ℕ) : EReal :=
  if n < 1408 then gate (dact D W i n) (at2 U i n) (at2 U i (1408 + n))
  else if n - 1408 < 1408 then up (dact D W i (n - 1408)) (at2 U i (n - 1408))
  else if n - 1408 - 1408 < 1408 then
    gate (dact D W i (1408 + (n - 1408 - 1408))) (at2 U i (2816 + (n - 1408 - 1408))) (at2 U i (4224 + (n - 1408 - 1408)))
  else up (dact D W i (1408 + (n - 1408 - 1408 - 1408))) (at2 U i (2816 + (n - 1408 - 1408 - 1408)))

end Arrays

abbrev D (c : Dev nD) : FVec Ideal S4096x1024 .bf16 := m ((c : Thread nD τ).loc main_arg0)
abbrev W (c : Dev nD) : FVec Ideal S2816x1024 .bf16 := m ((c : Thread nD τ).loc main_arg1)
abbrev U (c : Dev nD) : FVec Ideal S4096x5632 .bf16 := m ((c : Thread nD τ).loc main_arg2)

/-- The result. -/
def G (c : Dev nD) : FVec Ideal S4096x5632 .bf16 := fun i => grad (D m c) (W m c) (U m c) (i 0).val (i 1).val

/-- The block that point `t` reads, by the numbers of its rows and columns. -/
theorem d_read (c : Dev nD) (t : Fin cfg0.N) (y : S512x1024.Idx) :
    (iblk m c 0 t : FVec Ideal S512x1024 .bf16) y = at2 (D m c) (t.val % 8 * 512 + (y 0).val) (y 1).val := by
  have h0 : (y 0).val < 512 := (y 0).isLt
  have h1 : (y 1).val < 1024 := (y 1).isLt
  have ht : t.val < 16 := t.isLt
  obtain ⟨e0, -⟩ := idx t
  rw [at2, dif_pos ⟨by omega, by omega⟩]
  blk_ext [iblk, V_main_arg0, e0]

/-- The block that point `t` reads, by the numbers of its rows and columns. -/
theorem w_read (c : Dev nD) (t : Fin cfg0.N) (y : S1408x1024.Idx) :
    (iblk m c 1 t : FVec Ideal S1408x1024 .bf16) y = at2 (W m c) (t.val / 8 * 1408 + (y 0).val) (y 1).val := by
  have h0 : (y 0).val < 1408 := (y 0).isLt
  have h1 : (y 1).val < 1024 := (y 1).isLt
  have ht : t.val < 16 := t.isLt
  obtain ⟨-, e1, -⟩ := idx t
  rw [at2, dif_pos ⟨by omega, by omega⟩]
  blk_ext [iblk, V_main_arg1, e1]

/-- The block that point `t` reads, by the numbers of its rows and columns. -/
theorem u_read (c : Dev nD) (t : Fin cfg0.N) (y : S512x2816.Idx) :
    (iblk m c 2 t : FVec Ideal S512x2816 .bf16) y = at2 (U m c) (t.val % 8 * 512 + (y 0).val) (t.val / 8 * 2816 + (y 1).val) := by
  have h0 : (y 0).val < 512 := (y 0).isLt
  have h1 : (y 1).val < 2816 := (y 1).isLt
  have ht : t.val < 16 := t.isLt
  obtain ⟨-, -, e2, -⟩ := idx t
  rw [at2, dif_pos ⟨by omega, by omega⟩]
  blk_ext [iblk, V_main_arg2, e2]

/-- What a block's column `n` is worth, `h` the half it lies in. -/
theorem grad_block (D : FVec Ideal S4096x1024 .bf16) (W : FVec Ideal S2816x1024 .bf16) (U : FVec Ideal S4096x5632 .bf16) (i h n : ℕ) (hh : h < 2)
    (hn : n < 2816) : grad D W U i (h * 2816 + n) =
      if n < 1408 then gate (dact D W i (h * 1408 + n)) (at2 U i (h * 2816 + n)) (at2 U i (h * 2816 + (1408 + n)))
      else up (dact D W i (h * 1408 + (n - 1408))) (at2 U i (h * 2816 + (n - 1408))) := by
  unfold grad
  rcases (by omega : h = 0 ∨ h = 1) with rfl | rfl
  · simp only [Nat.zero_mul, Nat.zero_add]
    refine if_congr Iff.rfl rfl ?_
    rw [if_pos (by omega)]
  · rw [if_neg (by omega), if_neg (by omega)]
    refine if_congr (by omega) ?_ ?_
    · simp only [show 1 * 2816 + n - 1408 - 1408 = n by omega, ← Nat.add_assoc]
    · simp only [show 1 * 2816 + n - 1408 - 1408 - 1408 = n - 1408 by omega, Nat.one_mul]

/-- What the kernel leaves in its result. -/
theorem out_eq (c : Dev nD) : (dats m 0 c).arrAt 3 cfg0.N = G m c := by
  refine (dats m 0 c).arrAt_eq_of_covers 3 _ (by decide +kernel) fun t hf y => ?_
  blk_simp
  rw [after0_3]
  frame_out
  rw [eq_ix2 y]
  pointwise [k0_pay1]
  have ht : t.val < 16 := t.isLt
  have hy : (y 1).val < 2816 := (y 1).isLt
  have hg : G m c (((View.whole main_v0).slice (win0_3.rect t)).emb y) =
      grad (D m c) (W m c) (U m c) (t.val % 8 * 512 + (y 0).val) (t.val / 8 * 2816 + (y 1).val) := by
    obtain ⟨-, -, -, e3⟩ := idx t
    unfold G
    refine congrArg₂ (grad (D m c) (W m c) (U m c)) ?_ ?_ <;> blk_point [e3]
  rw [hg, grad_block (h := t.val / 8) (n := (y 1).val) (hh := by omega) (hn := hy)]
  by_cases hn : (y 1).val < 1408
  · rw [if_pos hn, dif_pos hn, dif_pos hn]
    simp only [d_read, w_read, u_read]
    exact zero_add (M := EReal) _
  · rw [if_neg hn, dif_neg hn, dif_neg hn]
    simp only [d_read, w_read, u_read]
    exact add_zero (M := EReal) _

/-- What the reference gives at row `i` and column `j`. -/
theorem ref_read (m' : (ℓ : Loc Cert.Reference2Ideal.nD Cert.Reference2Ideal.τ Cert.Reference2Ideal.sig) → Buf (Elt Ideal) ℓ) (c : Dev nD)
    (D : FVec Ideal S4096x1024 .bf16) (W : FVec Ideal S2816x1024 .bf16) (U : FVec Ideal S4096x5632 .bf16)
    (e0 : m' ((c : Thread nD τ).loc Cert.Reference2Ideal.main_arg0) = D)
    (e1 : m' ((c : Thread nD τ).loc Cert.Reference2Ideal.main_arg1) = W) (e2 : m' ((c : Thread nD τ).loc Cert.Reference2Ideal.main_arg2) = U)
    (i : Fin 4096) (j : Fin 5632) :
    (Cert.Reference2Ideal.Value.res_main_v21 m' c : FVec Ideal S4096x5632 .bf16) (ix2 i j) = grad D W U i.val j.val := by
  unfold Cert.Reference2Ideal.Value.res_main_v21
  rw [e0, e1, e2]
  pointwise
  unfold grad
  split_ifs with h0 h1 h2
  all_goals
    simp only [at2_ix2 D, at2_ix2 W, at2_ix2 U]
    rfl

/-- The idealized kernel and the reference give the same results. -/
theorem algebraic : Cert.algebraic_Kernel2Ideal_Reference2Ideal := by
  intro m g m' g' _ e
  refine ⟨G m, (θ_run (Cert.Kernel2Ideal.defs (F := Ideal)) _ _).mono (fun r H c => ⟨(H c).1.trans (out_eq m c), (H c).2⟩) (run_blocks m g), ?_⟩
  refine (θ_run (Cert.Reference2Ideal.defs (F := Ideal)) _ _).mono (fun r H c => ?_) (Cert.Reference2Ideal.Value.run (F := Ideal) m' g')
  exact ⟨(H c).1.trans (ext2 fun i j => ref_read m' c _ _ _ (e c).1 (e c).2.1 (e c).2.2 i j), (H c).2⟩

end Cert.Kernel2Ideal.Ffn
-- ==== Proof.Ffn.DInput.lean ====
/-
  The gradient of the feed-forward's input: the kernel multiplies by the weights interleaved half by half, the reference adds
  the gate's and the up's products; the same sum of four quarters in another order.
-/
module

public import proofs.«01_k».proof.Proof.Gen.Kernel3Ideal.Value
public import proofs.«01_k».proof.Proof.Gen.Reference3Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel3Ideal.Ffn

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by decide +kernel

abbrev X (c : Dev nD) : FVec Ideal S4096x5632 .bf16 := m ((c : Thread nD τ).loc main_arg0)
abbrev W (c : Dev nD) : FVec Ideal S5632x1024 .bf16 := V m c main_v4
abbrev wg (c : Dev nD) : FVec Ideal S2816x1024 .bf16 := m ((c : Thread nD τ).loc main_arg1)
abbrev wu (c : Dev nD) : FVec Ideal S2816x1024 .bf16 := m ((c : Thread nD τ).loc main_arg2)

/-- The result. -/
def G (c : Dev nD) : FVec Ideal S4096x1024 .f32 := fun i => ∑ k : Fin 5632, X m c (ix2 (i 0) k) * W m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, W, e1, e2]

/-- Four arrays put below one another, each given by an equation. -/
theorem cat4 {a a' b b' c c' d d' : FVec Ideal S1408x1024 .bf16} (ha : a = a') (hb : b = b') (hc : c = c') (hd : d = d') :
    (concatenate S5632x1024 0 [⟨S1408x1024, a⟩, ⟨S1408x1024, b⟩, ⟨S1408x1024, c⟩, ⟨S1408x1024, d⟩] concatenates_S1408x1024_S1408x1024_S1408x1024_S1408x1024_S5632x1024_d0 : FVec Ideal S5632x1024 .bf16)
      = concatenate S5632x1024 0 [⟨S1408x1024, a'⟩, ⟨S1408x1024, b'⟩, ⟨S1408x1024, c'⟩, ⟨S1408x1024, d'⟩] concatenates_S1408x1024_S1408x1024_S1408x1024_S1408x1024_S5632x1024_d0 := by
  rw [ha, hb, hc, hd]

/-- The weights as the host lays them out. -/
theorem w_eq (c : Dev nD) : V m c main_v4 = (concatenate S5632x1024 0 [⟨S1408x1024, extractStridedSlice S1408x1024 ![0, 0] (wg m c) slices_S2816x1024_S1408x1024_0_0⟩, ⟨S1408x1024, extractStridedSlice S1408x1024 ![0, 0] (wu m c) slices_S2816x1024_S1408x1024_0_0⟩, ⟨S1408x1024, extractStridedSlice S1408x1024 ![1408, 0] (wg m c) slices_S2816x1024_S1408x1024_1408_0⟩, ⟨S1408x1024, extractStridedSlice S1408x1024 ![1408, 0] (wu m c) slices_S2816x1024_S1408x1024_1408_0⟩] concatenates_S1408x1024_S1408x1024_S1408x1024_S1408x1024_S5632x1024_d0) := by
  have h0 : StableHlo.after (hostOps0 (F := Ideal)).dropLast (fun b => m (c, b)) main_v0 = extractStridedSlice S1408x1024 ![0, 0] (wg m c) slices_S2816x1024_S1408x1024_0_0 := by
    simp only [List.dropLast]
    after_results
  have h1 : StableHlo.after (hostOps0 (F := Ideal)).dropLast (fun b => m (c, b)) main_v1 = extractStridedSlice S1408x1024 ![0, 0] (wu m c) slices_S2816x1024_S1408x1024_0_0 := by
    simp only [List.dropLast]
    after_results
  have h2 : StableHlo.after (hostOps0 (F := Ideal)).dropLast (fun b => m (c, b)) main_v2 = extractStridedSlice S1408x1024 ![1408, 0] (wg m c) slices_S2816x1024_S1408x1024_1408_0 := by
    simp only [List.dropLast]
    after_results
  have h3 : StableHlo.after (hostOps0 (F := Ideal)).dropLast (fun b => m (c, b)) main_v3 = extractStridedSlice S1408x1024 ![1408, 0] (wu m c) slices_S2816x1024_S1408x1024_1408_0 := by
    simp only [List.dropLast]
    after_results
  unfold V hostOps0
  simp only [StableHlo.after_cons, StableHlo.after_nil]
  rw [StableHlo.nary_result]
  exact cat4 h0 h1 h2 h3

/-- The product with the interleaved weights, by gate and up columns. -/
theorem g_eq (c : Dev nD) (i : Fin 4096) (j : Fin 1024) : G m c (ix2 i j) =
    (∑ x : Fin 1408, X m c (ix2 i ⟨x.val, by omega⟩) * wg m c (ix2 ⟨x.val, by omega⟩ j))
      + (∑ x : Fin 1408, X m c (ix2 i ⟨1408 + x.val, by omega⟩) * wu m c (ix2 ⟨x.val, by omega⟩ j))
      + ((∑ x : Fin 1408, X m c (ix2 i ⟨2816 + x.val, by omega⟩) * wg m c (ix2 ⟨1408 + x.val, by omega⟩ j))
        + ∑ x : Fin 1408, X m c (ix2 i ⟨4224 + x.val, by omega⟩) * wu m c (ix2 ⟨1408 + x.val, by omega⟩ j)) := by
  unfold G
  simp only [W]
  rw [w_eq, Cert.Ffn.quarters]
  refine congrArg₂ (· + ·) (congrArg₂ (· + ·) ?_ ?_) (congrArg₂ (· + ·) ?_ ?_) <;> refine Finset.sum_congr rfl fun x _ => ?_ <;> pointwise
  · rw [dif_neg (by omega), dif_neg (by omega), dif_pos (by omega)]
    simp only [show 1408 + (2816 + x.val - 1408 - 1408) = 1408 + x.val by omega]
  · rw [dif_neg (by omega), dif_neg (by omega), dif_neg (by omega)]
    simp only [show 1408 + (4224 + x.val - 1408 - 1408 - 1408) = 1408 + x.val by omega]

/-- The idealized kernel and the reference give the same results. -/
theorem algebraic : Cert.algebraic_Kernel3Ideal_Reference3Ideal := by
  intro m g m' g' _ e
  refine ⟨G m, (θ_run (Cert.Kernel3Ideal.defs (F := Ideal)) _ _).mono (fun r H c => ⟨(H c).1.trans (out_eq m c), (H c).2⟩) (run_blocks m g), ?_⟩
  refine (θ_run (Cert.Reference3Ideal.defs (F := Ideal)) _ _).mono (fun r H c => ?_) (Cert.Reference3Ideal.Value.run (F := Ideal) m' g')
  refine ⟨(H c).1.trans ?_, (H c).2⟩
  obtain ⟨e0, e1, e2⟩ := e c
  rw [e0, e1, e2]
  refine Cert.Ffn.ext2 fun i j => ?_
  rw [g_eq]
  pointwise
  exact (add_comm _ _).trans (add_add_add_comm _ _ _ _)

end Cert.Kernel3Ideal.Ffn
-- ==== Proof.Ffn.DGateUp.lean ====
/-
  The gradient of the gate's and the up weights: a product over the tokens, in the calls' layout.
-/
module

public import proofs.«01_k».proof.Proof.Gen.Kernel4Ideal.Value
public import proofs.«01_k».proof.Proof.Gen.Reference4Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel4Ideal.Ffn

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![0, t.val / 2] ∧ win0_1.index t = ![0, t.val % 2] ∧ win0_2.index t = ![t.val / 2, t.val % 2] := by
  decide +kernel

abbrev X (c : Dev nD) : FVec Ideal S4096x5632 .bf16 := m ((c : Thread nD τ).loc main_arg0)
abbrev Y (c : Dev nD) : FVec Ideal S4096x1024 .bf16 := m ((c : Thread nD τ).loc main_arg1)

/-- The product over the tokens. -/
def G (c : Dev nD) : FVec Ideal S5632x1024 .f32 := fun i => ∑ k : Fin 4096, X m c (ix2 k (i 0)) * Y m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  simp only [outsAt0]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, V_main_arg1, e1, e2]

/-- The idealized kernel and the reference give the same results. -/
theorem algebraic : Cert.algebraic_Kernel4Ideal_Reference4Ideal := by
  intro m g m' g' _ e
  refine ⟨G m, (θ_run (Cert.Kernel4Ideal.defs (F := Ideal)) _ _).mono (fun r H c => ⟨(H c).1.trans (out_eq m c), (H c).2⟩) (run_blocks m g), ?_⟩
  refine (θ_run (Cert.Reference4Ideal.defs (F := Ideal)) _ _).mono (fun r H c => ?_) (Cert.Reference4Ideal.Value.run (F := Ideal) m' g')
  refine ⟨(H c).1.trans ?_, (H c).2⟩
  obtain ⟨e0, e1⟩ := e c
  rw [e0, e1]
  refine Cert.Ffn.ext2 fun i j => ?_
  pointwise
  split_ifs with h0 h1 h2
  · rfl
  all_goals
    refine Finset.sum_congr rfl fun k _ => congrArg (fun z => X m c (ix2 k z) * Y m c (ix2 k j)) (Fin.ext ?_)
    show _ = i.val
    dsimp only
    omega

end Cert.Kernel4Ideal.Ffn
-- ==== Proof.Ffn.DDown.lean ====
/-
  The gradient of the weights that lead down: a product over the tokens, read in blocks by the kernel.
-/
module

public import proofs.«01_k».proof.Proof.Gen.Kernel5Ideal.Value
public import proofs.«01_k».proof.Proof.Gen.Reference5Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel5Ideal.Ffn

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![0, t.val / 2] ∧ win0_1.index t = ![0, t.val % 2] ∧ win0_2.index t = ![t.val / 2, t.val % 2] := by
  decide +kernel

abbrev X (c : Dev nD) : FVec Ideal S4096x2816 .bf16 := m ((c : Thread nD τ).loc main_arg0)
abbrev Y (c : Dev nD) : FVec Ideal S4096x1024 .bf16 := m ((c : Thread nD τ).loc main_arg1)

/-- The product over the tokens. -/
def G (c : Dev nD) : FVec Ideal S2816x1024 .f32 := fun i => ∑ k : Fin 4096, X m c (ix2 k (i 0)) * Y m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  simp only [outsAt0]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, V_main_arg1, e1, e2]

/-- The idealized kernel and the reference give the same results. -/
theorem algebraic : Cert.algebraic_Kernel5Ideal_Reference5Ideal := by
  intro m g m' g' _ e
  refine ⟨G m, (θ_run (Cert.Kernel5Ideal.defs (F := Ideal)) _ _).mono (fun r H c => ⟨(H c).1.trans (out_eq m c), (H c).2⟩) (run_blocks m g), ?_⟩
  refine (θ_run (Cert.Reference5Ideal.defs (F := Ideal)) _ _).mono (fun r H c => ?_) (Cert.Reference5Ideal.Value.run (F := Ideal) m' g')
  refine ⟨(H c).1.trans ?_, (H c).2⟩
  obtain ⟨e0, e1⟩ := e c
  rw [e0, e1]
  refine Cert.Ffn.ext2 fun i j => ?_
  pointwise
  exact Finset.sum_congr rfl fun k _ => mul_comm _ _

end Cert.Kernel5Ideal.Ffn
-- ==== Proof.Mix.DIn.lean ====
/-
  The gradient of the input projection's input: the kernel's sum runs over the padded layout's columns, the reference's over the
  weights' own columns in another order; the padding's weights are zero.
-/
module

public import proofs.«01_k».proof.Proof.Gen.Kernel6Ideal.Value
public import proofs.«01_k».proof.Proof.Gen.Reference6Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel6Ideal.Mix

open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

abbrev X (c : Dev nD) : FVec Ideal S4096x3328 .bf16 := m ((c : Thread nD τ).loc main_arg0)
abbrev W (c : Dev nD) : FVec Ideal S1024x3328 .bf16 := V m c main_v8
abbrev w (c : Dev nD) : FVec Ideal S1024x3088 .bf16 := m ((c : Thread nD τ).loc main_arg1)

/-- The zeros that pad the layout. -/
abbrev zeros : FVec Ideal S1024x120 .bf16 := broadcastInDim S1024x120 ![] bcast_S_S1024x120 (constant (F := Ideal) S_ .bf16 0x0000#16)

/-- The product with the padded weights. -/
def G (c : Dev nD) : FVec Ideal S4096x1024 .f32 := fun i => ∑ k : Fin 3328, X m c (ix2 (i 0) k) * W m c (ix2 (i 1) k)

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, W, e1, e2]

/-- The weights as the host lays them out. -/
theorem w_eq (c : Dev nD) : V m c main_v8 = (concatenate S1024x3328 1 [⟨S1024x768, extractStridedSlice S1024x768 ![0, 2056] (w m c) slices_S1024x3088_S1024x768_0_2056⟩, ⟨S1024x256, extractStridedSlice S1024x256 ![0, 2824] (w m c) slices_S1024x3088_S1024x256_0_2824⟩, ⟨S1024x1024, extractStridedSlice S1024x1024 ![0, 1024] (w m c) slices_S1024x3088_S1024x1024_0_1024⟩, ⟨S1024x512, extractStridedSlice S1024x512 ![0, 0] (w m c) slices_S1024x3088_S1024x512_0_0⟩, ⟨S1024x512, extractStridedSlice S1024x512 ![0, 512] (w m c) slices_S1024x3088_S1024x512_0_512⟩, ⟨S1024x8, extractStridedSlice S1024x8 ![0, 2048] (w m c) slices_S1024x3088_S1024x8_0_2048⟩, ⟨S1024x120, zeros⟩, ⟨S1024x8, extractStridedSlice S1024x8 ![0, 3080] (w m c) slices_S1024x3088_S1024x8_0_3080⟩, ⟨S1024x120, zeros⟩] concatenates_S1024x768_S1024x256_S1024x1024_S1024x512_S1024x512_S1024x8_S1024x120_S1024x8_S1024x120_S1024x3328_d1) := by
  have h_v1 : StableHlo.after (hostOps0 (F := Ideal)).dropLast (fun b => m (c, b)) main_v1 = extractStridedSlice S1024x768 ![0, 2056] (w m c) slices_S1024x3088_S1024x768_0_2056 := by
    simp only [List.dropLast]
    after_results
  have h_v2 : StableHlo.after (hostOps0 (F := Ideal)).dropLast (fun b => m (c, b)) main_v2 = extractStridedSlice S1024x256 ![0, 2824] (w m c) slices_S1024x3088_S1024x256_0_2824 := by
    simp only [List.dropLast]
    after_results
  have h_v3 : StableHlo.after (hostOps0 (F := Ideal)).dropLast (fun b => m (c, b)) main_v3 = extractStridedSlice S1024x1024 ![0, 1024] (w m c) slices_S1024x3088_S1024x1024_0_1024 := by
    simp only [List.dropLast]
    after_results
  have h_v4 : StableHlo.after (hostOps0 (F := Ideal)).dropLast (fun b => m (c, b)) main_v4 = extractStridedSlice S1024x512 ![0, 0] (w m c) slices_S1024x3088_S1024x512_0_0 := by
    simp only [List.dropLast]
    after_results
  have h_v5 : StableHlo.after (hostOps0 (F := Ideal)).dropLast (fun b => m (c, b)) main_v5 = extractStridedSlice S1024x512 ![0, 512] (w m c) slices_S1024x3088_S1024x512_0_512 := by
    simp only [List.dropLast]
    after_results
  have h_v6 : StableHlo.after (hostOps0 (F := Ideal)).dropLast (fun b => m (c, b)) main_v6 = extractStridedSlice S1024x8 ![0, 2048] (w m c) slices_S1024x3088_S1024x8_0_2048 := by
    simp only [List.dropLast]
    after_results
  have h_v0 : StableHlo.after (hostOps0 (F := Ideal)).dropLast (fun b => m (c, b)) main_v0 = zeros := by
    simp only [List.dropLast]
    after_results
  have h_v7 : StableHlo.after (hostOps0 (F := Ideal)).dropLast (fun b => m (c, b)) main_v7 = extractStridedSlice S1024x8 ![0, 3080] (w m c) slices_S1024x3088_S1024x8_0_3080 := by
    simp only [List.dropLast]
    after_results
  unfold V hostOps0
  simp only [StableHlo.after_cons, StableHlo.after_nil]
  rw [StableHlo.nary_result]
  exact Cert.Ffn.cat_congr (Cert.Ffn.piece h_v1 <| Cert.Ffn.piece h_v2 <| Cert.Ffn.piece h_v3 <| Cert.Ffn.piece h_v4 <| Cert.Ffn.piece h_v5 <| Cert.Ffn.piece h_v6 <| Cert.Ffn.piece h_v0 <| Cert.Ffn.piece h_v7 <| Cert.Ffn.piece h_v0 rfl)

/-- A sum over the layout's columns, by its pieces. -/
theorem layout (f : Fin 3328 → EReal) : ∑ k, f k = (∑ x : Fin 768, f ⟨x.val, by omega⟩) + ((∑ x : Fin 256, f ⟨768 + x.val, by omega⟩) + ((∑ x : Fin 1024, f ⟨1024 + x.val, by omega⟩) + ((∑ x : Fin 512, f ⟨2048 + x.val, by omega⟩) + ((∑ x : Fin 512, f ⟨2560 + x.val, by omega⟩) + ((∑ x : Fin 8, f ⟨3072 + x.val, by omega⟩) + ((∑ x : Fin 120, f ⟨3080 + x.val, by omega⟩) + ((∑ x : Fin 8, f ⟨3200 + x.val, by omega⟩) + (∑ x : Fin 120, f ⟨3208 + x.val, by omega⟩)))))))) := by
  refine ((Cert.Ffn.split 768 2560 rfl _).trans (congrArg₂ (· + ·) rfl ((Cert.Ffn.split 256 2304 rfl _).trans (congrArg₂ (· + ·) rfl ((Cert.Ffn.split 1024 1280 rfl _).trans (congrArg₂ (· + ·) rfl ((Cert.Ffn.split 512 768 rfl _).trans (congrArg₂ (· + ·) rfl ((Cert.Ffn.split 512 256 rfl _).trans (congrArg₂ (· + ·) rfl ((Cert.Ffn.split 8 248 rfl _).trans (congrArg₂ (· + ·) rfl ((Cert.Ffn.split 120 128 rfl _).trans (congrArg₂ (· + ·) rfl (Cert.Ffn.split 8 120 rfl _))))))))))))))).trans ?_
  simp only [← Nat.add_assoc, Nat.reduceAdd]

/-- A sum over the weights' own columns, by its pieces. -/
theorem own (f : Fin 3088 → EReal) : ∑ k, f k = (∑ x : Fin 512, f ⟨x.val, by omega⟩) + ((∑ x : Fin 512, f ⟨512 + x.val, by omega⟩) + ((∑ x : Fin 1024, f ⟨1024 + x.val, by omega⟩) + ((∑ x : Fin 8, f ⟨2048 + x.val, by omega⟩) + ((∑ x : Fin 768, f ⟨2056 + x.val, by omega⟩) + ((∑ x : Fin 256, f ⟨2824 + x.val, by omega⟩) + (∑ x : Fin 8, f ⟨3080 + x.val, by omega⟩)))))) := by
  refine ((Cert.Ffn.split 512 2576 rfl _).trans (congrArg₂ (· + ·) rfl ((Cert.Ffn.split 512 2064 rfl _).trans (congrArg₂ (· + ·) rfl ((Cert.Ffn.split 1024 1040 rfl _).trans (congrArg₂ (· + ·) rfl ((Cert.Ffn.split 8 1032 rfl _).trans (congrArg₂ (· + ·) rfl ((Cert.Ffn.split 768 264 rfl _).trans (congrArg₂ (· + ·) rfl (Cert.Ffn.split 256 8 rfl _))))))))))).trans ?_
  simp only [← Nat.add_assoc, Nat.reduceAdd]

/-- The pieces in the two orders. -/
theorem reorder {a b c d e f g a' b' c' d' e' f' g' z z' : EReal} (ha : a = a') (hb : b = b') (hc : c = c') (hd : d = d') (he : e = e') (hf : f = f')
    (hg : g = g') (hz : z = 0) (hz' : z' = 0) :
    a + (b + (c + (d + (e + (f + g))))) = e' + (f' + (c' + (a' + (b' + (d' + (z + (g' + z'))))))) := by
  subst ha hb hc hd he hf hg hz hz'
  simp only [add_zero, zero_add]
  ac_rfl

-- the nested conditions of the nine pieces are long
set_option maxHeartbeats 1000000 in
theorem algebraic : Cert.algebraic_Kernel6Ideal_Reference6Ideal := by
  intro m g m' g' _ e
  refine ⟨G m, (θ_run (Cert.Kernel6Ideal.defs (F := Ideal)) _ _).mono (fun r H c => ⟨(H c).1.trans (out_eq m c), (H c).2⟩) (run_blocks m g), ?_⟩
  refine (θ_run (Cert.Reference6Ideal.defs (F := Ideal)) _ _).mono (fun r H c => ?_) (Cert.Reference6Ideal.Value.run (F := Ideal) m' g')
  refine ⟨(H c).1.trans ?_, (H c).2⟩
  obtain ⟨e0, e1⟩ := e c
  rw [e0, e1]
  refine Cert.Ffn.ext2 fun i j => ?_
  unfold G
  simp only [W]
  rw [w_eq]
  pointwise
  refine (own _).trans (Eq.trans ?_ (layout _).symm)
  refine reorder ?_ ?_ ?_ ?_ ?_ ?_ ?_ ?_ ?_
  · refine Finset.sum_congr rfl fun x _ => ?_
    dsimp only
    rw [dif_pos (by omega)]
    (iterate 3 rw [dif_neg (by omega)])
    rw [dif_pos (by omega)]
    exact Cert.Ffn.term rfl (by omega) rfl (by omega)
  · refine Finset.sum_congr rfl fun x _ => ?_
    dsimp only
    (iterate 1 rw [dif_neg (by omega)])
    rw [dif_pos (by omega)]
    (iterate 4 rw [dif_neg (by omega)])
    rw [dif_pos (by omega)]
    exact Cert.Ffn.term rfl (by omega) rfl (by omega)
  · refine Finset.sum_congr rfl fun x _ => ?_
    dsimp only
    (iterate 2 rw [dif_neg (by omega)])
    rw [dif_pos (by omega)]
    (iterate 2 rw [dif_neg (by omega)])
    rw [dif_pos (by omega)]
    exact Cert.Ffn.term rfl (by omega) rfl (by omega)
  · refine Finset.sum_congr rfl fun x _ => ?_
    dsimp only
    (iterate 3 rw [dif_neg (by omega)])
    rw [dif_pos (by omega)]
    (iterate 5 rw [dif_neg (by omega)])
    rw [dif_pos (by omega)]
    exact Cert.Ffn.term rfl (by omega) rfl (by omega)
  · refine Finset.sum_congr rfl fun x _ => ?_
    dsimp only
    (iterate 4 rw [dif_neg (by omega)])
    rw [dif_pos (by omega)]
    rw [dif_pos (by omega)]
    exact Cert.Ffn.term rfl (by omega) rfl (by omega)
  · refine Finset.sum_congr rfl fun x _ => ?_
    dsimp only
    (iterate 5 rw [dif_neg (by omega)])
    rw [dif_pos (by omega)]
    (iterate 1 rw [dif_neg (by omega)])
    rw [dif_pos (by omega)]
    exact Cert.Ffn.term rfl (by omega) rfl (by omega)
  · refine Finset.sum_congr rfl fun x _ => ?_
    dsimp only
    (iterate 6 rw [dif_neg (by omega)])
    (iterate 7 rw [dif_neg (by omega)])
    rw [dif_pos (by omega)]
    exact Cert.Ffn.term rfl (by omega) rfl (by omega)
  · refine Finset.sum_eq_zero fun x _ => ?_
    dsimp only
    (iterate 6 rw [dif_neg (by omega)])
    rw [dif_pos (by omega)]
    exact mul_zero _
  · refine Finset.sum_eq_zero fun x _ => ?_
    dsimp only
    (iterate 8 rw [dif_neg (by omega)])
    exact mul_zero _

end Cert.Kernel6Ideal.Mix
-- ==== Proof.Mix.DInWeights.lean ====
/-
  The gradient of the input projection's weights: a product over the tokens, read in blocks by the kernel.
-/
module

public import proofs.«01_k».proof.Proof.Gen.Kernel7Ideal.Value
public import proofs.«01_k».proof.Proof.Gen.Reference7Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel7Ideal.Mix

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![0, t.val / 2] ∧ win0_1.index t = ![0, t.val % 2] ∧ win0_2.index t = ![t.val / 2, t.val % 2] := by
  decide +kernel

abbrev X (c : Dev nD) : FVec Ideal S4096x1024 .bf16 := m ((c : Thread nD τ).loc main_arg0)
abbrev Y (c : Dev nD) : FVec Ideal S4096x3328 .bf16 := m ((c : Thread nD τ).loc main_arg1)

/-- The product over the tokens. -/
def G (c : Dev nD) : FVec Ideal S1024x3328 .f32 := fun i => ∑ k : Fin 4096, X m c (ix2 k (i 0)) * Y m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  simp only [outsAt0]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, V_main_arg1, e1, e2]

/-- The idealized kernel and the reference give the same results. -/
theorem algebraic : Cert.algebraic_Kernel7Ideal_Reference7Ideal := by
  intro m g m' g' _ e
  refine ⟨G m, (θ_run (Cert.Kernel7Ideal.defs (F := Ideal)) _ _).mono (fun r H c => ⟨(H c).1.trans (out_eq m c), (H c).2⟩) (run_blocks m g), ?_⟩
  refine (θ_run (Cert.Reference7Ideal.defs (F := Ideal)) _ _).mono (fun r H c => ?_) (Cert.Reference7Ideal.Value.run (F := Ideal) m' g')
  refine ⟨(H c).1.trans ?_, (H c).2⟩
  obtain ⟨e0, e1⟩ := e c
  rw [e0, e1]
  refine Cert.Ffn.ext2 fun i j => ?_
  pointwise
  exact Finset.sum_congr rfl fun k _ => mul_comm _ _

end Cert.Kernel7Ideal.Mix
-- ==== Proof.Mix.DOut.lean ====
/-
  The gradient of the concatenated mixers: the kernel multiplies by the weights with their rows reordered, the reference reorders
  the product.
-/
module

public import proofs.«01_k».proof.Proof.Gen.Kernel8Ideal.Value
public import proofs.«01_k».proof.Proof.Gen.Reference8Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel8Ideal.Mix

open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

abbrev X (c : Dev nD) : FVec Ideal S4096x1024 .bf16 := m ((c : Thread nD τ).loc main_arg0)
abbrev W (c : Dev nD) : FVec Ideal S1024x1024 .bf16 := V m c main_v3
abbrev w (c : Dev nD) : FVec Ideal S1024x1024 .bf16 := m ((c : Thread nD τ).loc main_arg1)

/-- The product with the reordered weights. -/
def G (c : Dev nD) : FVec Ideal S4096x1024 .f32 := fun i => ∑ k : Fin 1024, X m c (ix2 (i 0) k) * W m c (ix2 (i 1) k)

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, W, e1, e2]

/-- The weights as the host lays them out. -/
theorem w_eq (c : Dev nD) : V m c main_v3 = (concatenate S1024x1024 0 [⟨S512x1024, extractStridedSlice S512x1024 ![256, 0] (w m c) slices_S1024x1024_S512x1024_256_0⟩, ⟨S256x1024, extractStridedSlice S256x1024 ![0, 0] (w m c) slices_S1024x1024_S256x1024_0_0⟩, ⟨S256x1024, extractStridedSlice S256x1024 ![768, 0] (w m c) slices_S1024x1024_S256x1024_768_0⟩] concatenates_S512x1024_S256x1024_S256x1024_S1024x1024_d0) := by
  have h_v0 : StableHlo.after (hostOps0 (F := Ideal)).dropLast (fun b => m (c, b)) main_v0 = extractStridedSlice S512x1024 ![256, 0] (w m c) slices_S1024x1024_S512x1024_256_0 := by
    simp only [List.dropLast]
    after_results
  have h_v1 : StableHlo.after (hostOps0 (F := Ideal)).dropLast (fun b => m (c, b)) main_v1 = extractStridedSlice S256x1024 ![0, 0] (w m c) slices_S1024x1024_S256x1024_0_0 := by
    simp only [List.dropLast]
    after_results
  have h_v2 : StableHlo.after (hostOps0 (F := Ideal)).dropLast (fun b => m (c, b)) main_v2 = extractStridedSlice S256x1024 ![768, 0] (w m c) slices_S1024x1024_S256x1024_768_0 := by
    simp only [List.dropLast]
    after_results
  unfold V hostOps0
  simp only [StableHlo.after_cons, StableHlo.after_nil]
  rw [StableHlo.nary_result]
  exact Cert.Ffn.cat_congr (Cert.Ffn.piece h_v0 <| Cert.Ffn.piece h_v1 <| Cert.Ffn.piece h_v2 rfl)

/-- The idealized kernel and the reference give the same results. -/
theorem algebraic : Cert.algebraic_Kernel8Ideal_Reference8Ideal := by
  intro m g m' g' _ e
  refine ⟨G m, (θ_run (Cert.Kernel8Ideal.defs (F := Ideal)) _ _).mono (fun r H c => ⟨(H c).1.trans (out_eq m c), (H c).2⟩) (run_blocks m g), ?_⟩
  refine (θ_run (Cert.Reference8Ideal.defs (F := Ideal)) _ _).mono (fun r H c => ?_) (Cert.Reference8Ideal.Value.run (F := Ideal) m' g')
  refine ⟨(H c).1.trans ?_, (H c).2⟩
  obtain ⟨e0, e1⟩ := e c
  rw [e0, e1]
  refine Cert.Ffn.ext2 fun i j => ?_
  unfold G
  simp only [W]
  rw [w_eq]
  pointwise
  split_ifs <;> first | rfl | simp

end Cert.Kernel8Ideal.Mix
-- ==== Proof.Mix.DOutWeights.lean ====
/-
  The gradient of the output projection's weights: the mixers stand in another order in the kernel than in the reference.
-/
module

public import proofs.«01_k».proof.Proof.Gen.Kernel9Ideal.Value
public import proofs.«01_k».proof.Proof.Gen.Reference9Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel9Ideal.Mix

open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![0, t.val] ∧ win0_1.index t = ![0, 0] ∧ win0_2.index t = ![t.val, 0] := by
  decide +kernel

abbrev ssd (c : Dev nD) : FVec Ideal S4096x512 .bf16 := m ((c : Thread nD τ).loc main_arg0)
abbrev att (c : Dev nD) : FVec Ideal S4096x256 .bf16 := m ((c : Thread nD τ).loc main_arg1)
abbrev gdn (c : Dev nD) : FVec Ideal S4096x256 .bf16 := m ((c : Thread nD τ).loc main_arg2)
abbrev Y (c : Dev nD) : FVec Ideal S4096x1024 .bf16 := m ((c : Thread nD τ).loc main_arg3)
abbrev X (c : Dev nD) : FVec Ideal S4096x1024 .bf16 := V m c main_v0

/-- The product over the tokens. -/
def G (c : Dev nD) : FVec Ideal S1024x1024 .f32 := fun i => ∑ k : Fin 4096, X m c (ix2 k (i 0)) * Y m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  simp only [outsAt0]
  frame_out
  rw [eq_ix2 y]
  pointwise [k0_pay1]
  obtain ⟨e0, e1, e2⟩ := idx t
  unfold G
  refine Finset.sum_congr (M := EReal) rfl fun k _ => ?_
  congr 1
  · blk_ext [iblk, X, e0, e2]
  · blk_ext [iblk, V_main_arg3, e1, e2]

/-- The mixers, joined by the host. -/
theorem x_eq (c : Dev nD) : V m c main_v0 = (concatenate S4096x1024 1 [⟨S4096x512, ssd m c⟩, ⟨S4096x256, att m c⟩, ⟨S4096x256, gdn m c⟩] concatenates_S4096x512_S4096x256_S4096x256_S4096x1024_d1) := by
  unfold V hostOps0
  simp only [StableHlo.after_cons, StableHlo.after_nil]
  rw [StableHlo.nary_result]
  rfl

/-- The idealized kernel and the reference give the same results. -/
theorem algebraic : Cert.algebraic_Kernel9Ideal_Reference9Ideal := by
  intro m g m' g' _ e
  refine ⟨G m, (θ_run (Cert.Kernel9Ideal.defs (F := Ideal)) _ _).mono (fun r H c => ⟨(H c).1.trans (out_eq m c), (H c).2⟩) (run_blocks m g), ?_⟩
  refine (θ_run (Cert.Reference9Ideal.defs (F := Ideal)) _ _).mono (fun r H c => ?_) (Cert.Reference9Ideal.Value.run (F := Ideal) m' g')
  refine ⟨(H c).1.trans ?_, (H c).2⟩
  obtain ⟨e0, e1, e2, e3⟩ := e c
  rw [e0, e1, e2, e3]
  refine Cert.Ffn.ext2 fun i j => ?_
  unfold G
  simp only [X]
  rw [x_eq]
  pointwise
  split_ifs <;> first
    | (exfalso; omega)
    | exact Finset.sum_congr rfl fun x _ => (mul_comm _ _).trans (Cert.Ffn.term rfl (by omega) rfl rfl)

end Cert.Kernel9Ideal.Mix
-- ==== Proof.Mix.In.lean ====
/-
  The input projection: the kernel multiplies by the weights in the padded layout, the reference lays the product out.
-/
module

public import proofs.«01_k».proof.Proof.Gen.Kernel10Ideal.Value
public import proofs.«01_k».proof.Proof.Gen.Reference10Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel10Ideal.Mix

open Cert.Kernel10Ideal Cert.Kernel10Ideal.Gen Cert.Kernel10Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

abbrev X (c : Dev nD) : FVec Ideal S4096x1024 .bf16 := m ((c : Thread nD τ).loc main_arg0)
abbrev W (c : Dev nD) : FVec Ideal S1024x3328 .bf16 := V m c main_v8
abbrev w (c : Dev nD) : FVec Ideal S1024x3088 .bf16 := m ((c : Thread nD τ).loc main_arg1)

/-- The zeros that pad the layout. -/
abbrev zeros : FVec Ideal S1024x120 .bf16 := broadcastInDim S1024x120 ![] bcast_S_S1024x120 (constant (F := Ideal) S_ .bf16 0x0000#16)

/-- The product with the padded weights. -/
def G (c : Dev nD) : FVec Ideal S4096x3328 .f32 := fun i => ∑ k : Fin 1024, X m c (ix2 (i 0) k) * W m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, W, e1, e2]

/-- The weights as the host lays them out. -/
theorem w_eq (c : Dev nD) : V m c main_v8 = (concatenate S1024x3328 1 [⟨S1024x768, extractStridedSlice S1024x768 ![0, 2056] (w m c) slices_S1024x3088_S1024x768_0_2056⟩, ⟨S1024x256, extractStridedSlice S1024x256 ![0, 2824] (w m c) slices_S1024x3088_S1024x256_0_2824⟩, ⟨S1024x1024, extractStridedSlice S1024x1024 ![0, 1024] (w m c) slices_S1024x3088_S1024x1024_0_1024⟩, ⟨S1024x512, extractStridedSlice S1024x512 ![0, 0] (w m c) slices_S1024x3088_S1024x512_0_0⟩, ⟨S1024x512, extractStridedSlice S1024x512 ![0, 512] (w m c) slices_S1024x3088_S1024x512_0_512⟩, ⟨S1024x8, extractStridedSlice S1024x8 ![0, 2048] (w m c) slices_S1024x3088_S1024x8_0_2048⟩, ⟨S1024x120, zeros⟩, ⟨S1024x8, extractStridedSlice S1024x8 ![0, 3080] (w m c) slices_S1024x3088_S1024x8_0_3080⟩, ⟨S1024x120, zeros⟩] concatenates_S1024x768_S1024x256_S1024x1024_S1024x512_S1024x512_S1024x8_S1024x120_S1024x8_S1024x120_S1024x3328_d1) := by
  have h_v1 : StableHlo.after (hostOps0 (F := Ideal)).dropLast (fun b => m (c, b)) main_v1 = extractStridedSlice S1024x768 ![0, 2056] (w m c) slices_S1024x3088_S1024x768_0_2056 := by
    simp only [List.dropLast]
    after_results
  have h_v2 : StableHlo.after (hostOps0 (F := Ideal)).dropLast (fun b => m (c, b)) main_v2 = extractStridedSlice S1024x256 ![0, 2824] (w m c) slices_S1024x3088_S1024x256_0_2824 := by
    simp only [List.dropLast]
    after_results
  have h_v3 : StableHlo.after (hostOps0 (F := Ideal)).dropLast (fun b => m (c, b)) main_v3 = extractStridedSlice S1024x1024 ![0, 1024] (w m c) slices_S1024x3088_S1024x1024_0_1024 := by
    simp only [List.dropLast]
    after_results
  have h_v4 : StableHlo.after (hostOps0 (F := Ideal)).dropLast (fun b => m (c, b)) main_v4 = extractStridedSlice S1024x512 ![0, 0] (w m c) slices_S1024x3088_S1024x512_0_0 := by
    simp only [List.dropLast]
    after_results
  have h_v5 : StableHlo.after (hostOps0 (F := Ideal)).dropLast (fun b => m (c, b)) main_v5 = extractStridedSlice S1024x512 ![0, 512] (w m c) slices_S1024x3088_S1024x512_0_512 := by
    simp only [List.dropLast]
    after_results
  have h_v6 : StableHlo.after (hostOps0 (F := Ideal)).dropLast (fun b => m (c, b)) main_v6 = extractStridedSlice S1024x8 ![0, 2048] (w m c) slices_S1024x3088_S1024x8_0_2048 := by
    simp only [List.dropLast]
    after_results
  have h_v0 : StableHlo.after (hostOps0 (F := Ideal)).dropLast (fun b => m (c, b)) main_v0 = zeros := by
    simp only [List.dropLast]
    after_results
  have h_v7 : StableHlo.after (hostOps0 (F := Ideal)).dropLast (fun b => m (c, b)) main_v7 = extractStridedSlice S1024x8 ![0, 3080] (w m c) slices_S1024x3088_S1024x8_0_3080 := by
    simp only [List.dropLast]
    after_results
  unfold V hostOps0
  simp only [StableHlo.after_cons, StableHlo.after_nil]
  rw [StableHlo.nary_result]
  exact Cert.Ffn.cat_congr (Cert.Ffn.piece h_v1 <| Cert.Ffn.piece h_v2 <| Cert.Ffn.piece h_v3 <| Cert.Ffn.piece h_v4 <| Cert.Ffn.piece h_v5 <| Cert.Ffn.piece h_v6 <| Cert.Ffn.piece h_v0 <| Cert.Ffn.piece h_v7 <| Cert.Ffn.piece h_v0 rfl)

-- the nested conditions of the nine pieces are long
set_option maxHeartbeats 1000000 in
theorem algebraic : Cert.algebraic_Kernel10Ideal_Reference10Ideal := by
  intro m g m' g' _ e
  refine ⟨G m, (θ_run (Cert.Kernel10Ideal.defs (F := Ideal)) _ _).mono (fun r H c => ⟨(H c).1.trans (out_eq m c), (H c).2⟩) (run_blocks m g), ?_⟩
  refine (θ_run (Cert.Reference10Ideal.defs (F := Ideal)) _ _).mono (fun r H c => ?_) (Cert.Reference10Ideal.Value.run (F := Ideal) m' g')
  refine ⟨(H c).1.trans ?_, (H c).2⟩
  obtain ⟨e0, e1⟩ := e c
  rw [e0, e1]
  refine Cert.Ffn.ext2 fun i j => ?_
  unfold G
  simp only [W]
  rw [w_eq]
  pointwise
  split_ifs <;> first | rfl | simp

end Cert.Kernel10Ideal.Mix
-- ==== Proof.Mix.Out.lean ====
/-
  The output projection: a sum over the mixers' columns in three parts, which the kernel and the reference take in different orders.
-/
module

public import proofs.«01_k».proof.Proof.Gen.Kernel11Ideal.Value
public import proofs.«01_k».proof.Proof.Gen.Reference11Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel11Ideal.Mix

open Cert.Kernel11Ideal Cert.Kernel11Ideal.Gen Cert.Kernel11Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

abbrev ssd (c : Dev nD) : FVec Ideal S4096x512 .bf16 := m ((c : Thread nD τ).loc main_arg0)
abbrev att (c : Dev nD) : FVec Ideal S4096x256 .bf16 := m ((c : Thread nD τ).loc main_arg1)
abbrev gdn (c : Dev nD) : FVec Ideal S4096x256 .bf16 := m ((c : Thread nD τ).loc main_arg2)
abbrev w (c : Dev nD) : FVec Ideal S1024x1024 .bf16 := m ((c : Thread nD τ).loc main_arg3)
abbrev X (c : Dev nD) : FVec Ideal S4096x1024 .bf16 := V m c main_v4
abbrev W (c : Dev nD) : FVec Ideal S1024x1024 .bf16 := V m c main_v3

/-- The product with the reordered weights. -/
def G (c : Dev nD) : FVec Ideal S4096x1024 .f32 := fun i => ∑ k : Fin 1024, X m c (ix2 (i 0) k) * W m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, X, e0, e2]
  · blk_ext [iblk, W, e1, e2]

/-- The weights as the host lays them out. -/
theorem w_eq (c : Dev nD) : V m c main_v3 = (concatenate S1024x1024 0 [⟨S512x1024, extractStridedSlice S512x1024 ![256, 0] (w m c) slices_S1024x1024_S512x1024_256_0⟩, ⟨S256x1024, extractStridedSlice S256x1024 ![0, 0] (w m c) slices_S1024x1024_S256x1024_0_0⟩, ⟨S256x1024, extractStridedSlice S256x1024 ![768, 0] (w m c) slices_S1024x1024_S256x1024_768_0⟩] concatenates_S512x1024_S256x1024_S256x1024_S1024x1024_d0) := by
  have h_v0 : StableHlo.after (hostOps0 (F := Ideal)).dropLast (fun b => m (c, b)) main_v0 = extractStridedSlice S512x1024 ![256, 0] (w m c) slices_S1024x1024_S512x1024_256_0 := by
    simp only [List.dropLast]
    after_results
  have h_v1 : StableHlo.after (hostOps0 (F := Ideal)).dropLast (fun b => m (c, b)) main_v1 = extractStridedSlice S256x1024 ![0, 0] (w m c) slices_S1024x1024_S256x1024_0_0 := by
    simp only [List.dropLast]
    after_results
  have h_v2 : StableHlo.after (hostOps0 (F := Ideal)).dropLast (fun b => m (c, b)) main_v2 = extractStridedSlice S256x1024 ![768, 0] (w m c) slices_S1024x1024_S256x1024_768_0 := by
    simp only [List.dropLast]
    after_results
  unfold V hostOps0
  simp only [StableHlo.after_cons, StableHlo.after_nil]
  rw [StableHlo.nary_result_ne]; rotate_left; decide
  rw [StableHlo.nary_result]
  exact Cert.Ffn.cat_congr (Cert.Ffn.piece h_v0 <| Cert.Ffn.piece h_v1 <| Cert.Ffn.piece h_v2 rfl)

/-- The mixers, joined by the host. -/
theorem x_eq (c : Dev nD) : V m c main_v4 = (concatenate S4096x1024 1 [⟨S4096x512, ssd m c⟩, ⟨S4096x256, att m c⟩, ⟨S4096x256, gdn m c⟩] concatenates_S4096x512_S4096x256_S4096x256_S4096x1024_d1) := by
  have h_arg0 : StableHlo.after (hostOps0 (F := Ideal)).dropLast (fun b => m (c, b)) main_arg0 = ssd m c := by
    simp only [List.dropLast]
    after_results
  have h_arg1 : StableHlo.after (hostOps0 (F := Ideal)).dropLast (fun b => m (c, b)) main_arg1 = att m c := by
    simp only [List.dropLast]
    after_results
  have h_arg2 : StableHlo.after (hostOps0 (F := Ideal)).dropLast (fun b => m (c, b)) main_arg2 = gdn m c := by
    simp only [List.dropLast]
    after_results
  unfold V hostOps0
  simp only [StableHlo.after_cons, StableHlo.after_nil]
  rw [StableHlo.nary_result]
  exact Cert.Ffn.cat_congr (Cert.Ffn.piece h_arg0 <| Cert.Ffn.piece h_arg1 <| Cert.Ffn.piece h_arg2 rfl)

/-- The idealized kernel and the reference give the same results. -/
theorem algebraic : Cert.algebraic_Kernel11Ideal_Reference11Ideal := by
  intro m g m' g' _ e
  refine ⟨G m, (θ_run (Cert.Kernel11Ideal.defs (F := Ideal)) _ _).mono (fun r H c => ⟨(H c).1.trans (out_eq m c), (H c).2⟩) (run_blocks m g), ?_⟩
  refine (θ_run (Cert.Reference11Ideal.defs (F := Ideal)) _ _).mono (fun r H c => ?_) (Cert.Reference11Ideal.Value.run (F := Ideal) m' g')
  refine ⟨(H c).1.trans ?_, (H c).2⟩
  obtain ⟨e0, e1, e2, e3⟩ := e c
  rw [e0, e1, e2, e3]
  refine Cert.Ffn.ext2 fun i j => ?_
  unfold G
  simp only [X, W]
  rw [w_eq, x_eq]
  pointwise
  refine (Cert.Ffn.split 256 768 rfl _).trans ?_
  refine (congrArg₂ (· + ·) rfl (Cert.Ffn.split 512 256 rfl _)).trans ?_
  refine Eq.trans ?_ (Cert.Ffn.split 512 512 rfl _).symm
  refine Eq.trans ?_ (congrArg₂ (· + ·) rfl (Cert.Ffn.split 256 256 rfl _)).symm
  refine (add_left_comm _ _ _).trans ?_
  refine congrArg₂ (· + ·) ?_ (congrArg₂ (· + ·) ?_ ?_) <;> refine Finset.sum_congr rfl fun x _ => ?_ <;> dsimp only <;> repeat' split
  all_goals first
    | (exfalso; omega)
    | exact Cert.Ffn.term rfl (by omega) (by omega) rfl

end Cert.Kernel11Ideal.Mix
-- ==== Proof.Ffn.Up.lean ====
/-
  The hidden layer and its gate and up columns: the kernel multiplies by the weights interleaved half by half.
-/
module

public import proofs.«01_k».proof.Proof.Gen.Kernel12Ideal.Value
public import proofs.«01_k».proof.Proof.Gen.Reference12Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel12Ideal.Ffn

open Cert.Kernel12Ideal Cert.Kernel12Ideal.Gen Cert.Kernel12Ideal.Value Idealize.ShloMosaic Idealize.ShloMosaic.TcCoe Idealize.SL.Sem

open Cert.Ffn

variable (m : (ℓ : Loc nD τ sig) → Buf (Elt Ideal) ℓ)

/-- The blocks that point `t` reads and writes. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] := by
  decide +kernel

/-- The hidden layer's entry, from the gate and the up column. -/
def hid (g u : EReal) : EReal := g * Ideal.logistic g * u

/-- The product of row `i` of `X` and row `n` of `W`. -/
def col {a b : ℕ} (X : (⟨2, ![a, 1024]⟩ : Shape).Idx → EReal) (W : (⟨2, ![b, 1024]⟩ : Shape).Idx → EReal) (i n : ℕ) : EReal :=
  ∑ x : Fin 1024, at2 X i x.val * at2 W n x.val

/-- The hidden layer at token `i` and column `k`, from the interleaved weights. -/
def act (X : FVec Ideal S4096x1024 .bf16) (W : FVec Ideal S5632x1024 .bf16) (i k : ℕ) : EReal :=
  if k < 1408 then hid (col X W i k) (col X W i (1408 + k)) else hid (col X W i (2816 + (k - 1408))) (col X W i (4224 + (k - 1408)))

abbrev X (c : Dev nD) : FVec Ideal S4096x1024 .bf16 := m ((c : Thread nD τ).loc main_arg0)
abbrev W (c : Dev nD) : FVec Ideal S5632x1024 .bf16 := V m c main_v4
abbrev wg (c : Dev nD) : FVec Ideal S2816x1024 .bf16 := m ((c : Thread nD τ).loc main_arg1)
abbrev wu (c : Dev nD) : FVec Ideal S2816x1024 .bf16 := m ((c : Thread nD τ).loc main_arg2)

/-- The gate and up columns in the layout. -/
def GU (c : Dev nD) : FVec Ideal S4096x5632 .bf16 := fun i => col (X m c) (W m c) (i 0).val (i 1).val

/-- The hidden layer. -/
def GA (c : Dev nD) : FVec Ideal S4096x2816 .bf16 := fun i => act (X m c) (W m c) (i 0).val (i 1).val

/-- The block that point `t` reads, by the numbers of its rows and columns. -/
theorem x_read (c : Dev nD) (t : Fin cfg0.N) (y : S512x1024.Idx) :
    (iblk m c 0 t : FVec Ideal S512x1024 .bf16) y = at2 (X m c) (t.val % 8 * 512 + (y 0).val) (y 1).val := by
  have h0 : (y 0).val < 512 := (y 0).isLt
  have h1 : (y 1).val < 1024 := (y 1).isLt
  have ht : t.val < 16 := t.isLt
  obtain ⟨e0, -⟩ := idx t
  rw [at2, dif_pos ⟨by omega, by omega⟩]
  blk_ext [iblk, V_main_arg0, e0]

/-- The block that point `t` reads, by the numbers of its rows and columns. -/
theorem w_read (c : Dev nD) (t : Fin cfg0.N) (y : S2816x1024.Idx) :
    (iblk m c 1 t : FVec Ideal S2816x1024 .bf16) y = at2 (W m c) (t.val / 8 * 2816 + (y 0).val) (y 1).val := by
  have h0 : (y 0).val < 2816 := (y 0).isLt
  have h1 : (y 1).val < 1024 := (y 1).isLt
  have ht : t.val < 16 := t.isLt
  obtain ⟨-, e1, -⟩ := idx t
  rw [at2, dif_pos ⟨by omega, by omega⟩]
  blk_ext [iblk, W, e1]

/-- What the kernel leaves in the gate and up columns. -/
theorem gu_eq (c : Dev nD) : (dats m 0 c).arrAt 2 cfg0.N = GU m c := by
  refine (dats m 0 c).arrAt_eq_of_covers 2 _ (by decide +kernel) fun t hf y => ?_
  blk_simp
  rw [after0_2]
  frame_out
  rw [eq_ix2 y]
  pointwise [k0_pay2, k0_pay1]
  have hg : GU m c (((View.whole main_v5_0).slice (win0_2.rect t)).emb y) =
      col (X m c) (W m c) (t.val % 8 * 512 + (y 0).val) (t.val / 8 * 2816 + (y 1).val) := by
    obtain ⟨-, -, e2, -⟩ := idx t
    unfold GU
    refine congrArg₂ (col (X m c) (W m c)) ?_ ?_ <;> blk_point [e2]
  rw [hg]
  simp only [x_read, w_read]
  rfl

/-- The hidden layer's column `n` of half `h`. -/
theorem act_block (X : FVec Ideal S4096x1024 .bf16) (W : FVec Ideal S5632x1024 .bf16) (i h n : ℕ) (hh : h < 2) (hn : n < 1408) :
    act X W i (h * 1408 + n) = hid (col X W i (h * 2816 + n)) (col X W i (h * 2816 + (1408 + n))) := by
  unfold act
  rcases (by omega : h = 0 ∨ h = 1) with rfl | rfl
  · simp only [Nat.zero_mul, Nat.zero_add]
    rw [if_pos hn]
  · rw [if_neg (by omega)]
    simp only [show 1 * 1408 + n - 1408 = n by omega, Nat.one_mul, ← Nat.add_assoc]

/-- What the kernel leaves in the hidden layer. -/
theorem act_eq (c : Dev nD) : (dats m 0 c).arrAt 3 cfg0.N = GA m c := by
  refine (dats m 0 c).arrAt_eq_of_covers 3 _ (by decide +kernel) fun t hf y => ?_
  blk_simp
  rw [after0_3]
  frame_out
  rw [eq_ix2 y]
  pointwise [k0_pay3, k0_pay1]
  have ht : t.val < 16 := t.isLt
  have hy : (y 1).val < 1408 := (y 1).isLt
  have hg : GA m c (((View.whole main_v5_1).slice (win0_3.rect t)).emb y) =
      act (X m c) (W m c) (t.val % 8 * 512 + (y 0).val) (t.val / 8 * 1408 + (y 1).val) := by
    obtain ⟨-, -, -, e3⟩ := idx t
    unfold GA
    refine congrArg₂ (act (X m c) (W m c)) ?_ ?_ <;> blk_point [e3]
  rw [hg, act_block (h := t.val / 8) (n := (y 1).val) (hh := by omega) (hn := hy)]
  simp only [x_read, w_read]
  rfl

/-- The weights as the host lays them out. -/
theorem w_eq (c : Dev nD) : V m c main_v4 = (concatenate S5632x1024 0 [⟨S1408x1024, extractStridedSlice S1408x1024 ![0, 0] (wg m c) slices_S2816x1024_S1408x1024_0_0⟩, ⟨S1408x1024, extractStridedSlice S1408x1024 ![0, 0] (wu m c) slices_S2816x1024_S1408x1024_0_0⟩, ⟨S1408x1024, extractStridedSlice S1408x1024 ![1408, 0] (wg m c) slices_S2816x1024_S1408x1024_1408_0⟩, ⟨S1408x1024, extractStridedSlice S1408x1024 ![1408, 0] (wu m c) slices_S2816x1024_S1408x1024_1408_0⟩] concatenates_S1408x1024_S1408x1024_S1408x1024_S1408x1024_S5632x1024_d0) := by
  have h0 : StableHlo.after (hostOps0 (F := Ideal)).dropLast (fun b => m (c, b)) main_v0 = extractStridedSlice S1408x1024 ![0, 0] (wg m c) slices_S2816x1024_S1408x1024_0_0 := by
    simp only [List.dropLast]
    after_results
  have h1 : StableHlo.after (hostOps0 (F := Ideal)).dropLast (fun b => m (c, b)) main_v1 = extractStridedSlice S1408x1024 ![0, 0] (wu m c) slices_S2816x1024_S1408x1024_0_0 := by
    simp only [List.dropLast]
    after_results
  have h2 : StableHlo.after (hostOps0 (F := Ideal)).dropLast (fun b => m (c, b)) main_v2 = extractStridedSlice S1408x1024 ![1408, 0] (wg m c) slices_S2816x1024_S1408x1024_1408_0 := by
    simp only [List.dropLast]
    after_results
  have h3 : StableHlo.after (hostOps0 (F := Ideal)).dropLast (fun b => m (c, b)) main_v3 = extractStridedSlice S1408x1024 ![1408, 0] (wu m c) slices_S2816x1024_S1408x1024_1408_0 := by
    simp only [List.dropLast]
    after_results
  unfold V hostOps0
  simp only [StableHlo.after_cons, StableHlo.after_nil]
  rw [StableHlo.nary_result]
  exact Cert.Ffn.cat_congr (Cert.Ffn.piece h0 <| Cert.Ffn.piece h1 <| Cert.Ffn.piece h2 <| Cert.Ffn.piece h3 rfl)

/-- A column of the product with the interleaved weights, by the piece it lies in. -/
theorem col_eq (c : Dev nD) (i n : ℕ) (hn : n < 5632) : col (X m c) (W m c) i n =
    if n < 1408 then col (X m c) (wg m c) i n
    else if n - 1408 < 1408 then col (X m c) (wu m c) i (n - 1408)
    else if n - 1408 - 1408 < 1408 then col (X m c) (wg m c) i (1408 + (n - 1408 - 1408))
    else col (X m c) (wu m c) i (1408 + (n - 1408 - 1408 - 1408)) := by
  have h (x : Fin 1024) : at2 (W m c) n x.val =
      if n < 1408 then at2 (wg m c) n x.val
      else if n - 1408 < 1408 then at2 (wu m c) (n - 1408) x.val
      else if n - 1408 - 1408 < 1408 then at2 (wg m c) (1408 + (n - 1408 - 1408)) x.val
      else at2 (wu m c) (1408 + (n - 1408 - 1408 - 1408)) x.val := by
    rw [← at2_ix2 (W m c) ⟨n, hn⟩ x]
    simp only [W]
    rw [w_eq]
    pointwise
    split_ifs
    all_goals
      simp only [at2_ix2 (wg m c), at2_ix2 (wu m c)]
  unfold col
  simp only [h]
  split_ifs <;> rfl

/-- The hidden layer from the two weights. -/
theorem act_ref (c : Dev nD) (i k : ℕ) (hk : k < 2816) :
    act (X m c) (W m c) i k = hid (col (X m c) (wg m c) i k) (col (X m c) (wu m c) i k) := by
  unfold act
  split_ifs with h
  · rw [col_eq m c i k (by omega), col_eq m c i (1408 + k) (by omega), if_pos h, if_neg (by omega), if_pos (by omega), Nat.add_sub_cancel_left]
  · rw [col_eq m c i (2816 + (k - 1408)) (by omega), col_eq m c i (4224 + (k - 1408)) (by omega), if_neg (by omega), if_neg (by omega),
      if_pos (by omega), if_neg (by omega), if_neg (by omega), if_neg (by omega)]
    simp only [show 1408 + (2816 + (k - 1408) - 1408 - 1408) = k by omega, show 1408 + (4224 + (k - 1408) - 1408 - 1408 - 1408) = k by omega]

/-- The idealized kernel and the reference give the same results. -/
theorem algebraic : Cert.algebraic_Kernel12Ideal_Reference12Ideal := by
  intro m g m' g' _ e
  refine ⟨GU m, GA m, (θ_run (Cert.Kernel12Ideal.defs (F := Ideal)) _ _).mono (fun r H c => ⟨(H c).1.trans (gu_eq m c), (H c).2.1.trans (act_eq m c), (H c).2.2⟩) (run_blocks m g), ?_⟩
  refine (θ_run (Cert.Reference12Ideal.defs (F := Ideal)) _ _).mono (fun r H c => ?_) (Cert.Reference12Ideal.Value.run (F := Ideal) m' g')
  obtain ⟨e0, e1, e2⟩ := e c
  refine ⟨(H c).1.trans ?_, (H c).2.1.trans ?_, (H c).2.2⟩
  · rw [e0, e1, e2]
    refine Cert.Ffn.ext2 fun i j => ?_
    pointwise
    refine Eq.trans ?_ (col_eq m c i.val j.val j.isLt).symm
    unfold col
    split_ifs <;> simp only [at2_ix2 (X m c), at2_ix2 (wg m c), at2_ix2 (wu m c)] <;> rfl
  · rw [e0, e1, e2]
    refine Cert.Ffn.ext2 fun i j => ?_
    pointwise
    refine Eq.trans ?_ (act_ref m c i.val j.val j.isLt).symm
    unfold col
    simp only [at2_ix2 (X m c), at2_ix2 (wg m c), at2_ix2 (wu m c)]
    rfl

end Cert.Kernel12Ideal.Ffn
-- ==== Proof.Ffn.Down.lean ====
/-
  The product that leads down, in blocks of 512 rows.
-/
module

public import proofs.«01_k».proof.Proof.Gen.Kernel13Ideal.Value
public import proofs.«01_k».proof.Proof.Gen.Reference13Ideal.Run
public import proofs.«01_k».proof.Defs
public import proofs.«01_k».proof.Proof.Ffn.Basic
public import Idealize.ShloMosaic.Lib.Pipeline.ValueKit
public import Idealize.ShloMosaic.Lib.Pointwise

@[expose] public section

set_option maxRecDepth 16384

noncomputable section

namespace Cert.Kernel13Ideal.Ffn

open Cert.Kernel13Ideal Cert.Kernel13Ideal.Gen Cert.Kernel13Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

abbrev X (c : Dev nD) : FVec Ideal S4096x2816 .bf16 := m ((c : Thread nD τ).loc main_arg0)
abbrev W (c : Dev nD) : FVec Ideal S2816x1024 .bf16 := m ((c : Thread nD τ).loc main_arg1)

/-- The product. -/
def G (c : Dev nD) : FVec Ideal S4096x1024 .f32 := fun i => ∑ k : Fin 2816, X m c (ix2 (i 0) k) * W m c (ix2 k (i 1))

/-- What the kernel leaves in its result. -/
theorem out_eq (c : Dev nD) : (dats m 0 c).arrAt 2 cfg0.N = G m c := by
  refine (dats m 0 c).arrAt_eq_of_covers 2 _ (by decide +kernel) fun t hf y => ?_
  blk_simp
  rw [after0_2]
  frame_out
  rw [eq_ix2 y]
  pointwise [k0_pay1]
  obtain ⟨e0, e1, e2⟩ := idx t
  unfold G
  refine Finset.sum_congr (M := EReal) rfl fun k _ => ?_
  congr 1
  · blk_ext [iblk, V_main_arg0, e0, e2]
  · blk_ext [iblk, V_main_arg1, e1, e2]

/-- The idealized kernel and the reference give the same results. -/
theorem algebraic : Cert.algebraic_Kernel13Ideal_Reference13Ideal := by
  intro m g m' g' _ e
  refine ⟨G m, (θ_run (Cert.Kernel13Ideal.defs (F := Ideal)) _ _).mono (fun r H c => ⟨(H c).1.trans (out_eq m c), (H c).2⟩) (run_blocks m g), ?_⟩
  refine (θ_run (Cert.Reference13Ideal.defs (F := Ideal)) _ _).mono (fun r H c => ?_) (Cert.Reference13Ideal.Value.run (F := Ideal) m' g')
  refine ⟨(H c).1.trans ?_, (H c).2⟩
  obtain ⟨e0, e1⟩ := e c
  rw [e0, e1]
  refine Cert.Ffn.ext2 fun i j => ?_
  pointwise
  rfl

end Cert.Kernel13Ideal.Ffn
-- ==== Proof.Norm.Basic.lean ====
/-
  What the norms of the rows and their backward passes have in common: the gradient of one row, and the weight gradient
  as a sum that grows by one block of rows at a time.
-/
module

public import proofs.«01_k».proof.Proof.Ffn.Basic
public import Idealize.ShloMosaic.Lib.Pointwise

@[expose] public section

noncomputable section

namespace Cert.Norm

open Idealize.ShloMosaic

/-- The mean square of a row, kept away from zero. -/
def ms (x : Fin 1024 → EReal) : EReal :=
  Ideal.div (∑ k, x k * x k) (Ideal.ofBits FTy.f32 1149239296#32) + Ideal.ofBits FTy.f32 897988541#32

/-- The factor that normalises a row. -/
def inv (x : Fin 1024 → EReal) : EReal := Ideal.rsqrt (ms x)

/-- A normalised row, weighted. -/
def normed (x w : Fin 1024 → EReal) (j : Fin 1024) : EReal := x j * inv x * w j

/-- What the mean square contributes to the gradient of a row, for every entry of the row alike. -/
def pull (x g w : Fin 1024 → EReal) : EReal :=
  ∑ _ : Fin 1, Ideal.div ((∑ k, x k * (g k * w k)) * (Ideal.ofBits FTy.f32 3204448256#32 * Ideal.div (inv x) (ms x))) (Ideal.ofBits FTy.f32 1149239296#32)

/-- The gradient of a row under its norm. -/
def grad (x g w : Fin 1024 → EReal) (j : Fin 1024) : EReal := g j * w j * inv x + x j * pull x g w + pull x g w * x j

/-- A row of an array. -/
def row {a b : ℕ} (A : (⟨2, ![a, b]⟩ : Shape).Idx → EReal) (i : Fin a) (j : Fin b) : EReal := A (ix2 i j)

/-- What row `n` adds to the gradient of weight `j`. -/
def wTerm (X D : (⟨2, ![4096, 1024]⟩ : Shape).Idx → EReal) (j : Fin 1024) (n : ℕ) : EReal :=
  if h : n < 4096 then X (ix2 ⟨n, h⟩ j) * inv (row X ⟨n, h⟩) * D (ix2 ⟨n, h⟩ j) else 0

/-- One more block of rows. -/
theorem block (f : ℕ → EReal) (t : ℕ) : ∑ n ∈ Finset.range (512 * (t + 1)), f n = ∑ n ∈ Finset.range (512 * t), f n + ∑ r : Fin 512, f (512 * t + r.val) := by
  rw [Nat.mul_succ, Finset.sum_range_add, ← Fin.sum_univ_eq_sum_range (fun r => f (512 * t + r)) 512]

/-- The first block of rows. -/
theorem first (f : ℕ → EReal) : ∑ n ∈ Finset.range 512, f n = ∑ r : Fin 512, f r.val := (Fin.sum_univ_eq_sum_range f 512).symm

/-- A sum that takes in one block of rows at a time. -/
theorem fold {N : ℕ} (f : ℕ → EReal) (S : (n : ℕ) → n < N → EReal)
    (h0 : ∀ t : Fin N, t.val = 0 → S t.val t.isLt = ∑ r : Fin 512, f (512 * t.val + r.val))
    (hs : ∀ (t : Fin N) (p : t.val - 1 < N), 1 ≤ t.val → S t.val t.isLt = S (t.val - 1) p + ∑ r : Fin 512, f (512 * t.val + r.val)) :
    ∀ (n : ℕ) (h : n < N), S n h = ∑ u ∈ Finset.range (512 * (n + 1)), f u := by
  intro n
  induction n with
  | zero =>
    intro h
    refine (h0 ⟨0, h⟩ rfl).trans ?_
    rw [Nat.zero_add, Nat.mul_one, first]
    simp only [Nat.mul_zero, Nat.zero_add]
  | succ n ih =>
    intro h
    rw [block]
    exact (hs ⟨n + 1, h⟩ (by simp only; omega) (by simp only; omega)).trans (congrArg (· + _) (ih (by omega)))

/-- The gradient of a weight, over all rows. -/
def wGrad (X D : (⟨2, ![4096, 1024]⟩ : Shape).Idx → EReal) (j : Fin 1024) : EReal :=
  ∑ r : Fin 4096, X (ix2 r j) * inv (row X r) * D (ix2 r j)

/-- What a block of rows adds to the gradient of a weight. -/
theorem wBlock (X D : (⟨2, ![4096, 1024]⟩ : Shape).Idx → EReal) (j : Fin 1024) (t : ℕ) (h : ∀ r : Fin 512, 512 * t + r.val < 4096) :
    (∑ r : Fin 512, X (ix2 ⟨512 * t + r.val, h r⟩ j) * inv (row X ⟨512 * t + r.val, h r⟩) * D (ix2 ⟨512 * t + r.val, h r⟩ j)) = ∑ r : Fin 512, wTerm X D j (512 * t + r.val) :=
  Finset.sum_congr rfl fun r _ => by rw [wTerm, dif_pos (h r)]

/-- The gradient of a weight, once all blocks are in. -/
theorem total (X D : (⟨2, ![4096, 1024]⟩ : Shape).Idx → EReal) (j : Fin 1024) : ∑ n ∈ Finset.range 4096, wTerm X D j n = wGrad X D j := by
  rw [← Fin.sum_univ_eq_sum_range (wTerm X D j) 4096]
  exact Finset.sum_congr rfl fun r _ => dif_pos r.isLt

end Cert.Norm
-- ==== Proof.Norm.DPre.lean ====
/-
  The backward pass of the first norm of a layer: the gradient of each row, added to what the row gets directly, and the
  gradient of the weights, summed up block of rows by block of rows.
-/
module

public import proofs.«01_k».proof.Proof.Gen.Kernel14Ideal.Value
public import proofs.«01_k».proof.Proof.Gen.Reference14Ideal.Run
public import proofs.«01_k».proof.Defs
public import proofs.«01_k».proof.Proof.Norm.Basic
public import Idealize.ShloMosaic.Lib.Pipeline.ValueKit
public import Idealize.ShloMosaic.Lib.Pointwise

@[expose] public section

set_option maxRecDepth 16384

noncomputable section

namespace Cert.Kernel14Ideal.Norm

open Cert.Kernel14Ideal Cert.Kernel14Ideal.Gen Cert.Kernel14Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] := by
  decide +kernel

/-- The rows. -/
abbrev X (c : Dev nD) : FVec Ideal S4096x1024 .f32 := m ((c : Thread nD τ).loc main_arg0)
/-- What the rows get directly. -/
abbrev D (c : Dev nD) : FVec Ideal S4096x1024 .f32 := m ((c : Thread nD τ).loc main_arg1)
/-- The gradient of the normed rows. -/
abbrev H (c : Dev nD) : FVec Ideal S4096x1024 .f32 := m ((c : Thread nD τ).loc main_arg2)
/-- The weights of the norm. -/
abbrev W (c : Dev nD) : FVec Ideal S1x1024 .f32 := m ((c : Thread nD τ).loc main_arg3)

/-- The gradient of the rows. -/
def G (c : Dev nD) : FVec Ideal S4096x1024 .f32 := fun i => D m c (ix2 (i 0) (i 1)) + Cert.Norm.grad (Cert.Norm.row (X m c) (i 0)) (Cert.Norm.row (H m c) (i 0)) (Cert.Norm.row (W m c) 0) (i 1)

/-- The gradient of the weights. -/
def GW (c : Dev nD) : FVec Ideal S1x1024 .f32 := fun i => Cert.Norm.wGrad (X m c) (H m c) (i 1)

section Blocks

variable (c : Dev nD) (t : Fin cfg0.N) (r : Fin 512) (k : Fin 1024)

/-- A row of a block is a row of the array. -/
theorem lt : 512 * t.val + r.val < 4096 := by
  have := t.isLt; have : cfg0.N = 8 := N_0; omega

/-- The block of `X`, by row and column. -/
theorem x_read : (iblk m c 0 t : FVec Ideal S512x1024 .f32) (ix2 r k) = X m c (ix2 ⟨512 * t.val + r.val, lt t r⟩ k) := by
  obtain ⟨e0, e1, e2, e3, e4, e5⟩ := idx t
  blk_ext [iblk, V_main_arg0, e0]

/-- The block of `D`, by row and column. -/
theorem d_read : (iblk m c 1 t : FVec Ideal S512x1024 .f32) (ix2 r k) = D m c (ix2 ⟨512 * t.val + r.val, lt t r⟩ k) := by
  obtain ⟨e0, e1, e2, e3, e4, e5⟩ := idx t
  blk_ext [iblk, V_main_arg1, e1]

/-- The block of `H`, by row and column. -/
theorem h_read : (iblk m c 2 t : FVec Ideal S512x1024 .f32) (ix2 r k) = H m c (ix2 ⟨512 * t.val + r.val, lt t r⟩ k) := by
  obtain ⟨e0, e1, e2, e3, e4, e5⟩ := idx t
  blk_ext [iblk, V_main_arg2, e2]

/-- `W` is read whole. -/
theorem w_read : (iblk m c 3 t : FVec Ideal S1x1024 .f32) (ix2 0 k) = W m c (ix2 0 k) := by
  obtain ⟨e0, e1, e2, e3, e4, e5⟩ := idx t
  blk_ext [iblk, V_main_arg3, e3]

end Blocks

/-- The rows that point `t` writes. -/
theorem row_eq (c : Dev nD) (t : Fin cfg0.N) (r : Fin 512) (k : Fin 1024) :
    (outsAt0 m c t.val t.isLt).1 (ix2 r k) = G m c (ix2 ⟨512 * t.val + r.val, lt t r⟩ k) := by
  have hN : t.val < 8 := lt_of_lt_of_eq t.isLt N_0
  by_cases h : 1 ≤ t.val
  on_goal 1 => rw [outsAt0_B m c t (by omega) h]
  on_goal 2 => rw [outsAt0_A m c t (by omega) h]
  all_goals
    dsimp only
    frame_out
    pointwise [k0_pay5, k0_pay3, k0_pay2]
    simp only [x_read, d_read, h_read, w_read]
    rfl

/-- The rows that the kernel leaves. -/
theorem out_eq (c : Dev nD) : (dats m 0 c).arrAt 4 cfg0.N = G m c := by
  refine (dats m 0 c).arrAt_eq_of_covers 4 _ (by decide +kernel) fun t hf y => ?_
  obtain ⟨e0, e1, e2, e3, e4, e5⟩ := idx t
  blk_simp
  rw [after0_4, eq_ix2 y]
  exact (row_eq m c t (y 0) (y 1)).trans (congrArg (G m c) (by blk_point [e4]))

/-- The sum of the weights' gradient after point `n`. -/
theorem sum_eq (c : Dev nD) (i : Fin 1) (j : Fin 1024) : ∀ (n : ℕ) (h : n < cfg0.N),
    (outsAt0 m c n h).2 (ix2 i j) = ∑ u ∈ Finset.range (512 * (n + 1)), Cert.Norm.wTerm (X m c) (H m c) j u := by
  obtain rfl : i = 0 := Subsingleton.elim _ _
  refine Cert.Norm.fold _ (fun n h => (outsAt0 m c n h).2 (ix2 0 j)) (fun t h => ?_) fun t p h => ?_
  · rw [outsAt0_A m c t (by omega) (by omega)]
    frame_out
    pointwise [k0_pay4, k0_pay3, k0_pay2]
    simp only [x_read, h_read]
    exact Cert.Norm.wBlock (X m c) (H m c) j t.val (lt t)
  · have hN : t.val < 8 := lt_of_lt_of_eq t.isLt N_0
    rw [outsAt0_B m c t (by omega) h]
    frame_out
    pointwise [k0_pay1, k0_pay4, k0_pay3, k0_pay2]
    simp only [x_read, h_read]
    exact congrArg₂ (· + ·) rfl (Cert.Norm.wBlock (X m c) (H m c) j t.val (lt t))

/-- The weights' gradient that the kernel leaves. -/
theorem outW_eq (c : Dev nD) : (dats m 0 c).arrAt 5 cfg0.N = GW m c := by
  refine (dats m 0 c).arrAt_eq_of_covers 5 _ (by decide +kernel) fun t hf y => ?_
  have ht : t.val = 7 := (by decide +kernel : ∀ t : Fin cfg0.N, (cfg0.win 5).flush t = true → t.val = 7) t hf
  obtain ⟨e0, e1, e2, e3, e4, e5⟩ := idx t
  blk_simp
  rw [after0_5, eq_ix2 y]
  refine (sum_eq m c (y 0) (y 1) t.val t.isLt).trans ?_
  refine Eq.trans (congrArg (fun n => ∑ u ∈ Finset.range (512 * (n + 1)), Cert.Norm.wTerm (X m c) (H m c) (y 1) u) ht) ?_
  refine (Cert.Norm.total (X m c) (H m c) (y 1)).trans ?_
  refine Eq.trans (b := GW m c (ix2 (y 0) (y 1))) rfl (congrArg (GW m c) ?_)
  blk_point [e5]

/-- The idealized kernel and the reference give the same results. -/
theorem algebraic : Cert.algebraic_Kernel14Ideal_Reference14Ideal := by
  intro m g m' g' _ e
  refine ⟨G m, GW m, (θ_run (Cert.Kernel14Ideal.defs (F := Ideal)) _ _).mono (fun r H c => ⟨(H c).1.trans (out_eq m c), (H c).2.1.trans (outW_eq m c), (H c).2.2⟩) (run_blocks m g), ?_⟩
  refine (θ_run (Cert.Reference14Ideal.defs (F := Ideal)) _ _).mono (fun r H c => ?_) (Cert.Reference14Ideal.Value.run (F := Ideal) m' g')
  obtain ⟨e0, e1, e2, e3⟩ := e c
  refine ⟨(H c).1.trans ?_, (H c).2.1.trans ?_, (H c).2.2⟩
  · unfold Cert.Reference14Ideal.Value.res_main_v37
    rw [e0, e1, e2, e3]
    refine Cert.Ffn.ext2 fun i j => ?_
    pointwise
    rfl
  · rw [e0, e2]
    refine Cert.Ffn.ext2 fun i j => ?_
    pointwise
    rw [Fin.sum_univ_one]
    rfl

end Cert.Kernel14Ideal.Norm
-- ==== Proof.Norm.DPost.lean ====
/-
  The backward pass of a layer's second norm joined with the next layer's first: the gradient of the rows after the
  residual is added, the gradient of the rows before, and the gradients of both weights.
-/
module

public import proofs.«01_k».proof.Proof.Gen.Kernel15Ideal.Value
public import proofs.«01_k».proof.Proof.Gen.Reference15Ideal.Run
public import proofs.«01_k».proof.Defs
public import proofs.«01_k».proof.Proof.Norm.Basic
public import Idealize.ShloMosaic.Lib.Pipeline.ValueKit
public import Idealize.ShloMosaic.Lib.Pointwise

@[expose] public section

set_option maxRecDepth 16384

noncomputable section

namespace Cert.Kernel15Ideal.Norm

open Cert.Kernel15Ideal Cert.Kernel15Ideal.Gen Cert.Kernel15Ideal.Value Idealize.ShloMosaic Idealize.ShloMosaic.TcCoe Idealize.SL.Sem

variable (m : (ℓ : Loc nD τ sig) → Buf (Elt Ideal) ℓ)

/-- The blocks that point `t` reads. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] := by
  decide +kernel

/-- The blocks that point `t` writes. -/
theorem idx' : ∀ t : Fin cfg0.N, win0_6.index t = ![t.val, 0] ∧ win0_7.index t = ![t.val, 0] ∧ win0_8.index t = ![0, 0] ∧ win0_9.index t = ![0, 0] := by
  decide +kernel

/-- The rows after the residual is added. -/
abbrev X (c : Dev nD) : FVec Ideal S4096x1024 .f32 := m ((c : Thread nD τ).loc main_arg0)
/-- The mixer's or feed-forward's output. -/
abbrev M (c : Dev nD) : FVec Ideal S4096x1024 .f32 := m ((c : Thread nD τ).loc main_arg1)
/-- What the rows get directly. -/
abbrev D (c : Dev nD) : FVec Ideal S4096x1024 .f32 := m ((c : Thread nD τ).loc main_arg2)
/-- The gradient of the normed rows. -/
abbrev H (c : Dev nD) : FVec Ideal S4096x1024 .f32 := m ((c : Thread nD τ).loc main_arg3)
/-- The weights of the second norm. -/
abbrev P (c : Dev nD) : FVec Ideal S1x1024 .f32 := m ((c : Thread nD τ).loc main_arg4)
/-- The weights of the next layer's first norm. -/
abbrev W (c : Dev nD) : FVec Ideal S1x1024 .f32 := m ((c : Thread nD τ).loc main_arg5)

/-- The gradient of the rows after the residual is added. -/
def GT (c : Dev nD) : FVec Ideal S4096x1024 .f32 := fun i => D m c (ix2 (i 0) (i 1)) + Cert.Norm.grad (Cert.Norm.row (X m c) (i 0)) (Cert.Norm.row (H m c) (i 0)) (Cert.Norm.row (W m c) 0) (i 1)

/-- The gradient of the rows that the layer's second norm reads. -/
def GM (c : Dev nD) : FVec Ideal S4096x1024 .bf16 := fun i => Cert.Norm.grad (Cert.Norm.row (M m c) (i 0)) (Cert.Norm.row (GT m c) (i 0)) (Cert.Norm.row (P m c) 0) (i 1)

/-- The gradient of the next norm's weights. -/
def GW (c : Dev nD) : FVec Ideal S1x1024 .f32 := fun i => Cert.Norm.wGrad (X m c) (H m c) (i 1)

/-- The gradient of the layer's second norm's weights. -/
def GP (c : Dev nD) : FVec Ideal S1x1024 .f32 := fun i => Cert.Norm.wGrad (M m c) (GT m c) (i 1)

section Blocks

variable (c : Dev nD) (t : Fin cfg0.N) (r : Fin 512) (k : Fin 1024)

/-- A row of a block is a row of the array. -/
theorem lt : 512 * t.val + r.val < 4096 := by
  have := t.isLt; have : cfg0.N = 8 := N_0; omega

/-- The block of `X`, by row and column. -/
theorem x_read : (iblk m c 0 t : FVec Ideal S512x1024 .f32) (ix2 r k) = X m c (ix2 ⟨512 * t.val + r.val, lt t r⟩ k) := by
  obtain ⟨e0, e1, e2, e3, e4, e5⟩ := idx t
  blk_ext [iblk, V_main_arg0, e0]

/-- The block of `M`, by row and column. -/
theorem m_read : (iblk m c 1 t : FVec Ideal S512x1024 .f32) (ix2 r k) = M m c (ix2 ⟨512 * t.val + r.val, lt t r⟩ k) := by
  obtain ⟨e0, e1, e2, e3, e4, e5⟩ := idx t
  blk_ext [iblk, V_main_arg1, e1]

/-- The block of `D`, by row and column. -/
theorem d_read : (iblk m c 2 t : FVec Ideal S512x1024 .f32) (ix2 r k) = D m c (ix2 ⟨512 * t.val + r.val, lt t r⟩ k) := by
  obtain ⟨e0, e1, e2, e3, e4, e5⟩ := idx t
  blk_ext [iblk, V_main_arg2, e2]

/-- The block of `H`, by row and column. -/
theorem h_read : (iblk m c 3 t : FVec Ideal S512x1024 .f32) (ix2 r k) = H m c (ix2 ⟨512 * t.val + r.val, lt t r⟩ k) := by
  obtain ⟨e0, e1, e2, e3, e4, e5⟩ := idx t
  blk_ext [iblk, V_main_arg3, e3]

/-- `P` is read whole. -/
theorem p_read : (iblk m c 4 t : FVec Ideal S1x1024 .f32) (ix2 0 k) = P m c (ix2 0 k) := by
  obtain ⟨e0, e1, e2, e3, e4, e5⟩ := idx t
  blk_ext [iblk, V_main_arg4, e4]

/-- `W` is read whole. -/
theorem w_read : (iblk m c 5 t : FVec Ideal S1x1024 .f32) (ix2 0 k) = W m c (ix2 0 k) := by
  obtain ⟨e0, e1, e2, e3, e4, e5⟩ := idx t
  blk_ext [iblk, V_main_arg5, e5]

end Blocks

/-- The rows that point `t` writes. -/
theorem rows_eq (c : Dev nD) (t : Fin cfg0.N) (r : Fin 512) (k : Fin 1024) :
    (outsAt0 m c t.val t.isLt).1 (ix2 r k) = GT m c (ix2 ⟨512 * t.val + r.val, lt t r⟩ k)
    ∧ (outsAt0 m c t.val t.isLt).2.1 (ix2 r k) = GM m c (ix2 ⟨512 * t.val + r.val, lt t r⟩ k) := by
  have hN : t.val < 8 := lt_of_lt_of_eq t.isLt N_0
  by_cases h : 1 ≤ t.val
  on_goal 1 => rw [outsAt0_B m c t (by omega) h]
  on_goal 2 => rw [outsAt0_A m c t (by omega) h]
  all_goals
    dsimp only
    constructor
    · frame_out
      pointwise [k0_pay7, k0_pay6, k0_pay4, k0_pay3]
      simp only [x_read, d_read, h_read, w_read]
      rfl
    · frame_out
      pointwise [k0_pay11, k0_pay9, k0_pay8, k0_pay7, k0_pay6, k0_pay4, k0_pay3]
      simp only [x_read, m_read, d_read, h_read, p_read, w_read]
      rfl

/-- The gradient of the rows after the residual is added, as the kernel leaves it. -/
theorem outT_eq (c : Dev nD) : (dats m 0 c).arrAt 6 cfg0.N = GT m c := by
  refine (dats m 0 c).arrAt_eq_of_covers 6 _ (by decide +kernel) fun t hf y => ?_
  obtain ⟨e6, e7, e8, e9⟩ := idx' t
  blk_simp
  rw [after0_6, eq_ix2 y]
  exact (rows_eq m c t (y 0) (y 1)).1.trans (congrArg (GT m c) (by blk_point [e6]))

/-- The gradient of the rows that the layer's second norm reads, as the kernel leaves it. -/
theorem outM_eq (c : Dev nD) : (dats m 0 c).arrAt 7 cfg0.N = GM m c := by
  refine (dats m 0 c).arrAt_eq_of_covers 7 _ (by decide +kernel) fun t hf y => ?_
  obtain ⟨e6, e7, e8, e9⟩ := idx' t
  blk_simp
  rw [after0_7, eq_ix2 y]
  exact (rows_eq m c t (y 0) (y 1)).2.trans (congrArg (GM m c) (by blk_point [e7]))

/-- The sum of the gradient of the next norm's weights after point `n`. -/
theorem sumW_eq (c : Dev nD) (i : Fin 1) (j : Fin 1024) : ∀ (n : ℕ) (h : n < cfg0.N),
    (outsAt0 m c n h).2.2.1 (ix2 i j) = ∑ u ∈ Finset.range (512 * (n + 1)), Cert.Norm.wTerm (X m c) (H m c) j u := by
  obtain rfl : i = 0 := Subsingleton.elim _ _
  refine Cert.Norm.fold _ (fun n h => (outsAt0 m c n h).2.2.1 (ix2 0 j)) (fun t h => ?_) fun t p h => ?_
  · rw [outsAt0_A m c t (by omega) (by omega)]
    frame_out
    pointwise [k0_pay5, k0_pay4, k0_pay3]
    simp only [x_read, h_read]
    exact Cert.Norm.wBlock (X m c) (H m c) j t.val (lt t)
  · have hN : t.val < 8 := lt_of_lt_of_eq t.isLt N_0
    rw [outsAt0_B m c t (by omega) h]
    frame_out
    pointwise [k0_pay1, k0_pay5, k0_pay4, k0_pay3]
    simp only [x_read, h_read]
    exact congrArg₂ (· + ·) rfl (Cert.Norm.wBlock (X m c) (H m c) j t.val (lt t))

/-- The sum of the gradient of the layer's second norm's weights after point `n`. -/
theorem sumP_eq (c : Dev nD) (i : Fin 1) (j : Fin 1024) : ∀ (n : ℕ) (h : n < cfg0.N),
    (outsAt0 m c n h).2.2.2 (ix2 i j) = ∑ u ∈ Finset.range (512 * (n + 1)), Cert.Norm.wTerm (M m c) (GT m c) j u := by
  obtain rfl : i = 0 := Subsingleton.elim _ _
  refine Cert.Norm.fold _ (fun n h => (outsAt0 m c n h).2.2.2 (ix2 0 j)) (fun t h => ?_) fun t p h => ?_
  · rw [outsAt0_A m c t (by omega) (by omega)]
    frame_out
    pointwise [k0_pay10, k0_pay9, k0_pay8, k0_pay7, k0_pay6, k0_pay4, k0_pay3]
    simp only [x_read, m_read, d_read, h_read, w_read]
    exact Cert.Norm.wBlock (M m c) (GT m c) j t.val (lt t)
  · have hN : t.val < 8 := lt_of_lt_of_eq t.isLt N_0
    rw [outsAt0_B m c t (by omega) h]
    frame_out
    pointwise [k0_pay2, k0_pay10, k0_pay9, k0_pay8, k0_pay7, k0_pay6, k0_pay4, k0_pay3]
    simp only [x_read, m_read, d_read, h_read, w_read]
    exact congrArg₂ (· + ·) rfl (Cert.Norm.wBlock (M m c) (GT m c) j t.val (lt t))

/-- The gradient of the next norm's weights, as the kernel leaves it. -/
theorem outW_eq (c : Dev nD) : (dats m 0 c).arrAt 8 cfg0.N = GW m c := by
  refine (dats m 0 c).arrAt_eq_of_covers 8 _ (by decide +kernel) fun t hf y => ?_
  have ht : t.val = 7 := (by decide +kernel : ∀ t : Fin cfg0.N, (cfg0.win 8).flush t = true → t.val = 7) t hf
  obtain ⟨e6, e7, e8, e9⟩ := idx' t
  blk_simp
  rw [after0_8, eq_ix2 y]
  refine (sumW_eq m c (y 0) (y 1) t.val t.isLt).trans ?_
  refine Eq.trans (congrArg (fun n => ∑ u ∈ Finset.range (512 * (n + 1)), Cert.Norm.wTerm (X m c) (H m c) (y 1) u) ht) ?_
  refine (Cert.Norm.total (X m c) (H m c) (y 1)).trans ?_
  refine Eq.trans (b := GW m c (ix2 (y 0) (y 1))) rfl (congrArg (GW m c) ?_)
  blk_point [e8]

/-- The gradient of the layer's second norm's weights, as the kernel leaves it. -/
theorem outP_eq (c : Dev nD) : (dats m 0 c).arrAt 9 cfg0.N = GP m c := by
  refine (dats m 0 c).arrAt_eq_of_covers 9 _ (by decide +kernel) fun t hf y => ?_
  have ht : t.val = 7 := (by decide +kernel : ∀ t : Fin cfg0.N, (cfg0.win 9).flush t = true → t.val = 7) t hf
  obtain ⟨e6, e7, e8, e9⟩ := idx' t
  blk_simp
  rw [after0_9, eq_ix2 y]
  refine (sumP_eq m c (y 0) (y 1) t.val t.isLt).trans ?_
  refine Eq.trans (congrArg (fun n => ∑ u ∈ Finset.range (512 * (n + 1)), Cert.Norm.wTerm (M m c) (GT m c) (y 1) u) ht) ?_
  refine (Cert.Norm.total (M m c) (GT m c) (y 1)).trans ?_
  refine Eq.trans (b := GP m c (ix2 (y 0) (y 1))) rfl (congrArg (GP m c) ?_)
  blk_point [e9]

set_option maxHeartbeats 2000000 in
/-- The idealized kernel and the reference give the same results. -/
theorem algebraic : Cert.algebraic_Kernel15Ideal_Reference15Ideal := by
  intro m g m' g' _ e
  refine ⟨GT m, GM m, GW m, GP m, (θ_run (Cert.Kernel15Ideal.defs (F := Ideal)) _ _).mono (fun r H c => ⟨(H c).1.trans (outT_eq m c), (H c).2.1.trans (outM_eq m c), (H c).2.2.1.trans (outW_eq m c), (H c).2.2.2.1.trans (outP_eq m c), (H c).2.2.2.2⟩) (run_blocks m g), ?_⟩
  refine (θ_run (Cert.Reference15Ideal.defs (F := Ideal)) _ _).mono (fun r H c => ?_) (Cert.Reference15Ideal.Value.run (F := Ideal) m' g')
  obtain ⟨e0, e1, e2, e3, e4, e5⟩ := e c
  refine ⟨(H c).1.trans ?_, (H c).2.1.trans ?_, (H c).2.2.1.trans ?_, (H c).2.2.2.1.trans ?_, (H c).2.2.2.2⟩
  · unfold Cert.Reference15Ideal.Value.res_main_v37
    rw [e0, e2, e3, e5]
    refine Cert.Ffn.ext2 fun i j => ?_
    pointwise
    rfl
  · unfold Cert.Reference15Ideal.Value.res_main_v75
    rw [e0, e1, e2, e3, e4, e5]
    refine Cert.Ffn.ext2 fun i j => ?_
    pointwise
    rfl
  · rw [e0, e3]
    refine Cert.Ffn.ext2 fun i j => ?_
    pointwise
    rw [Fin.sum_univ_one]
    rfl
  · unfold Cert.Reference15Ideal.Value.res_main_v77
    rw [e0, e1, e2, e3, e5]
    refine Cert.Ffn.ext2 fun i j => ?_
    pointwise
    rw [Fin.sum_univ_one]
    rfl

end Cert.Kernel15Ideal.Norm
-- ==== Proof.Conv.Basic.lean ====
/-
  What the short convolutions over the tokens have in common: reading back a buffer of 520 rows that is filled by a
  block of 512 rows and one of 8, and the convolution itself, by the numbers of its rows and columns.
-/
module

public import proofs.«01_k».proof.Proof.Norm.Basic
public import Idealize.ShloMosaic.Lib.Pipeline.ValueKit
public import Idealize.ShloMosaic.Lib.WritesUnit
public import Idealize.ShloMosaic.Lib.Pointwise

@[expose] public section

noncomputable section

namespace Cert.Conv

open Idealize.ShloMosaic

section Buffer

variable {sig : RefSig} {κ : Kind} {sp : Space} {e : EltTy} {Val : EltTy → Type} {R n N : ℕ}

/-- A buffer whose rows from `o` were written last, read back at a row and a column. -/
theorem read_rows (v : View sig κ sp (⟨2, ![R, N]⟩ : Shape) e) (f : v.ty.Contents Val) (o : ℕ)
    (inb : ∀ a, (![o, 0] : Fin 2 → ℕ) a + (![n, N] : Fin 2 → ℕ) a ≤ (⟨2, ![R, N]⟩ : Shape).size a)
    (w : (⟨2, ![n, N]⟩ : Shape).Idx → Val e) (L : List (View.Piece Val (⟨2, ![R, N]⟩ : Shape) e)) (q : Fin R) (k : Fin N) :
    v.read Val (v.writes Val f ((⟨Rect.unit (s := ⟨2, ![R, N]⟩) ![o, 0] ![n, N] inb, w⟩ : View.Piece Val (⟨2, ![R, N]⟩ : Shape) e) :: L)) (ix2 q k)
      = if h : o ≤ q.val ∧ q.val < o + n then w (ix2 ⟨q.val - o, by omega⟩ k) else v.read Val (v.writes Val f L) (ix2 q k) := by
  refine (View.read_writes_cons_rows v f (o := o) (W := n) inb w L (ix2 q k) rfl rfl rfl).trans ?_
  by_cases h : o ≤ q.val ∧ q.val < o + n
  · refine (dif_pos h).trans (Eq.trans ?_ (dif_pos h).symm)
    refine congrArg w (funext fun a => Fin.ext ?_)
    rw [Rect.unitLocal_val]
    match a with
    | ⟨0, _⟩ => rfl
    | ⟨1, _⟩ => exact Nat.sub_zero _
  · rw [dif_neg h]; exact dif_neg h

variable [∀ e, Nonempty (Val e)]

/-- The same of a buffer known by what was written to it alone. -/
theorem canon_rows (v : View sig κ sp (⟨2, ![R, N]⟩ : Shape) e) (o : ℕ)
    (inb : ∀ a, (![o, 0] : Fin 2 → ℕ) a + (![n, N] : Fin 2 → ℕ) a ≤ (⟨2, ![R, N]⟩ : Shape).size a)
    (w : (⟨2, ![n, N]⟩ : Shape).Idx → Val e) (L : List (View.Piece Val (⟨2, ![R, N]⟩ : Shape) e)) (q : Fin R) (k : Fin N) :
    View.canon ((⟨Rect.unit (s := ⟨2, ![R, N]⟩) ![o, 0] ![n, N] inb, w⟩ : View.Piece Val (⟨2, ![R, N]⟩ : Shape) e) :: L) (ix2 q k)
      = if h : o ≤ q.val ∧ q.val < o + n then w (ix2 ⟨q.val - o, by omega⟩ k) else View.canon L (ix2 q k) := by
  rw [← View.read_writes_junk_apply_eq_canon v, read_rows, View.read_writes_junk_apply_eq_canon]

/-- A load of some rows of such a buffer. -/
theorem load_rows (v : View sig κ sp (⟨2, ![R, N]⟩ : Shape) e) (o : ℕ)
    (inb : ∀ a, (![o, 0] : Fin 2 → ℕ) a + (![n, N] : Fin 2 → ℕ) a ≤ (⟨2, ![R, N]⟩ : Shape).size a)
    (L : List (View.Piece Val (⟨2, ![R, N]⟩ : Shape) e)) (q : Fin n) (k : Fin N) :
    v.readCov L (Rect.unit (s := ⟨2, ![R, N]⟩) ![o, 0] ![n, N] inb).toLoadRect (ix2 q k)
      = View.canon L (ix2 ⟨o + q.val, by have := inb 0; have : o + n ≤ R := this; omega⟩ k) := by
  rw [View.readCov_eq_canon']
  refine congrArg (View.canon L) (funext fun a => Fin.ext ?_)
  match a with
  | ⟨0, _⟩ => exact congrArg (o + ·) (Nat.one_mul _)
  | ⟨1, _⟩ => exact (Nat.zero_add _).trans (Nat.one_mul _)

end Buffer

/-- The column `j` of an array, three rows of zeros put before it. -/
def pad {a b : ℕ} (A : (⟨2, ![a, b]⟩ : Shape).Idx → EReal) (n j : ℕ) : EReal := if n < 3 then 0 else Cert.Ffn.at2 A (n - 3) j

/-- Three rows of zeros at the head. -/
theorem pad_lt {a b : ℕ} (A : (⟨2, ![a, b]⟩ : Shape).Idx → EReal) {n : ℕ} (j : ℕ) (h : n < 3) : pad A n j = 0 := if_pos h

/-- The rows of the array after them. -/
theorem pad_ge {a b : ℕ} (A : (⟨2, ![a, b]⟩ : Shape).Idx → EReal) {n : ℕ} (j : ℕ) (h : 3 ≤ n) : pad A n j = Cert.Ffn.at2 A (n - 3) j :=
  if_neg (by omega)

/-- A choice between the zeros and an entry of the array, as a row of the longer array. -/
theorem pad_dif {a b : ℕ} (A : (⟨2, ![a, b]⟩ : Shape).Idx → EReal) (n j : ℕ) (hn : n < a + 3) (hj : j < b) :
    (if h : n < 3 then 0 else A (ix2 ⟨n - 3, by omega⟩ ⟨j, hj⟩)) = pad A n j := by
  by_cases h : n < 3
  · rw [dif_pos h, pad_lt A j h]
  · rw [dif_neg h, pad_ge A j (by omega), Cert.Ffn.at2, dif_pos ⟨by omega, hj⟩]

/-- The convolution at row `n`: the last four rows, each times its weight, and the bias. -/
def conv (x : ℕ → EReal) (w : Fin 4 → EReal) (b : EReal) (n : ℕ) : EReal :=
  b + w 0 * x n + w 1 * x (n + 1) + w 2 * x (n + 2) + w 3 * x (n + 3)

/-- The same with the bias added last and the factors the other way round. -/
theorem conv_eq (x : ℕ → EReal) (w : Fin 4 → EReal) (b : EReal) (n : ℕ) :
    x n * w 0 + x (n + 1) * w 1 + x (n + 2) * w 2 + x (n + 3) * w 3 + b = conv x w b n := by
  rw [conv, mul_comm (w 0), mul_comm (w 1), mul_comm (w 2), mul_comm (w 3), add_comm _ b, add_assoc b, add_assoc b, add_assoc b]

/-- The convolution from its four rows. -/
theorem conv_of {x : ℕ → EReal} {w : Fin 4 → EReal} {b x0 x1 x2 x3 : EReal} {n : ℕ} (h0 : x0 = x n) (h1 : x1 = x (n + 1)) (h2 : x2 = x (n + 2))
    (h3 : x3 = x (n + 3)) : b + w 0 * x0 + w 1 * x1 + w 2 * x2 + w 3 * x3 = conv x w b n := by
  rw [h0, h1, h2, h3, conv]

/-- A number times its logistic. -/
def silu (y : EReal) : EReal := y * Ideal.logistic y

/-- The gradient before the activation, from that after it. -/
def slope (d y : EReal) : EReal := d * (Ideal.logistic y * (1 + y * (1 - Ideal.logistic y)))

/-- It is the sum of what comes through the two factors, where the incoming gradient is real. -/
theorem slope_eq (d : ℝ) (y : EReal) :
    (d : EReal) * Ideal.logistic y + y * d * (Ideal.logistic y * (1 - Ideal.logistic y)) = slope d y := by
  have h1 : (1 : EReal) - 1 = 0 := EReal.sub_self (by decide) (by decide)
  rw [slope]
  induction y using EReal.rec with
  | bot => rw [Ideal.logistic_bot]; simp only [zero_mul, mul_zero, add_zero]
  | top => rw [Ideal.logistic_top, h1]; simp only [mul_zero, add_zero, mul_one]
  | coe y =>
    rw [Ideal.logistic_coe]
    generalize (1 + Real.exp (-y))⁻¹ = l
    norm_cast
    ring

/-- The convolution backwards at row `n`: this row and the next three, each times its weight. -/
def back (D : ℕ → EReal) (w : Fin 4 → EReal) (n : ℕ) : EReal := w 0 * D (n + 3) + w 1 * D (n + 2) + w 2 * D (n + 1) + w 3 * D n

/-- The same from its four rows. -/
theorem back_of {D : ℕ → EReal} {w : Fin 4 → EReal} {x0 x1 x2 x3 : EReal} {n : ℕ} (h0 : x0 = D (n + 3)) (h1 : x1 = D (n + 2)) (h2 : x2 = D (n + 1))
    (h3 : x3 = D n) : w 0 * x0 + w 1 * x1 + w 2 * x2 + w 3 * x3 = back D w n := by
  rw [h0, h1, h2, h3, back]

/-- The same summed from the other end. -/
theorem back_eq {D : ℕ → EReal} {w : Fin 4 → EReal} {x0 x1 x2 x3 : EReal} {n : ℕ} (h0 : x0 = D (n + 3) * w 0) (h1 : x1 = D (n + 2) * w 1)
    (h2 : x2 = D (n + 1) * w 2) (h3 : x3 = D n * w 3) : x3 + x2 + x1 + x0 = back D w n := by
  rw [h0, h1, h2, h3, back, mul_comm _ (w 0), mul_comm _ (w 1), mul_comm _ (w 2), mul_comm _ (w 3), add_comm (w 3 * _), add_comm _ (w 1 * _),
    ← add_assoc, add_comm _ (w 0 * _), ← add_assoc, ← add_assoc]

/-- An entry times a number, or zero below the array. -/
theorem at2_dif {a b : ℕ} (A : (⟨2, ![a, b]⟩ : Shape).Idx → EReal) (p : Prop) [Decidable p] (n : ℕ) (j : Fin b) (w : EReal) (hp : p ↔ n < a) :
    (if h : p then A (ix2 ⟨n, hp.mp h⟩ j) * w else 0) = Cert.Ffn.at2 A n j.val * w := by
  by_cases h : p
  · rw [dif_pos h, Cert.Ffn.at2, dif_pos ⟨hp.mp h, j.isLt⟩]
  · rw [dif_neg h, Cert.Ffn.at2, dif_neg (fun e => h (hp.mpr e.1)), zero_mul]

/-- A sum that takes in one block of rows at a time, from the last block to the first. -/
theorem fold {N : ℕ} (f : ℕ → EReal) (S : (n : ℕ) → n < N → EReal)
    (h0 : ∀ t : Fin N, t.val = 0 → S t.val t.isLt = ∑ r : Fin 512, f (512 * (7 - t.val) + r.val))
    (hs : ∀ (t : Fin N) (p : t.val - 1 < N), 1 ≤ t.val → S t.val t.isLt = S (t.val - 1) p + ∑ r : Fin 512, f (512 * (7 - t.val) + r.val)) :
    ∀ (n : ℕ) (h : n < N), S n h = ∑ s ∈ Finset.range (n + 1), ∑ r : Fin 512, f (512 * (7 - s) + r.val) := by
  intro n
  induction n with
  | zero =>
    intro h
    rw [Nat.zero_add, Finset.sum_range_one]
    exact h0 ⟨0, h⟩ rfl
  | succ n ih =>
    intro h
    rw [Finset.sum_range_succ]
    exact (hs ⟨n + 1, h⟩ (by simp only; omega) (by simp only; omega)).trans (congrArg (· + _) (ih (by omega)))

/-- Once all blocks are in, it is the sum over the rows. -/
theorem total (f : ℕ → EReal) : ∑ s ∈ Finset.range (7 + 1), ∑ r : Fin 512, f (512 * (7 - s) + r.val) = ∑ n : Fin 4096, f n.val := by
  rw [Finset.sum_range_reflect (fun s => ∑ r : Fin 512, f (512 * s + r.val)) 8, Fin.sum_univ_eq_sum_range f 4096]
  have e : ∀ k, ∑ s ∈ Finset.range k, ∑ r : Fin 512, f (512 * s + r.val) = ∑ n ∈ Finset.range (512 * k), f n := by
    intro k
    induction k with
    | zero => rfl
    | succ k ih => rw [Finset.sum_range_succ, ih, Cert.Norm.block]
  exact e 8

end Cert.Conv
-- ==== Proof.Conv.DInRef.lean ====
/-
  The reference of the backward convolution in front of the state-space mixer: its operations, read at a row and a column.
-/
module

public import proofs.«01_k».proof.Proof.Gen.Reference16Ideal.Run
public import proofs.«01_k».proof.Proof.Conv.Basic
public import Idealize.ShloMosaic.Lib.Pipeline.ValueKit
public import Idealize.ShloMosaic.Lib.Pointwise

@[expose] public section

set_option maxRecDepth 16384

noncomputable section

namespace Cert.Reference16Ideal.Conv

open Cert.Reference16Ideal Cert.Reference16Ideal.Gen Cert.Reference16Ideal.Value Idealize.ShloMosaic Idealize.ShloMosaic.TcCoe Idealize.SL.Sem

/-- The activations, three rows of zeros before them. -/
def ext (x : FVec Ideal S4096x3328 .f32) : FVec Ideal S4099x1024 .f32 :=
  concatenate S4099x1024 0 [⟨S3x1024, (broadcastInDim S3x1024 ![] bcast_S_S3x1024 (constant S_ .f32 0x00000000#32))⟩, ⟨S4096x1024, (extractStridedSlice S4096x1024 ![0, 1024] x slices_S4096x3328_S4096x1024_0_1024)⟩] concatenates_S3x1024_S4096x1024_S4099x1024_d0

/-- The convolution. -/
def pre (e : FVec Ideal S4099x1024 .f32) (w : FVec Ideal S4x1024 .f32) (b : FVec Ideal S1x1024 .f32) : FVec Ideal S4096x1024 .f32 :=
  addf (addf (addf (addf (mulf (extractStridedSlice S4096x1024 ![0, 0] e slices_S4099x1024_S4096x1024_0_0) (broadcastInDim S4096x1024 ![0, 1] bcast_S1x1024_S4096x1024_0_1 (broadcastInDim S1x1024 ![1] bcast_S1024_S1x1024_1 (shapeCast _ (extractStridedSlice S1x1024 ![0, 0] w slices_S4x1024_S1x1024_0_0) shapeCasts_S1x1024_S1024)))) (mulf (extractStridedSlice S4096x1024 ![1, 0] e slices_S4099x1024_S4096x1024_1_0) (broadcastInDim S4096x1024 ![0, 1] bcast_S1x1024_S4096x1024_0_1 (broadcastInDim S1x1024 ![1] bcast_S1024_S1x1024_1 (shapeCast _ (extractStridedSlice S1x1024 ![1, 0] w slices_S4x1024_S1x1024_1_0) shapeCasts_S1x1024_S1024))))) (mulf (extractStridedSlice S4096x1024 ![2, 0] e slices_S4099x1024_S4096x1024_2_0) (broadcastInDim S4096x1024 ![0, 1] bcast_S1x1024_S4096x1024_0_1 (broadcastInDim S1x1024 ![1] bcast_S1024_S1x1024_1 (shapeCast _ (extractStridedSlice S1x1024 ![2, 0] w slices_S4x1024_S1x1024_2_0) shapeCasts_S1x1024_S1024))))) (mulf (extractStridedSlice S4096x1024 ![3, 0] e slices_S4099x1024_S4096x1024_3_0) (broadcastInDim S4096x1024 ![0, 1] bcast_S1x1024_S4096x1024_0_1 (broadcastInDim S1x1024 ![1] bcast_S1024_S1x1024_1 (shapeCast _ (extractStridedSlice S1x1024 ![3, 0] w slices_S4x1024_S1x1024_3_0) shapeCasts_S1x1024_S1024))))) (broadcastInDim S4096x1024 ![0, 1] bcast_S1x1024_S4096x1024_0_1 (broadcastInDim S1x1024 ![1] bcast_S1024_S1x1024_1 (shapeCast _ b shapeCasts_S1x1024_S1024)))

/-- Its logistic. -/
def gate (y : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf y)))

/-- The gradient before the activation. -/
def grad (d y s : FVec Ideal S4096x1024 .f32) : FVec Ideal S4096x1024 .f32 :=
  addf (mulf d s) (mulf (mulf y d) (mulf s (subf (broadcastInDim S4096x1024 ![] bcast_S_S4096x1024 (constant S_ .f32 0x3F800000#32)) s)))

/-- From it: db, the operations of the reference. -/
def db (D : FVec Ideal S4096x1024 .f32) : FVec Ideal S1x1024 .f32 :=
  broadcastInDim S1x1024 ![1] bcast_S1024_S1x1024_1 (Host.reduceAdd (shapeCast _ (Host.reduceAdd D (constant S_ .f32 0x00000000#32) reducesTo_S4096x1024_S1024_d0 h_S_) shapeCasts_S1024_S1x1024) (constant S_ .f32 0x00000000#32) reducesTo_S1x1024_S1024_d0 h_S_)

/-- From it: dw, the operations of the reference. -/
def dw (e : FVec Ideal S4099x1024 .f32) (D : FVec Ideal S4096x1024 .f32) : FVec Ideal S4x1024 .f32 :=
  addf (addf (addf (pad S4x1024 ![3, 0] ![0, 0] ![0, 0] (broadcastInDim S1x1024 ![1] bcast_S1024_S1x1024_1 (Host.reduceAdd (shapeCast _ (Host.reduceAdd (mulf (extractStridedSlice S4096x1024 ![3, 0] e slices_S4099x1024_S4096x1024_3_0) D) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S4x1024_300_000 h_S_) (pad S4x1024 ![2, 0] ![1, 0] ![0, 0] (broadcastInDim S1x1024 ![1] bcast_S1024_S1x1024_1 (Host.reduceAdd (shapeCast _ (Host.reduceAdd (mulf (extractStridedSlice S4096x1024 ![2, 0] e slices_S4099x1024_S4096x1024_2_0) D) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S4x1024_210_000 h_S_)) (pad S4x1024 ![1, 0] ![2, 0] ![0, 0] (broadcastInDim S1x1024 ![1] bcast_S1024_S1x1024_1 (Host.reduceAdd (shapeCast _ (Host.reduceAdd (mulf (extractStridedSlice S4096x1024 ![1, 0] e slices_S4099x1024_S4096x1024_1_0) D) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast _ (Host.reduceAdd (mulf (extractStridedSlice S4096x1024 ![0, 0] e slices_S4099x1024_S4096x1024_0_0) D) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S4x1024_030_000 h_S_)

/-- From it: dx, the operations of the reference. -/
def dx (w : FVec Ideal S4x1024 .f32) (D : FVec Ideal S4096x1024 .f32) : FVec Ideal S4096x1024 .bf16 :=
  truncf .bf16 (extractStridedSlice S4096x1024 ![3, 0] (addf (addf (addf (pad S4099x1024 ![3, 0] ![0, 0] ![0, 0] (mulf D (broadcastInDim S4096x1024 ![0, 1] bcast_S1x1024_S4096x1024_0_1 (broadcastInDim S1x1024 ![1] bcast_S1024_S1x1024_1 (shapeCast _ (extractStridedSlice S1x1024 ![3, 0] w slices_S4x1024_S1x1024_3_0) shapeCasts_S1x1024_S1024)))) (constant S_ .f32 0x00000000#32) pads_S4096x1024_S4099x1024_300_000 h_S_) (pad S4099x1024 ![2, 0] ![1, 0] ![0, 0] (mulf D (broadcastInDim S4096x1024 ![0, 1] bcast_S1x1024_S4096x1024_0_1 (broadcastInDim S1x1024 ![1] bcast_S1024_S1x1024_1 (shapeCast _ (extractStridedSlice S1x1024 ![2, 0] w slices_S4x1024_S1x1024_2_0) shapeCasts_S1x1024_S1024)))) (constant S_ .f32 0x00000000#32) pads_S4096x1024_S4099x1024_210_000 h_S_)) (pad S4099x1024 ![1, 0] ![2, 0] ![0, 0] (mulf D (broadcastInDim S4096x1024 ![0, 1] bcast_S1x1024_S4096x1024_0_1 (broadcastInDim S1x1024 ![1] bcast_S1024_S1x1024_1 (shapeCast _ (extractStridedSlice S1x1024 ![1, 0] w slices_S4x1024_S1x1024_1_0) shapeCasts_S1x1024_S1024)))) (constant S_ .f32 0x00000000#32) pads_S4096x1024_S4099x1024_120_000 h_S_)) (pad S4099x1024 ![0, 0] ![3, 0] ![0, 0] (mulf D (broadcastInDim S4096x1024 ![0, 1] bcast_S1x1024_S4096x1024_0_1 (broadcastInDim S1x1024 ![1] bcast_S1024_S1x1024_1 (shapeCast _ (extractStridedSlice S1x1024 ![0, 0] w slices_S4x1024_S1x1024_0_0) shapeCasts_S1x1024_S1024)))) (constant S_ .f32 0x00000000#32) pads_S4096x1024_S4099x1024_030_000 h_S_)) slices_S4099x1024_S4096x1024_3_0) bitsLt_bf16_f32

variable (x : FVec Ideal S4096x3328 .f32) (w : FVec Ideal S4x1024 .f32) (b : FVec Ideal S1x1024 .f32) (d y D : FVec Ideal S4096x1024 .f32) (e : FVec Ideal S4099x1024 .f32)

/-- The bias's gradient: the sum of the rows. -/
theorem db_eq (i : Fin 1) (j : Fin 1024) : db D (ix2 i j) = ∑ n : Fin 4096, D (ix2 n j) := by
  obtain rfl : i = 0 := Subsingleton.elim _ _
  unfold db
  pointwise
  exact Fintype.sum_unique _

/-- The weights' gradient: for each of them, the sum of the rows, each times the row that the weight met. -/
theorem dw_eq (i : Fin 4) (j : Fin 1024) : dw e D (ix2 i j) = ∑ n : Fin 4096, e (ix2 ⟨i.val + n.val, by omega⟩ j) * D (ix2 n j) := by
  unfold dw
  pointwise
  simp only [Fintype.sum_unique]
  match i with
  | ⟨0, _⟩ => simp
  | ⟨1, _⟩ => simp
  | ⟨2, _⟩ => simp
  | ⟨3, _⟩ => simp

/-- The activations' gradient. -/
theorem dx_eq (i : Fin 4096) (j : Fin 1024) :
    dx w D (ix2 i j) = Cert.Conv.back (fun n => Cert.Ffn.at2 D n j.val) (fun a => w (ix2 a j)) i.val := by
  unfold dx
  pointwise
  refine Cert.Conv.back_eq (D := fun n => Cert.Ffn.at2 D n j.val) (w := fun a => w (ix2 a j)) ?_ ?_ ?_ ?_
  · refine (Cert.Conv.at2_dif D _ (3 + i.val) j _ (by omega)).trans ?_
    rw [Nat.add_comm]
  · refine (Cert.Conv.at2_dif D _ (3 + i.val - 1) j _ (by omega)).trans ?_
    exact congrArg (fun n => Cert.Ffn.at2 D n j.val * w (ix2 1 j)) (by omega)
  · refine (Cert.Conv.at2_dif D _ (3 + i.val - 2) j _ (by omega)).trans ?_
    exact congrArg (fun n => Cert.Ffn.at2 D n j.val * w (ix2 2 j)) (by omega)
  · exact congrArg (· * w (ix2 3 j)) (Cert.Ffn.at2_ix2 D i j)

/-- The activations with the zeros, by the numbers of row and column. -/
theorem ext_eq (i : Fin 4099) (j : Fin 1024) : ext x (ix2 i j) = Cert.Conv.pad x i.val (1024 + j.val) := by
  unfold ext
  pointwise
  exact Cert.Conv.pad_dif x i.val (1024 + j.val) (by have := i.isLt; omega) (by omega)

/-- The convolution, by its rows. -/
theorem pre_eq (i : Fin 4096) (j : Fin 1024) :
    pre (ext x) w b (ix2 i j) = Cert.Conv.conv (fun n => Cert.Conv.pad x n (1024 + j.val)) (fun a => w (ix2 a j)) (b (ix2 0 j)) i.val := by
  unfold pre
  pointwise
  simp only [ext_eq, Nat.add_comm _ i.val]
  exact Cert.Conv.conv_eq (fun n => Cert.Conv.pad x n (1024 + j.val)) (fun a => w (ix2 a j)) (b (ix2 0 j)) i.val

/-- The gradient before the activation, where the incoming one is real. -/
theorem grad_eq (i : Fin 4096) (j : Fin 1024) (r : ℝ) (h : d (ix2 i j) = (r : EReal)) :
    grad d y (gate y) (ix2 i j) = Cert.Conv.slope (d (ix2 i j)) (y (ix2 i j)) := by
  unfold grad gate
  pointwise
  rw [h]
  exact Cert.Conv.slope_eq r (y (ix2 i j))

variable (m : (ℓ : Loc nD τ sig) → Buf (Elt Ideal) ℓ) (c : Dev nD)

/-- The convolution of the reference's arguments. -/
abbrev Y : FVec Ideal S4096x1024 .f32 := pre (ext (m ((c.tc : Thread nD τ).loc main_arg0))) (m ((c.tc : Thread nD τ).loc main_arg1)) (m ((c.tc : Thread nD τ).loc main_arg2))

/-- The gradient before the activation, of the reference's arguments. -/
abbrev DY : FVec Ideal S4096x1024 .f32 := grad (m ((c.tc : Thread nD τ).loc main_arg3)) (Y m c) (gate (Y m c))

/-- The reference's results are these operations. -/
theorem res_db : res_main_v85 m c = db (DY m c) := rfl

/-- The reference's results are these operations. -/
theorem res_dw : res_main_v79 m c = dw (ext (m ((c.tc : Thread nD τ).loc main_arg0))) (DY m c) := rfl

/-- The reference's results are these operations. -/
theorem res_dx : res_main_v84 m c = dx (m ((c.tc : Thread nD τ).loc main_arg1)) (DY m c) := rfl

end Cert.Reference16Ideal.Conv
-- ==== Proof.Conv.DIn.lean ====
/-
  The backward pass of the short convolution in front of the state-space mixer, the blocks of rows taken from the last to the
  first: the gradient of the activations, which needs the first rows of the block after, and the gradients of the
  weights, and of the bias, summed up block by block.
-/
module

public import proofs.«01_k».proof.Proof.Gen.Kernel16Ideal.Value
public import proofs.«01_k».proof.Proof.Gen.Pre_finite_dact16
public import proofs.«01_k».proof.Defs
public import proofs.«01_k».proof.Proof.Conv.DInRef
public import proofs.«01_k».proof.Proof.Swa.Claim
public import Idealize.ShloMosaic.Lib.Pipeline.ValueKit
public import Idealize.ShloMosaic.Lib.Pointwise

@[expose] public section

set_option maxRecDepth 16384

noncomputable section

namespace Cert.Kernel16Ideal.Conv

open Cert.Kernel16Ideal Cert.Kernel16Ideal.Gen Cert.Kernel16Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![7 - t.val, 1] ∧ win0_1.index t = ![(7 - t.val) * 64 - 1, 1] ∧ win0_2.index t = ![7 - t.val, 0] ∧
    win0_3.index t = ![0, 0] ∧ win0_4.index t = ![0, 0] ∧ win0_5.index t = ![7 - t.val, 0] ∧ win0_6.index t = ![0, 0] ∧ win0_7.index t = ![0, 0] := by
  decide +kernel

/-- The projected activations. -/
abbrev X (c : Dev nD) : FVec Ideal S4096x3328 .f32 := m ((c : Thread nD τ).loc main_arg0)
/-- The weights of the convolution. -/
abbrev W (c : Dev nD) : FVec Ideal S4x1024 .f32 := m ((c : Thread nD τ).loc main_arg1)
/-- Its bias. -/
abbrev B (c : Dev nD) : FVec Ideal S1x1024 .f32 := m ((c : Thread nD τ).loc main_arg2)
/-- The gradient that comes in. -/
abbrev D (c : Dev nD) : FVec Ideal S4096x1024 .f32 := m ((c : Thread nD τ).loc main_arg3)

/-- The convolution at a row and a column. -/
def Y (c : Dev nD) (i j : ℕ) (k : Fin 1024) : EReal :=
  Cert.Conv.conv (fun n => Cert.Conv.pad (X m c) n j) (fun a => W m c (ix2 a k)) (B m c (ix2 0 k)) i

/-- The gradient before the activation. -/
def DY (c : Dev nD) : FVec Ideal S4096x1024 .f32 := fun i => Cert.Conv.slope (D m c i) (Y m c (i 0).val (1024 + (i 1).val) (i 1))

/-- The activations' gradient. -/
def GX (c : Dev nD) : FVec Ideal S4096x1024 .bf16 := fun i =>
  Cert.Conv.back (fun n => Cert.Ffn.at2 (DY m c) n (i 1).val) (fun a => W m c (ix2 a (i 1))) (i 0).val

section Blocks

variable (c : Dev nD) (t : Fin cfg0.N)

/-- A row of a block is a row of the array. -/
theorem lt (r : Fin 512) : 512 * (7 - t.val) + r.val < 4096 := by omega

/-- The block of the activations. -/
theorem x_read (r : Fin 512) (k : Fin 1024) :
    k0_pay8 (X0_0 m c t) (ix2 r k) = Cert.Ffn.at2 (X m c) (512 * (7 - t.val) + r.val) (1024 + k.val) := by
  have hr := lt t r
  obtain ⟨e0, e1, e2, e3, e4, e5, e6, e7⟩ := idx t
  pointwise [k0_pay8]
  rw [Cert.Ffn.at2, dif_pos ⟨hr, by omega⟩]
  unfold X0_0 Pipeline.Window.fill
  rw [dif_pos (moved0_0 t _)]
  blk_ext [iblk, V_main_arg0, e0]

/-- Whether the first rows are those before the array. -/
theorem head : ∀ t : Fin cfg0.N, Scalar.cmpi .eq (Scalar.subi 7#32 (BitVec.ofNat 32 (grid0.coords t 0).val)) 0#32 = if t.val = 7 then 1#1 else 0#1 := by
  decide +kernel

/-- The eight rows before the block: zeros before the first. -/
theorem halo_read (q : Fin 8) (k : Fin 1024) (N : ℕ) (h5 : 5 ≤ q.val) (hN : N + 5 = 512 * (7 - t.val) + q.val) :
    k0_pay7 (grid0.coords t) (X0_1 m c t) (ix2 q k) = Cert.Conv.pad (X m c) N (1024 + k.val) := by
  obtain ⟨e0, e1, e2, e3, e4, e5, e6, e7⟩ := idx t
  pointwise [k0_pay7]
  rw [head t]
  by_cases h : t.val = 7
  · rw [if_pos h, Cert.Conv.pad_lt _ _ (by omega)]
    rfl
  · have hN : t.val < 8 := lt_of_lt_of_eq t.isLt N_0
    rw [if_neg h, Cert.Conv.pad_ge _ _ (by omega), Cert.Ffn.at2, dif_pos ⟨by omega, by omega⟩]
    refine Eq.trans (b := (X0_1 m c t : FVec Ideal S8x1024 .f32) (ix2 q k)) rfl ?_
    unfold X0_1 Pipeline.Window.fill
    rw [dif_pos (moved0_1 t _)]
    blk_ext [iblk, V_main_arg0, e1]

/-- The weights. -/
theorem w_read (a : Fin 4) (k : Fin 1024) : (iblk m c 3 t : FVec Ideal S4x1024 .f32) (ix2 a k) = W m c (ix2 a k) := by
  obtain ⟨e0, e1, e2, e3, e4, e5, e6, e7⟩ := idx t
  blk_ext [iblk, V_main_arg1, e3]

/-- The bias. -/
theorem b_read (k : Fin 1024) : (iblk m c 4 t : FVec Ideal S1x1024 .f32) (ix2 0 k) = B m c (ix2 0 k) := by
  obtain ⟨e0, e1, e2, e3, e4, e5, e6, e7⟩ := idx t
  blk_ext [iblk, V_main_arg2, e4]

/-- The block of the gradient that comes in. -/
theorem d_read (r : Fin 512) (k : Fin 1024) : (iblk m c 2 t : FVec Ideal S512x1024 .f32) (ix2 r k) = D m c (ix2 ⟨512 * (7 - t.val) + r.val, lt t r⟩ k) := by
  obtain ⟨e0, e1, e2, e3, e4, e5, e6, e7⟩ := idx t
  blk_ext [iblk, V_main_arg3, e2]

/-- A row of the first buffer is a row of the array with three zeros before it. -/
theorem ext (k : Fin 1024) (n N : ℕ) (z : EReal) (hn : n < 520) (h5 : 5 ≤ n) (hN : N + 5 = 512 * (7 - t.val) + n) :
    (if h : 8 ≤ n ∧ n < 8 + 512 then k0_pay8 (X0_0 m c t) (ix2 ⟨n - 8, by omega⟩ k)
      else if h : 0 ≤ n ∧ n < 0 + 8 then k0_pay7 (grid0.coords t) (X0_1 m c t) (ix2 ⟨n - 0, by omega⟩ k) else z)
      = Cert.Conv.pad (X m c) N (1024 + k.val) := by
  by_cases h : 8 ≤ n ∧ n < 8 + 512
  · rw [dif_pos h, x_read, Cert.Conv.pad_ge _ _ (by omega)]
    exact congrArg (fun n => Cert.Ffn.at2 (X m c) n (1024 + k.val)) (by dsimp only; omega)
  · rw [dif_neg h, dif_pos ⟨Nat.zero_le _, by omega⟩]
    exact halo_read m c t ⟨n - 0, by omega⟩ k N h5 hN

/-- The gradient before the activation, of a block. -/
abbrev dy : FVec Ideal S512x1024 .f32 :=
  k0_pay10
    (k0_pay9 (iblk m c 4 t) (View.ld (iblk m c 3 t) (Rect.unit ![0, 0] ![1, 1024] inb_S4x1024_S1x1024_0_0))
      ((View.whole cc0_scratch0).readCov
      [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩]
      (Rect.unit ![5, 0] ![512, 1024] inb_S520x1024_S512x1024_5_0).toLoadRect)
      (View.ld (iblk m c 3 t) (Rect.unit ![1, 0] ![1, 1024] inb_S4x1024_S1x1024_1_0))
      ((View.whole cc0_scratch0).readCov
      [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩]
      (Rect.unit ![6, 0] ![512, 1024] inb_S520x1024_S512x1024_6_0).toLoadRect))
    (View.ld (iblk m c 3 t) (Rect.unit ![2, 0] ![1, 1024] inb_S4x1024_S1x1024_2_0))
    ((View.whole cc0_scratch0).readCov
      [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩]
      (Rect.unit ![7, 0] ![512, 1024] inb_S520x1024_S512x1024_7_0).toLoadRect)
    (View.ld (iblk m c 3 t) (Rect.unit ![3, 0] ![1, 1024] inb_S4x1024_S1x1024_3_0))
    ((View.whole cc0_scratch0).readCov
      [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩]
      (Rect.unit ![8, 0] ![512, 1024] inb_S520x1024_S512x1024_8_0).toLoadRect)
    (iblk m c 2 t)

/-- It is the array's. -/
theorem dy_eq (r : Fin 512) (k : Fin 1024) : dy m c t (ix2 r k) = Cert.Ffn.at2 (DY m c) (512 * (7 - t.val) + r.val) k.val := by
  unfold dy
  pointwise [k0_pay10, k0_pay9]
  simp only [Cert.Conv.load_rows, Cert.Conv.canon_rows scM0_0.view, w_read, b_read, d_read]
  refine Eq.trans ?_ (dif_pos (⟨lt t r, k.isLt⟩ : 512 * (7 - t.val) + r.val < 4096 ∧ k.val < 1024)).symm
  refine congrArg (Cert.Conv.slope (D m c (ix2 ⟨512 * (7 - t.val) + r.val, lt t r⟩ k)))
    (Cert.Conv.conv_of (x := fun n => Cert.Conv.pad (X m c) n (1024 + k.val)) (w := fun a => W m c (ix2 a k)) (n := 512 * (7 - t.val) + r.val) ?_ ?_ ?_ ?_)
  · exact ext m c t k (5 + r.val) _ _ (by omega) (by omega) (by omega)
  · exact ext m c t k (6 + r.val) _ _ (by omega) (by omega) (by omega)
  · exact ext m c t k (7 + r.val) _ _ (by omega) (by omega) (by omega)
  · exact ext m c t k (8 + r.val) _ _ (by omega) (by omega) (by omega)

/-- The same as stored. -/
theorem pay11_eq {a b d e f g} (r : Fin 512) (k : Fin 1024) : (k0_pay11 (F := Ideal) a b d e f g) (ix2 r k) = k0_pay10 a b d e f g (ix2 r k) := by
  pointwise [k0_pay11]

/-- Beyond the array there is nothing. -/
theorem beyond (n : ℕ) (k : Fin 1024) (hn : 4096 ≤ n) : Cert.Ffn.at2 (DY m c) n k.val = 0 := by
  rw [Cert.Ffn.at2, dif_neg (by omega)]

/-- A row of the second buffer: the block's rows and, after them, what was kept. -/
theorem next (k : Fin 1024) (n : ℕ) (z : EReal) (hz : 512 ≤ n → z = Cert.Ffn.at2 (DY m c) (512 * (7 - t.val) + n) k.val) :
    (if h : 0 ≤ n ∧ n < 0 + 512 then dy m c t (ix2 ⟨n - 0, by omega⟩ k) else z) = Cert.Ffn.at2 (DY m c) (512 * (7 - t.val) + n) k.val := by
  by_cases h : 0 ≤ n ∧ n < 0 + 512
  · rw [dif_pos h]
    exact dy_eq m c t ⟨n - 0, by omega⟩ k
  · rw [dif_neg h]
    exact hz (by omega)

/-- What is kept for the next block is the first rows of this one. -/
theorem carry_eq (q : Fin 8) (k : Fin 1024) (z : Fin 520) (hz : z.val = 512 + q.val) :
    (outsAt0 m c t.val t.isLt).2.2.2 (ix2 z k) = Cert.Ffn.at2 (DY m c) (512 * (7 - t.val) + q.val) k.val := by
  have hq : 0 + (z.val - 512) = q.val := by omega
  by_cases h : t.val % 8 = 0
  on_goal 1 => rw [outsAt0_A m c t h]
  on_goal 2 => rw [outsAt0_B m c t h]
  all_goals
    dsimp only
    frame_out
    pointwise [k0_pay3]
    simp only [Cert.Conv.load_rows, Cert.Conv.read_rows, Cert.Conv.canon_rows scM0_1.view, pay11_eq]
    rw [dif_pos ⟨by omega, by omega⟩]
    exact (next m c t k (0 + (z.val - 512)) _ (fun h => absurd h (by omega))).trans
      (congrArg (fun n => Cert.Ffn.at2 (DY m c) (512 * (7 - t.val) + n) k.val) hq)

/-- At the first step nothing was kept. -/
theorem none_kept (k : Fin 1024) (n : ℕ) (z : EReal) (h : t.val % 8 = 0) (h5 : 512 ≤ n) (hn : n < 520) :
    (if h : 512 ≤ n ∧ n < 512 + 8 then (k0_pay4 : FVec Ideal S8x1024 .f32) (ix2 ⟨n - 512, by omega⟩ k) else z) = Cert.Ffn.at2 (DY m c) (512 * (7 - t.val) + n) k.val := by
  have ht : t.val < 8 := lt_of_lt_of_eq t.isLt N_0
  rw [dif_pos ⟨by omega, by omega⟩, beyond m c _ k (by omega)]
  pointwise [k0_pay4]

/-- Afterwards it is the rows of the block before. -/
theorem kept (k : Fin 1024) (n : ℕ) (h : ¬ t.val % 8 = 0) (h5 : 512 ≤ n) (hn : n < 520) (ht : t.val - 1 < cfg0.N) :
    (outsAt0 m c (t.val - 1) ht).2.2.2 (ix2 ⟨n, hn⟩ k) = Cert.Ffn.at2 (DY m c) (512 * (7 - t.val) + n) k.val := by
  have h8 : t.val < 8 := lt_of_lt_of_eq t.isLt N_0
  exact (carry_eq m c ⟨t.val - 1, ht⟩ ⟨n - 512, by omega⟩ k ⟨n, hn⟩ (by dsimp only; omega)).trans
    (congrArg (fun n => Cert.Ffn.at2 (DY m c) n k.val) (by dsimp only; omega))

/-- A row of the activations' gradient: the convolution's weights from the other end, on this block and what was kept. -/
theorem dx_row (r : Fin 512) (k : Fin 1024) :
    (outsAt0 m c t.val t.isLt).1 (ix2 r k) = GX m c (ix2 ⟨512 * (7 - t.val) + r.val, lt t r⟩ k) := by
  have ht : t.val < 8 := lt_of_lt_of_eq t.isLt N_0
  by_cases h : t.val % 8 = 0
  on_goal 1 => rw [outsAt0_A m c t h]
  on_goal 2 => rw [outsAt0_B m c t h]
  all_goals
    dsimp only
    frame_out
    pointwise [k0_pay12, k0_pay13]
    simp only [Cert.Conv.load_rows, Cert.Conv.read_rows, Cert.Conv.canon_rows scM0_1.view, w_read, pay11_eq, View.writes_nil]
    refine Cert.Conv.back_of (D := fun n => Cert.Ffn.at2 (DY m c) n k.val) (w := fun a => W m c (ix2 a k)) (n := 512 * (7 - t.val) + r.val) ?_ ?_ ?_ ?_
  · refine (next m c t k (3 + r.val) _ fun h5 => ?_).trans (congrArg (fun n => Cert.Ffn.at2 (DY m c) n k.val) (by omega))
    exact none_kept m c t k (3 + r.val) _ h h5 (by omega)
  · refine (next m c t k (2 + r.val) _ fun h5 => ?_).trans (congrArg (fun n => Cert.Ffn.at2 (DY m c) n k.val) (by omega))
    exact none_kept m c t k (2 + r.val) _ h h5 (by omega)
  · refine (next m c t k (1 + r.val) _ fun h5 => ?_).trans (congrArg (fun n => Cert.Ffn.at2 (DY m c) n k.val) (by omega))
    exact none_kept m c t k (1 + r.val) _ h h5 (by omega)
  · exact (next m c t k (0 + r.val) _ fun h5 => absurd h5 (by omega)).trans (congrArg (fun n => Cert.Ffn.at2 (DY m c) n k.val) (by omega))
  · refine (next m c t k (3 + r.val) _ fun h5 => ?_).trans (congrArg (fun n => Cert.Ffn.at2 (DY m c) n k.val) (by omega))
    exact (congrFun ((Memref.isWhole_whole cc0_scratch1).read_unread _) _).trans (kept m c t k (3 + r.val) h h5 (by omega) _)
  · refine (next m c t k (2 + r.val) _ fun h5 => ?_).trans (congrArg (fun n => Cert.Ffn.at2 (DY m c) n k.val) (by omega))
    exact (congrFun ((Memref.isWhole_whole cc0_scratch1).read_unread _) _).trans (kept m c t k (2 + r.val) h h5 (by omega) _)
  · refine (next m c t k (1 + r.val) _ fun h5 => ?_).trans (congrArg (fun n => Cert.Ffn.at2 (DY m c) n k.val) (by omega))
    exact (congrFun ((Memref.isWhole_whole cc0_scratch1).read_unread _) _).trans (kept m c t k (1 + r.val) h h5 (by omega) _)
  · exact (next m c t k (0 + r.val) _ fun h5 => absurd h5 (by omega)).trans (congrArg (fun n => Cert.Ffn.at2 (DY m c) n k.val) (by omega))

/-- What a block adds to the bias's gradient. -/
def bTerm (k : Fin 1024) (n : ℕ) : EReal := Cert.Ffn.at2 (DY m c) n k.val

/-- What a row adds to a weight's gradient. -/
def wTerm (a : Fin 4) (k : Fin 1024) (n : ℕ) : EReal := Cert.Ffn.at2 (DY m c) n k.val * Cert.Conv.pad (X m c) (n + a.val) (1024 + k.val)

/-- The bias's gradient after the first block. -/
theorem db_first (k : Fin 1024) (h : t.val % 8 = 0) : (outsAt0 m c t.val t.isLt).2.2.1 (ix2 0 k) = ∑ r : Fin 512, bTerm m c k (512 * (7 - t.val) + r.val) := by
  rw [outsAt0_A m c t h]
  dsimp only
  frame_out
  pointwise [k0_pay2, k0_pay6]
  exact Finset.sum_congr (M := EReal) rfl fun r _ => dy_eq m c t r k

/-- The bias's gradient after a further block. -/
theorem db_next (k : Fin 1024) (h : ¬ t.val % 8 = 0) (p : t.val - 1 < cfg0.N) :
    (outsAt0 m c t.val t.isLt).2.2.1 (ix2 0 k) = (outsAt0 m c (t.val - 1) p).2.2.1 (ix2 0 k) + ∑ r : Fin 512, bTerm m c k (512 * (7 - t.val) + r.val) := by
  rw [outsAt0_B m c t h]
  dsimp only
  frame_out
  pointwise [k0_pay2, k0_pay6]
  exact congrArg₂ (· + ·) rfl (Finset.sum_congr (M := EReal) rfl fun r _ => dy_eq m c t r k)

/-- The first row of the weights' gradient. -/
theorem pay14_row (Q E : FVec Ideal S512x1024 .f32) (o : FVec Ideal S1x1024 .f32) (i : Fin 1) (k : Fin 1024) :
    k0_pay14 Q o E (ix2 i k) = o (ix2 0 k) + ∑ r : Fin 512, Q (ix2 r k) * E (ix2 r k) := by
  obtain rfl : i = 0 := Subsingleton.elim _ _
  pointwise [k0_pay14]

/-- The second row. -/
theorem pay15_row (Q E : FVec Ideal S512x1024 .f32) (o : FVec Ideal S1x1024 .f32) (i : Fin 1) (k : Fin 1024) :
    k0_pay15 Q o E (ix2 i k) = o (ix2 0 k) + ∑ r : Fin 512, Q (ix2 r k) * E (ix2 r k) := by
  obtain rfl : i = 0 := Subsingleton.elim _ _
  pointwise [k0_pay15]

/-- The third row. -/
theorem pay16_row (Q E : FVec Ideal S512x1024 .f32) (o : FVec Ideal S1x1024 .f32) (i : Fin 1) (k : Fin 1024) :
    k0_pay16 Q o E (ix2 i k) = o (ix2 0 k) + ∑ r : Fin 512, Q (ix2 r k) * E (ix2 r k) := by
  obtain rfl : i = 0 := Subsingleton.elim _ _
  pointwise [k0_pay16]

/-- The fourth row. -/
theorem pay1_row (Q E : FVec Ideal S512x1024 .f32) (o : FVec Ideal S1x1024 .f32) (i : Fin 1) (k : Fin 1024) :
    k0_pay1 Q o E (ix2 i k) = o (ix2 0 k) + ∑ r : Fin 512, Q (ix2 r k) * E (ix2 r k) := by
  obtain rfl : i = 0 := Subsingleton.elim _ _
  pointwise [k0_pay1]

/-- What is there before the first block. -/
theorem pay5_eq (a : Fin 4) (k : Fin 1024) : (k0_pay5 : FVec Ideal S4x1024 .f32) (ix2 a k) = 0 := by
  pointwise [k0_pay5]

/-- What a block adds to a weight's gradient. -/
theorem block_row (k : Fin 1024) (a : Fin 4) (E : Fin 512 → EReal) (hE : ∀ r, E r = Cert.Conv.pad (X m c) (512 * (7 - t.val) + r.val + a.val) (1024 + k.val)) :
    ∑ r : Fin 512, dy m c t (ix2 r k) * E r = ∑ r : Fin 512, wTerm m c a k (512 * (7 - t.val) + r.val) :=
  Finset.sum_congr (M := EReal) rfl fun r _ => congrArg₂ (· * ·) (dy_eq m c t r k) (hE r)

/-- The weights' gradient after the first block. -/
theorem dw_first (k : Fin 1024) (a : Fin 4) (h : t.val % 8 = 0) :
    (outsAt0 m c t.val t.isLt).2.1 (ix2 a k) = ∑ r : Fin 512, wTerm m c a k (512 * (7 - t.val) + r.val) := by
  rw [outsAt0_A m c t h]
  dsimp only
  frame_out
  simp only [Cert.Conv.load_rows, Cert.Conv.canon_rows (ms0_6 t).view, Cert.Conv.canon_rows scM0_0.view, pay14_row, pay15_row, pay16_row, pay1_row]
  fin_cases a
  · refine (dif_neg (by decide)).trans ((dif_neg (by decide)).trans ((dif_neg (by decide)).trans ((dif_pos (by decide)).trans (Eq.trans (congrArg₂ (· + ·) ?_ (?_ : _ = _)) (zero_add (∑ r : Fin 512, wTerm m c 0 k (512 * (7 - t.val) + r.val)))))))
    · exact (dif_pos (by decide)).trans (pay5_eq _ _)
    · exact block_row m c t k 0 _ fun r => ext m c t k (5 + r.val) _ _ (by omega) (by omega) (by simp; omega)
  · refine (dif_neg (by decide)).trans ((dif_neg (by decide)).trans ((dif_pos (by decide)).trans (Eq.trans (congrArg₂ (· + ·) ?_ (?_ : _ = _)) (zero_add (∑ r : Fin 512, wTerm m c 1 k (512 * (7 - t.val) + r.val))))))
    · exact (dif_neg (by decide)).trans ((dif_pos (by decide)).trans (pay5_eq _ _))
    · exact block_row m c t k 1 _ fun r => ext m c t k (6 + r.val) _ _ (by omega) (by omega) (by simp; omega)
  · refine (dif_neg (by decide)).trans ((dif_pos (by decide)).trans (Eq.trans (congrArg₂ (· + ·) ?_ (?_ : _ = _)) (zero_add (∑ r : Fin 512, wTerm m c 2 k (512 * (7 - t.val) + r.val)))))
    · exact (dif_neg (by decide)).trans ((dif_neg (by decide)).trans ((dif_pos (by decide)).trans (pay5_eq _ _)))
    · exact block_row m c t k 2 _ fun r => ext m c t k (7 + r.val) _ _ (by omega) (by omega) (by simp; omega)
  · refine (dif_pos (by decide)).trans (Eq.trans (congrArg₂ (· + ·) ?_ (?_ : _ = _)) (zero_add (∑ r : Fin 512, wTerm m c 3 k (512 * (7 - t.val) + r.val))))
    · exact (dif_neg (by decide)).trans ((dif_neg (by decide)).trans ((dif_neg (by decide)).trans ((dif_pos (by decide)).trans (pay5_eq _ _))))
    · exact block_row m c t k 3 _ fun r => ext m c t k (8 + r.val) _ _ (by omega) (by omega) (by simp; omega)

/-- The weights' gradient after a further block. -/
theorem dw_next (k : Fin 1024) (a : Fin 4) (h : ¬ t.val % 8 = 0) (p : t.val - 1 < cfg0.N) :
    (outsAt0 m c t.val t.isLt).2.1 (ix2 a k) = (outsAt0 m c (t.val - 1) p).2.1 (ix2 a k) + ∑ r : Fin 512, wTerm m c a k (512 * (7 - t.val) + r.val) := by
  rw [outsAt0_B m c t h]
  dsimp only
  frame_out
  simp only [Cert.Conv.load_rows, Cert.Conv.canon_rows (ms0_6 t).view, Cert.Conv.canon_rows scM0_0.view, pay14_row, pay15_row, pay16_row, pay1_row]
  fin_cases a
  · refine (dif_neg (by decide)).trans ((dif_neg (by decide)).trans ((dif_neg (by decide)).trans ((dif_pos (by decide)).trans (congrArg₂ (· + ·) ?_ (?_ : _ = _)))))
    · pointwise
    · exact block_row m c t k 0 _ fun r => ext m c t k (5 + r.val) _ _ (by omega) (by omega) (by simp; omega)
  · refine (dif_neg (by decide)).trans ((dif_neg (by decide)).trans ((dif_pos (by decide)).trans (congrArg₂ (· + ·) ?_ (?_ : _ = _))))
    · pointwise
    · exact block_row m c t k 1 _ fun r => ext m c t k (6 + r.val) _ _ (by omega) (by omega) (by simp; omega)
  · refine (dif_neg (by decide)).trans ((dif_pos (by decide)).trans (congrArg₂ (· + ·) ?_ (?_ : _ = _)))
    · pointwise
    · exact block_row m c t k 2 _ fun r => ext m c t k (7 + r.val) _ _ (by omega) (by omega) (by simp; omega)
  · refine (dif_pos (by decide)).trans (congrArg₂ (· + ·) ?_ (?_ : _ = _))
    · pointwise
    · exact block_row m c t k 3 _ fun r => ext m c t k (8 + r.val) _ _ (by omega) (by omega) (by simp; omega)

end Blocks

/-- The activations' gradient that the kernel leaves. -/
theorem outX_eq (c : Dev nD) : (dats m 0 c).arrAt 5 cfg0.N = GX m c := by
  refine (dats m 0 c).arrAt_eq_of_covers 5 _ (by decide +kernel) fun t hf y => ?_
  obtain ⟨e0, e1, e2, e3, e4, e5, e6, e7⟩ := idx t
  blk_simp
  rw [after0_5, eq_ix2 y]
  exact (dx_row m c t (y 0) (y 1)).trans (congrArg (GX m c) (by blk_point [e5]))

/-- The weights' gradient. -/
def GW (c : Dev nD) : FVec Ideal S4x1024 .f32 := fun i => ∑ n : Fin 4096, wTerm m c (i 0) (i 1) n.val

/-- The bias's gradient. -/
def GB (c : Dev nD) : FVec Ideal S1x1024 .f32 := fun i => ∑ n : Fin 4096, bTerm m c (i 1) n.val

/-- The weights' gradient that the kernel leaves. -/
theorem outW_eq (c : Dev nD) : (dats m 0 c).arrAt 6 cfg0.N = GW m c := by
  refine (dats m 0 c).arrAt_eq_of_covers 6 _ (by decide +kernel) fun t hf y => ?_
  have ht : t.val = 7 := (by decide +kernel : ∀ t : Fin cfg0.N, (cfg0.win 6).flush t = true → t.val = 7) t hf
  obtain ⟨e0, e1, e2, e3, e4, e5, e6, e7⟩ := idx t
  blk_simp
  rw [after0_6, eq_ix2 y]
  refine (Cert.Conv.fold (wTerm m c (y 0) (y 1)) (fun n h => (outsAt0 m c n h).2.1 (ix2 (y 0) (y 1))) (fun t h => dw_first m c t (y 1) (y 0) (by omega))
    (fun t p h => dw_next m c t (y 1) (y 0) (by have : t.val < 8 := lt_of_lt_of_eq t.isLt N_0; omega) p) t.val t.isLt).trans ?_
  refine Eq.trans (congrArg (fun n => ∑ s ∈ Finset.range (n + 1), ∑ r : Fin 512, wTerm m c (y 0) (y 1) (512 * (7 - s) + r.val)) ht) ?_
  refine (Cert.Conv.total (wTerm m c (y 0) (y 1))).trans ?_
  refine Eq.trans (b := GW m c (ix2 (y 0) (y 1))) rfl (congrArg (GW m c) ?_)
  blk_point [e6]

/-- The bias's gradient that the kernel leaves. -/
theorem outB_eq (c : Dev nD) : (dats m 0 c).arrAt 7 cfg0.N = GB m c := by
  refine (dats m 0 c).arrAt_eq_of_covers 7 _ (by decide +kernel) fun t hf y => ?_
  have ht : t.val = 7 := (by decide +kernel : ∀ t : Fin cfg0.N, (cfg0.win 7).flush t = true → t.val = 7) t hf
  obtain ⟨e0, e1, e2, e3, e4, e5, e6, e7⟩ := idx t
  blk_simp
  rw [after0_7, eq_ix2 y]
  have hy : y 0 = (0 : Fin 1) := Subsingleton.elim (α := Fin 1) _ _
  refine (congrArg (fun i : Fin 1 => (outsAt0 m c t.val t.isLt).2.2.1 (ix2 i (y 1))) hy).trans ?_
  refine (Cert.Conv.fold (bTerm m c (y 1)) (fun n h => (outsAt0 m c n h).2.2.1 (ix2 0 (y 1))) (fun t h => db_first m c t (y 1) (by omega))
    (fun t p h => db_next m c t (y 1) (by have : t.val < 8 := lt_of_lt_of_eq t.isLt N_0; omega) p) t.val t.isLt).trans ?_
  refine Eq.trans (congrArg (fun n => ∑ s ∈ Finset.range (n + 1), ∑ r : Fin 512, bTerm m c (y 1) (512 * (7 - s) + r.val)) ht) ?_
  refine (Cert.Conv.total (bTerm m c (y 1))).trans ?_
  refine Eq.trans (b := GB m c (ix2 (y 0) (y 1))) rfl (congrArg (GB m c) ?_)
  blk_point [e7]

section Pre

open Cert.Pre_finite_dact16 Cert.Pre_finite_dact16.Gen

/-- The precondition: the gradient that comes in consists of numbers. -/
theorem pre_dact {x0 : FVec Ideal S4096x3328 .f32} {x1 : FVec Ideal S4x1024 .f32} {x2 : FVec Ideal S1x1024 .f32} {x3 : FVec Ideal S4096x1024 .f32}
    (h : fn (F := Ideal) x0 x1 x2 x3 = fun _ => 1#1) (i : Fin 4096) (j : Fin 1024) : ∃ y : ℝ, x3 (ix2 i j) = (y : EReal) := by
  have e := congrFun h (ix2 i j)
  pointwise [fn] at e
  exact Cert.Swa.real_of_lt _ e

end Pre

/-- The reference's gradient before the activation is the kernel's. -/
theorem grad_eq (c : Dev nD) (h : ∀ i j, ∃ y : ℝ, D m c (ix2 i j) = (y : EReal)) :
    Cert.Reference16Ideal.Conv.grad (D m c) (Cert.Reference16Ideal.Conv.pre (Cert.Reference16Ideal.Conv.ext (X m c)) (W m c) (B m c))
      (Cert.Reference16Ideal.Conv.gate (Cert.Reference16Ideal.Conv.pre (Cert.Reference16Ideal.Conv.ext (X m c)) (W m c) (B m c))) = DY m c := by
  refine Cert.Ffn.ext2 fun i j => ?_
  obtain ⟨r, hr⟩ := h i j
  rw [Cert.Reference16Ideal.Conv.grad_eq _ _ i j r hr, Cert.Reference16Ideal.Conv.pre_eq]
  rfl

/-- With a finite gradient coming in, the idealized kernel and the reference give the same results. -/
theorem algebraic : Cert.algebraic_Kernel16Ideal_Reference16Ideal_pre_finite_dact16 := by
  intro m g m' g' hp e
  refine ⟨GX m, GW m, GB m, (θ_run (Cert.Kernel16Ideal.defs (F := Ideal)) _ _).mono (fun r H c => ⟨(H c).1.trans (outX_eq m c), (H c).2.1.trans (outW_eq m c), (H c).2.2.1.trans (outB_eq m c), (H c).2.2.2⟩) (run_blocks m g), ?_⟩
  refine (θ_run (Cert.Reference16Ideal.defs (F := Ideal)) _ _).mono (fun r H c => ?_) (Cert.Reference16Ideal.Value.run (F := Ideal) m' g')
  obtain ⟨e0, e1, e2, e3⟩ := e c
  have hD : Cert.Reference16Ideal.Conv.DY m' c = DY m c := by
    unfold Cert.Reference16Ideal.Conv.DY Cert.Reference16Ideal.Conv.Y
    rw [e0, e1, e2, e3]
    exact grad_eq m c fun i j => pre_dact (hp c) i j
  refine ⟨(H c).1.trans ?_, (H c).2.1.trans ?_, (H c).2.2.1.trans ?_, (H c).2.2.2⟩
  · rw [Cert.Reference16Ideal.Conv.res_dx, hD, e1]
    exact Cert.Ffn.ext2 fun i j => Cert.Reference16Ideal.Conv.dx_eq _ _ i j
  · rw [Cert.Reference16Ideal.Conv.res_dw, hD, e0]
    refine Cert.Ffn.ext2 fun i j => ?_
    rw [Cert.Reference16Ideal.Conv.dw_eq]
    refine Finset.sum_congr (M := EReal) rfl fun n _ => ?_
    refine Eq.trans (b := wTerm m c i j n.val) ?_ rfl
    rw [Cert.Reference16Ideal.Conv.ext_eq, mul_comm, wTerm, Cert.Ffn.at2, dif_pos ⟨n.isLt, j.isLt⟩]
    exact congrArg (fun n => _ * Cert.Conv.pad (X m c) n (1024 + j.val)) (Nat.add_comm _ _)
  · rw [Cert.Reference16Ideal.Conv.res_db, hD]
    refine Cert.Ffn.ext2 fun i j => ?_
    rw [Cert.Reference16Ideal.Conv.db_eq]
    refine Finset.sum_congr (M := EReal) rfl fun n _ => ?_
    refine Eq.trans (b := bTerm m c j n.val) ?_ rfl
    rw [bTerm, Cert.Ffn.at2, dif_pos ⟨n.isLt, j.isLt⟩]

end Cert.Kernel16Ideal.Conv
-- ==== Proof.Conv.DGdnRef.lean ====
/-
  The reference of the backward convolution in front of the gated delta-rule mixer: its operations, read at a row and a column.
-/
module

public import proofs.«01_k».proof.Proof.Gen.Reference17Ideal.Run
public import proofs.«01_k».proof.Proof.Conv.Basic
public import Idealize.ShloMosaic.Lib.Pipeline.ValueKit
public import Idealize.ShloMosaic.Lib.Pointwise

@[expose] public section

set_option maxRecDepth 16384

noncomputable section

namespace Cert.Reference17Ideal.Conv

open Cert.Reference17Ideal Cert.Reference17Ideal.Gen Cert.Reference17Ideal.Value Idealize.ShloMosaic Idealize.ShloMosaic.TcCoe Idealize.SL.Sem

/-- The activations, three rows of zeros before them. -/
def ext (x : FVec Ideal S4096x3328 .f32) : FVec Ideal S4099x768 .f32 :=
  concatenate S4099x768 0 [⟨S3x768, (broadcastInDim S3x768 ![] bcast_S_S3x768 (constant S_ .f32 0x00000000#32))⟩, ⟨S4096x768, (extractStridedSlice S4096x768 ![0, 0] x slices_S4096x3328_S4096x768_0_0)⟩] concatenates_S3x768_S4096x768_S4099x768_d0

/-- The convolution. -/
def pre (e : FVec Ideal S4099x768 .f32) (w : FVec Ideal S4x768 .f32) : FVec Ideal S4096x768 .f32 :=
  addf (addf (addf (mulf (extractStridedSlice S4096x768 ![0, 0] e slices_S4099x768_S4096x768_0_0) (broadcastInDim S4096x768 ![0, 1] bcast_S1x768_S4096x768_0_1 (broadcastInDim S1x768 ![1] bcast_S768_S1x768_1 (shapeCast _ (extractStridedSlice S1x768 ![0, 0] w slices_S4x768_S1x768_0_0) shapeCasts_S1x768_S768)))) (mulf (extractStridedSlice S4096x768 ![1, 0] e slices_S4099x768_S4096x768_1_0) (broadcastInDim S4096x768 ![0, 1] bcast_S1x768_S4096x768_0_1 (broadcastInDim S1x768 ![1] bcast_S768_S1x768_1 (shapeCast _ (extractStridedSlice S1x768 ![1, 0] w slices_S4x768_S1x768_1_0) shapeCasts_S1x768_S768))))) (mulf (extractStridedSlice S4096x768 ![2, 0] e slices_S4099x768_S4096x768_2_0) (broadcastInDim S4096x768 ![0, 1] bcast_S1x768_S4096x768_0_1 (broadcastInDim S1x768 ![1] bcast_S768_S1x768_1 (shapeCast _ (extractStridedSlice S1x768 ![2, 0] w slices_S4x768_S1x768_2_0) shapeCasts_S1x768_S768))))) (mulf (extractStridedSlice S4096x768 ![3, 0] e slices_S4099x768_S4096x768_3_0) (broadcastInDim S4096x768 ![0, 1] bcast_S1x768_S4096x768_0_1 (broadcastInDim S1x768 ![1] bcast_S768_S1x768_1 (shapeCast _ (extractStridedSlice S1x768 ![3, 0] w slices_S4x768_S1x768_3_0) shapeCasts_S1x768_S768))))

/-- Its logistic. -/
def gate (y : FVec Ideal S4096x768 .f32) : FVec Ideal S4096x768 .f32 :=
  Host.divf (broadcastInDim S4096x768 ![] bcast_S_S4096x768 (constant S_ .f32 0x3F800000#32)) (addf (broadcastInDim S4096x768 ![] bcast_S_S4096x768 (constant S_ .f32 0x3F800000#32)) (Host.exp (Host.negf y)))

/-- The gradient before the activation. -/
def grad (d y s : FVec Ideal S4096x768 .f32) : FVec Ideal S4096x768 .f32 :=
  addf (mulf d s) (mulf (mulf y d) (mulf s (subf (broadcastInDim S4096x768 ![] bcast_S_S4096x768 (constant S_ .f32 0x3F800000#32)) s)))

/-- From it: dw, the operations of the reference. -/
def dw (e : FVec Ideal S4099x768 .f32) (D : FVec Ideal S4096x768 .f32) : FVec Ideal S4x768 .f32 :=
  addf (addf (addf (pad S4x768 ![3, 0] ![0, 0] ![0, 0] (broadcastInDim S1x768 ![1] bcast_S768_S1x768_1 (Host.reduceAdd (shapeCast _ (Host.reduceAdd (mulf (extractStridedSlice S4096x768 ![3, 0] e slices_S4099x768_S4096x768_3_0) D) (constant S_ .f32 0x00000000#32) reducesTo_S4096x768_S768_d0 h_S_) shapeCasts_S768_S1x768) (constant S_ .f32 0x00000000#32) reducesTo_S1x768_S768_d0 h_S_)) (constant S_ .f32 0x00000000#32) pads_S1x768_S4x768_300_000 h_S_) (pad S4x768 ![2, 0] ![1, 0] ![0, 0] (broadcastInDim S1x768 ![1] bcast_S768_S1x768_1 (Host.reduceAdd (shapeCast _ (Host.reduceAdd (mulf (extractStridedSlice S4096x768 ![2, 0] e slices_S4099x768_S4096x768_2_0) D) (constant S_ .f32 0x00000000#32) reducesTo_S4096x768_S768_d0 h_S_) shapeCasts_S768_S1x768) (constant S_ .f32 0x00000000#32) reducesTo_S1x768_S768_d0 h_S_)) (constant S_ .f32 0x00000000#32) pads_S1x768_S4x768_210_000 h_S_)) (pad S4x768 ![1, 0] ![2, 0] ![0, 0] (broadcastInDim S1x768 ![1] bcast_S768_S1x768_1 (Host.reduceAdd (shapeCast _ (Host.reduceAdd (mulf (extractStridedSlice S4096x768 ![1, 0] e slices_S4099x768_S4096x768_1_0) D) (constant S_ .f32 0x00000000#32) reducesTo_S4096x768_S768_d0 h_S_) shapeCasts_S768_S1x768) (constant S_ .f32 0x00000000#32) reducesTo_S1x768_S768_d0 h_S_)) (constant S_ .f32 0x00000000#32) pads_S1x768_S4x768_120_000 h_S_)) (pad S4x768 ![0, 0] ![3, 0] ![0, 0] (broadcastInDim S1x768 ![1] bcast_S768_S1x768_1 (Host.reduceAdd (shapeCast _ (Host.reduceAdd (mulf (extractStridedSlice S4096x768 ![0, 0] e slices_S4099x768_S4096x768_0_0) D) (constant S_ .f32 0x00000000#32) reducesTo_S4096x768_S768_d0 h_S_) shapeCasts_S768_S1x768) (constant S_ .f32 0x00000000#32) reducesTo_S1x768_S768_d0 h_S_)) (constant S_ .f32 0x00000000#32) pads_S1x768_S4x768_030_000 h_S_)

/-- From it: dx, the operations of the reference. -/
def dx (w : FVec Ideal S4x768 .f32) (D : FVec Ideal S4096x768 .f32) : FVec Ideal S4096x768 .bf16 :=
  truncf .bf16 (extractStridedSlice S4096x768 ![3, 0] (addf (addf (addf (pad S4099x768 ![3, 0] ![0, 0] ![0, 0] (mulf D (broadcastInDim S4096x768 ![0, 1] bcast_S1x768_S4096x768_0_1 (broadcastInDim S1x768 ![1] bcast_S768_S1x768_1 (shapeCast _ (extractStridedSlice S1x768 ![3, 0] w slices_S4x768_S1x768_3_0) shapeCasts_S1x768_S768)))) (constant S_ .f32 0x00000000#32) pads_S4096x768_S4099x768_300_000 h_S_) (pad S4099x768 ![2, 0] ![1, 0] ![0, 0] (mulf D (broadcastInDim S4096x768 ![0, 1] bcast_S1x768_S4096x768_0_1 (broadcastInDim S1x768 ![1] bcast_S768_S1x768_1 (shapeCast _ (extractStridedSlice S1x768 ![2, 0] w slices_S4x768_S1x768_2_0) shapeCasts_S1x768_S768)))) (constant S_ .f32 0x00000000#32) pads_S4096x768_S4099x768_210_000 h_S_)) (pad S4099x768 ![1, 0] ![2, 0] ![0, 0] (mulf D (broadcastInDim S4096x768 ![0, 1] bcast_S1x768_S4096x768_0_1 (broadcastInDim S1x768 ![1] bcast_S768_S1x768_1 (shapeCast _ (extractStridedSlice S1x768 ![1, 0] w slices_S4x768_S1x768_1_0) shapeCasts_S1x768_S768)))) (constant S_ .f32 0x00000000#32) pads_S4096x768_S4099x768_120_000 h_S_)) (pad S4099x768 ![0, 0] ![3, 0] ![0, 0] (mulf D (broadcastInDim S4096x768 ![0, 1] bcast_S1x768_S4096x768_0_1 (broadcastInDim S1x768 ![1] bcast_S768_S1x768_1 (shapeCast _ (extractStridedSlice S1x768 ![0, 0] w slices_S4x768_S1x768_0_0) shapeCasts_S1x768_S768)))) (constant S_ .f32 0x00000000#32) pads_S4096x768_S4099x768_030_000 h_S_)) slices_S4099x768_S4096x768_3_0) bitsLt_bf16_f32

variable (x : FVec Ideal S4096x3328 .f32) (w : FVec Ideal S4x768 .f32) (d y D : FVec Ideal S4096x768 .f32) (e : FVec Ideal S4099x768 .f32)

/-- The weights' gradient: for each of them, the sum of the rows, each times the row that the weight met. -/
theorem dw_eq (i : Fin 4) (j : Fin 768) : dw e D (ix2 i j) = ∑ n : Fin 4096, e (ix2 ⟨i.val + n.val, by omega⟩ j) * D (ix2 n j) := by
  unfold dw
  pointwise
  simp only [Fintype.sum_unique]
  match i with
  | ⟨0, _⟩ => simp
  | ⟨1, _⟩ => simp
  | ⟨2, _⟩ => simp
  | ⟨3, _⟩ => simp

/-- The activations' gradient. -/
theorem dx_eq (i : Fin 4096) (j : Fin 768) :
    dx w D (ix2 i j) = Cert.Conv.back (fun n => Cert.Ffn.at2 D n j.val) (fun a => w (ix2 a j)) i.val := by
  unfold dx
  pointwise
  refine Cert.Conv.back_eq (D := fun n => Cert.Ffn.at2 D n j.val) (w := fun a => w (ix2 a j)) ?_ ?_ ?_ ?_
  · refine (Cert.Conv.at2_dif D _ (3 + i.val) j _ (by omega)).trans ?_
    rw [Nat.add_comm]
  · refine (Cert.Conv.at2_dif D _ (3 + i.val - 1) j _ (by omega)).trans ?_
    exact congrArg (fun n => Cert.Ffn.at2 D n j.val * w (ix2 1 j)) (by omega)
  · refine (Cert.Conv.at2_dif D _ (3 + i.val - 2) j _ (by omega)).trans ?_
    exact congrArg (fun n => Cert.Ffn.at2 D n j.val * w (ix2 2 j)) (by omega)
  · exact congrArg (· * w (ix2 3 j)) (Cert.Ffn.at2_ix2 D i j)

/-- The activations with the zeros, by the numbers of row and column. -/
theorem ext_eq (i : Fin 4099) (j : Fin 768) : ext x (ix2 i j) = Cert.Conv.pad x i.val j.val := by
  unfold ext
  pointwise
  exact Cert.Conv.pad_dif x i.val j.val (by have := i.isLt; omega) (by omega)

/-- The convolution, by its rows. -/
theorem pre_eq (i : Fin 4096) (j : Fin 768) :
    pre (ext x) w (ix2 i j) = Cert.Conv.conv (fun n => Cert.Conv.pad x n j.val) (fun a => w (ix2 a j)) 0 i.val := by
  unfold pre
  pointwise
  simp only [ext_eq, Nat.add_comm _ i.val]
  exact (add_zero _).symm.trans (Cert.Conv.conv_eq (fun n => Cert.Conv.pad x n j.val) (fun a => w (ix2 a j)) 0 i.val)

/-- The gradient before the activation, where the incoming one is real. -/
theorem grad_eq (i : Fin 4096) (j : Fin 768) (r : ℝ) (h : d (ix2 i j) = (r : EReal)) :
    grad d y (gate y) (ix2 i j) = Cert.Conv.slope (d (ix2 i j)) (y (ix2 i j)) := by
  unfold grad gate
  pointwise
  rw [h]
  exact Cert.Conv.slope_eq r (y (ix2 i j))

variable (m : (ℓ : Loc nD τ sig) → Buf (Elt Ideal) ℓ) (c : Dev nD)

/-- The convolution of the reference's arguments. -/
abbrev Y : FVec Ideal S4096x768 .f32 := pre (ext (m ((c.tc : Thread nD τ).loc main_arg0))) (m ((c.tc : Thread nD τ).loc main_arg1))

/-- The gradient before the activation, of the reference's arguments. -/
abbrev DY : FVec Ideal S4096x768 .f32 := grad (m ((c.tc : Thread nD τ).loc main_arg2)) (Y m c) (gate (Y m c))

/-- The reference's results are these operations. -/
theorem res_dw : res_main_v72 m c = dw (ext (m ((c.tc : Thread nD τ).loc main_arg0))) (DY m c) := rfl

/-- The reference's results are these operations. -/
theorem res_dx : res_main_v77 m c = dx (m ((c.tc : Thread nD τ).loc main_arg1)) (DY m c) := rfl

end Cert.Reference17Ideal.Conv
-- ==== Proof.Conv.DGdn.lean ====
/-
  The backward pass of the short convolution in front of the gated delta-rule mixer, the blocks of rows taken from the last to the
  first: the gradient of the activations, which needs the first rows of the block after, and the gradients of the
  weights, summed up block by block.
-/
module

public import proofs.«01_k».proof.Proof.Gen.Kernel17Ideal.Value
public import proofs.«01_k».proof.Proof.Gen.Pre_finite_dact17
public import proofs.«01_k».proof.Defs
public import proofs.«01_k».proof.Proof.Conv.DGdnRef
public import proofs.«01_k».proof.Proof.Swa.Claim
public import Idealize.ShloMosaic.Lib.Pipeline.ValueKit
public import Idealize.ShloMosaic.Lib.Pointwise

@[expose] public section

set_option maxRecDepth 16384

noncomputable section

namespace Cert.Kernel17Ideal.Conv

open Cert.Kernel17Ideal Cert.Kernel17Ideal.Gen Cert.Kernel17Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![7 - t.val, 0] ∧ win0_1.index t = ![(7 - t.val) * 64 - 1, 0] ∧ win0_2.index t = ![7 - t.val, 0] ∧
    win0_3.index t = ![0, 0] ∧ win0_4.index t = ![0, 0] ∧ win0_5.index t = ![7 - t.val, 0] ∧ win0_6.index t = ![0, 0] ∧ win0_7.index t = ![0, 0] := by
  decide +kernel

/-- The projected activations. -/
abbrev X (c : Dev nD) : FVec Ideal S4096x3328 .f32 := m ((c : Thread nD τ).loc main_arg0)
/-- The weights of the convolution. -/
abbrev W (c : Dev nD) : FVec Ideal S4x768 .f32 := m ((c : Thread nD τ).loc main_arg1)
/-- The gradient that comes in. -/
abbrev D (c : Dev nD) : FVec Ideal S4096x768 .f32 := m ((c : Thread nD τ).loc main_arg2)

/-- The convolution at a row and a column. -/
def Y (c : Dev nD) (i j : ℕ) (k : Fin 768) : EReal :=
  Cert.Conv.conv (fun n => Cert.Conv.pad (X m c) n j) (fun a => W m c (ix2 a k)) 0 i

/-- The gradient before the activation. -/
def DY (c : Dev nD) : FVec Ideal S4096x768 .f32 := fun i => Cert.Conv.slope (D m c i) (Y m c (i 0).val (i 1).val (i 1))

/-- The activations' gradient. -/
def GX (c : Dev nD) : FVec Ideal S4096x768 .bf16 := fun i =>
  Cert.Conv.back (fun n => Cert.Ffn.at2 (DY m c) n (i 1).val) (fun a => W m c (ix2 a (i 1))) (i 0).val

section Blocks

variable (c : Dev nD) (t : Fin cfg0.N)

/-- A row of a block is a row of the array. -/
theorem lt (r : Fin 512) : 512 * (7 - t.val) + r.val < 4096 := by omega

/-- The block of the activations. -/
theorem x_read (r : Fin 512) (k : Fin 768) :
    k0_pay8 (X0_0 m c t) (ix2 r k) = Cert.Ffn.at2 (X m c) (512 * (7 - t.val) + r.val) k.val := by
  have hr := lt t r
  obtain ⟨e0, e1, e2, e3, e4, e5, e6, e7⟩ := idx t
  pointwise [k0_pay8]
  rw [Cert.Ffn.at2, dif_pos ⟨hr, by omega⟩]
  unfold X0_0 Pipeline.Window.fill
  rw [dif_pos (moved0_0 t _)]
  blk_ext [iblk, V_main_arg0, e0]

/-- Whether the first rows are those before the array. -/
theorem head : ∀ t : Fin cfg0.N, Scalar.cmpi .eq (Scalar.subi 7#32 (BitVec.ofNat 32 (grid0.coords t 0).val)) 0#32 = if t.val = 7 then 1#1 else 0#1 := by
  decide +kernel

/-- The eight rows before the block: zeros before the first. -/
theorem halo_read (q : Fin 8) (k : Fin 768) (N : ℕ) (h5 : 5 ≤ q.val) (hN : N + 5 = 512 * (7 - t.val) + q.val) :
    k0_pay7 (grid0.coords t) (X0_1 m c t) (ix2 q k) = Cert.Conv.pad (X m c) N k.val := by
  obtain ⟨e0, e1, e2, e3, e4, e5, e6, e7⟩ := idx t
  pointwise [k0_pay7]
  rw [head t]
  by_cases h : t.val = 7
  · rw [if_pos h, Cert.Conv.pad_lt _ _ (by omega)]
    rfl
  · have hN : t.val < 8 := lt_of_lt_of_eq t.isLt N_0
    rw [if_neg h, Cert.Conv.pad_ge _ _ (by omega), Cert.Ffn.at2, dif_pos ⟨by omega, by omega⟩]
    refine Eq.trans (b := (X0_1 m c t : FVec Ideal S8x768 .f32) (ix2 q k)) rfl ?_
    unfold X0_1 Pipeline.Window.fill
    rw [dif_pos (moved0_1 t _)]
    blk_ext [iblk, V_main_arg0, e1]

/-- The weights. -/
theorem w_read (a : Fin 4) (k : Fin 768) : (iblk m c 3 t : FVec Ideal S4x768 .f32) (ix2 a k) = W m c (ix2 a k) := by
  obtain ⟨e0, e1, e2, e3, e4, e5, e6, e7⟩ := idx t
  blk_ext [iblk, V_main_arg1, e3]

/-- The zeros that stand in the place of a bias. -/
theorem b_read (k : Fin 768) : (iblk m c 4 t : FVec Ideal S1x768 .f32) (ix2 0 k) = (0 : EReal) := by
  have h : V m c main_v0 = (fun _ => 0 : FVec Ideal S1x768 .f32) := by
    show StableHlo.after hostOps0 _ (Proc.devRef .tc main_v0) = _
    after_results
    refine Cert.Ffn.ext2 fun i j => ?_
    pointwise
  exact congrFun h _

/-- The block of the gradient that comes in. -/
theorem d_read (r : Fin 512) (k : Fin 768) : (iblk m c 2 t : FVec Ideal S512x768 .f32) (ix2 r k) = D m c (ix2 ⟨512 * (7 - t.val) + r.val, lt t r⟩ k) := by
  obtain ⟨e0, e1, e2, e3, e4, e5, e6, e7⟩ := idx t
  blk_ext [iblk, V_main_arg2, e2]

/-- A row of the first buffer is a row of the array with three zeros before it. -/
theorem ext (k : Fin 768) (n N : ℕ) (z : EReal) (hn : n < 520) (h5 : 5 ≤ n) (hN : N + 5 = 512 * (7 - t.val) + n) :
    (if h : 8 ≤ n ∧ n < 8 + 512 then k0_pay8 (X0_0 m c t) (ix2 ⟨n - 8, by omega⟩ k)
      else if h : 0 ≤ n ∧ n < 0 + 8 then k0_pay7 (grid0.coords t) (X0_1 m c t) (ix2 ⟨n - 0, by omega⟩ k) else z)
      = Cert.Conv.pad (X m c) N k.val := by
  by_cases h : 8 ≤ n ∧ n < 8 + 512
  · rw [dif_pos h, x_read, Cert.Conv.pad_ge _ _ (by omega)]
    exact congrArg (fun n => Cert.Ffn.at2 (X m c) n k.val) (by dsimp only; omega)
  · rw [dif_neg h, dif_pos ⟨Nat.zero_le _, by omega⟩]
    exact halo_read m c t ⟨n - 0, by omega⟩ k N h5 hN

/-- The gradient before the activation, of a block. -/
abbrev dy : FVec Ideal S512x768 .f32 :=
  k0_pay10
    (k0_pay9 (iblk m c 4 t) (View.ld (iblk m c 3 t) (Rect.unit ![0, 0] ![1, 768] inb_S4x768_S1x768_0_0))
      ((View.whole cc0_scratch0).readCov
      [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩]
      (Rect.unit ![5, 0] ![512, 768] inb_S520x768_S512x768_5_0).toLoadRect)
      (View.ld (iblk m c 3 t) (Rect.unit ![1, 0] ![1, 768] inb_S4x768_S1x768_1_0))
      ((View.whole cc0_scratch0).readCov
      [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩]
      (Rect.unit ![6, 0] ![512, 768] inb_S520x768_S512x768_6_0).toLoadRect))
    (View.ld (iblk m c 3 t) (Rect.unit ![2, 0] ![1, 768] inb_S4x768_S1x768_2_0))
    ((View.whole cc0_scratch0).readCov
      [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩]
      (Rect.unit ![7, 0] ![512, 768] inb_S520x768_S512x768_7_0).toLoadRect)
    (View.ld (iblk m c 3 t) (Rect.unit ![3, 0] ![1, 768] inb_S4x768_S1x768_3_0))
    ((View.whole cc0_scratch0).readCov
      [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩]
      (Rect.unit ![8, 0] ![512, 768] inb_S520x768_S512x768_8_0).toLoadRect)
    (iblk m c 2 t)

/-- It is the array's. -/
theorem dy_eq (r : Fin 512) (k : Fin 768) : dy m c t (ix2 r k) = Cert.Ffn.at2 (DY m c) (512 * (7 - t.val) + r.val) k.val := by
  unfold dy
  pointwise [k0_pay10, k0_pay9]
  simp only [Cert.Conv.load_rows, Cert.Conv.canon_rows scM0_0.view, w_read, b_read, d_read]
  refine Eq.trans ?_ (dif_pos (⟨lt t r, k.isLt⟩ : 512 * (7 - t.val) + r.val < 4096 ∧ k.val < 768)).symm
  refine congrArg (Cert.Conv.slope (D m c (ix2 ⟨512 * (7 - t.val) + r.val, lt t r⟩ k)))
    (Cert.Conv.conv_of (x := fun n => Cert.Conv.pad (X m c) n k.val) (w := fun a => W m c (ix2 a k)) (n := 512 * (7 - t.val) + r.val) ?_ ?_ ?_ ?_)
  · exact ext m c t k (5 + r.val) _ _ (by omega) (by omega) (by omega)
  · exact ext m c t k (6 + r.val) _ _ (by omega) (by omega) (by omega)
  · exact ext m c t k (7 + r.val) _ _ (by omega) (by omega) (by omega)
  · exact ext m c t k (8 + r.val) _ _ (by omega) (by omega) (by omega)

/-- The same as stored. -/
theorem pay11_eq {a b d e f g} (r : Fin 512) (k : Fin 768) : (k0_pay11 (F := Ideal) a b d e f g) (ix2 r k) = k0_pay10 a b d e f g (ix2 r k) := by
  pointwise [k0_pay11]

/-- Beyond the array there is nothing. -/
theorem beyond (n : ℕ) (k : Fin 768) (hn : 4096 ≤ n) : Cert.Ffn.at2 (DY m c) n k.val = 0 := by
  rw [Cert.Ffn.at2, dif_neg (by omega)]

/-- A row of the second buffer: the block's rows and, after them, what was kept. -/
theorem next (k : Fin 768) (n : ℕ) (z : EReal) (hz : 512 ≤ n → z = Cert.Ffn.at2 (DY m c) (512 * (7 - t.val) + n) k.val) :
    (if h : 0 ≤ n ∧ n < 0 + 512 then dy m c t (ix2 ⟨n - 0, by omega⟩ k) else z) = Cert.Ffn.at2 (DY m c) (512 * (7 - t.val) + n) k.val := by
  by_cases h : 0 ≤ n ∧ n < 0 + 512
  · rw [dif_pos h]
    exact dy_eq m c t ⟨n - 0, by omega⟩ k
  · rw [dif_neg h]
    exact hz (by omega)

/-- What is kept for the next block is the first rows of this one. -/
theorem carry_eq (q : Fin 8) (k : Fin 768) (z : Fin 520) (hz : z.val = 512 + q.val) :
    (outsAt0 m c t.val t.isLt).2.2.2 (ix2 z k) = Cert.Ffn.at2 (DY m c) (512 * (7 - t.val) + q.val) k.val := by
  have hq : 0 + (z.val - 512) = q.val := by omega
  by_cases h : t.val % 8 = 0
  on_goal 1 => rw [outsAt0_A m c t h]
  on_goal 2 => rw [outsAt0_B m c t h]
  all_goals
    dsimp only
    frame_out
    pointwise [k0_pay3]
    simp only [Cert.Conv.load_rows, Cert.Conv.read_rows, Cert.Conv.canon_rows scM0_1.view, pay11_eq]
    rw [dif_pos ⟨by omega, by omega⟩]
    exact (next m c t k (0 + (z.val - 512)) _ (fun h => absurd h (by omega))).trans
      (congrArg (fun n => Cert.Ffn.at2 (DY m c) (512 * (7 - t.val) + n) k.val) hq)

/-- At the first step nothing was kept. -/
theorem none_kept (k : Fin 768) (n : ℕ) (z : EReal) (h : t.val % 8 = 0) (h5 : 512 ≤ n) (hn : n < 520) :
    (if h : 512 ≤ n ∧ n < 512 + 8 then (k0_pay4 : FVec Ideal S8x768 .f32) (ix2 ⟨n - 512, by omega⟩ k) else z) = Cert.Ffn.at2 (DY m c) (512 * (7 - t.val) + n) k.val := by
  have ht : t.val < 8 := lt_of_lt_of_eq t.isLt N_0
  rw [dif_pos ⟨by omega, by omega⟩, beyond m c _ k (by omega)]
  pointwise [k0_pay4]

/-- Afterwards it is the rows of the block before. -/
theorem kept (k : Fin 768) (n : ℕ) (h : ¬ t.val % 8 = 0) (h5 : 512 ≤ n) (hn : n < 520) (ht : t.val - 1 < cfg0.N) :
    (outsAt0 m c (t.val - 1) ht).2.2.2 (ix2 ⟨n, hn⟩ k) = Cert.Ffn.at2 (DY m c) (512 * (7 - t.val) + n) k.val := by
  have h8 : t.val < 8 := lt_of_lt_of_eq t.isLt N_0
  exact (carry_eq m c ⟨t.val - 1, ht⟩ ⟨n - 512, by omega⟩ k ⟨n, hn⟩ (by dsimp only; omega)).trans
    (congrArg (fun n => Cert.Ffn.at2 (DY m c) n k.val) (by dsimp only; omega))

/-- A row of the activations' gradient: the convolution's weights from the other end, on this block and what was kept. -/
theorem dx_row (r : Fin 512) (k : Fin 768) :
    (outsAt0 m c t.val t.isLt).1 (ix2 r k) = GX m c (ix2 ⟨512 * (7 - t.val) + r.val, lt t r⟩ k) := by
  have ht : t.val < 8 := lt_of_lt_of_eq t.isLt N_0
  by_cases h : t.val % 8 = 0
  on_goal 1 => rw [outsAt0_A m c t h]
  on_goal 2 => rw [outsAt0_B m c t h]
  all_goals
    dsimp only
    frame_out
    pointwise [k0_pay12, k0_pay13]
    simp only [Cert.Conv.load_rows, Cert.Conv.read_rows, Cert.Conv.canon_rows scM0_1.view, w_read, pay11_eq, View.writes_nil]
    refine Cert.Conv.back_of (D := fun n => Cert.Ffn.at2 (DY m c) n k.val) (w := fun a => W m c (ix2 a k)) (n := 512 * (7 - t.val) + r.val) ?_ ?_ ?_ ?_
  · refine (next m c t k (3 + r.val) _ fun h5 => ?_).trans (congrArg (fun n => Cert.Ffn.at2 (DY m c) n k.val) (by omega))
    exact none_kept m c t k (3 + r.val) _ h h5 (by omega)
  · refine (next m c t k (2 + r.val) _ fun h5 => ?_).trans (congrArg (fun n => Cert.Ffn.at2 (DY m c) n k.val) (by omega))
    exact none_kept m c t k (2 + r.val) _ h h5 (by omega)
  · refine (next m c t k (1 + r.val) _ fun h5 => ?_).trans (congrArg (fun n => Cert.Ffn.at2 (DY m c) n k.val) (by omega))
    exact none_kept m c t k (1 + r.val) _ h h5 (by omega)
  · exact (next m c t k (0 + r.val) _ fun h5 => absurd h5 (by omega)).trans (congrArg (fun n => Cert.Ffn.at2 (DY m c) n k.val) (by omega))
  · refine (next m c t k (3 + r.val) _ fun h5 => ?_).trans (congrArg (fun n => Cert.Ffn.at2 (DY m c) n k.val) (by omega))
    exact (congrFun ((Memref.isWhole_whole cc0_scratch1).read_unread _) _).trans (kept m c t k (3 + r.val) h h5 (by omega) _)
  · refine (next m c t k (2 + r.val) _ fun h5 => ?_).trans (congrArg (fun n => Cert.Ffn.at2 (DY m c) n k.val) (by omega))
    exact (congrFun ((Memref.isWhole_whole cc0_scratch1).read_unread _) _).trans (kept m c t k (2 + r.val) h h5 (by omega) _)
  · refine (next m c t k (1 + r.val) _ fun h5 => ?_).trans (congrArg (fun n => Cert.Ffn.at2 (DY m c) n k.val) (by omega))
    exact (congrFun ((Memref.isWhole_whole cc0_scratch1).read_unread _) _).trans (kept m c t k (1 + r.val) h h5 (by omega) _)
  · exact (next m c t k (0 + r.val) _ fun h5 => absurd h5 (by omega)).trans (congrArg (fun n => Cert.Ffn.at2 (DY m c) n k.val) (by omega))

/-- What a row adds to a weight's gradient. -/
def wTerm (a : Fin 4) (k : Fin 768) (n : ℕ) : EReal := Cert.Ffn.at2 (DY m c) n k.val * Cert.Conv.pad (X m c) (n + a.val) k.val

/-- The first row of the weights' gradient. -/
theorem pay14_row (Q E : FVec Ideal S512x768 .f32) (o : FVec Ideal S1x768 .f32) (i : Fin 1) (k : Fin 768) :
    k0_pay14 Q o E (ix2 i k) = o (ix2 0 k) + ∑ r : Fin 512, Q (ix2 r k) * E (ix2 r k) := by
  obtain rfl : i = 0 := Subsingleton.elim _ _
  pointwise [k0_pay14]

/-- The second row. -/
theorem pay15_row (Q E : FVec Ideal S512x768 .f32) (o : FVec Ideal S1x768 .f32) (i : Fin 1) (k : Fin 768) :
    k0_pay15 Q o E (ix2 i k) = o (ix2 0 k) + ∑ r : Fin 512, Q (ix2 r k) * E (ix2 r k) := by
  obtain rfl : i = 0 := Subsingleton.elim _ _
  pointwise [k0_pay15]

/-- The third row. -/
theorem pay16_row (Q E : FVec Ideal S512x768 .f32) (o : FVec Ideal S1x768 .f32) (i : Fin 1) (k : Fin 768) :
    k0_pay16 Q o E (ix2 i k) = o (ix2 0 k) + ∑ r : Fin 512, Q (ix2 r k) * E (ix2 r k) := by
  obtain rfl : i = 0 := Subsingleton.elim _ _
  pointwise [k0_pay16]

/-- The fourth row. -/
theorem pay1_row (Q E : FVec Ideal S512x768 .f32) (o : FVec Ideal S1x768 .f32) (i : Fin 1) (k : Fin 768) :
    k0_pay1 Q o E (ix2 i k) = o (ix2 0 k) + ∑ r : Fin 512, Q (ix2 r k) * E (ix2 r k) := by
  obtain rfl : i = 0 := Subsingleton.elim _ _
  pointwise [k0_pay1]

/-- What is there before the first block. -/
theorem pay5_eq (a : Fin 4) (k : Fin 768) : (k0_pay5 : FVec Ideal S4x768 .f32) (ix2 a k) = 0 := by
  pointwise [k0_pay5]

/-- What a block adds to a weight's gradient. -/
theorem block_row (k : Fin 768) (a : Fin 4) (E : Fin 512 → EReal) (hE : ∀ r, E r = Cert.Conv.pad (X m c) (512 * (7 - t.val) + r.val + a.val) k.val) :
    ∑ r : Fin 512, dy m c t (ix2 r k) * E r = ∑ r : Fin 512, wTerm m c a k (512 * (7 - t.val) + r.val) :=
  Finset.sum_congr (M := EReal) rfl fun r _ => congrArg₂ (· * ·) (dy_eq m c t r k) (hE r)

/-- The weights' gradient after the first block. -/
theorem dw_first (k : Fin 768) (a : Fin 4) (h : t.val % 8 = 0) :
    (outsAt0 m c t.val t.isLt).2.1 (ix2 a k) = ∑ r : Fin 512, wTerm m c a k (512 * (7 - t.val) + r.val) := by
  rw [outsAt0_A m c t h]
  dsimp only
  frame_out
  simp only [Cert.Conv.load_rows, Cert.Conv.canon_rows (ms0_6 t).view, Cert.Conv.canon_rows scM0_0.view, pay14_row, pay15_row, pay16_row, pay1_row]
  fin_cases a
  · refine (dif_neg (by decide)).trans ((dif_neg (by decide)).trans ((dif_neg (by decide)).trans ((dif_pos (by decide)).trans (Eq.trans (congrArg₂ (· + ·) ?_ (?_ : _ = _)) (zero_add (∑ r : Fin 512, wTerm m c 0 k (512 * (7 - t.val) + r.val)))))))
    · exact (dif_pos (by decide)).trans (pay5_eq _ _)
    · exact block_row m c t k 0 _ fun r => ext m c t k (5 + r.val) _ _ (by omega) (by omega) (by simp; omega)
  · refine (dif_neg (by decide)).trans ((dif_neg (by decide)).trans ((dif_pos (by decide)).trans (Eq.trans (congrArg₂ (· + ·) ?_ (?_ : _ = _)) (zero_add (∑ r : Fin 512, wTerm m c 1 k (512 * (7 - t.val) + r.val))))))
    · exact (dif_neg (by decide)).trans ((dif_pos (by decide)).trans (pay5_eq _ _))
    · exact block_row m c t k 1 _ fun r => ext m c t k (6 + r.val) _ _ (by omega) (by omega) (by simp; omega)
  · refine (dif_neg (by decide)).trans ((dif_pos (by decide)).trans (Eq.trans (congrArg₂ (· + ·) ?_ (?_ : _ = _)) (zero_add (∑ r : Fin 512, wTerm m c 2 k (512 * (7 - t.val) + r.val)))))
    · exact (dif_neg (by decide)).trans ((dif_neg (by decide)).trans ((dif_pos (by decide)).trans (pay5_eq _ _)))
    · exact block_row m c t k 2 _ fun r => ext m c t k (7 + r.val) _ _ (by omega) (by omega) (by simp; omega)
  · refine (dif_pos (by decide)).trans (Eq.trans (congrArg₂ (· + ·) ?_ (?_ : _ = _)) (zero_add (∑ r : Fin 512, wTerm m c 3 k (512 * (7 - t.val) + r.val))))
    · exact (dif_neg (by decide)).trans ((dif_neg (by decide)).trans ((dif_neg (by decide)).trans ((dif_pos (by decide)).trans (pay5_eq _ _))))
    · exact block_row m c t k 3 _ fun r => ext m c t k (8 + r.val) _ _ (by omega) (by omega) (by simp; omega)

/-- The weights' gradient after a further block. -/
theorem dw_next (k : Fin 768) (a : Fin 4) (h : ¬ t.val % 8 = 0) (p : t.val - 1 < cfg0.N) :
    (outsAt0 m c t.val t.isLt).2.1 (ix2 a k) = (outsAt0 m c (t.val - 1) p).2.1 (ix2 a k) + ∑ r : Fin 512, wTerm m c a k (512 * (7 - t.val) + r.val) := by
  rw [outsAt0_B m c t h]
  dsimp only
  frame_out
  simp only [Cert.Conv.load_rows, Cert.Conv.canon_rows (ms0_6 t).view, Cert.Conv.canon_rows scM0_0.view, pay14_row, pay15_row, pay16_row, pay1_row]
  fin_cases a
  · refine (dif_neg (by decide)).trans ((dif_neg (by decide)).trans ((dif_neg (by decide)).trans ((dif_pos (by decide)).trans (congrArg₂ (· + ·) ?_ (?_ : _ = _)))))
    · pointwise
    · exact block_row m c t k 0 _ fun r => ext m c t k (5 + r.val) _ _ (by omega) (by omega) (by simp; omega)
  · refine (dif_neg (by decide)).trans ((dif_neg (by decide)).trans ((dif_pos (by decide)).trans (congrArg₂ (· + ·) ?_ (?_ : _ = _))))
    · pointwise
    · exact block_row m c t k 1 _ fun r => ext m c t k (6 + r.val) _ _ (by omega) (by omega) (by simp; omega)
  · refine (dif_neg (by decide)).trans ((dif_pos (by decide)).trans (congrArg₂ (· + ·) ?_ (?_ : _ = _)))
    · pointwise
    · exact block_row m c t k 2 _ fun r => ext m c t k (7 + r.val) _ _ (by omega) (by omega) (by simp; omega)
  · refine (dif_pos (by decide)).trans (congrArg₂ (· + ·) ?_ (?_ : _ = _))
    · pointwise
    · exact block_row m c t k 3 _ fun r => ext m c t k (8 + r.val) _ _ (by omega) (by omega) (by simp; omega)

end Blocks

/-- The activations' gradient that the kernel leaves. -/
theorem outX_eq (c : Dev nD) : (dats m 0 c).arrAt 5 cfg0.N = GX m c := by
  refine (dats m 0 c).arrAt_eq_of_covers 5 _ (by decide +kernel) fun t hf y => ?_
  obtain ⟨e0, e1, e2, e3, e4, e5, e6, e7⟩ := idx t
  blk_simp
  rw [after0_5, eq_ix2 y]
  exact (dx_row m c t (y 0) (y 1)).trans (congrArg (GX m c) (by blk_point [e5]))

/-- The weights' gradient. -/
def GW (c : Dev nD) : FVec Ideal S4x768 .f32 := fun i => ∑ n : Fin 4096, wTerm m c (i 0) (i 1) n.val

/-- The weights' gradient that the kernel leaves. -/
theorem outW_eq (c : Dev nD) : (dats m 0 c).arrAt 6 cfg0.N = GW m c := by
  refine (dats m 0 c).arrAt_eq_of_covers 6 _ (by decide +kernel) fun t hf y => ?_
  have ht : t.val = 7 := (by decide +kernel : ∀ t : Fin cfg0.N, (cfg0.win 6).flush t = true → t.val = 7) t hf
  obtain ⟨e0, e1, e2, e3, e4, e5, e6, e7⟩ := idx t
  blk_simp
  rw [after0_6, eq_ix2 y]
  refine (Cert.Conv.fold (wTerm m c (y 0) (y 1)) (fun n h => (outsAt0 m c n h).2.1 (ix2 (y 0) (y 1))) (fun t h => dw_first m c t (y 1) (y 0) (by omega))
    (fun t p h => dw_next m c t (y 1) (y 0) (by have : t.val < 8 := lt_of_lt_of_eq t.isLt N_0; omega) p) t.val t.isLt).trans ?_
  refine Eq.trans (congrArg (fun n => ∑ s ∈ Finset.range (n + 1), ∑ r : Fin 512, wTerm m c (y 0) (y 1) (512 * (7 - s) + r.val)) ht) ?_
  refine (Cert.Conv.total (wTerm m c (y 0) (y 1))).trans ?_
  refine Eq.trans (b := GW m c (ix2 (y 0) (y 1))) rfl (congrArg (GW m c) ?_)
  blk_point [e6]

section Pre

open Cert.Pre_finite_dact17 Cert.Pre_finite_dact17.Gen

/-- The precondition: the gradient that comes in consists of numbers. -/
theorem pre_dact {x0 : FVec Ideal S4096x3328 .f32} {x1 : FVec Ideal S4x768 .f32} {x2 : FVec Ideal S4096x768 .f32}
    (h : fn (F := Ideal) x0 x1 x2 = fun _ => 1#1) (i : Fin 4096) (j : Fin 768) : ∃ y : ℝ, x2 (ix2 i j) = (y : EReal) := by
  have e := congrFun h (ix2 i j)
  pointwise [fn] at e
  exact Cert.Swa.real_of_lt _ e

end Pre

/-- The reference's gradient before the activation is the kernel's. -/
theorem grad_eq (c : Dev nD) (h : ∀ i j, ∃ y : ℝ, D m c (ix2 i j) = (y : EReal)) :
    Cert.Reference17Ideal.Conv.grad (D m c) (Cert.Reference17Ideal.Conv.pre (Cert.Reference17Ideal.Conv.ext (X m c)) (W m c))
      (Cert.Reference17Ideal.Conv.gate (Cert.Reference17Ideal.Conv.pre (Cert.Reference17Ideal.Conv.ext (X m c)) (W m c))) = DY m c := by
  refine Cert.Ffn.ext2 fun i j => ?_
  obtain ⟨r, hr⟩ := h i j
  rw [Cert.Reference17Ideal.Conv.grad_eq _ _ i j r hr, Cert.Reference17Ideal.Conv.pre_eq]
  rfl

/-- With a finite gradient coming in, the idealized kernel and the reference give the same results. -/
theorem algebraic : Cert.algebraic_Kernel17Ideal_Reference17Ideal_pre_finite_dact17 := by
  intro m g m' g' hp e
  refine ⟨GX m, GW m, (θ_run (Cert.Kernel17Ideal.defs (F := Ideal)) _ _).mono (fun r H c => ⟨(H c).1.trans (outX_eq m c), (H c).2.1.trans (outW_eq m c), (H c).2.2.2⟩) (run_blocks m g), ?_⟩
  refine (θ_run (Cert.Reference17Ideal.defs (F := Ideal)) _ _).mono (fun r H c => ?_) (Cert.Reference17Ideal.Value.run (F := Ideal) m' g')
  obtain ⟨e0, e1, e2⟩ := e c
  have hD : Cert.Reference17Ideal.Conv.DY m' c = DY m c := by
    unfold Cert.Reference17Ideal.Conv.DY Cert.Reference17Ideal.Conv.Y
    rw [e0, e1, e2]
    exact grad_eq m c fun i j => pre_dact (hp c) i j
  refine ⟨(H c).1.trans ?_, (H c).2.1.trans ?_, (H c).2.2⟩
  · rw [Cert.Reference17Ideal.Conv.res_dx, hD, e1]
    exact Cert.Ffn.ext2 fun i j => Cert.Reference17Ideal.Conv.dx_eq _ _ i j
  · rw [Cert.Reference17Ideal.Conv.res_dw, hD, e0]
    refine Cert.Ffn.ext2 fun i j => ?_
    rw [Cert.Reference17Ideal.Conv.dw_eq]
    refine Finset.sum_congr (M := EReal) rfl fun n _ => ?_
    refine Eq.trans (b := wTerm m c i j n.val) ?_ rfl
    rw [Cert.Reference17Ideal.Conv.ext_eq, mul_comm, wTerm, Cert.Ffn.at2, dif_pos ⟨n.isLt, j.isLt⟩]
    exact congrArg (fun n => _ * Cert.Conv.pad (X m c) n j.val) (Nat.add_comm _ _)

end Cert.Kernel17Ideal.Conv
-- ==== Proof.Norm.Pre.lean ====
/-
  The first norm of a layer, read in blocks of rows by the kernel.
-/
module

public import proofs.«01_k».proof.Proof.Gen.Kernel18Ideal.Value
public import proofs.«01_k».proof.Proof.Gen.Reference18Ideal.Run
public import proofs.«01_k».proof.Defs
public import proofs.«01_k».proof.Proof.Norm.Basic
public import Idealize.ShloMosaic.Lib.Pipeline.ValueKit
public import Idealize.ShloMosaic.Lib.Pointwise

@[expose] public section

set_option maxRecDepth 16384

noncomputable section

namespace Cert.Kernel18Ideal.Norm

open Cert.Kernel18Ideal Cert.Kernel18Ideal.Gen Cert.Kernel18Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![t.val, 0] := by
  decide +kernel

/-- The rows. -/
abbrev X (c : Dev nD) : FVec Ideal S4096x1024 .f32 := m ((c : Thread nD τ).loc main_arg0)
/-- The weights of the norm. -/
abbrev W (c : Dev nD) : FVec Ideal S1x1024 .f32 := m ((c : Thread nD τ).loc main_arg1)

/-- The normalised rows. -/
def G (c : Dev nD) : FVec Ideal S4096x1024 .bf16 := fun i => Cert.Norm.normed (Cert.Norm.row (X m c) (i 0)) (Cert.Norm.row (W m c) 0) (i 1)

section Blocks

variable (c : Dev nD) (t : Fin cfg0.N) (r : Fin 512) (k : Fin 1024)

/-- A row of a block is a row of the array. -/
theorem lt : 512 * t.val + r.val < 4096 := by
  have := t.isLt; have : cfg0.N = 8 := N_0; omega

/-- The block of `X`, by row and column. -/
theorem x_read : (iblk m c 0 t : FVec Ideal S512x1024 .f32) (ix2 r k) = X m c (ix2 ⟨512 * t.val + r.val, lt t r⟩ k) := by
  obtain ⟨e0, e1, e2⟩ := idx t
  blk_ext [iblk, V_main_arg0, e0]

/-- `W` is read whole. -/
theorem w_read : (iblk m c 1 t : FVec Ideal S1x1024 .f32) (ix2 0 k) = W m c (ix2 0 k) := by
  obtain ⟨e0, e1, e2⟩ := idx t
  blk_ext [iblk, V_main_arg1, e1]

end Blocks

/-- The normalised rows that the kernel leaves. -/
theorem outG_eq (c : Dev nD) : (dats m 0 c).arrAt 2 cfg0.N = G m c := by
  refine (dats m 0 c).arrAt_eq_of_covers 2 _ (by decide +kernel) fun t hf y => ?_
  obtain ⟨e0, e1, e2⟩ := idx t
  blk_simp
  rw [eq_ix2 y]
  have h : ∀ (r : Fin 512) (k : Fin 1024), ((dats m 0 c).after 2 t : FVec Ideal S512x1024 _) (ix2 r k) = G m c (ix2 ⟨512 * t.val + r.val, lt t r⟩ k) := fun r k => by
    rw [after0_2]
    frame_out
    pointwise [k0_pay1]
    simp only [x_read, w_read]
    rfl
  exact (h (y 0) (y 1)).trans (congrArg (G m c) (by blk_point [e2]))

/-- The idealized kernel and the reference give the same results. -/
theorem algebraic : Cert.algebraic_Kernel18Ideal_Reference18Ideal := by
  intro m g m' g' _ e
  refine ⟨G m, (θ_run (Cert.Kernel18Ideal.defs (F := Ideal)) _ _).mono (fun r H c => ⟨(H c).1.trans (outG_eq m c), (H c).2⟩) (run_blocks m g), ?_⟩
  refine (θ_run (Cert.Reference18Ideal.defs (F := Ideal)) _ _).mono (fun r H c => ?_) (Cert.Reference18Ideal.Value.run (F := Ideal) m' g')
  obtain ⟨e0, e1⟩ := e c
  refine ⟨(H c).1.trans ?_, (H c).2⟩
  rw [e0, e1]
  refine Cert.Ffn.ext2 fun i j => ?_
  pointwise
  rfl

end Cert.Kernel18Ideal.Norm
-- ==== Proof.Norm.Post.lean ====
/-
  The second norm of a layer, added to the residual, and the next layer's first norm of the sum.
-/
module

public import proofs.«01_k».proof.Proof.Gen.Kernel19Ideal.Value
public import proofs.«01_k».proof.Proof.Gen.Reference19Ideal.Run
public import proofs.«01_k».proof.Defs
public import proofs.«01_k».proof.Proof.Norm.Basic
public import Idealize.ShloMosaic.Lib.Pipeline.ValueKit
public import Idealize.ShloMosaic.Lib.Pointwise

@[expose] public section

set_option maxRecDepth 16384

noncomputable section

namespace Cert.Kernel19Ideal.Norm

open Cert.Kernel19Ideal Cert.Kernel19Ideal.Gen Cert.Kernel19Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] := by
  decide +kernel

/-- The rows. -/
abbrev X (c : Dev nD) : FVec Ideal S4096x1024 .f32 := m ((c : Thread nD τ).loc main_arg0)
/-- What is normed and added to them. -/
abbrev M (c : Dev nD) : FVec Ideal S4096x1024 .f32 := m ((c : Thread nD τ).loc main_arg1)
/-- The weights of the second norm. -/
abbrev P (c : Dev nD) : FVec Ideal S1x1024 .f32 := m ((c : Thread nD τ).loc main_arg2)
/-- The weights of the next layer's first norm. -/
abbrev W (c : Dev nD) : FVec Ideal S1x1024 .f32 := m ((c : Thread nD τ).loc main_arg3)

/-- The rows after the residual is added. -/
def GY (c : Dev nD) : FVec Ideal S4096x1024 .f32 := fun i => X m c (ix2 (i 0) (i 1)) + Cert.Norm.normed (Cert.Norm.row (M m c) (i 0)) (Cert.Norm.row (P m c) 0) (i 1)

/-- Their norm. -/
def GN (c : Dev nD) : FVec Ideal S4096x1024 .bf16 := fun i => Cert.Norm.normed (Cert.Norm.row (GY m c) (i 0)) (Cert.Norm.row (W m c) 0) (i 1)

section Blocks

variable (c : Dev nD) (t : Fin cfg0.N) (r : Fin 512) (k : Fin 1024)

/-- A row of a block is a row of the array. -/
theorem lt : 512 * t.val + r.val < 4096 := by
  have := t.isLt; have : cfg0.N = 8 := N_0; omega

/-- The block of `X`, by row and column. -/
theorem x_read : (iblk m c 0 t : FVec Ideal S512x1024 .f32) (ix2 r k) = X m c (ix2 ⟨512 * t.val + r.val, lt t r⟩ k) := by
  obtain ⟨e0, e1, e2, e3, e4, e5⟩ := idx t
  blk_ext [iblk, V_main_arg0, e0]

/-- The block of `M`, by row and column. -/
theorem m_read : (iblk m c 1 t : FVec Ideal S512x1024 .f32) (ix2 r k) = M m c (ix2 ⟨512 * t.val + r.val, lt t r⟩ k) := by
  obtain ⟨e0, e1, e2, e3, e4, e5⟩ := idx t
  blk_ext [iblk, V_main_arg1, e1]

/-- `P` is read whole. -/
theorem p_read : (iblk m c 2 t : FVec Ideal S1x1024 .f32) (ix2 0 k) = P m c (ix2 0 k) := by
  obtain ⟨e0, e1, e2, e3, e4, e5⟩ := idx t
  blk_ext [iblk, V_main_arg2, e2]

/-- `W` is read whole. -/
theorem w_read : (iblk m c 3 t : FVec Ideal S1x1024 .f32) (ix2 0 k) = W m c (ix2 0 k) := by
  obtain ⟨e0, e1, e2, e3, e4, e5⟩ := idx t
  blk_ext [iblk, V_main_arg3, e3]

end Blocks

/-- The rows that the kernel leaves. -/
theorem outGY_eq (c : Dev nD) : (dats m 0 c).arrAt 4 cfg0.N = GY m c := by
  refine (dats m 0 c).arrAt_eq_of_covers 4 _ (by decide +kernel) fun t hf y => ?_
  obtain ⟨e0, e1, e2, e3, e4, e5⟩ := idx t
  blk_simp
  rw [eq_ix2 y]
  have h : ∀ (r : Fin 512) (k : Fin 1024), ((dats m 0 c).after 4 t : FVec Ideal S512x1024 _) (ix2 r k) = GY m c (ix2 ⟨512 * t.val + r.val, lt t r⟩ k) := fun r k => by
    rw [after0_4]
    frame_out
    pointwise [k0_pay1]
    simp only [x_read, m_read, p_read, w_read]
    rfl
  exact (h (y 0) (y 1)).trans (congrArg (GY m c) (by blk_point [e4]))

/-- Their norm, as the kernel leaves it. -/
theorem outGN_eq (c : Dev nD) : (dats m 0 c).arrAt 5 cfg0.N = GN m c := by
  refine (dats m 0 c).arrAt_eq_of_covers 5 _ (by decide +kernel) fun t hf y => ?_
  obtain ⟨e0, e1, e2, e3, e4, e5⟩ := idx t
  blk_simp
  rw [eq_ix2 y]
  have h : ∀ (r : Fin 512) (k : Fin 1024), ((dats m 0 c).after 5 t : FVec Ideal S512x1024 _) (ix2 r k) = GN m c (ix2 ⟨512 * t.val + r.val, lt t r⟩ k) := fun r k => by
    rw [after0_5]
    frame_out
    pointwise [k0_pay2, k0_pay1]
    simp only [x_read, m_read, p_read, w_read]
    rfl
  exact (h (y 0) (y 1)).trans (congrArg (GN m c) (by blk_point [e5]))

set_option maxHeartbeats 2000000 in
/-- The idealized kernel and the reference give the same results. -/
theorem algebraic : Cert.algebraic_Kernel19Ideal_Reference19Ideal := by
  intro m g m' g' _ e
  refine ⟨GY m, GN m, (θ_run (Cert.Kernel19Ideal.defs (F := Ideal)) _ _).mono (fun r H c => ⟨(H c).1.trans (outGY_eq m c), (H c).2.1.trans (outGN_eq m c), (H c).2.2⟩) (run_blocks m g), ?_⟩
  refine (θ_run (Cert.Reference19Ideal.defs (F := Ideal)) _ _).mono (fun r H c => ?_) (Cert.Reference19Ideal.Value.run (F := Ideal) m' g')
  obtain ⟨e0, e1, e2, e3⟩ := e c
  refine ⟨(H c).1.trans ?_, (H c).2.1.trans ?_, (H c).2.2⟩
  · rw [e0, e1, e2]
    refine Cert.Ffn.ext2 fun i j => ?_
    pointwise
    rfl
  · rw [e0, e1, e2, e3]
    refine Cert.Ffn.ext2 fun i j => ?_
    pointwise
    rfl

end Cert.Kernel19Ideal.Norm
-- ==== Proof.Conv.In.lean ====
/-
  The short convolution in front of the state-space mixer, read in blocks of rows by the kernel: each point keeps the
  last eight rows of its block for the next.
-/
module

public import proofs.«01_k».proof.Proof.Gen.Kernel20Ideal.Value
public import proofs.«01_k».proof.Proof.Gen.Reference20Ideal.Run
public import proofs.«01_k».proof.Defs
public import proofs.«01_k».proof.Proof.Conv.Basic
public import Idealize.ShloMosaic.Lib.Pipeline.ValueKit
public import Idealize.ShloMosaic.Lib.Pointwise

@[expose] public section

set_option maxRecDepth 16384

noncomputable section

namespace Cert.Kernel20Ideal.Conv

open Cert.Kernel20Ideal Cert.Kernel20Ideal.Gen Cert.Kernel20Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 1] ∧ win0_1.index t = ![0, 0] ∧ win0_2.index t = ![0, 0] ∧ win0_3.index t = ![t.val, 0] := by
  decide +kernel

/-- The projected activations. -/
abbrev X (c : Dev nD) : FVec Ideal S4096x3328 .f32 := m ((c : Thread nD τ).loc main_arg0)
/-- The weights of the convolution. -/
abbrev W (c : Dev nD) : FVec Ideal S4x1024 .f32 := m ((c : Thread nD τ).loc main_arg1)
/-- Its bias. -/
abbrev B (c : Dev nD) : FVec Ideal S1x1024 .f32 := m ((c : Thread nD τ).loc main_arg2)

/-- The convolution at a row and a column. -/
def Y (c : Dev nD) (i j : ℕ) (k : Fin 1024) : EReal :=
  Cert.Conv.conv (fun n => Cert.Conv.pad (X m c) n j) (fun a => W m c (ix2 a k)) (B m c (ix2 0 k)) i

/-- The activated convolution. -/
def G (c : Dev nD) : FVec Ideal S4096x1024 .f32 := fun i => Cert.Conv.silu (Y m c (i 0).val (1024 + (i 1).val) (i 1))

section Blocks

variable (c : Dev nD) (t : Fin cfg0.N)

/-- A row of a block is a row of the array. -/
theorem lt (r : Fin 512) : 512 * t.val + r.val < 4096 := by
  have := t.isLt; have : cfg0.N = 8 := N_0; omega

/-- The block of the activations. -/
theorem x_read (r : Fin 512) (k : Fin 1024) :
    k0_pay3 (X0_0 m c t) (ix2 r k) = Cert.Ffn.at2 (X m c) (512 * t.val + r.val) (1024 + k.val) := by
  have hr := lt t r
  obtain ⟨e0, e1, e2, e3⟩ := idx t
  pointwise [k0_pay3]
  rw [Cert.Ffn.at2, dif_pos ⟨hr, by omega⟩]
  unfold X0_0 Pipeline.Window.fill
  rw [dif_pos (moved0_0 t _)]
  blk_ext [iblk, V_main_arg0, e0]

/-- The weights. -/
theorem w_read (a : Fin 4) (k : Fin 1024) : (iblk m c 1 t : FVec Ideal S4x1024 .f32) (ix2 a k) = W m c (ix2 a k) := by
  obtain ⟨e0, e1, e2, e3⟩ := idx t
  blk_ext [iblk, V_main_arg1, e1]

/-- The bias. -/
theorem b_read (k : Fin 1024) : (iblk m c 2 t : FVec Ideal S1x1024 .f32) (ix2 0 k) = B m c (ix2 0 k) := by
  obtain ⟨e0, e1, e2, e3⟩ := idx t
  blk_ext [iblk, V_main_arg2, e2]

/-- The rows that a point leaves for the next: the last eight of its block. -/
theorem carry_eq (q : Fin 8) (k : Fin 1024) (z : Fin 520) (hz : z.val = q.val) :
    (outsAt0 m c t.val t.isLt).2 (ix2 z k) = Cert.Ffn.at2 (X m c) (512 * t.val + (504 + q.val)) (1024 + k.val) := by
  by_cases h : t.val % 8 = 0
  on_goal 1 => rw [outsAt0_A m c t h]
  on_goal 2 => rw [outsAt0_B m c t h]
  all_goals
    dsimp only
    frame_out
    refine (Cert.Conv.canon_rows scM0_0.view 0 _ _ _ z k).trans ?_
    rw [dif_pos ⟨Nat.zero_le _, by omega⟩]
    pointwise [k0_pay1]
    rw [Cert.Conv.load_rows, Cert.Conv.canon_rows scM0_0.view, dif_pos ⟨by dsimp only; omega, by dsimp only; omega⟩, x_read]
    exact congrArg (fun n => Cert.Ffn.at2 (X m c) (512 * t.val + n) (1024 + k.val)) (by dsimp only; omega)

/-- A row of the buffer is a row of the array with three zeros before it: of the block if it lies there, else of what the
    point before left, which is `z`. -/
theorem ext (k : Fin 1024) (n N : ℕ) (z : EReal) (hn : n < 520) (hN : N + 5 = 512 * t.val + n)
    (hz : n < 8 → z = Cert.Conv.pad (X m c) N (1024 + k.val)) :
    (if h : 8 ≤ n ∧ n < 8 + 512 then k0_pay3 (X0_0 m c t) (ix2 ⟨n - 8, by omega⟩ k) else z) = Cert.Conv.pad (X m c) N (1024 + k.val) := by
  by_cases h : 8 ≤ n ∧ n < 8 + 512
  · rw [dif_pos h, x_read, Cert.Conv.pad_ge _ _ (by omega)]
    exact congrArg (fun n => Cert.Ffn.at2 (X m c) n (1024 + k.val)) (by dsimp only; omega)
  · rw [dif_neg h]
    exact hz (by omega)

/-- What the point before left, as a row of the array with three zeros before it. -/
theorem before (n N : ℕ) (hn : n < 520) (k : Fin 1024) (h : ¬ t.val % 8 = 0) (hN : N + 5 = 512 * t.val + n) (h5 : 5 ≤ n) (h8 : n < 8)
    (hp : t.val - 1 < cfg0.N) :
    (outsAt0 m c (t.val - 1) hp).2 (ix2 ⟨n, hn⟩ k) = Cert.Conv.pad (X m c) N (1024 + k.val) := by
  rw [carry_eq m c ⟨t.val - 1, hp⟩ ⟨n, h8⟩ k ⟨n, hn⟩ rfl, Cert.Conv.pad_ge _ _ (by omega)]
  exact congrArg (fun n => Cert.Ffn.at2 (X m c) n (1024 + k.val)) (by dsimp only; omega)

/-- The zeros that the first point starts from. -/
theorem zeros (n N : ℕ) (z : EReal) (k : Fin 1024) (hn : n < 8) (h : t.val % 8 = 0) (hN : N + 5 = 512 * t.val + n) :
    (if h : 0 ≤ n ∧ n < 0 + 8 then (k0_pay2 (F := Ideal)) (ix2 ⟨n - 0, by omega⟩ k) else z) = Cert.Conv.pad (X m c) N (1024 + k.val) := by
  have := lt t 0
  rw [dif_pos ⟨Nat.zero_le _, by omega⟩, Cert.Conv.pad_lt _ _ (by omega)]
  pointwise [k0_pay2]

/-- A row of what a point leaves. -/
theorem row_eq (r : Fin 512) (k : Fin 1024) : (outsAt0 m c t.val t.isLt).1 (ix2 r k) = G m c (ix2 ⟨512 * t.val + r.val, lt t r⟩ k) := by
  by_cases h : t.val % 8 = 0
  · rw [outsAt0_A m c t h]
    dsimp only
    frame_out
    pointwise [k0_pay4]
    simp only [Cert.Conv.load_rows, Cert.Conv.canon_rows scM0_0.view, w_read, b_read]
    refine congrArg Cert.Conv.silu (Cert.Conv.conv_of (x := fun n => Cert.Conv.pad (X m c) n (1024 + k.val)) (w := fun a => W m c (ix2 a k))
      (ext m c t k (5 + r.val) (512 * t.val + r.val) _ (by omega) (by omega) fun h8 => zeros m c t (5 + r.val) (512 * t.val + r.val) _ k (by omega) h (by omega))
      (ext m c t k (6 + r.val) (512 * t.val + r.val + 1) _ (by omega) (by omega) fun h8 => zeros m c t (6 + r.val) (512 * t.val + r.val + 1) _ k (by omega) h (by omega))
      (ext m c t k (7 + r.val) (512 * t.val + r.val + 2) _ (by omega) (by omega) fun h8 => zeros m c t (7 + r.val) (512 * t.val + r.val + 2) _ k (by omega) h (by omega))
      (ext m c t k (8 + r.val) (512 * t.val + r.val + 3) _ (by omega) (by omega) fun h8 => absurd h8 (by omega)))
  · rw [outsAt0_B m c t h]
    dsimp only
    frame_out
    pointwise [k0_pay4]
    simp only [Cert.Conv.read_rows, Cert.Conv.load_rows, Cert.Conv.canon_rows scM0_0.view, w_read, b_read, View.writes_nil]
    refine congrArg Cert.Conv.silu (Cert.Conv.conv_of (x := fun n => Cert.Conv.pad (X m c) n (1024 + k.val)) (w := fun a => W m c (ix2 a k))
      (ext m c t k (5 + r.val) (512 * t.val + r.val) _ (by omega) (by omega) fun h8 =>
        (congrFun ((Memref.isWhole_whole cc0_scratch0).read_unread _) _).trans (before m c t (5 + r.val) (512 * t.val + r.val) (by omega) k h (by omega) (by omega) (by omega) _))
      (ext m c t k (6 + r.val) (512 * t.val + r.val + 1) _ (by omega) (by omega) fun h8 =>
        (congrFun ((Memref.isWhole_whole cc0_scratch0).read_unread _) _).trans (before m c t (6 + r.val) (512 * t.val + r.val + 1) (by omega) k h (by omega) (by omega) (by omega) _))
      (ext m c t k (7 + r.val) (512 * t.val + r.val + 2) _ (by omega) (by omega) fun h8 =>
        (congrFun ((Memref.isWhole_whole cc0_scratch0).read_unread _) _).trans (before m c t (7 + r.val) (512 * t.val + r.val + 2) (by omega) k h (by omega) (by omega) (by omega) _))
      (ext m c t k (8 + r.val) (512 * t.val + r.val + 3) _ (by omega) (by omega) fun h8 => absurd h8 (by omega)))

end Blocks

/-- The activated convolution that the kernel leaves. -/
theorem outG_eq (c : Dev nD) : (dats m 0 c).arrAt 3 cfg0.N = G m c := by
  refine (dats m 0 c).arrAt_eq_of_covers 3 _ (by decide +kernel) fun t hf y => ?_
  obtain ⟨e0, e1, e2, e3⟩ := idx t
  blk_simp
  rw [after0_3, eq_ix2 y]
  exact (row_eq m c t (y 0) (y 1)).trans (congrArg (G m c) (by blk_point [e3]))

set_option maxHeartbeats 2000000 in
/-- The idealized kernel and the reference give the same results. -/
theorem algebraic : Cert.algebraic_Kernel20Ideal_Reference20Ideal := by
  intro m g m' g' _ e
  refine ⟨G m, (θ_run (Cert.Kernel20Ideal.defs (F := Ideal)) _ _).mono (fun r H c => ⟨(H c).1.trans (outG_eq m c), (H c).2⟩) (run_blocks m g), ?_⟩
  refine (θ_run (Cert.Reference20Ideal.defs (F := Ideal)) _ _).mono (fun r H c => ?_) (Cert.Reference20Ideal.Value.run (F := Ideal) m' g')
  obtain ⟨e0, e1, e2⟩ := e c
  refine ⟨(H c).1.trans ?_, (H c).2⟩
  unfold Cert.Reference20Ideal.Value.res_main_v34
  rw [e0, e1, e2]
  refine Cert.Ffn.ext2 fun i j => ?_
  have hl := Cert.Conv.pad_ge (X m c) (1024 + j.val) (n := i.val + 3) (by omega)
  rw [Nat.add_sub_cancel, Cert.Ffn.at2, dif_pos ⟨i.isLt, by omega⟩] at hl
  refine Eq.trans (b := Cert.Conv.silu (Cert.Conv.pad (X m c) i.val (1024 + j.val) * W m c (ix2 0 j) + Cert.Conv.pad (X m c) (i.val + 1) (1024 + j.val) * W m c (ix2 1 j)
    + Cert.Conv.pad (X m c) (i.val + 2) (1024 + j.val) * W m c (ix2 2 j) + Cert.Conv.pad (X m c) (i.val + 3) (1024 + j.val) * W m c (ix2 3 j) + B m c (ix2 0 j))) ?_
    (congrArg Cert.Conv.silu (Cert.Conv.conv_eq (fun n => Cert.Conv.pad (X m c) n (1024 + j.val)) (fun a => W m c (ix2 a j)) (B m c (ix2 0 j)) i.val))
  rw [hl, ← Cert.Conv.pad_dif (X m c) i.val _ (by omega) (by omega), ← Cert.Conv.pad_dif (X m c) (i.val + 1) _ (by omega) (by omega),
    ← Cert.Conv.pad_dif (X m c) (i.val + 2) _ (by omega) (by omega)]
  simp only [Nat.add_comm i.val]
  pointwise
  rfl

end Cert.Kernel20Ideal.Conv
-- ==== Proof.Conv.Gdn.lean ====
/-
  The short convolution in front of the gated delta-rule mixer, read in blocks of rows by the kernel: each point keeps the
  last eight rows of its block for the next.
-/
module

public import proofs.«01_k».proof.Proof.Gen.Kernel21Ideal.Value
public import proofs.«01_k».proof.Proof.Gen.Reference21Ideal.Run
public import proofs.«01_k».proof.Defs
public import proofs.«01_k».proof.Proof.Conv.Basic
public import Idealize.ShloMosaic.Lib.Pipeline.ValueKit
public import Idealize.ShloMosaic.Lib.Pointwise

@[expose] public section

set_option maxRecDepth 16384

noncomputable section

namespace Cert.Kernel21Ideal.Conv

open Cert.Kernel21Ideal Cert.Kernel21Ideal.Gen Cert.Kernel21Ideal.Value Idealize.ShloMosaic Idealize.ShloMosaic.TcCoe Idealize.SL.Sem

variable (m : (ℓ : Loc nD τ sig) → Buf (Elt Ideal) ℓ)

/-- The blocks that point `t` reads and writes. -/
theorem idx : ∀ t : Fin cfg0.N, win0_0.index t = ![t.val, 0] ∧ win0_1.index t = ![0, 0] ∧ win0_2.index t = ![0, 0] ∧ win0_3.index t = ![t.val, 0] := by
  decide +kernel

/-- The projected activations. -/
abbrev X (c : Dev nD) : FVec Ideal S4096x3328 .f32 := m ((c : Thread nD τ).loc main_arg0)
/-- The weights of the convolution. -/
abbrev W (c : Dev nD) : FVec Ideal S4x768 .f32 := m ((c : Thread nD τ).loc main_arg1)
/-- The convolution at a row and a column. -/
def Y (c : Dev nD) (i j : ℕ) (k : Fin 768) : EReal :=
  Cert.Conv.conv (fun n => Cert.Conv.pad (X m c) n j) (fun a => W m c (ix2 a k)) 0 i

/-- The activated convolution. -/
def G (c : Dev nD) : FVec Ideal S4096x768 .f32 := fun i => Cert.Conv.silu (Y m c (i 0).val ((i 1).val) (i 1))

section Blocks

variable (c : Dev nD) (t : Fin cfg0.N)

/-- A row of a block is a row of the array. -/
theorem lt (r : Fin 512) : 512 * t.val + r.val < 4096 := by
  have := t.isLt; have : cfg0.N = 8 := N_0; omega

/-- The block of the activations. -/
theorem x_read (r : Fin 512) (k : Fin 768) :
    k0_pay3 (X0_0 m c t) (ix2 r k) = Cert.Ffn.at2 (X m c) (512 * t.val + r.val) k.val := by
  have hr := lt t r
  obtain ⟨e0, e1, e2, e3⟩ := idx t
  pointwise [k0_pay3]
  rw [Cert.Ffn.at2, dif_pos ⟨hr, by omega⟩]
  unfold X0_0 Pipeline.Window.fill
  rw [dif_pos (moved0_0 t _)]
  blk_ext [iblk, V_main_arg0, e0]

/-- The weights. -/
theorem w_read (a : Fin 4) (k : Fin 768) : (iblk m c 1 t : FVec Ideal S4x768 .f32) (ix2 a k) = W m c (ix2 a k) := by
  obtain ⟨e0, e1, e2, e3⟩ := idx t
  blk_ext [iblk, V_main_arg1, e1]

/-- The zeros that stand in the place of a bias. -/
theorem b_read (k : Fin 768) : (iblk m c 2 t : FVec Ideal S1x768 .f32) (ix2 0 k) = (0 : EReal) := by
  have h : V m c main_v0 = (fun _ => 0 : FVec Ideal S1x768 .f32) := by
    show StableHlo.after hostOps0 _ (Proc.devRef .tc main_v0) = _
    after_results
    refine Cert.Ffn.ext2 fun i j => ?_
    pointwise
  exact congrFun h _

/-- The rows that a point leaves for the next: the last eight of its block. -/
theorem carry_eq (q : Fin 8) (k : Fin 768) (z : Fin 520) (hz : z.val = q.val) :
    (outsAt0 m c t.val t.isLt).2 (ix2 z k) = Cert.Ffn.at2 (X m c) (512 * t.val + (504 + q.val)) k.val := by
  by_cases h : t.val % 8 = 0
  on_goal 1 => rw [outsAt0_A m c t h]
  on_goal 2 => rw [outsAt0_B m c t h]
  all_goals
    dsimp only
    frame_out
    refine (Cert.Conv.canon_rows scM0_0.view 0 _ _ _ z k).trans ?_
    rw [dif_pos ⟨Nat.zero_le _, by omega⟩]
    pointwise [k0_pay1]
    rw [Cert.Conv.load_rows, Cert.Conv.canon_rows scM0_0.view, dif_pos ⟨by dsimp only; omega, by dsimp only; omega⟩, x_read]
    exact congrArg (fun n => Cert.Ffn.at2 (X m c) (512 * t.val + n) k.val) (by dsimp only; omega)

/-- A row of the buffer is a row of the array with three zeros before it: of the block if it lies there, else of what the
    point before left, which is `z`. -/
theorem ext (k : Fin 768) (n N : ℕ) (z : EReal) (hn : n < 520) (hN : N + 5 = 512 * t.val + n)
    (hz : n < 8 → z = Cert.Conv.pad (X m c) N k.val) :
    (if h : 8 ≤ n ∧ n < 8 + 512 then k0_pay3 (X0_0 m c t) (ix2 ⟨n - 8, by omega⟩ k) else z) = Cert.Conv.pad (X m c) N k.val := by
  by_cases h : 8 ≤ n ∧ n < 8 + 512
  · rw [dif_pos h, x_read, Cert.Conv.pad_ge _ _ (by omega)]
    exact congrArg (fun n => Cert.Ffn.at2 (X m c) n k.val) (by dsimp only; omega)
  · rw [dif_neg h]
    exact hz (by omega)

/-- What the point before left, as a row of the array with three zeros before it. -/
theorem before (n N : ℕ) (hn : n < 520) (k : Fin 768) (h : ¬ t.val % 8 = 0) (hN : N + 5 = 512 * t.val + n) (h5 : 5 ≤ n) (h8 : n < 8)
    (hp : t.val - 1 < cfg0.N) :
    (outsAt0 m c (t.val - 1) hp).2 (ix2 ⟨n, hn⟩ k) = Cert.Conv.pad (X m c) N k.val := by
  rw [carry_eq m c ⟨t.val - 1, hp⟩ ⟨n, h8⟩ k ⟨n, hn⟩ rfl, Cert.Conv.pad_ge _ _ (by omega)]
  exact congrArg (fun n => Cert.Ffn.at2 (X m c) n k.val) (by dsimp only; omega)

/-- The zeros that the first point starts from. -/
theorem zeros (n N : ℕ) (z : EReal) (k : Fin 768) (hn : n < 8) (h : t.val % 8 = 0) (hN : N + 5 = 512 * t.val + n) :
    (if h : 0 ≤ n ∧ n < 0 + 8 then (k0_pay2 (F := Ideal)) (ix2 ⟨n - 0, by omega⟩ k) else z) = Cert.Conv.pad (X m c) N k.val := by
  have := lt t 0
  rw [dif_pos ⟨Nat.zero_le _, by omega⟩, Cert.Conv.pad_lt _ _ (by omega)]
  pointwise [k0_pay2]

/-- A row of what a point leaves. -/
theorem row_eq (r : Fin 512) (k : Fin 768) : (outsAt0 m c t.val t.isLt).1 (ix2 r k) = G m c (ix2 ⟨512 * t.val + r.val, lt t r⟩ k) := by
  by_cases h : t.val % 8 = 0
  · rw [outsAt0_A m c t h]
    dsimp only
    frame_out
    pointwise [k0_pay4]
    simp only [Cert.Conv.load_rows, Cert.Conv.canon_rows scM0_0.view, w_read, b_read]
    refine congrArg Cert.Conv.silu (Cert.Conv.conv_of (x := fun n => Cert.Conv.pad (X m c) n k.val) (w := fun a => W m c (ix2 a k))
      (ext m c t k (5 + r.val) (512 * t.val + r.val) _ (by omega) (by omega) fun h8 => zeros m c t (5 + r.val) (512 * t.val + r.val) _ k (by omega) h (by omega))
      (ext m c t k (6 + r.val) (512 * t.val + r.val + 1) _ (by omega) (by omega) fun h8 => zeros m c t (6 + r.val) (512 * t.val + r.val + 1) _ k (by omega) h (by omega))
      (ext m c t k (7 + r.val) (512 * t.val + r.val + 2) _ (by omega) (by omega) fun h8 => zeros m c t (7 + r.val) (512 * t.val + r.val + 2) _ k (by omega) h (by omega))
      (ext m c t k (8 + r.val) (512 * t.val + r.val + 3) _ (by omega) (by omega) fun h8 => absurd h8 (by omega)))
  · rw [outsAt0_B m c t h]
    dsimp only
    frame_out
    pointwise [k0_pay4]
    simp only [Cert.Conv.read_rows, Cert.Conv.load_rows, Cert.Conv.canon_rows scM0_0.view, w_read, b_read, View.writes_nil]
    refine congrArg Cert.Conv.silu (Cert.Conv.conv_of (x := fun n => Cert.Conv.pad (X m c) n k.val) (w := fun a => W m c (ix2 a k))
      (ext m c t k (5 + r.val) (512 * t.val + r.val) _ (by omega) (by omega) fun h8 =>
        (congrFun ((Memref.isWhole_whole cc0_scratch0).read_unread _) _).trans (before m c t (5 + r.val) (512 * t.val + r.val) (by omega) k h (by omega) (by omega) (by omega) _))
      (ext m c t k (6 + r.val) (512 * t.val + r.val + 1) _ (by omega) (by omega) fun h8 =>
        (congrFun ((Memref.isWhole_whole cc0_scratch0).read_unread _) _).trans (before m c t (6 + r.val) (512 * t.val + r.val + 1) (by omega) k h (by omega) (by omega) (by omega) _))
      (ext m c t k (7 + r.val) (512 * t.val + r.val + 2) _ (by omega) (by omega) fun h8 =>
        (congrFun ((Memref.isWhole_whole cc0_scratch0).read_unread _) _).trans (before m c t (7 + r.val) (512 * t.val + r.val + 2) (by omega) k h (by omega) (by omega) (by omega) _))
      (ext m c t k (8 + r.val) (512 * t.val + r.val + 3) _ (by omega) (by omega) fun h8 => absurd h8 (by omega)))

end Blocks

/-- The activated convolution that the kernel leaves. -/
theorem outG_eq (c : Dev nD) : (dats m 0 c).arrAt 3 cfg0.N = G m c := by
  refine (dats m 0 c).arrAt_eq_of_covers 3 _ (by decide +kernel) fun t hf y => ?_
  obtain ⟨e0, e1, e2, e3⟩ := idx t
  blk_simp
  rw [after0_3, eq_ix2 y]
  exact (row_eq m c t (y 0) (y 1)).trans (congrArg (G m c) (by blk_point [e3]))

set_option maxHeartbeats 2000000 in
/-- The idealized kernel and the reference give the same results. -/
theorem algebraic : Cert.algebraic_Kernel21Ideal_Reference21Ideal := by
  intro m g m' g' _ e
  refine ⟨G m, (θ_run (Cert.Kernel21Ideal.defs (F := Ideal)) _ _).mono (fun r H c => ⟨(H c).1.trans (outG_eq m c), (H c).2⟩) (run_blocks m g), ?_⟩
  refine (θ_run (Cert.Reference21Ideal.defs (F := Ideal)) _ _).mono (fun r H c => ?_) (Cert.Reference21Ideal.Value.run (F := Ideal) m' g')
  obtain ⟨e0, e1⟩ := e c
  refine ⟨(H c).1.trans ?_, (H c).2⟩
  unfold Cert.Reference21Ideal.Value.res_main_v30
  rw [e0, e1]
  refine Cert.Ffn.ext2 fun i j => ?_
  have hl := Cert.Conv.pad_ge (X m c) j.val (n := i.val + 3) (by omega)
  rw [Nat.add_sub_cancel, Cert.Ffn.at2, dif_pos ⟨i.isLt, by omega⟩] at hl
  refine Eq.trans (b := Cert.Conv.silu (Cert.Conv.pad (X m c) i.val j.val * W m c (ix2 0 j) + Cert.Conv.pad (X m c) (i.val + 1) j.val * W m c (ix2 1 j)
    + Cert.Conv.pad (X m c) (i.val + 2) j.val * W m c (ix2 2 j) + Cert.Conv.pad (X m c) (i.val + 3) j.val * W m c (ix2 3 j) + 0)) ?_
    (congrArg Cert.Conv.silu (Cert.Conv.conv_eq (fun n => Cert.Conv.pad (X m c) n j.val) (fun a => W m c (ix2 a j)) 0 i.val))
  rw [add_zero, hl, ← Cert.Conv.pad_dif (X m c) i.val _ (by omega) (by omega), ← Cert.Conv.pad_dif (X m c) (i.val + 1) _ (by omega) (by omega),
    ← Cert.Conv.pad_dif (X m c) (i.val + 2) _ (by omega) (by omega)]
  simp only [Nat.add_comm i.val]
  pointwise
  rfl

end Cert.Kernel21Ideal.Conv
-- ==== Proof.Swa.FwdStep.lean ====
module

public import proofs.«01_k».proof.Proof.Gen.Kernel22Ideal.Value
public import proofs.«01_k».proof.Proof.Swa.Step

/-! # The attention's forward: what one grid point leaves

The forward uses the same chain of operations for the scores and the exponentials as the backward (`Swa/Body`), and the same
padded copies of the keys and values in scratch memory (`Swa/Step`). A point writes its 256 rows of the four heads' outputs. -/

@[expose] public section

set_option maxRecDepth 16384

noncomputable section

namespace Cert.Kernel22Ideal.Swa

open Cert.Kernel22Ideal Cert.Kernel22Ideal.Gen Cert.Kernel22Ideal.Value Idealize.ShloMosaic Idealize.ShloMosaic.TcCoe Idealize.SL.Sem
open Cert.KernelIdeal.Swa (msk dist snk ee zz wide q0 q1 q2 q3 k0 k1 win padK)

variable {F : FTy → Type} [FloatOps F] [Named F]
variable (m : (ℓ : Loc nD τ sig) → Buf (Elt F) ℓ)

/-- The scores of one head: scaled products less the slope times the distance, masked. -/
def sc (slope : BitVec 32) (mk : IVec S256x384 1) (ds : FVec F S256x384 .f32) (q : FVec F S256x64 .f32) (k : FVec F S384x64 .f32) :
    FVec F S256x384 .f32 :=
  select mk
    (subf (mulf (matmul dot_S256x64_S384x64_S256x384_1_1_0_0_n_n none q k (constant S256x384 .f32 0x00000000#32))
        (broadcast S256x384 (Scalar.ofBits .f32 0x3E000000#32)))
      (mulf (broadcast S256x384 (Scalar.ofBits .f32 slope)) ds))
    (broadcast S256x384 (Named.named κ "mask" 0xF149F2CA#32))

/-- The weights. -/
def pr (s : FVec F S256x384 .f32) (u : FVec F S1x1 .f32) : FVec F S256x384 .f32 := divf (ee s u) (wide (zz s u))

/-- One head's output: the weighted values. -/
def head (s : FVec F S256x384 .f32) (u : FVec F S1x1 .f32) (v : FVec F S384x64 .f32) : FVec F S256x64 .f32 :=
  matmul dot_S256x384_S384x64_S256x64_1_0_0_1_n_n none (pr s u) v (constant S256x64 .f32 0x00000000#32)

/-- What the block writes: the four heads side by side. -/
def body (i : grid0.Coords) (q : FVec F S256x256 .f32) (kw vw : FVec F S384x128 .f32) (u : FVec F S1x128 .f32) : FVec F S256x256 .bf16 :=
  truncf .bf16 (concatenate S256x256 1
    [⟨S256x64, head (sc 0x3E800000#32 (msk i) dist (q0 q) (k0 kw)) (snk 0#32 u) (k0 vw)⟩,
      ⟨S256x64, head (sc 0x3D800000#32 (msk i) dist (q1 q) (k0 kw)) (snk 1#32 u) (k0 vw)⟩,
      ⟨S256x64, head (sc 0x3C800000#32 (msk i) dist (q2 q) (k1 kw)) (snk 2#32 u) (k1 vw)⟩,
      ⟨S256x64, head (sc 0x3B800000#32 (msk i) dist (q3 q) (k1 kw)) (snk 3#32 u) (k1 vw)⟩]
    concatenates_S256x64_S256x64_S256x64_S256x64_S256x256_d1) bitsLt_bf16_f32

theorem readWhole {κ : Kind} {sp : Space} {S : Shape} {e : EltTy} (w : Memref sig κ sp S e) (h : w.IsWhole) (off : Fin S.rank → Nat)
    (inb : ∀ a, off a + S.size a ≤ S.size a) (ho : ∀ a, off a = 0) (X : Vec F S e) :
    View.readAt (Elt F) w.view (Rect.unit off S.size inb).toLoadRect (h.unread X) = X := by
  have e : off = fun _ => 0 := funext ho
  refine (View.readAt_eq_ld w.view (h.unread X) _).trans ?_
  rw [h.read_unread, View.ld_unit_zero e]

theorem readWin (i : grid0.Coords) (w : Memref sig .tc .vmem S4224x128 .f32) (h : w.IsWhole) (X : Vec F S4224x128 .f32) :
    View.readAt (Elt F) w.view (Rect.unit (s := S4224x128) (k0_off1 i) S384x128.size (k0_off1_inb i)).toLoadRect (h.unread X) = win i X := by
  refine (View.readAt_eq_ld w.view (h.unread X) _).trans ?_
  rw [h.read_unread]; rfl

theorem readWin' (i : grid0.Coords) (w : Memref sig .tc .vmem S4224x128 .f32) (L : List (View.Piece (Elt F) S4224x128 .f32)) :
    View.readAt (Elt F) w.view (Rect.unit (s := S4224x128) (k0_off1 i) S384x128.size (k0_off1_inb i)).toLoadRect
      (w.view.writes (Elt F) w.view.junk L) = win i (View.canon L) := by
  refine (View.readAt_eq_ld w.view _ _).trans ?_
  rw [View.read_writes_junk_eq_canon]; rfl

theorem stepA_4 (c : Dev nD) (t : Fin cfg0.N) (acc) (h0 : t.val % 16 = 0) :
    (stAt0 m c t.val t.isLt acc).1 =
      body (grid0.coords t) (iblk m c 0 t) (win (grid0.coords t) (padK (iblk m c 1 t))) (win (grid0.coords t) (padK (iblk m c 2 t))) (iblk m c 3 t) := by
  rw [stAt0_A m c t acc h0]
  dsimp only
  unfold out0_A_4
  rw [View.read_writes_eq_canon _ _ _ (cover0_A_4 c _ _ _ _ _ _ _ _ _ _ _ _ _ _ _ _ _ _ _ _)]
  unfold kernelRun0_A
  dsimp only
  rw [View.canon_unit_zero (funext (by decide))]
  sl_unfold_words
  rw [readWhole (ms0_0 t) (hs0_0 t) ![0, 0] _ (by decide),
    readWhole (ms0_3 t) (hs0_3 t) ![0, 0] _ (by decide),
    readWhole (ms0_1 t) (hs0_1 t) ![0, 0] _ (by decide),
    readWhole (ms0_2 t) (hs0_2 t) ![0, 0] _ (by decide)]
  rw [show View.readAt (Elt F) scM0_0.view _ (scM0_0.view.writes (Elt F) scM0_0.view.junk _) = win (grid0.coords t) (padK (iblk m c 1 t)) from readWin' (grid0.coords t) scM0_0 _,
    show View.readAt (Elt F) scM0_1.view _ (scM0_1.view.writes (Elt F) scM0_1.view.junk _) = win (grid0.coords t) (padK (iblk m c 2 t)) from readWin' (grid0.coords t) scM0_1 _]
  rfl

theorem stepA_S0 (c : Dev nD) (t : Fin cfg0.N) (acc) (h0 : t.val % 16 = 0) :
    (stAt0 m c t.val t.isLt acc).2.1 = padK (iblk m c 1 t) := by
  rw [stAt0_A m c t acc h0]
  dsimp only
  unfold sout0_A_0
  rw [View.read_writes_eq_canon _ _ _ (scover0_A_0 c _ _ _ _ _ _ _ _ _ _ _ _ _ _ _ _ _ _ _ _)]
  unfold kernelRun0_A
  dsimp only
  sl_unfold_words
  rw [readWhole (ms0_1 t) (hs0_1 t) ![0, 0] _ (by decide)]
  rfl

theorem stepA_S1 (c : Dev nD) (t : Fin cfg0.N) (acc) (h0 : t.val % 16 = 0) :
    (stAt0 m c t.val t.isLt acc).2.2 = padK (iblk m c 2 t) := by
  rw [stAt0_A m c t acc h0]
  dsimp only
  unfold sout0_A_1
  rw [View.read_writes_eq_canon _ _ _ (scover0_A_1 c _ _ _ _ _ _ _ _ _ _ _ _ _ _ _ _ _ _ _ _)]
  unfold kernelRun0_A
  dsimp only
  sl_unfold_words
  rw [readWhole (ms0_2 t) (hs0_2 t) ![0, 0] _ (by decide)]
  rfl

theorem stepB_4 (c : Dev nD) (t : Fin cfg0.N) (acc) (h0 : ¬t.val % 16 = 0) :
    (stAt0 m c t.val t.isLt acc).1 =
      body (grid0.coords t) (iblk m c 0 t) (win (grid0.coords t) acc.2.1) (win (grid0.coords t) acc.2.2) (iblk m c 3 t) := by
  rw [stAt0_B m c t acc h0]
  dsimp only
  unfold out0_B_4
  rw [View.read_writes_eq_canon _ _ _ (cover0_B_4 c _ _ _ _ _ _ _ _ _ _ _ _ _ _ _ _ _ _ _ _ _ _)]
  unfold kernelRun0_B
  dsimp only
  rw [View.canon_unit_zero (funext (by decide))]
  sl_unfold_words
  rw [readWhole (ms0_0 t) (hs0_0 t) ![0, 0] _ (by decide),
    readWhole (ms0_3 t) (hs0_3 t) ![0, 0] _ (by decide)]
  rw [show View.readAt (Elt F) scM0_0.view _ _ = win (grid0.coords t) acc.2.1 from readWin (grid0.coords t) scM0_0 (Memref.isWhole_whole _) _,
    show View.readAt (Elt F) scM0_1.view _ _ = win (grid0.coords t) acc.2.2 from readWin (grid0.coords t) scM0_1 (Memref.isWhole_whole _) _]
  rfl

theorem stepB_S0 (c : Dev nD) (t : Fin cfg0.N) (acc) (h0 : ¬t.val % 16 = 0) :
    (stAt0 m c t.val t.isLt acc).2.1 = acc.2.1 := by
  rw [stAt0_B m c t acc h0]
  dsimp only
  unfold sout0_B_0
  (try rfl)

theorem stepB_S1 (c : Dev nD) (t : Fin cfg0.N) (acc) (h0 : ¬t.val % 16 = 0) :
    (stAt0 m c t.val t.isLt acc).2.2 = acc.2.2 := by
  rw [stAt0_B m c t acc h0]
  dsimp only
  unfold sout0_B_1
  (try rfl)

end Cert.Kernel22Ideal.Swa
-- ==== Proof.Swa.Fwd.lean ====
module

public import proofs.«01_k».proof.Proof.Swa.FwdStep
public import proofs.«01_k».proof.Proof.Swa.Fold

/-! # The attention's forward: the kernel's output

Every row of the output is the sum of the values under the weights of the backward's `Spec`. -/

@[expose] public section

set_option maxRecDepth 16384

noncomputable section

namespace Cert.Swa

open Finset

/-- The layer's output for query `t` in column `c`. -/
def out (Q K : ℕ → ℕ → ℝ) (V : ℕ → ℕ → EReal) (u : ℕ → ℝ) (t c : ℕ) : EReal :=
  ∑ s ∈ range 4224, (P Q K u (c / 64) t s : EReal) * V s (64 * (c / 64 / 2) + c % 64)

end Cert.Swa

namespace Cert.Kernel22Ideal.Swa

open Cert.Kernel22Ideal Cert.Kernel22Ideal.Gen Cert.Kernel22Ideal.Value Idealize.ShloMosaic Idealize.ShloMosaic.TcCoe Idealize.SL.Sem Cert.Swa
open Cert.KernelIdeal.Swa (msk dist snk ee zz wide pp q0 q1 q2 q3 k0 k1 win padK bits_slope0 bits_slope1 bits_slope2 bits_slope3
  q0_eq q1_eq q2_eq q3_eq k0_eq k1_eq u0_eq u1_eq u2_eq u3_eq pp_block wt_outside padK_apply win_read win_apply)

/-- Without roundings the scores are the backward's. -/
theorem sc_same (sl : BitVec 32) (mk : IVec S256x384 1) (ds : FVec Ideal S256x384 .f32) (q : FVec Ideal S256x64 .f32) (k : FVec Ideal S384x64 .f32) :
    sc sl mk ds q k = Cert.KernelIdeal.Swa.sc sl mk ds q k := rfl

/-- Without roundings the weights are the backward's. -/
theorem pr_same (s : FVec Ideal S256x384 .f32) (u : FVec Ideal S1x1 .f32) : pr s u = pp s u := rfl

section
variable {Q K : ℕ → ℕ → ℝ} {V : ℕ → ℕ → EReal} {u : ℕ → ℝ} {i : grid0.Coords} {h : ℕ} {sl : BitVec 32}
variable {q : FVec Ideal S256x64 .f32} {k v : FVec Ideal S384x64 .f32} {U : FVec Ideal S1x1 .f32}
variable (hsl : Ideal.ofBits .f32 sl = ((Cert.Swa.slope h : ℝ) : EReal))
variable (hq : ∀ (r : Fin 256) (d : Fin 64), q (ix2 r d) = (Q (256 * (i 0).val + r.val) (64 * h + d.val) : EReal))
variable (hk : ∀ (s : Fin 384) (d : Fin 64), k (ix2 s d) = (K (256 * (i 0).val + s.val) (64 * (h / 2) + d.val) : EReal))
variable (hU : U (ix2 0 0) = (u h : EReal))
variable (hv : ∀ (s : Fin 384) (d : Fin 64), v (ix2 s d) = V (256 * (i 0).val + s.val) (64 * (h / 2) + d.val))
include hsl hq hk hU hv

/-- One head's output on the block. -/
theorem head_block (r : Fin 256) (d : Fin 64) : head (sc sl (msk i) (dist (F := Ideal)) q k) U v (ix2 r d) =
    ∑ s ∈ Finset.range 4224, (P Q K u h (256 * (i 0).val + r.val) s : EReal) * V s (64 * (h / 2) + d.val) := by
  have hi : (i 0).val < 16 := (i 0).isLt
  have hp := pp_block hsl hq hk hU
  simp only [← pr_same, ← sc_same] at hp
  pointwise [head]
  simp only [hv, hp]
  rw [sum_window 384 4224 (256 * (i 0).val) (fun s => (P Q K u h (256 * (i 0).val + r.val) s : EReal) * V s (64 * (h / 2) + d.val)) (by omega)]
  intro s hs hn
  dsimp only
  rw [P, Row.p_zero (wt_outside r s hs hn), EReal.coe_zero, zero_mul]

end

section
variable {Q K : ℕ → ℕ → ℝ} {V : ℕ → ℕ → EReal} {w : ℕ → ℝ} {i : grid0.Coords}
variable {q : FVec Ideal S256x256 .f32} {kw vw : FVec Ideal S384x128 .f32} {u : FVec Ideal S1x128 .f32}
variable (hq : ∀ (r : Fin 256) (c : Fin 256), q (ix2 r c) = (Q (256 * (i 0).val + r.val) c.val : EReal))
variable (hk : ∀ (s : Fin 384) (c : Fin 128), kw (ix2 s c) = (K (256 * (i 0).val + s.val) c.val : EReal))
variable (hv : ∀ (s : Fin 384) (c : Fin 128), vw (ix2 s c) = V (256 * (i 0).val + s.val) c.val)
variable (hu : ∀ l : Fin 128, l.val < 4 → u (ix2 0 l) = (w l.val : EReal))

section
include hv
theorem v0_eq (s : Fin 384) (d : Fin 64) : k0 vw (ix2 s d) = V (256 * (i 0).val + s.val) (64 * 0 + d.val) := by
  pointwise; rw [hv]
theorem v1_eq (s : Fin 384) (d : Fin 64) : k1 vw (ix2 s d) = V (256 * (i 0).val + s.val) (64 * 1 + d.val) := by
  pointwise; rw [hv]
end

include hq hk hv hu

/-- The output on the block. -/
theorem body_eq (r : Fin 256) (c : Fin 256) : body i q kw vw u (ix2 r c) =
    out Q K V w (256 * (i 0).val + r.val) c.val := by
  have hc := c.isLt
  pointwise [body]
  unfold out
  by_cases h0 : c.val < 64
  · simp only [dif_pos h0, show c.val / 64 = 0 by omega, show c.val % 64 = c.val by omega]
    rw [head_block (h := 0) bits_slope0 (q0_eq hq) (k0_eq hk) (u0_eq hu) (v0_eq hv)]
  by_cases h1 : c.val < 128
  · simp only [dif_neg h0, dif_pos (show c.val - 64 < 64 by omega), show c.val / 64 = 1 by omega, show c.val % 64 = c.val - 64 by omega]
    rw [head_block (h := 1) bits_slope1 (q1_eq hq) (k0_eq hk) (u1_eq hu) (v0_eq hv)]
  by_cases h2 : c.val < 192
  · simp only [dif_neg h0, dif_neg (show ¬ c.val - 64 < 64 by omega), dif_pos (show c.val - 64 - 64 < 64 by omega), show c.val / 64 = 2 by omega, show c.val % 64 = c.val - 64 - 64 by omega]
    rw [head_block (h := 2) bits_slope2 (q2_eq hq) (k1_eq hk) (u2_eq hu) (v1_eq hv)]
  · simp only [dif_neg h0, dif_neg (show ¬ c.val - 64 < 64 by omega), dif_neg (show ¬ c.val - 64 - 64 < 64 by omega), show c.val / 64 = 3 by omega, show c.val % 64 = c.val - 64 - 64 - 64 by omega]
    rw [head_block (h := 3) bits_slope3 (q3_eq hq) (k1_eq hk) (u3_eq hu) (v1_eq hv)]

end

theorem coords_val : ∀ t : Fin cfg0.N, (grid0.coords t 0).val = t.val := by decide +kernel

theorem idx0 : ∀ t : Fin cfg0.N, win0_0.index t = ![t.val, 8] := by decide +kernel
theorem idx1 : ∀ t : Fin cfg0.N, win0_1.index t = ![0, 18] := by decide +kernel
theorem idx2 : ∀ t : Fin cfg0.N, win0_2.index t = ![0, 19] := by decide +kernel
theorem idx3 : ∀ t : Fin cfg0.N, win0_3.index t = ![0, 0] := by decide +kernel

theorem t_lt (t : Fin cfg0.N) : t.val < 16 := lt_of_lt_of_eq t.isLt (by decide +kernel)

section
variable {F : FTy → Type} [FloatOps F] [Named F]
variable (m : (ℓ : Loc nD τ sig) → Buf (Elt F) ℓ)

theorem iblk0_apply (c : Dev nD) (t : Fin cfg0.N) (r : Fin 256) (d : Fin 256) :
    iblk m c 0 t (ix2 r d) = m ((c : Thread nD τ).loc main_arg0) (ix2 ⟨256 * t.val + r.val, by have := t_lt t; omega⟩ ⟨2048 + d.val, by omega⟩) := by
  blk_ext [iblk, V, idx0 t]

theorem iblk1_apply (c : Dev nD) (t : Fin cfg0.N) (r : Fin 4096) (d : Fin 128) :
    iblk m c 1 t (ix2 r d) = m ((c : Thread nD τ).loc main_arg0) (ix2 ⟨r.val, by omega⟩ ⟨2304 + d.val, by omega⟩) := by
  blk_ext [iblk, V, idx1 t]

theorem iblk2_apply (c : Dev nD) (t : Fin cfg0.N) (r : Fin 4096) (d : Fin 128) :
    iblk m c 2 t (ix2 r d) = m ((c : Thread nD τ).loc main_arg0) (ix2 ⟨r.val, by omega⟩ ⟨2432 + d.val, by omega⟩) := by
  blk_ext [iblk, V, idx2 t]

theorem iblk3_apply (c : Dev nD) (t : Fin cfg0.N) (d : Fin 128) :
    iblk m c 3 t (ix2 0 d) = m ((c : Thread nD τ).loc main_arg1) (ix2 0 d) := by
  blk_ext [iblk, V, idx3 t]

end

/-- The arguments of device `c` hold the real numbers `Q`, `K` and `w`, and the values `V`, which may be infinite. -/
structure Holds (m : (ℓ : Loc nD τ sig) → Buf (Elt Ideal) ℓ) (c : Dev nD) (Q K : ℕ → ℕ → ℝ) (V : ℕ → ℕ → EReal) (w : ℕ → ℝ) : Prop where
  q : ∀ (t : Fin 4096) (d : Fin 256), m ((c : Thread nD τ).loc main_arg0) (ix2 t ⟨2048 + d.val, by omega⟩) = (Q t.val d.val : EReal)
  k : ∀ (t : Fin 4096) (d : Fin 128), m ((c : Thread nD τ).loc main_arg0) (ix2 t ⟨2304 + d.val, by omega⟩) = (K (t.val + 128) d.val : EReal)
  v : ∀ (t : Fin 4096) (d : Fin 128), m ((c : Thread nD τ).loc main_arg0) (ix2 t ⟨2432 + d.val, by omega⟩) = V (t.val + 128) d.val
  k0 : ∀ s d : ℕ, s < 128 → K s d = 0
  v0 : ∀ s d : ℕ, s < 128 → V s d = 0
  w : ∀ l : Fin 128, l.val < 4 → m ((c : Thread nD τ).loc main_arg1) (ix2 0 l) = (w l.val : EReal)

variable {m : (ℓ : Loc nD τ sig) → Buf (Elt Ideal) ℓ} {c : Dev nD} {Q K : ℕ → ℕ → ℝ} {V : ℕ → ℕ → EReal} {w : ℕ → ℝ}

section
variable (H : Holds m c Q K V w) (t : Fin cfg0.N)
include H

theorem padK1 (s : Fin 4224) (d : Fin 128) : padK (iblk m c 1 t) (ix2 s d) = (K s.val d.val : EReal) := by
  rw [padK_apply]
  by_cases h : s.val < 128
  · rw [dif_pos h, H.k0 _ _ h]; exact Ideal.ofBits_zero_f32.trans EReal.coe_zero.symm
  · rw [dif_neg h, iblk1_apply]
    refine (H.k ⟨s.val - 128, by omega⟩ d).trans ?_
    rw [show s.val - 128 + 128 = s.val by omega]

theorem padK2 (s : Fin 4224) (d : Fin 128) : padK (iblk m c 2 t) (ix2 s d) = V s.val d.val := by
  rw [padK_apply]
  by_cases h : s.val < 128
  · rw [dif_pos h, H.v0 _ _ h]; exact Ideal.ofBits_zero_f32
  · rw [dif_neg h, iblk2_apply]
    refine (H.v ⟨s.val - 128, by omega⟩ d).trans ?_
    rw [show s.val - 128 + 128 = s.val by omega]

theorem q_read (r : Fin 256) (d : Fin 256) : iblk m c 0 t (ix2 r d) = (Q (256 * (grid0.coords t 0).val + r.val) d.val : EReal) := by
  rw [iblk0_apply, coords_val]; exact H.q ⟨256 * t.val + r.val, _⟩ d
theorem w_read (l : Fin 128) (h : l.val < 4) : iblk m c 3 t (ix2 0 l) = (w l.val : EReal) := by
  rw [iblk3_apply]; exact H.w l h

theorem core {X0 X1 : Vec Ideal S4224x128 .f32} (h0 : ∀ (s : Fin 4224) (d : Fin 128), X0 (ix2 s d) = (K s.val d.val : EReal))
    (h1 : ∀ (s : Fin 4224) (d : Fin 128), X1 (ix2 s d) = V s.val d.val) (r : Fin 256) (d : Fin 256) :
    body (grid0.coords t) (iblk m c 0 t) (win (grid0.coords t) X0) (win (grid0.coords t) X1) (iblk m c 3 t) (ix2 r d) =
      out Q K V w (256 * t.val + r.val) d.val := by
  have h := body_eq (q_read H t) (win_read h0 (grid0.coords t)) (fun s d => (win_apply _ _ s d).trans (h1 _ d)) (w_read H t) r d
  rw [coords_val] at h
  exact h

end

/-- What the carried state holds after point `n`. -/
structure After (n : ℕ) (Q K : ℕ → ℕ → ℝ) (V : ℕ → ℕ → EReal) (w : ℕ → ℝ)
    (x : Vec Ideal S256x256 .bf16 × Vec Ideal S4224x128 .f32 × Vec Ideal S4224x128 .f32) : Prop where
  o : ∀ (r : Fin 256) (d : Fin 256), x.1 (ix2 r d) = out Q K V w (256 * n + r.val) d.val
  k : ∀ (s : Fin 4224) (d : Fin 128), x.2.1 (ix2 s d) = (K s.val d.val : EReal)
  v : ∀ (s : Fin 4224) (d : Fin 128), x.2.2 (ix2 s d) = V s.val d.val

theorem after_first (H : Holds m c Q K V w) (t : Fin cfg0.N) (acc) (ht : t.val = 0) : After t.val Q K V w (stAt0 m c t.val t.isLt acc) := by
  have h0 : t.val % 16 = 0 := by omega
  refine ⟨?_, ?_, ?_⟩
  · rw [stepA_4 m c t acc h0]; exact core H t (padK1 H t) (padK2 H t)
  · rw [stepA_S0 m c t acc h0]; exact padK1 H t
  · rw [stepA_S1 m c t acc h0]; exact padK2 H t

theorem after_next (H : Holds m c Q K V w) (t : Fin cfg0.N) (acc) (n : ℕ) (ht : t.val = n + 1) (hA : After n Q K V w acc) :
    After t.val Q K V w (stAt0 m c t.val t.isLt acc) := by
  have hlt := t_lt t
  have h0 : ¬ t.val % 16 = 0 := by omega
  refine ⟨?_, ?_, ?_⟩
  · rw [stepB_4 m c t acc h0]; exact core H t hA.k hA.v
  · rw [stepB_S0 m c t acc h0]; exact hA.k
  · rw [stepB_S1 m c t acc h0]; exact hA.v

theorem after_all (H : Holds m c Q K V w) : ∀ (n : ℕ) (h : 0 + n < cfg0.N),
    After (0 + n) Q K V w (Pipeline.accAt (fun n h => stAt0 m c n h junk0) (stAt0 m c) 0 n h)
  | 0, h => after_first H ⟨0, h⟩ junk0 rfl
  | n + 1, h => after_next H ⟨0 + (n + 1), h⟩ _ (0 + n) rfl (after_all H n (Nat.lt_of_succ_lt h))

/-- The kernel's result. -/
theorem G4_eq (H : Holds m c Q K V w) (t : Fin 4096) (d : Fin 256) : G4 m c (ix2 t d) = out Q K V w t.val d.val := by
  have ht := t.isLt
  have hd := d.isLt
  have hp : pt4Of (ix2 t d) = t.val / 256 := by
    show 1 * (t.val / 256 - 0) + 1 * (d.val / 256 - 0) = _
    omega
  have hN : cfg0.N = 16 := by decide +kernel
  have hl : loc4Of (ix2 t d) = (ix2 ⟨t.val % 256, Nat.mod_lt _ (by decide)⟩ ⟨d.val % 256, Nat.mod_lt _ (by decide)⟩ : S256x256.Idx) := by
    funext a
    match a with
    | ⟨0, _⟩ => rfl
    | ⟨1, _⟩ => rfl
  unfold G4
  rw [dif_pos (by rw [hp, hN]; omega), hl]
  refine ((after_all H (pt4Of (ix2 t d)) (by rw [hp, hN]; omega)).o ⟨t.val % 256, Nat.mod_lt _ (by decide)⟩ ⟨d.val % 256, Nat.mod_lt _ (by decide)⟩).trans ?_
  rw [hp]
  dsimp only
  rw [show 256 * (0 + t.val / 256) + t.val % 256 = t.val by omega, show d.val % 256 = d.val by omega]

end Cert.Kernel22Ideal.Swa
-- ==== Proof.Swa.FwdRef.lean ====
/-
  The attention's forward: the reference's output, read from the arrays of the backward's reference.
-/
module

public import proofs.«01_k».proof.Proof.Gen.Reference22Ideal.Run
public import proofs.«01_k».proof.Proof.Swa.RefGrad
public import proofs.«01_k».proof.Proof.Swa.Fwd

@[expose] public section

set_option maxRecDepth 16384

noncomputable section

open Idealize.ShloMosaic Cert.Swa

namespace Cert.ReferenceIdeal.Swa

open Cert.ReferenceIdeal.Value

variable {V0 V1 : Valuation τ sig (Elt Ideal)} {Q K V G : ℕ → ℕ → ℝ} {w : ℕ → ℝ} {W : ℕ → ℕ → EReal}

/-- The weights come from the queries, the keys and the sinks. -/
theorem r102_congr (h8 : res_main_v8 V0 = res_main_v8 V1) (h12 : res_main_v12 V0 = res_main_v12 V1)
    (h1 : V0 (Proc.devRef .tc main_arg1) = V1 (Proc.devRef .tc main_arg1)) : r102 V0 = r102 V1 := by
  have h73 : res_main_v73 V0 = res_main_v73 V1 := by
    unfold res_main_v73 res_main_v19
    rw [h8, h12, h1]
    rfl
  unfold r102 res_main_v102 res_main_v96 res_main_v94 res_main_v74
  rw [h73]

theorem o_read (X : FVec Ideal S1x64x192x2x64 .f32) (Y : FVec Ideal S1x64x2x2x64x192 .f32) (t : Fin 4096) (c : Fin 256) :
    truncf .bf16 (shapeCast Reference22Ideal.S4096x256 (shapeCast Reference22Ideal.S1x4096x256 (transpose Reference22Ideal.S1x64x64x2x2x64 [0, 1, 5, 2, 4, 3] (Host.dotGeneral Reference22Ideal.dot_S1x64x192x2x64_S1x64x2x2x64x192_S1x64x2x64x2x64_2_5_4_34_013_012 none X Y) Reference22Ideal.Gen.transposes_S1x64x2x64x2x64_S1x64x64x2x2x64_0_1_5_2_4_3) Reference22Ideal.Gen.shapeCasts_S1x64x64x2x2x64_S1x4096x256) Reference22Ideal.Gen.shapeCasts_S1x4096x256_S4096x256) Reference22Ideal.Gen.bitsLt_bf16_f32 (ix2 t c)
      = ∑ b : Fin 192, (X (ix5 0 ⟨t / 64, by omega⟩ b ⟨c / 128, by omega⟩ ⟨c % 64, by omega⟩) : EReal) *
        Y (ix6 0 ⟨t / 64, by omega⟩ ⟨c / 128, by omega⟩ ⟨c / 64 % 2, by omega⟩ ⟨t % 64, by omega⟩ b) := by
  pointwise []

/-- The backward's values and weights give the forward's output. -/
theorem o_eq (H : Holds V1 Q K V G w) (hw : r102 V0 = r102 V1)
    (hv : ∀ (t : Fin 4096) (d : Fin 128), V0 (Proc.devRef .tc main_arg0) (ix2 t ⟨2432 + d, by omega⟩) = W (t + 128) d)
    (h0 : ∀ s d, s < 128 → W s d = 0) (t : Fin 4096) (c : Fin 256) :
    truncf .bf16 (shapeCast Reference22Ideal.S4096x256 (shapeCast Reference22Ideal.S1x4096x256 (transpose Reference22Ideal.S1x64x64x2x2x64 [0, 1, 5, 2, 4, 3] (Host.dotGeneral (φ₁ := .f32) (φ₂ := .f32) Reference22Ideal.dot_S1x64x192x2x64_S1x64x2x2x64x192_S1x64x2x64x2x64_2_5_4_34_013_012 none (res_main_v23 V0) (r102 V0)) Reference22Ideal.Gen.transposes_S1x64x2x64x2x64_S1x64x64x2x2x64_0_1_5_2_4_3) Reference22Ideal.Gen.shapeCasts_S1x64x64x2x2x64_S1x4096x256) Reference22Ideal.Gen.shapeCasts_S1x4096x256_S4096x256) Reference22Ideal.Gen.bitsLt_bf16_f32 (ix2 t c)
      = out Q K W w t c := by
  refine (o_read (res_main_v23 V0) (r102 V0) t c).trans ?_
  have ht := Nat.div_add_mod t.val 64
  unfold out
  rw [← sum_window 192 4224 (64 * (t / 64)) _ (by omega) (fun s hs hn => by
    rw [P, Row.p_zero (by rw [wt, if_neg (by unfold Val; omega)]), EReal.coe_zero, zero_mul])]
  refine Finset.sum_congr rfl fun b _ => ?_
  rw [hw, v102_apply H, v23_any hv h0, mul_comm]
  dsimp only
  rw [ht, show 2 * (c.val / 128) + c.val / 64 % 2 = c.val / 64 by omega, show c.val / 64 / 2 = c.val / 128 by omega]

end Cert.ReferenceIdeal.Swa

namespace Cert.Reference22Ideal.Swa

open Cert.Reference22Ideal Cert.Reference22Ideal.Value

variable (m : (ℓ : Loc nD τ sig) → Buf (Elt Ideal) ℓ) (c : Dev nD)

/-- The forward's reference is made of the arrays of the backward's. -/
theorem res_eq (V0 : Valuation Cert.ReferenceIdeal.τ Cert.ReferenceIdeal.sig (Elt Ideal))
    (e0 : m ((c.tc : Thread nD τ).loc main_arg0) = V0 (Proc.devRef .tc Cert.ReferenceIdeal.main_arg0))
    (e1 : m ((c.tc : Thread nD τ).loc main_arg1) = V0 (Proc.devRef .tc Cert.ReferenceIdeal.main_arg1)) :
    res_main_v88 m c = truncf .bf16 (shapeCast S4096x256 (shapeCast S1x4096x256 (transpose S1x64x64x2x2x64 [0, 1, 5, 2, 4, 3] (Host.dotGeneral (φ₁ := .f32) (φ₂ := .f32) dot_S1x64x192x2x64_S1x64x2x2x64x192_S1x64x2x64x2x64_2_5_4_34_013_012 none (Cert.ReferenceIdeal.Value.res_main_v23 V0) (Cert.ReferenceIdeal.Swa.r102 V0)) Gen.transposes_S1x64x2x64x2x64_S1x64x64x2x2x64_0_1_5_2_4_3) Gen.shapeCasts_S1x64x64x2x2x64_S1x4096x256) Gen.shapeCasts_S1x4096x256_S4096x256) Gen.bitsLt_bf16_f32 := by
  unfold res_main_v88
  rw [e0, e1]
  rfl

/-- Contents of the backward's arguments: the two given arrays and zeros for the incoming gradient. -/
def args (A0 : FVec Ideal S4096x3328 .f32) (A1 : FVec Ideal S1x128 .f32) : Valuation Cert.ReferenceIdeal.τ Cert.ReferenceIdeal.sig (Elt Ideal) :=
  Function.update (Function.update (Function.update (fun _ _ => default)
    (Proc.devRef .tc Cert.ReferenceIdeal.main_arg2) (fun _ => (0 : EReal)))
    (Proc.devRef .tc Cert.ReferenceIdeal.main_arg1) A1)
    (Proc.devRef .tc Cert.ReferenceIdeal.main_arg0) A0

variable (A0 : FVec Ideal S4096x3328 .f32) (A1 : FVec Ideal S1x128 .f32)

theorem args_0 : args A0 A1 (Proc.devRef .tc Cert.ReferenceIdeal.main_arg0) = A0 := Function.update_self ..

theorem args_1 : args A0 A1 (Proc.devRef .tc Cert.ReferenceIdeal.main_arg1) = A1 :=
  (Function.update_of_ne (by decide) ..).trans (Function.update_self ..)

theorem args_2 : args A0 A1 (Proc.devRef .tc Cert.ReferenceIdeal.main_arg2) = fun _ => (0 : EReal) :=
  ((Function.update_of_ne (by decide) ..).trans (Function.update_of_ne (by decide) ..)).trans (Function.update_self ..)

/-- The array with the columns of the values zero. -/
def noValues : FVec Ideal S4096x3328 .f32 := fun x => if (x 1).val < 2432 then A0 x else (0 : EReal)

/-- The queries and the keys do not come from these columns. -/
theorem noValues_r102 : Cert.ReferenceIdeal.Swa.r102 (args A0 A1) = Cert.ReferenceIdeal.Swa.r102 (args (noValues A0) A1) := by
  refine Cert.ReferenceIdeal.Swa.r102_congr ?_ ?_ ((args_1 A0 A1).trans (args_1 _ A1).symm)
  · unfold Cert.ReferenceIdeal.Value.res_main_v8
    rw [args_0, args_0]
    congr 2
    funext x
    exact (if_pos (show 2048 + (x 1).val < 2432 by have : (x 1).val < 256 := (x 1).isLt; omega)).symm
  · unfold Cert.ReferenceIdeal.Value.res_main_v12
    rw [args_0, args_0]
    rw [show extractStridedSlice Cert.ReferenceIdeal.S4096x128 ![0, 2304] A0 Cert.ReferenceIdeal.Gen.slices_S4096x3328_S4096x128_0_2304 =
        extractStridedSlice Cert.ReferenceIdeal.S4096x128 ![0, 2304] (noValues A0) Cert.ReferenceIdeal.Gen.slices_S4096x3328_S4096x128_0_2304 from
      funext fun x => (if_pos (show 2304 + (x 1).val < 2432 by have : (x 1).val < 128 := (x 1).isLt; omega)).symm]
    rfl

end Cert.Reference22Ideal.Swa
-- ==== Proof.Swa.FwdClaim.lean ====
/-
  The attention's forward: with finite queries, keys and sinks the kernel and the reference give the same array.
-/
module

public import proofs.«01_k».proof.Defs
public import proofs.«01_k».proof.Proof.Gen.Pre_finite_attn22
public import proofs.«01_k».proof.Proof.Swa.FwdRef
public import proofs.«01_k».proof.Proof.Swa.Claim

@[expose] public section

set_option maxRecDepth 16384

noncomputable section

open Idealize.ShloMosaic Cert.Swa

namespace Cert.Kernel22Ideal.Swa

section Pre

open Cert.Pre_finite_attn22 Cert.Pre_finite_attn22.Gen

variable {x0 : FVec Ideal S4096x3328 .f32} {x1 : FVec Ideal S1x128 .f32}

/-- The precondition on the queries and the keys. -/
theorem pre_proj (h : (fn (F := Ideal) x0 x1).1 = fun _ => 1#1) (t : Fin 4096) (d : Fin 384) :
    ∃ y : ℝ, x0 (ix2 t ⟨2048 + d.val, by omega⟩) = (y : EReal) := by
  have e := congrFun h (ix2 t d)
  pointwise [fn] at e
  exact real_of_lt _ e

/-- The precondition on the sinks. -/
theorem pre_sink (h : (fn (F := Ideal) x0 x1).2 = fun _ => 1#1) (l : Fin 4) :
    ∃ y : ℝ, x1 (ix2 0 ⟨l.val, by omega⟩) = (y : EReal) := by
  have e := congrFun h (ix2 0 l)
  pointwise [fn] at e
  exact real_of_lt _ e

end Pre

variable {m : (ℓ : Loc nD τ sig) → Buf (Elt Ideal) ℓ}

/-- The kernel's first argument. -/
abbrev proj (m : (ℓ : Loc nD τ sig) → Buf (Elt Ideal) ℓ) (c : Dev nD) :
    (⟨2, ![4096, 3328]⟩ : Shape).Idx → EReal := m ((c.tc : Thread nD τ).loc main_arg0)

/-- The kernel's second argument. -/
abbrev sinks (m : (ℓ : Loc nD τ sig) → Buf (Elt Ideal) ℓ) (c : Dev nD) :
    (⟨2, ![1, 128]⟩ : Shape).Idx → EReal := m ((c.tc : Thread nD τ).loc main_arg1)

/-- Column `c` on of an array, below 128 rows of zeros; its entries may be infinite. -/
def belowAny {a b : ℕ} (A : (⟨2, ![a, b]⟩ : Shape).Idx → EReal) (c s d : ℕ) : EReal :=
  if s < 128 then 0 else if h : s - 128 < a ∧ c + d < b then A (ix2 ⟨s - 128, h.1⟩ ⟨c + d, h.2⟩) else 0

theorem belowAny_zero {a b : ℕ} (A : (⟨2, ![a, b]⟩ : Shape).Idx → EReal) (c s d : ℕ) (h : s < 128) : belowAny A c s d = 0 := if_pos h

theorem belowAny_add {a b : ℕ} (A : (⟨2, ![a, b]⟩ : Shape).Idx → EReal) (c : ℕ) (t : Fin a) (d : ℕ) (h : c + d < b) :
    A (ix2 t ⟨c + d, h⟩) = belowAny A c (t.val + 128) d := by
  have e : t.val + 128 - 128 = t.val := Nat.add_sub_cancel ..
  rw [belowAny, if_neg (by omega), dif_pos ⟨by rw [e]; exact t.isLt, h⟩]
  congr 2

/-- The inputs the kernel's memory holds. -/
theorem kernel_holds (h : Cert.Pre_Kernel22Ideal_finite_attn22 m) (c : Dev nD) :
    Holds m c (fun t d => entry (proj m c) t (2048 + d)) (below (proj m c) 2304) (belowAny (proj m c) 2432) (entry (sinks m c) 0) where
  q t d := entry_eq (proj m c) t ⟨2048 + d.val, by omega⟩ (pre_proj (h c).1 t ⟨d.val, by omega⟩)
  k t d := by
    rw [below_add]
    obtain ⟨y, hy⟩ := pre_proj (h c).1 t ⟨256 + d.val, by omega⟩
    exact entry_eq (proj m c) t ⟨2304 + d.val, by omega⟩ ⟨y, by rw [← hy]; congr 3; simp; omega⟩
  v t d := belowAny_add (proj m c) 2432 t d.val _
  k0 := below_zero _ _
  v0 := belowAny_zero _ _
  w l hl := entry_eq (sinks m c) 0 l (pre_sink (h c).2 ⟨l.val, hl⟩)

/-- The backward's reference holds the queries, keys and sinks when it is given the same arrays, the values left out. -/
theorem reference_holds (h : Cert.Pre_Kernel22Ideal_finite_attn22 m) (c : Dev nD) :
    Cert.ReferenceIdeal.Swa.Holds (Cert.Reference22Ideal.Swa.args (Cert.Reference22Ideal.Swa.noValues (proj m c)) (sinks m c))
      (fun t d => entry (proj m c) t (2048 + d)) (below (proj m c) 2304) (fun _ _ => 0) (fun _ _ => 0) (entry (sinks m c) 0) where
  q t d := (congrFun (Cert.Reference22Ideal.Swa.args_0 _ _) _).trans ((if_pos (by show 2048 + d.val < 2432; omega)).trans ((kernel_holds h c).q t d))
  k t d := (congrFun (Cert.Reference22Ideal.Swa.args_0 _ _) _).trans ((if_pos (by show 2304 + d.val < 2432; omega)).trans ((kernel_holds h c).k t d))
  v t d := (congrFun (Cert.Reference22Ideal.Swa.args_0 _ _) _).trans ((if_neg (by show ¬ 2432 + d.val < 2432; omega)).trans EReal.coe_zero.symm)
  k0 := below_zero _ _
  v0 _ _ _ := rfl
  w l := (congrFun (Cert.Reference22Ideal.Swa.args_1 _ _) _).trans ((kernel_holds h c).w ⟨l.val, by omega⟩ l.isLt)
  g t d := (congrFun (Cert.Reference22Ideal.Swa.args_2 _ _) _).trans EReal.coe_zero.symm

/-- With finite queries, keys and sinks the kernel and the reference leave the same output. -/
theorem algebraic : Cert.algebraic_Kernel22Ideal_Reference22Ideal_pre_finite_attn22 := by
  intro m g m' g' h e
  refine ⟨Cert.Kernel22Ideal.Value.G4 m, Cert.Kernel22Ideal.Value.run m g, ?_⟩
  refine (θ_run (Cert.Reference22Ideal.defs (F := Ideal)) _ _).mono (fun r H c => ⟨(H c).1.trans ?_, (H c).2⟩) (Cert.Reference22Ideal.Value.run (F := Ideal) m' g')
  refine (Cert.Reference22Ideal.Swa.res_eq m' c (Cert.Reference22Ideal.Swa.args (proj m c) (sinks m c))
    ((e c).1.trans (Cert.Reference22Ideal.Swa.args_0 _ _).symm) ((e c).2.trans (Cert.Reference22Ideal.Swa.args_1 _ _).symm)).trans ?_
  exact ext2 fun t d => (Cert.ReferenceIdeal.Swa.o_eq (reference_holds h c) (Cert.Reference22Ideal.Swa.noValues_r102 _ _)
    (fun t d => (congrFun (Cert.Reference22Ideal.Swa.args_0 _ _) _).trans ((kernel_holds h c).v t d)) (belowAny_zero _ _) t d).trans (G4_eq (kernel_holds h c) t d).symm

end Cert.Kernel22Ideal.Swa
-- ==== Proof.Adam.lean ====
/-
  The step of the optimiser on the weights of the feed-forward, of both projections, and on the packed small ones: every entry
  by itself, in blocks of rows. The kernel's blocks and the reference's arrays carry the same term of the entries.
-/
module

public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Defs

@[expose] public section

noncomputable section

open Idealize.ShloMosaic Idealize.SL.Sem

/-- The idealized kernel and the reference give the same change of a weight of the feed-forward, and the same moments. -/
theorem Cert.Kernel23Ideal.Adam.algebraic : Cert.algebraic_Kernel23Ideal_Reference23Ideal := by
  intro m g m' g' _ e
  refine ⟨_, _, _, Cert.Kernel23Ideal.Value.run m g, ?_⟩
  refine (θ_run (Cert.Reference23Ideal.defs (F := Ideal)) _ _).mono (fun r H c => ?_) (Cert.Reference23Ideal.Value.run (F := Ideal) m' g')
  obtain ⟨e0, e1, e2, e3⟩ := e c
  obtain ⟨h0, h1, h2, h⟩ := H c
  rw [e0, e1, e2, e3] at h0
  rw [e1, e2] at h1
  rw [e1, e3] at h2
  exact ⟨h0.trans rfl, h1.trans rfl, h2.trans rfl, h⟩

/-- The idealized kernel and the reference give the same change of the input projection, and the same moments. -/
theorem Cert.Kernel24Ideal.Adam.algebraic : Cert.algebraic_Kernel24Ideal_Reference24Ideal := by
  intro m g m' g' _ e
  refine ⟨_, _, _, Cert.Kernel24Ideal.Value.run m g, ?_⟩
  refine (θ_run (Cert.Reference24Ideal.defs (F := Ideal)) _ _).mono (fun r H c => ?_) (Cert.Reference24Ideal.Value.run (F := Ideal) m' g')
  obtain ⟨e0, e1, e2, e3⟩ := e c
  obtain ⟨h0, h1, h2, h⟩ := H c
  rw [e0, e1, e2, e3] at h0
  rw [e1, e2] at h1
  rw [e1, e3] at h2
  exact ⟨h0.trans rfl, h1.trans rfl, h2.trans rfl, h⟩

/-- The idealized kernel and the reference give the same change of the output projection, and the same moments. -/
theorem Cert.Kernel25Ideal.Adam.algebraic : Cert.algebraic_Kernel25Ideal_Reference25Ideal := by
  intro m g m' g' _ e
  refine ⟨_, _, _, Cert.Kernel25Ideal.Value.run m g, ?_⟩
  refine (θ_run (Cert.Reference25Ideal.defs (F := Ideal)) _ _).mono (fun r H c => ?_) (Cert.Reference25Ideal.Value.run (F := Ideal) m' g')
  obtain ⟨e0, e1, e2, e3⟩ := e c
  obtain ⟨h0, h1, h2, h⟩ := H c
  rw [e0, e1, e2, e3] at h0
  rw [e1, e2] at h1
  rw [e1, e3] at h2
  exact ⟨h0.trans rfl, h1.trans rfl, h2.trans rfl, h⟩

/-- The idealized kernel and the reference give the same change of the packed small weights, and the same moments. -/
theorem Cert.Kernel26Ideal.Adam.algebraic : Cert.algebraic_Kernel26Ideal_Reference26Ideal := by
  intro m g m' g' _ e
  refine ⟨_, _, _, Cert.Kernel26Ideal.Value.run m g, ?_⟩
  refine (θ_run (Cert.Reference26Ideal.defs (F := Ideal)) _ _).mono (fun r H c => ?_) (Cert.Reference26Ideal.Value.run (F := Ideal) m' g')
  obtain ⟨e0, e1, e2, e3⟩ := e c
  obtain ⟨h0, h1, h2, h⟩ := H c
  rw [e0, e1, e2, e3] at h0
  rw [e1, e2] at h1
  rw [e1, e3] at h2
  exact ⟨h0.trans rfl, h1.trans rfl, h2.trans rfl, h⟩
-- ==== Proof.AddSmall.lean ====
/-
  The sum of the eight devices' packed small gradients.
-/
module

public import proofs.«01_k».proof.Proof.Gen.Kernel27Ideal.Value
public import proofs.«01_k».proof.Proof.Gen.Reference27Ideal.Run
public import proofs.«01_k».proof.Defs
public import proofs.«01_k».proof.Proof.Ffn.Basic
public import Idealize.ShloMosaic.Lib.Pointwise

@[expose] public section

noncomputable section

namespace Cert.Kernel27Ideal.AddSmall

open Cert.Kernel27Ideal Cert.Kernel27Ideal.Gen Cert.Kernel27Ideal.Value Idealize.ShloMosaic Idealize.SL.Sem

/-- The idealized kernel and the reference give the same sum. -/
theorem algebraic : Cert.algebraic_Kernel27Ideal_Reference27Ideal := by
  intro m g m' g' _ e
  refine ⟨_, run m g, ?_⟩
  refine (θ_run (Cert.Reference27Ideal.defs (F := Ideal)) _ _).mono (fun r H c => ?_) (Cert.Reference27Ideal.Value.run (F := Ideal) m' g')
  refine ⟨(H c).1.trans ?_, (H c).2⟩
  rw [e c]
  refine Cert.Ffn.ext2 fun i j => ?_
  pointwise [G1, k0_pay1]
  exact Fin.sum_univ_eight _

end Cert.Kernel27Ideal.AddSmall
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_inputs
public import proofs.«01_k».proof.Proof.Gen.ReferenceIdeal.Run
public import proofs.«01_k».proof.Proof.Swa.Claim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn.DAct
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Ffn.DInput
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ffn.DGateUp
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Ffn.DDown
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Mix.DIn
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Mix.DInWeights
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Mix.DOut
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Mix.DOutWeights
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Mix.In
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Mix.Out
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Ffn.Up
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Ffn.Down
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Norm.DPre
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Norm.DPost
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Conv.DIn
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Conv.DGdn
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Norm.Pre
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Norm.Post
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Conv.In
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Conv.Gdn
public import proofs.«01_k».proof.Proof.Gen.Pre_finite_dact16
public import proofs.«01_k».proof.Proof.Gen.Pre_finite_dact17
public import proofs.«01_k».proof.Proof.Gen.Pre_finite_attn22
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Swa.FwdClaim
public import proofs.«01_k».proof.Proof.Adam
public import proofs.«01_k».proof.Proof.AddSmall
public import Idealize.ShloMosaic.Adequacy
public import Idealize.ShloMosaic.Init

@[expose] public section

noncomputable section

namespace Cert.Proof

open Idealize.ShloMosaic Idealize.SL.Sem Cert.Kernel

/-- Every run of the reference ends and leaves its arguments as they were. -/
theorem frame_ri : Cert.quiescent_ReferenceIdeal := fun m ρ _ =>
  (θ_run (Cert.ReferenceIdeal.defs (F := Ideal)) _ _).mono (fun r h => ⟨fun c => (h c).2.2.2.2,
      sem_eq_zero_of_no_sems (by decide) r.2⟩)
    (Cert.ReferenceIdeal.Value.run (F := Ideal) m ρ)

/-- Every run of reference 2 ends and leaves its arguments as they were. -/
theorem frame_ri2 : Cert.quiescent_Reference2Ideal := fun m ρ _ =>
  (θ_run (Cert.Reference2Ideal.defs (F := Ideal)) _ _).mono (fun r h => ⟨fun c => (h c).2,
      sem_eq_zero_of_no_sems (by decide) r.2⟩)
    (Cert.Reference2Ideal.Value.run (F := Ideal) m ρ)

/-- Every run of reference 3 ends and leaves its arguments as they were. -/
theorem frame_ri3 : Cert.quiescent_Reference3Ideal := fun m ρ _ =>
  (θ_run (Cert.Reference3Ideal.defs (F := Ideal)) _ _).mono (fun r h => ⟨fun c => (h c).2,
      sem_eq_zero_of_no_sems (by decide) r.2⟩)
    (Cert.Reference3Ideal.Value.run (F := Ideal) m ρ)

/-- Every run of reference 4 ends and leaves its arguments as they were. -/
theorem frame_ri4 : Cert.quiescent_Reference4Ideal := fun m ρ _ =>
  (θ_run (Cert.Reference4Ideal.defs (F := Ideal)) _ _).mono (fun r h => ⟨fun c => (h c).2,
      sem_eq_zero_of_no_sems (by decide) r.2⟩)
    (Cert.Reference4Ideal.Value.run (F := Ideal) m ρ)

/-- Every run of reference 5 ends and leaves its arguments as they were. -/
theorem frame_ri5 : Cert.quiescent_Reference5Ideal := fun m ρ _ =>
  (θ_run (Cert.Reference5Ideal.defs (F := Ideal)) _ _).mono (fun r h => ⟨fun c => (h c).2,
      sem_eq_zero_of_no_sems (by decide) r.2⟩)
    (Cert.Reference5Ideal.Value.run (F := Ideal) m ρ)

/-- Every run of reference 6 ends and leaves its arguments as they were. -/
theorem frame_ri6 : Cert.quiescent_Reference6Ideal := fun m ρ _ =>
  (θ_run (Cert.Reference6Ideal.defs (F := Ideal)) _ _).mono (fun r h => ⟨fun c => (h c).2,
      sem_eq_zero_of_no_sems (by decide) r.2⟩)
    (Cert.Reference6Ideal.Value.run (F := Ideal) m ρ)

/-- Every run of reference 7 ends and leaves its arguments as they were. -/
theorem frame_ri7 : Cert.quiescent_Reference7Ideal := fun m ρ _ =>
  (θ_run (Cert.Reference7Ideal.defs (F := Ideal)) _ _).mono (fun r h => ⟨fun c => (h c).2,
      sem_eq_zero_of_no_sems (by decide) r.2⟩)
    (Cert.Reference7Ideal.Value.run (F := Ideal) m ρ)

/-- Every run of reference 8 ends and leaves its arguments as they were. -/
theorem frame_ri8 : Cert.quiescent_Reference8Ideal := fun m ρ _ =>
  (θ_run (Cert.Reference8Ideal.defs (F := Ideal)) _ _).mono (fun r h => ⟨fun c => (h c).2,
      sem_eq_zero_of_no_sems (by decide) r.2⟩)
    (Cert.Reference8Ideal.Value.run (F := Ideal) m ρ)

/-- Every run of reference 9 ends and leaves its arguments as they were. -/
theorem frame_ri9 : Cert.quiescent_Reference9Ideal := fun m ρ _ =>
  (θ_run (Cert.Reference9Ideal.defs (F := Ideal)) _ _).mono (fun r h => ⟨fun c => (h c).2,
      sem_eq_zero_of_no_sems (by decide) r.2⟩)
    (Cert.Reference9Ideal.Value.run (F := Ideal) m ρ)

/-- Every run of reference 10 ends and leaves its arguments as they were. -/
theorem frame_ri10 : Cert.quiescent_Reference10Ideal := fun m ρ _ =>
  (θ_run (Cert.Reference10Ideal.defs (F := Ideal)) _ _).mono (fun r h => ⟨fun c => (h c).2,
      sem_eq_zero_of_no_sems (by decide) r.2⟩)
    (Cert.Reference10Ideal.Value.run (F := Ideal) m ρ)

/-- Every run of reference 11 ends and leaves its arguments as they were. -/
theorem frame_ri11 : Cert.quiescent_Reference11Ideal := fun m ρ _ =>
  (θ_run (Cert.Reference11Ideal.defs (F := Ideal)) _ _).mono (fun r h => ⟨fun c => (h c).2,
      sem_eq_zero_of_no_sems (by decide) r.2⟩)
    (Cert.Reference11Ideal.Value.run (F := Ideal) m ρ)

/-- Every run of reference 12 ends and leaves its arguments as they were. -/
theorem frame_ri12 : Cert.quiescent_Reference12Ideal := fun m ρ _ =>
  (θ_run (Cert.Reference12Ideal.defs (F := Ideal)) _ _).mono (fun r h => ⟨fun c => (h c).2.2,
      sem_eq_zero_of_no_sems (by decide) r.2⟩)
    (Cert.Reference12Ideal.Value.run (F := Ideal) m ρ)

/-- Every run of reference 13 ends and leaves its arguments as they were. -/
theorem frame_ri13 : Cert.quiescent_Reference13Ideal := fun m ρ _ =>
  (θ_run (Cert.Reference13Ideal.defs (F := Ideal)) _ _).mono (fun r h => ⟨fun c => (h c).2,
      sem_eq_zero_of_no_sems (by decide) r.2⟩)
    (Cert.Reference13Ideal.Value.run (F := Ideal) m ρ)

/-- Every run of reference 14 ends and leaves its arguments as they were. -/
theorem frame_ri14 : Cert.quiescent_Reference14Ideal := fun m ρ _ =>
  (θ_run (Cert.Reference14Ideal.defs (F := Ideal)) _ _).mono (fun r h => ⟨fun c => (h c).2.2,
      sem_eq_zero_of_no_sems (by decide) r.2⟩)
    (Cert.Reference14Ideal.Value.run (F := Ideal) m ρ)

/-- Every run of reference 15 ends and leaves its arguments as they were. -/
theorem frame_ri15 : Cert.quiescent_Reference15Ideal := fun m ρ _ =>
  (θ_run (Cert.Reference15Ideal.defs (F := Ideal)) _ _).mono (fun r h => ⟨fun c => (h c).2.2.2.2,
      sem_eq_zero_of_no_sems (by decide) r.2⟩)
    (Cert.Reference15Ideal.Value.run (F := Ideal) m ρ)

/-- Every run of reference 16 ends and leaves its arguments as they were. -/
theorem frame_ri16 : Cert.quiescent_Reference16Ideal := fun m ρ _ =>
  (θ_run (Cert.Reference16Ideal.defs (F := Ideal)) _ _).mono (fun r h => ⟨fun c => (h c).2.2.2,
      sem_eq_zero_of_no_sems (by decide) r.2⟩)
    (Cert.Reference16Ideal.Value.run (F := Ideal) m ρ)

/-- Every run of reference 17 ends and leaves its arguments as they were. -/
theorem frame_ri17 : Cert.quiescent_Reference17Ideal := fun m ρ _ =>
  (θ_run (Cert.Reference17Ideal.defs (F := Ideal)) _ _).mono (fun r h => ⟨fun c => (h c).2.2,
      sem_eq_zero_of_no_sems (by decide) r.2⟩)
    (Cert.Reference17Ideal.Value.run (F := Ideal) m ρ)

/-- Every run of reference 18 ends and leaves its arguments as they were. -/
theorem frame_ri18 : Cert.quiescent_Reference18Ideal := fun m ρ _ =>
  (θ_run (Cert.Reference18Ideal.defs (F := Ideal)) _ _).mono (fun r h => ⟨fun c => (h c).2,
      sem_eq_zero_of_no_sems (by decide) r.2⟩)
    (Cert.Reference18Ideal.Value.run (F := Ideal) m ρ)

/-- Every run of reference 19 ends and leaves its arguments as they were. -/
theorem frame_ri19 : Cert.quiescent_Reference19Ideal := fun m ρ _ =>
  (θ_run (Cert.Reference19Ideal.defs (F := Ideal)) _ _).mono (fun r h => ⟨fun c => (h c).2.2,
      sem_eq_zero_of_no_sems (by decide) r.2⟩)
    (Cert.Reference19Ideal.Value.run (F := Ideal) m ρ)

/-- Every run of reference 20 ends and leaves its arguments as they were. -/
theorem frame_ri20 : Cert.quiescent_Reference20Ideal := fun m ρ _ =>
  (θ_run (Cert.Reference20Ideal.defs (F := Ideal)) _ _).mono (fun r h => ⟨fun c => (h c).2,
      sem_eq_zero_of_no_sems (by decide) r.2⟩)
    (Cert.Reference20Ideal.Value.run (F := Ideal) m ρ)

/-- Every run of reference 21 ends and leaves its arguments as they were. -/
theorem frame_ri21 : Cert.quiescent_Reference21Ideal := fun m ρ _ =>
  (θ_run (Cert.Reference21Ideal.defs (F := Ideal)) _ _).mono (fun r h => ⟨fun c => (h c).2,
      sem_eq_zero_of_no_sems (by decide) r.2⟩)
    (Cert.Reference21Ideal.Value.run (F := Ideal) m ρ)

/-- Every run of reference 22 ends and leaves its arguments as they were. -/
theorem frame_ri22 : Cert.quiescent_Reference22Ideal := fun m ρ _ =>
  (θ_run (Cert.Reference22Ideal.defs (F := Ideal)) _ _).mono (fun r h => ⟨fun c => (h c).2,
      sem_eq_zero_of_no_sems (by decide) r.2⟩)
    (Cert.Reference22Ideal.Value.run (F := Ideal) m ρ)

/-- Every run of reference 23 ends and leaves its arguments as they were. -/
theorem frame_ri23 : Cert.quiescent_Reference23Ideal := fun m ρ _ =>
  (θ_run (Cert.Reference23Ideal.defs (F := Ideal)) _ _).mono (fun r h => ⟨fun c => (h c).2.2.2,
      sem_eq_zero_of_no_sems (by decide) r.2⟩)
    (Cert.Reference23Ideal.Value.run (F := Ideal) m ρ)

/-- Every run of reference 24 ends and leaves its arguments as they were. -/
theorem frame_ri24 : Cert.quiescent_Reference24Ideal := fun m ρ _ =>
  (θ_run (Cert.Reference24Ideal.defs (F := Ideal)) _ _).mono (fun r h => ⟨fun c => (h c).2.2.2,
      sem_eq_zero_of_no_sems (by decide) r.2⟩)
    (Cert.Reference24Ideal.Value.run (F := Ideal) m ρ)

/-- Every run of reference 25 ends and leaves its arguments as they were. -/
theorem frame_ri25 : Cert.quiescent_Reference25Ideal := fun m ρ _ =>
  (θ_run (Cert.Reference25Ideal.defs (F := Ideal)) _ _).mono (fun r h => ⟨fun c => (h c).2.2.2,
      sem_eq_zero_of_no_sems (by decide) r.2⟩)
    (Cert.Reference25Ideal.Value.run (F := Ideal) m ρ)

/-- Every run of reference 26 ends and leaves its arguments as they were. -/
theorem frame_ri26 : Cert.quiescent_Reference26Ideal := fun m ρ _ =>
  (θ_run (Cert.Reference26Ideal.defs (F := Ideal)) _ _).mono (fun r h => ⟨fun c => (h c).2.2.2,
      sem_eq_zero_of_no_sems (by decide) r.2⟩)
    (Cert.Reference26Ideal.Value.run (F := Ideal) m ρ)

/-- Every run of reference 27 ends and leaves its arguments as they were. -/
theorem frame_ri27 : Cert.quiescent_Reference27Ideal := fun m ρ _ =>
  (θ_run (Cert.Reference27Ideal.defs (F := Ideal)) _ _).mono (fun r h => ⟨fun c => (h c).2,
      sem_eq_zero_of_no_sems (by decide) r.2⟩)
    (Cert.Reference27Ideal.Value.run (F := Ideal) m ρ)

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite_inputs.Gen.facts, Cert.Pre_finite_dact16.Gen.facts, Cert.Pre_finite_dact17.Gen.facts, Cert.Pre_finite_attn22.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, frame_ri8,
    fun m ρ _ => Cert.Kernel9.Gen.frame m ρ, fun m ρ _ => Cert.Kernel9Ideal.Gen.frame m ρ, frame_ri9,
    fun m ρ _ => Cert.Kernel10.Gen.frame m ρ, fun m ρ _ => Cert.Kernel10Ideal.Gen.frame m ρ, frame_ri10,
    fun m ρ _ => Cert.Kernel11.Gen.frame m ρ, fun m ρ _ => Cert.Kernel11Ideal.Gen.frame m ρ, frame_ri11,
    fun m ρ _ => Cert.Kernel12.Gen.frame m ρ, fun m ρ _ => Cert.Kernel12Ideal.Gen.frame m ρ, frame_ri12,
    fun m ρ _ => Cert.Kernel13.Gen.frame m ρ, fun m ρ _ => Cert.Kernel13Ideal.Gen.frame m ρ, frame_ri13,
    fun m ρ _ => Cert.Kernel14.Gen.frame m ρ, fun m ρ _ => Cert.Kernel14Ideal.Gen.frame m ρ, frame_ri14,
    fun m ρ _ => Cert.Kernel15.Gen.frame m ρ, fun m ρ _ => Cert.Kernel15Ideal.Gen.frame m ρ, frame_ri15,
    fun m ρ _ => Cert.Kernel16.Gen.frame m ρ, fun m ρ _ => Cert.Kernel16Ideal.Gen.frame m ρ, fun m ρ _ => Cert.Kernel16Ideal.Gen.frame m ρ,
    frame_ri16, fun m ρ _ => frame_ri16 m ρ trivial,
    fun m ρ _ => Cert.Kernel17.Gen.frame m ρ, fun m ρ _ => Cert.Kernel17Ideal.Gen.frame m ρ, fun m ρ _ => Cert.Kernel17Ideal.Gen.frame m ρ,
    frame_ri17, fun m ρ _ => frame_ri17 m ρ trivial,
    fun m ρ _ => Cert.Kernel18.Gen.frame m ρ, fun m ρ _ => Cert.Kernel18Ideal.Gen.frame m ρ, frame_ri18,
    fun m ρ _ => Cert.Kernel19.Gen.frame m ρ, fun m ρ _ => Cert.Kernel19Ideal.Gen.frame m ρ, frame_ri19,
    fun m ρ _ => Cert.Kernel20.Gen.frame m ρ, fun m ρ _ => Cert.Kernel20Ideal.Gen.frame m ρ, frame_ri20,
    fun m ρ _ => Cert.Kernel21.Gen.frame m ρ, fun m ρ _ => Cert.Kernel21Ideal.Gen.frame m ρ, frame_ri21,
    fun m ρ _ => Cert.Kernel22.Gen.frame m ρ, fun m ρ _ => Cert.Kernel22Ideal.Gen.frame m ρ, fun m ρ _ => Cert.Kernel22Ideal.Gen.frame m ρ,
    frame_ri22, fun m ρ _ => frame_ri22 m ρ trivial,
    fun m ρ _ => Cert.Kernel23.Gen.frame m ρ, fun m ρ _ => Cert.Kernel23Ideal.Gen.frame m ρ, frame_ri23,
    fun m ρ _ => Cert.Kernel24.Gen.frame m ρ, fun m ρ _ => Cert.Kernel24Ideal.Gen.frame m ρ, frame_ri24,
    fun m ρ _ => Cert.Kernel25.Gen.frame m ρ, fun m ρ _ => Cert.Kernel25Ideal.Gen.frame m ρ, frame_ri25,
    fun m ρ _ => Cert.Kernel26.Gen.frame m ρ, fun m ρ _ => Cert.Kernel26Ideal.Gen.frame m ρ, frame_ri26,
    fun m ρ _ => Cert.Kernel27.Gen.frame m ρ, fun m ρ _ => Cert.Kernel27Ideal.Gen.frame m ρ, frame_ri27,
    IdealRules.named_const.statement Cert.KernelIdeal.κ "mask" .f32 0xF149F2CA#32 ⊥ rfl,
    Cert.Swa.algebraic,
    trivial, Cert.Kernel2Ideal.Ffn.algebraic,
    trivial, Cert.Kernel3Ideal.Ffn.algebraic,
    trivial, Cert.Kernel4Ideal.Ffn.algebraic,
    trivial, Cert.Kernel5Ideal.Ffn.algebraic,
    trivial, Cert.Kernel6Ideal.Mix.algebraic,
    trivial, Cert.Kernel7Ideal.Mix.algebraic,
    trivial, Cert.Kernel8Ideal.Mix.algebraic,
    trivial, Cert.Kernel9Ideal.Mix.algebraic,
    trivial, Cert.Kernel10Ideal.Mix.algebraic,
    trivial, Cert.Kernel11Ideal.Mix.algebraic,
    trivial, Cert.Kernel12Ideal.Ffn.algebraic,
    trivial, Cert.Kernel13Ideal.Ffn.algebraic,
    trivial, Cert.Kernel14Ideal.Norm.algebraic,
    trivial, Cert.Kernel15Ideal.Norm.algebraic,
    trivial, Cert.Kernel16Ideal.Conv.algebraic,
    trivial, Cert.Kernel17Ideal.Conv.algebraic,
    trivial, Cert.Kernel18Ideal.Norm.algebraic,
    trivial, Cert.Kernel19Ideal.Norm.algebraic,
    trivial, Cert.Kernel20Ideal.Conv.algebraic,
    trivial, Cert.Kernel21Ideal.Conv.algebraic,
    IdealRules.named_const.statement Cert.Kernel22Ideal.κ "mask" .f32 0xF149F2CA#32 ⊥ rfl, Cert.Kernel22Ideal.Swa.algebraic,
    trivial, Cert.Kernel23Ideal.Adam.algebraic,
    trivial, Cert.Kernel24Ideal.Adam.algebraic,
    trivial, Cert.Kernel25Ideal.Adam.algebraic,
    trivial, Cert.Kernel26Ideal.Adam.algebraic,
    trivial, Cert.Kernel27Ideal.AddSmall.algebraic⟩

end Cert.Proof

end
